-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionReferenceIdeal (m : (ℓ : Loc Cert.RetentionReferenceIdeal.nD Cert.RetentionReferenceIdeal.τ Cert.RetentionReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInReferenceIdeal (m : (ℓ : Loc Cert.RetInReferenceIdeal.nD Cert.RetInReferenceIdeal.τ Cert.RetInReferenceIdeal.sig) → Buf (Elt Ideal) ℓ) : Prop :=
  True

def Pre_KvRows (m : (ℓ : Loc Cert.KvRows.nD Cert.KvRows.τ Cert.KvRows.sig) → Buf (Elt Bits) ℓ) : Prop :=
  True

def Pre_KvRowsIdeal (m : (ℓ : Loc Cert.KvRowsIdeal.nD Cert.KvRowsIdeal.τ Cert.KvRowsIdeal.sig) → Buf (Elt Ideal) ℓ) : Prop :=
  True

def Pre_KvRowsReferenceIdeal (m : (ℓ : Loc Cert.KvRowsReferenceIdeal.nD Cert.KvRowsReferenceIdeal.τ Cert.KvRowsReferenceIdeal.sig) → Buf (Elt Ideal) ℓ) : Prop :=
  True

def Pre_WinRows (m : (ℓ : Loc Cert.WinRows.nD Cert.WinRows.τ Cert.WinRows.sig) → Buf (Elt Bits) ℓ) : Prop :=
  True

def Pre_WinRowsIdeal (m : (ℓ : Loc Cert.WinRowsIdeal.nD Cert.WinRowsIdeal.τ Cert.WinRowsIdeal.sig) → Buf (Elt Ideal) ℓ) : Prop :=
  True

def Pre_WinRowsReferenceIdeal (m : (ℓ : Loc Cert.WinRowsReferenceIdeal.nD Cert.WinRowsReferenceIdeal.τ Cert.WinRowsReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_NsaOut (m : (ℓ : Loc Cert.NsaOut.nD Cert.NsaOut.τ Cert.NsaOut.sig) → Buf (Elt Bits) ℓ) : Prop :=
  True

def Pre_NsaOutIdeal (m : (ℓ : Loc Cert.NsaOutIdeal.nD Cert.NsaOutIdeal.τ Cert.NsaOutIdeal.sig) → Buf (Elt Ideal) ℓ) : Prop :=
  True

def Pre_NsaOutReferenceIdeal (m : (ℓ : Loc Cert.NsaOutReferenceIdeal.nD Cert.NsaOutReferenceIdeal.τ Cert.NsaOutReferenceIdeal.sig) → Buf (Elt Ideal) ℓ) : Prop :=
  True

def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleReferenceIdeal (m : (ℓ : Loc Cert.RetSampleReferenceIdeal.nD Cert.RetSampleReferenceIdeal.τ Cert.RetSampleReferenceIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleReferenceIdeal (m : (ℓ : Loc Cert.KvSampleReferenceIdeal.nD Cert.KvSampleReferenceIdeal.τ Cert.KvSampleReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_FfnFirstSample (m : (ℓ : Loc Cert.FfnFirstSample.nD Cert.FfnFirstSample.τ Cert.FfnFirstSample.sig) → Buf (Elt Bits) ℓ) : Prop :=
  True

def Pre_FfnFirstSampleIdeal (m : (ℓ : Loc Cert.FfnFirstSampleIdeal.nD Cert.FfnFirstSampleIdeal.τ Cert.FfnFirstSampleIdeal.sig) → Buf (Elt Ideal) ℓ) : Prop :=
  True

def Pre_FfnFirstSampleReferenceIdeal (m : (ℓ : Loc Cert.FfnFirstSampleReferenceIdeal.nD Cert.FfnFirstSampleReferenceIdeal.τ Cert.FfnFirstSampleReferenceIdeal.sig) → Buf (Elt Ideal) ℓ) : Prop :=
  True

def Pre_WinSample (m : (ℓ : Loc Cert.WinSample.nD Cert.WinSample.τ Cert.WinSample.sig) → Buf (Elt Bits) ℓ) : Prop :=
  True

def Pre_WinSampleIdeal (m : (ℓ : Loc Cert.WinSampleIdeal.nD Cert.WinSampleIdeal.τ Cert.WinSampleIdeal.sig) → Buf (Elt Ideal) ℓ) : Prop :=
  True

def Pre_WinSampleReferenceIdeal (m : (ℓ : Loc Cert.WinSampleReferenceIdeal.nD Cert.WinSampleReferenceIdeal.τ Cert.WinSampleReferenceIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_RetentionReferenceIdeal [hRetentionReferenceIdeal : Cert.RetentionReferenceIdeal.Facts] : Prop :=
  ∀ (m : (ℓ : Loc Cert.RetentionReferenceIdeal.nD Cert.RetentionReferenceIdeal.τ Cert.RetentionReferenceIdeal.sig) → Buf (Elt Ideal) ℓ) (g : Dev Cert.RetentionReferenceIdeal.nD → PrngReg), Pre_RetentionReferenceIdeal m →
    θ_run (Cert.RetentionReferenceIdeal.defs (F := Ideal)) (onTc (τ := Cert.RetentionReferenceIdeal.τ) (Cert.RetentionReferenceIdeal.main (F := Ideal))) ⟨m, fun _ => 0, g⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3)
      ∧ r.2.mem ((c.tc : Thread Cert.RetIn.nD Cert.RetIn.τ).loc Cert.RetIn.main_arg4) = m ((c.tc : Thread Cert.RetIn.nD Cert.RetIn.τ).loc Cert.RetIn.main_arg4))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3)
      ∧ r.2.mem ((c.tc : Thread Cert.RetInIdeal.nD Cert.RetInIdeal.τ).loc Cert.RetInIdeal.main_arg4) = m ((c.tc : Thread Cert.RetInIdeal.nD Cert.RetInIdeal.τ).loc Cert.RetInIdeal.main_arg4))
      ∧ r.2.sem = fun _ => 0)

def quiescent_RetInReferenceIdeal [hRetInReferenceIdeal : Cert.RetInReferenceIdeal.Facts] : Prop :=
  ∀ (m : (ℓ : Loc Cert.RetInReferenceIdeal.nD Cert.RetInReferenceIdeal.τ Cert.RetInReferenceIdeal.sig) → Buf (Elt Ideal) ℓ) (g : Dev Cert.RetInReferenceIdeal.nD → PrngReg), Pre_RetInReferenceIdeal m →
    θ_run (Cert.RetInReferenceIdeal.defs (F := Ideal)) (onTc (τ := Cert.RetInReferenceIdeal.τ) (Cert.RetInReferenceIdeal.main (F := Ideal))) ⟨m, fun _ => 0, g⟩ (fun r => (∀ c : Dev Cert.RetInReferenceIdeal.nD,
      r.2.mem ((c.tc : Thread Cert.RetInReferenceIdeal.nD Cert.RetInReferenceIdeal.τ).loc Cert.RetInReferenceIdeal.main_arg0) = m ((c.tc : Thread Cert.RetInReferenceIdeal.nD Cert.RetInReferenceIdeal.τ).loc Cert.RetInReferenceIdeal.main_arg0)
      ∧ r.2.mem ((c.tc : Thread Cert.RetInReferenceIdeal.nD Cert.RetInReferenceIdeal.τ).loc Cert.RetInReferenceIdeal.main_arg1) = m ((c.tc : Thread Cert.RetInReferenceIdeal.nD Cert.RetInReferenceIdeal.τ).loc Cert.RetInReferenceIdeal.main_arg1)
      ∧ r.2.mem ((c.tc : Thread Cert.RetInReferenceIdeal.nD Cert.RetInReferenceIdeal.τ).loc Cert.RetInReferenceIdeal.main_arg2) = m ((c.tc : Thread Cert.RetInReferenceIdeal.nD Cert.RetInReferenceIdeal.τ).loc Cert.RetInReferenceIdeal.main_arg2)
      ∧ r.2.mem ((c.tc : Thread Cert.RetInReferenceIdeal.nD Cert.RetInReferenceIdeal.τ).loc Cert.RetInReferenceIdeal.main_arg3) = m ((c.tc : Thread Cert.RetInReferenceIdeal.nD Cert.RetInReferenceIdeal.τ).loc Cert.RetInReferenceIdeal.main_arg3)
      ∧ r.2.mem ((c.tc : Thread Cert.RetInReferenceIdeal.nD Cert.RetInReferenceIdeal.τ).loc Cert.RetInReferenceIdeal.main_arg4) = m ((c.tc : Thread Cert.RetInReferenceIdeal.nD Cert.RetInReferenceIdeal.τ).loc Cert.RetInReferenceIdeal.main_arg4))
      ∧ r.2.sem = fun _ => 0)

def quiescent_KvRows [hKvRows : Cert.KvRows.Facts] : Prop :=
  ∀ (m : (ℓ : Loc Cert.KvRows.nD Cert.KvRows.τ Cert.KvRows.sig) → Buf (Elt Bits) ℓ) (g : Dev Cert.KvRows.nD → PrngReg), Pre_KvRows m →
    θ_run (Cert.KvRows.defs (F := Bits)) (onTc (τ := Cert.KvRows.τ) (Cert.KvRows.main (F := Bits))) ⟨m, fun _ => 0, g⟩ (fun r => (∀ c : Dev Cert.KvRows.nD,
      r.2.mem ((c.tc : Thread Cert.KvRows.nD Cert.KvRows.τ).loc Cert.KvRows.main_arg0) = m ((c.tc : Thread Cert.KvRows.nD Cert.KvRows.τ).loc Cert.KvRows.main_arg0)
      ∧ r.2.mem ((c.tc : Thread Cert.KvRows.nD Cert.KvRows.τ).loc Cert.KvRows.main_arg1) = m ((c.tc : Thread Cert.KvRows.nD Cert.KvRows.τ).loc Cert.KvRows.main_arg1)
      ∧ r.2.mem ((c.tc : Thread Cert.KvRows.nD Cert.KvRows.τ).loc Cert.KvRows.main_arg2) = m ((c.tc : Thread Cert.KvRows.nD Cert.KvRows.τ).loc Cert.KvRows.main_arg2)
      ∧ r.2.mem ((c.tc : Thread Cert.KvRows.nD Cert.KvRows.τ).loc Cert.KvRows.main_arg3) = m ((c.tc : Thread Cert.KvRows.nD Cert.KvRows.τ).loc Cert.KvRows.main_arg3)
      ∧ r.2.mem ((c.tc : Thread Cert.KvRows.nD Cert.KvRows.τ).loc Cert.KvRows.main_arg4) = m ((c.tc : Thread Cert.KvRows.nD Cert.KvRows.τ).loc Cert.KvRows.main_arg4))
      ∧ r.2.sem = fun _ => 0)

def quiescent_KvRowsIdeal [hKvRowsIdeal : Cert.KvRowsIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg), Pre_KvRowsIdeal m →
    θ_run (Cert.KvRowsIdeal.defs (F := Ideal)) (onTc (τ := Cert.KvRowsIdeal.τ) (Cert.KvRowsIdeal.main (F := Ideal))) ⟨m, fun _ => 0, g⟩ (fun r => (∀ c : Dev Cert.KvRowsIdeal.nD,
      r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
      ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
      ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
      ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3)
      ∧ r.2.mem ((c.tc : Thread Cert.KvRowsIdeal.nD Cert.KvRowsIdeal.τ).loc Cert.KvRowsIdeal.main_arg4) = m ((c.tc : Thread Cert.KvRowsIdeal.nD Cert.KvRowsIdeal.τ).loc Cert.KvRowsIdeal.main_arg4))
      ∧ r.2.sem = fun _ => 0)

def quiescent_KvRowsReferenceIdeal [hKvRowsReferenceIdeal : Cert.KvRowsReferenceIdeal.Facts] : Prop :=
  ∀ (m : (ℓ : Loc Cert.KvRowsReferenceIdeal.nD Cert.KvRowsReferenceIdeal.τ Cert.KvRowsReferenceIdeal.sig) → Buf (Elt Ideal) ℓ) (g : Dev Cert.KvRowsReferenceIdeal.nD → PrngReg), Pre_KvRowsReferenceIdeal m →
    θ_run (Cert.KvRowsReferenceIdeal.defs (F := Ideal)) (onTc (τ := Cert.KvRowsReferenceIdeal.τ) (Cert.KvRowsReferenceIdeal.main (F := Ideal))) ⟨m, fun _ => 0, g⟩ (fun r => (∀ c : Dev Cert.KvRowsReferenceIdeal.nD,
      r.2.mem ((c.tc : Thread Cert.KvRowsReferenceIdeal.nD Cert.KvRowsReferenceIdeal.τ).loc Cert.KvRowsReferenceIdeal.main_arg0) = m ((c.tc : Thread Cert.KvRowsReferenceIdeal.nD Cert.KvRowsReferenceIdeal.τ).loc Cert.KvRowsReferenceIdeal.main_arg0)
      ∧ r.2.mem ((c.tc : Thread Cert.KvRowsReferenceIdeal.nD Cert.KvRowsReferenceIdeal.τ).loc Cert.KvRowsReferenceIdeal.main_arg1) = m ((c.tc : Thread Cert.KvRowsReferenceIdeal.nD Cert.KvRowsReferenceIdeal.τ).loc Cert.KvRowsReferenceIdeal.main_arg1)
      ∧ r.2.mem ((c.tc : Thread Cert.KvRowsReferenceIdeal.nD Cert.KvRowsReferenceIdeal.τ).loc Cert.KvRowsReferenceIdeal.main_arg2) = m ((c.tc : Thread Cert.KvRowsReferenceIdeal.nD Cert.KvRowsReferenceIdeal.τ).loc Cert.KvRowsReferenceIdeal.main_arg2)
      ∧ r.2.mem ((c.tc : Thread Cert.KvRowsReferenceIdeal.nD Cert.KvRowsReferenceIdeal.τ).loc Cert.KvRowsReferenceIdeal.main_arg3) = m ((c.tc : Thread Cert.KvRowsReferenceIdeal.nD Cert.KvRowsReferenceIdeal.τ).loc Cert.KvRowsReferenceIdeal.main_arg3)
      ∧ r.2.mem ((c.tc : Thread Cert.KvRowsReferenceIdeal.nD Cert.KvRowsReferenceIdeal.τ).loc Cert.KvRowsReferenceIdeal.main_arg4) = m ((c.tc : Thread Cert.KvRowsReferenceIdeal.nD Cert.KvRowsReferenceIdeal.τ).loc Cert.KvRowsReferenceIdeal.main_arg4))
      ∧ r.2.sem = fun _ => 0)

def quiescent_WinRows [hWinRows : Cert.WinRows.Facts] : Prop :=
  ∀ (m : (ℓ : Loc Cert.WinRows.nD Cert.WinRows.τ Cert.WinRows.sig) → Buf (Elt Bits) ℓ) (g : Dev Cert.WinRows.nD → PrngReg), Pre_WinRows m →
    θ_run (Cert.WinRows.defs (F := Bits)) (onTc (τ := Cert.WinRows.τ) (Cert.WinRows.main (F := Bits))) ⟨m, fun _ => 0, g⟩ (fun r => (∀ c : Dev Cert.WinRows.nD,
      r.2.mem ((c.tc : Thread Cert.WinRows.nD Cert.WinRows.τ).loc Cert.WinRows.main_arg0) = m ((c.tc : Thread Cert.WinRows.nD Cert.WinRows.τ).loc Cert.WinRows.main_arg0)
      ∧ r.2.mem ((c.tc : Thread Cert.WinRows.nD Cert.WinRows.τ).loc Cert.WinRows.main_arg1) = m ((c.tc : Thread Cert.WinRows.nD Cert.WinRows.τ).loc Cert.WinRows.main_arg1)
      ∧ r.2.mem ((c.tc : Thread Cert.WinRows.nD Cert.WinRows.τ).loc Cert.WinRows.main_arg2) = m ((c.tc : Thread Cert.WinRows.nD Cert.WinRows.τ).loc Cert.WinRows.main_arg2)
      ∧ r.2.mem ((c.tc : Thread Cert.WinRows.nD Cert.WinRows.τ).loc Cert.WinRows.main_arg3) = m ((c.tc : Thread Cert.WinRows.nD Cert.WinRows.τ).loc Cert.WinRows.main_arg3)
      ∧ r.2.mem ((c.tc : Thread Cert.WinRows.nD Cert.WinRows.τ).loc Cert.WinRows.main_arg4) = m ((c.tc : Thread Cert.WinRows.nD Cert.WinRows.τ).loc Cert.WinRows.main_arg4))
      ∧ r.2.sem = fun _ => 0)

def quiescent_WinRowsIdeal [hWinRowsIdeal : Cert.WinRowsIdeal.Facts] : Prop :=
  ∀ (m : (ℓ : Loc Cert.WinRowsIdeal.nD Cert.WinRowsIdeal.τ Cert.WinRowsIdeal.sig) → Buf (Elt Ideal) ℓ) (g : Dev Cert.WinRowsIdeal.nD → PrngReg), Pre_WinRowsIdeal m →
    θ_run (Cert.WinRowsIdeal.defs (F := Ideal)) (onTc (τ := Cert.WinRowsIdeal.τ) (Cert.WinRowsIdeal.main (F := Ideal))) ⟨m, fun _ => 0, g⟩ (fun r => (∀ c : Dev Cert.WinRowsIdeal.nD,
      r.2.mem ((c.tc : Thread Cert.WinRowsIdeal.nD Cert.WinRowsIdeal.τ).loc Cert.WinRowsIdeal.main_arg0) = m ((c.tc : Thread Cert.WinRowsIdeal.nD Cert.WinRowsIdeal.τ).loc Cert.WinRowsIdeal.main_arg0)
      ∧ r.2.mem ((c.tc : Thread Cert.WinRowsIdeal.nD Cert.WinRowsIdeal.τ).loc Cert.WinRowsIdeal.main_arg1) = m ((c.tc : Thread Cert.WinRowsIdeal.nD Cert.WinRowsIdeal.τ).loc Cert.WinRowsIdeal.main_arg1)
      ∧ r.2.mem ((c.tc : Thread Cert.WinRowsIdeal.nD Cert.WinRowsIdeal.τ).loc Cert.WinRowsIdeal.main_arg2) = m ((c.tc : Thread Cert.WinRowsIdeal.nD Cert.WinRowsIdeal.τ).loc Cert.WinRowsIdeal.main_arg2)
      ∧ r.2.mem ((c.tc : Thread Cert.WinRowsIdeal.nD Cert.WinRowsIdeal.τ).loc Cert.WinRowsIdeal.main_arg3) = m ((c.tc : Thread Cert.WinRowsIdeal.nD Cert.WinRowsIdeal.τ).loc Cert.WinRowsIdeal.main_arg3)
      ∧ r.2.mem ((c.tc : Thread Cert.WinRowsIdeal.nD Cert.WinRowsIdeal.τ).loc Cert.WinRowsIdeal.main_arg4) = m ((c.tc : Thread Cert.WinRowsIdeal.nD Cert.WinRowsIdeal.τ).loc Cert.WinRowsIdeal.main_arg4))
      ∧ r.2.sem = fun _ => 0)

def quiescent_WinRowsReferenceIdeal [hWinRowsReferenceIdeal : Cert.WinRowsReferenceIdeal.Facts] : Prop :=
  ∀ (m : (ℓ : Loc Cert.WinRowsReferenceIdeal.nD Cert.WinRowsReferenceIdeal.τ Cert.WinRowsReferenceIdeal.sig) → Buf (Elt Ideal) ℓ) (g : Dev Cert.WinRowsReferenceIdeal.nD → PrngReg), Pre_WinRowsReferenceIdeal m →
    θ_run (Cert.WinRowsReferenceIdeal.defs (F := Ideal)) (onTc (τ := Cert.WinRowsReferenceIdeal.τ) (Cert.WinRowsReferenceIdeal.main (F := Ideal))) ⟨m, fun _ => 0, g⟩ (fun r => (∀ c : Dev Cert.WinRowsReferenceIdeal.nD,
      r.2.mem ((c.tc : Thread Cert.WinRowsReferenceIdeal.nD Cert.WinRowsReferenceIdeal.τ).loc Cert.WinRowsReferenceIdeal.main_arg0) = m ((c.tc : Thread Cert.WinRowsReferenceIdeal.nD Cert.WinRowsReferenceIdeal.τ).loc Cert.WinRowsReferenceIdeal.main_arg0)
      ∧ r.2.mem ((c.tc : Thread Cert.WinRowsReferenceIdeal.nD Cert.WinRowsReferenceIdeal.τ).loc Cert.WinRowsReferenceIdeal.main_arg1) = m ((c.tc : Thread Cert.WinRowsReferenceIdeal.nD Cert.WinRowsReferenceIdeal.τ).loc Cert.WinRowsReferenceIdeal.main_arg1)
      ∧ r.2.mem ((c.tc : Thread Cert.WinRowsReferenceIdeal.nD Cert.WinRowsReferenceIdeal.τ).loc Cert.WinRowsReferenceIdeal.main_arg2) = m ((c.tc : Thread Cert.WinRowsReferenceIdeal.nD Cert.WinRowsReferenceIdeal.τ).loc Cert.WinRowsReferenceIdeal.main_arg2)
      ∧ r.2.mem ((c.tc : Thread Cert.WinRowsReferenceIdeal.nD Cert.WinRowsReferenceIdeal.τ).loc Cert.WinRowsReferenceIdeal.main_arg3) = m ((c.tc : Thread Cert.WinRowsReferenceIdeal.nD Cert.WinRowsReferenceIdeal.τ).loc Cert.WinRowsReferenceIdeal.main_arg3)
      ∧ r.2.mem ((c.tc : Thread Cert.WinRowsReferenceIdeal.nD Cert.WinRowsReferenceIdeal.τ).loc Cert.WinRowsReferenceIdeal.main_arg4) = m ((c.tc : Thread Cert.WinRowsReferenceIdeal.nD Cert.WinRowsReferenceIdeal.τ).loc Cert.WinRowsReferenceIdeal.main_arg4))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3)
      ∧ r.2.mem ((c.tc : Thread Cert.QProj.nD Cert.QProj.τ).loc Cert.QProj.main_arg4) = m ((c.tc : Thread Cert.QProj.nD Cert.QProj.τ).loc Cert.QProj.main_arg4))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
      ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1)
      ∧ r.2.mem ((c.tc : Thread Cert.QProjReferenceIdeal.nD Cert.QProjReferenceIdeal.τ).loc Cert.QProjReferenceIdeal.main_arg2) = m ((c.tc : Thread Cert.QProjReferenceIdeal.nD Cert.QProjReferenceIdeal.τ).loc Cert.QProjReferenceIdeal.main_arg2)
      ∧ r.2.mem ((c.tc : Thread Cert.QProjReferenceIdeal.nD Cert.QProjReferenceIdeal.τ).loc Cert.QProjReferenceIdeal.main_arg3) = m ((c.tc : Thread Cert.QProjReferenceIdeal.nD Cert.QProjReferenceIdeal.τ).loc Cert.QProjReferenceIdeal.main_arg3)
      ∧ r.2.mem ((c.tc : Thread Cert.QProjReferenceIdeal.nD Cert.QProjReferenceIdeal.τ).loc Cert.QProjReferenceIdeal.main_arg4) = m ((c.tc : Thread Cert.QProjReferenceIdeal.nD Cert.QProjReferenceIdeal.τ).loc Cert.QProjReferenceIdeal.main_arg4))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1)
      ∧ r.2.mem ((c.tc : Thread Cert.RetOutReferenceIdeal.nD Cert.RetOutReferenceIdeal.τ).loc Cert.RetOutReferenceIdeal.main_arg2) = m ((c.tc : Thread Cert.RetOutReferenceIdeal.nD Cert.RetOutReferenceIdeal.τ).loc Cert.RetOutReferenceIdeal.main_arg2)
      ∧ r.2.mem ((c.tc : Thread Cert.RetOutReferenceIdeal.nD Cert.RetOutReferenceIdeal.τ).loc Cert.RetOutReferenceIdeal.main_arg3) = m ((c.tc : Thread Cert.RetOutReferenceIdeal.nD Cert.RetOutReferenceIdeal.τ).loc Cert.RetOutReferenceIdeal.main_arg3))
      ∧ r.2.sem = fun _ => 0)

def quiescent_NsaOut [hNsaOut : Cert.NsaOut.Facts] : Prop :=
  ∀ (m : (ℓ : Loc Cert.NsaOut.nD Cert.NsaOut.τ Cert.NsaOut.sig) → Buf (Elt Bits) ℓ) (g : Dev Cert.NsaOut.nD → PrngReg), Pre_NsaOut m →
    θ_run (Cert.NsaOut.defs (F := Bits)) (onTc (τ := Cert.NsaOut.τ) (Cert.NsaOut.main (F := Bits))) ⟨m, fun _ => 0, g⟩ (fun r => (∀ c : Dev Cert.NsaOut.nD,
      r.2.mem ((c.tc : Thread Cert.NsaOut.nD Cert.NsaOut.τ).loc Cert.NsaOut.main_arg0) = m ((c.tc : Thread Cert.NsaOut.nD Cert.NsaOut.τ).loc Cert.NsaOut.main_arg0)
      ∧ r.2.mem ((c.tc : Thread Cert.NsaOut.nD Cert.NsaOut.τ).loc Cert.NsaOut.main_arg1) = m ((c.tc : Thread Cert.NsaOut.nD Cert.NsaOut.τ).loc Cert.NsaOut.main_arg1)
      ∧ r.2.mem ((c.tc : Thread Cert.NsaOut.nD Cert.NsaOut.τ).loc Cert.NsaOut.main_arg2) = m ((c.tc : Thread Cert.NsaOut.nD Cert.NsaOut.τ).loc Cert.NsaOut.main_arg2)
      ∧ r.2.mem ((c.tc : Thread Cert.NsaOut.nD Cert.NsaOut.τ).loc Cert.NsaOut.main_arg3) = m ((c.tc : Thread Cert.NsaOut.nD Cert.NsaOut.τ).loc Cert.NsaOut.main_arg3))
      ∧ r.2.sem = fun _ => 0)

def quiescent_NsaOutIdeal [hNsaOutIdeal : Cert.NsaOutIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
      ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
      ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3))
      ∧ r.2.sem = fun _ => 0)

def quiescent_NsaOutReferenceIdeal [hNsaOutReferenceIdeal : Cert.NsaOutReferenceIdeal.Facts] : Prop :=
  ∀ (m : (ℓ : Loc Cert.NsaOutReferenceIdeal.nD Cert.NsaOutReferenceIdeal.τ Cert.NsaOutReferenceIdeal.sig) → Buf (Elt Ideal) ℓ) (g : Dev Cert.NsaOutReferenceIdeal.nD → PrngReg), Pre_NsaOutReferenceIdeal m →
    θ_run (Cert.NsaOutReferenceIdeal.defs (F := Ideal)) (onTc (τ := Cert.NsaOutReferenceIdeal.τ) (Cert.NsaOutReferenceIdeal.main (F := Ideal))) ⟨m, fun _ => 0, g⟩ (fun r => (∀ c : Dev Cert.NsaOutReferenceIdeal.nD,
      r.2.mem ((c.tc : Thread Cert.NsaOutReferenceIdeal.nD Cert.NsaOutReferenceIdeal.τ).loc Cert.NsaOutReferenceIdeal.main_arg0) = m ((c.tc : Thread Cert.NsaOutReferenceIdeal.nD Cert.NsaOutReferenceIdeal.τ).loc Cert.NsaOutReferenceIdeal.main_arg0)
      ∧ r.2.mem ((c.tc : Thread Cert.NsaOutReferenceIdeal.nD Cert.NsaOutReferenceIdeal.τ).loc Cert.NsaOutReferenceIdeal.main_arg1) = m ((c.tc : Thread Cert.NsaOutReferenceIdeal.nD Cert.NsaOutReferenceIdeal.τ).loc Cert.NsaOutReferenceIdeal.main_arg1)
      ∧ r.2.mem ((c.tc : Thread Cert.NsaOutReferenceIdeal.nD Cert.NsaOutReferenceIdeal.τ).loc Cert.NsaOutReferenceIdeal.main_arg2) = m ((c.tc : Thread Cert.NsaOutReferenceIdeal.nD Cert.NsaOutReferenceIdeal.τ).loc Cert.NsaOutReferenceIdeal.main_arg2)
      ∧ r.2.mem ((c.tc : Thread Cert.NsaOutReferenceIdeal.nD Cert.NsaOutReferenceIdeal.τ).loc Cert.NsaOutReferenceIdeal.main_arg3) = m ((c.tc : Thread Cert.NsaOutReferenceIdeal.nD Cert.NsaOutReferenceIdeal.τ).loc Cert.NsaOutReferenceIdeal.main_arg3))
      ∧ r.2.sem = fun _ => 0)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ r.2.sem = fun _ => 0)

def quiescent_RetSampleReferenceIdeal [hRetSampleReferenceIdeal : Cert.RetSampleReferenceIdeal.Facts] : Prop :=
  ∀ (m : (ℓ : Loc Cert.RetSampleReferenceIdeal.nD Cert.RetSampleReferenceIdeal.τ Cert.RetSampleReferenceIdeal.sig) → Buf (Elt Ideal) ℓ) (g : Dev Cert.RetSampleReferenceIdeal.nD → PrngReg), Pre_RetSampleReferenceIdeal m →
    θ_run (Cert.RetSampleReferenceIdeal.defs (F := Ideal)) (onTc (τ := Cert.RetSampleReferenceIdeal.τ) (Cert.RetSampleReferenceIdeal.main (F := Ideal))) ⟨m, fun _ => 0, g⟩ (fun r => (∀ c : Dev Cert.RetSampleReferenceIdeal.nD,
      r.2.mem ((c.tc : Thread Cert.RetSampleReferenceIdeal.nD Cert.RetSampleReferenceIdeal.τ).loc Cert.RetSampleReferenceIdeal.main_arg0) = m ((c.tc : Thread Cert.RetSampleReferenceIdeal.nD Cert.RetSampleReferenceIdeal.τ).loc Cert.RetSampleReferenceIdeal.main_arg0)
      ∧ r.2.mem ((c.tc : Thread Cert.RetSampleReferenceIdeal.nD Cert.RetSampleReferenceIdeal.τ).loc Cert.RetSampleReferenceIdeal.main_arg1) = m ((c.tc : Thread Cert.RetSampleReferenceIdeal.nD Cert.RetSampleReferenceIdeal.τ).loc Cert.RetSampleReferenceIdeal.main_arg1))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2)
      ∧ r.2.mem ((c.tc : Thread Cert.KvSample.nD Cert.KvSample.τ).loc Cert.KvSample.main_arg3) = m ((c.tc : Thread Cert.KvSample.nD Cert.KvSample.τ).loc Cert.KvSample.main_arg3)
      ∧ r.2.mem ((c.tc : Thread Cert.KvSample.nD Cert.KvSample.τ).loc Cert.KvSample.main_arg4) = m ((c.tc : Thread Cert.KvSample.nD Cert.KvSample.τ).loc Cert.KvSample.main_arg4))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
      ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
      ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4))
      ∧ r.2.sem = fun _ => 0)

def quiescent_KvSampleReferenceIdeal [hKvSampleReferenceIdeal : Cert.KvSampleReferenceIdeal.Facts] : Prop :=
  ∀ (m : (ℓ : Loc Cert.KvSampleReferenceIdeal.nD Cert.KvSampleReferenceIdeal.τ Cert.KvSampleReferenceIdeal.sig) → Buf (Elt Ideal) ℓ) (g : Dev Cert.KvSampleReferenceIdeal.nD → PrngReg), Pre_KvSampleReferenceIdeal m →
    θ_run (Cert.KvSampleReferenceIdeal.defs (F := Ideal)) (onTc (τ := Cert.KvSampleReferenceIdeal.τ) (Cert.KvSampleReferenceIdeal.main (F := Ideal))) ⟨m, fun _ => 0, g⟩ (fun r => (∀ c : Dev Cert.KvSampleReferenceIdeal.nD,
      r.2.mem ((c.tc : Thread Cert.KvSampleReferenceIdeal.nD Cert.KvSampleReferenceIdeal.τ).loc Cert.KvSampleReferenceIdeal.main_arg0) = m ((c.tc : Thread Cert.KvSampleReferenceIdeal.nD Cert.KvSampleReferenceIdeal.τ).loc Cert.KvSampleReferenceIdeal.main_arg0)
      ∧ r.2.mem ((c.tc : Thread Cert.KvSampleReferenceIdeal.nD Cert.KvSampleReferenceIdeal.τ).loc Cert.KvSampleReferenceIdeal.main_arg1) = m ((c.tc : Thread Cert.KvSampleReferenceIdeal.nD Cert.KvSampleReferenceIdeal.τ).loc Cert.KvSampleReferenceIdeal.main_arg1)
      ∧ r.2.mem ((c.tc : Thread Cert.KvSampleReferenceIdeal.nD Cert.KvSampleReferenceIdeal.τ).loc Cert.KvSampleReferenceIdeal.main_arg2) = m ((c.tc : Thread Cert.KvSampleReferenceIdeal.nD Cert.KvSampleReferenceIdeal.τ).loc Cert.KvSampleReferenceIdeal.main_arg2)
      ∧ r.2.mem ((c.tc : Thread Cert.KvSampleReferenceIdeal.nD Cert.KvSampleReferenceIdeal.τ).loc Cert.KvSampleReferenceIdeal.main_arg3) = m ((c.tc : Thread Cert.KvSampleReferenceIdeal.nD Cert.KvSampleReferenceIdeal.τ).loc Cert.KvSampleReferenceIdeal.main_arg3)
      ∧ r.2.mem ((c.tc : Thread Cert.KvSampleReferenceIdeal.nD Cert.KvSampleReferenceIdeal.τ).loc Cert.KvSampleReferenceIdeal.main_arg4) = m ((c.tc : Thread Cert.KvSampleReferenceIdeal.nD Cert.KvSampleReferenceIdeal.τ).loc Cert.KvSampleReferenceIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8)
      ∧ r.2.mem ((c.tc : Thread Cert.FfnSampleReferenceIdeal.nD Cert.FfnSampleReferenceIdeal.τ).loc Cert.FfnSampleReferenceIdeal.main_arg9) = m ((c.tc : Thread Cert.FfnSampleReferenceIdeal.nD Cert.FfnSampleReferenceIdeal.τ).loc Cert.FfnSampleReferenceIdeal.main_arg9)
      ∧ r.2.mem ((c.tc : Thread Cert.FfnSampleReferenceIdeal.nD Cert.FfnSampleReferenceIdeal.τ).loc Cert.FfnSampleReferenceIdeal.main_arg10) = m ((c.tc : Thread Cert.FfnSampleReferenceIdeal.nD Cert.FfnSampleReferenceIdeal.τ).loc Cert.FfnSampleReferenceIdeal.main_arg10))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6)
      ∧ r.2.mem ((c.tc : Thread Cert.FfnFirst.nD Cert.FfnFirst.τ).loc Cert.FfnFirst.main_arg7) = m ((c.tc : Thread Cert.FfnFirst.nD Cert.FfnFirst.τ).loc Cert.FfnFirst.main_arg7)
      ∧ r.2.mem ((c.tc : Thread Cert.FfnFirst.nD Cert.FfnFirst.τ).loc Cert.FfnFirst.main_arg8) = m ((c.tc : Thread Cert.FfnFirst.nD Cert.FfnFirst.τ).loc Cert.FfnFirst.main_arg8)
      ∧ r.2.mem ((c.tc : Thread Cert.FfnFirst.nD Cert.FfnFirst.τ).loc Cert.FfnFirst.main_arg9) = m ((c.tc : Thread Cert.FfnFirst.nD Cert.FfnFirst.τ).loc Cert.FfnFirst.main_arg9))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
      ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
      ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
      ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4)
      ∧ r.2.mem ((c.tc : Thread Cert.FfnFirstReferenceIdeal.nD Cert.FfnFirstReferenceIdeal.τ).loc Cert.FfnFirstReferenceIdeal.main_arg5) = m ((c.tc : Thread Cert.FfnFirstReferenceIdeal.nD Cert.FfnFirstReferenceIdeal.τ).loc Cert.FfnFirstReferenceIdeal.main_arg5)
      ∧ r.2.mem ((c.tc : Thread Cert.FfnFirstReferenceIdeal.nD Cert.FfnFirstReferenceIdeal.τ).loc Cert.FfnFirstReferenceIdeal.main_arg6) = m ((c.tc : Thread Cert.FfnFirstReferenceIdeal.nD Cert.FfnFirstReferenceIdeal.τ).loc Cert.FfnFirstReferenceIdeal.main_arg6)
      ∧ r.2.mem ((c.tc : Thread Cert.FfnFirstReferenceIdeal.nD Cert.FfnFirstReferenceIdeal.τ).loc Cert.FfnFirstReferenceIdeal.main_arg7) = m ((c.tc : Thread Cert.FfnFirstReferenceIdeal.nD Cert.FfnFirstReferenceIdeal.τ).loc Cert.FfnFirstReferenceIdeal.main_arg7)
      ∧ r.2.mem ((c.tc : Thread Cert.FfnFirstReferenceIdeal.nD Cert.FfnFirstReferenceIdeal.τ).loc Cert.FfnFirstReferenceIdeal.main_arg8) = m ((c.tc : Thread Cert.FfnFirstReferenceIdeal.nD Cert.FfnFirstReferenceIdeal.τ).loc Cert.FfnFirstReferenceIdeal.main_arg8)
      ∧ r.2.mem ((c.tc : Thread Cert.FfnFirstReferenceIdeal.nD Cert.FfnFirstReferenceIdeal.τ).loc Cert.FfnFirstReferenceIdeal.main_arg9) = m ((c.tc : Thread Cert.FfnFirstReferenceIdeal.nD Cert.FfnFirstReferenceIdeal.τ).loc Cert.FfnFirstReferenceIdeal.main_arg9))
      ∧ r.2.sem = fun _ => 0)

def quiescent_FfnFirstSample [hFfnFirstSample : Cert.FfnFirstSample.Facts] : Prop :=
  ∀ (m : (ℓ : Loc Cert.FfnFirstSample.nD Cert.FfnFirstSample.τ Cert.FfnFirstSample.sig) → Buf (Elt Bits) ℓ) (g : Dev Cert.FfnFirstSample.nD → PrngReg), Pre_FfnFirstSample m →
    θ_run (Cert.FfnFirstSample.defs (F := Bits)) (onTc (τ := Cert.FfnFirstSample.τ) (Cert.FfnFirstSample.main (F := Bits))) ⟨m, fun _ => 0, g⟩ (fun r => (∀ c : Dev Cert.FfnFirstSample.nD,
      r.2.mem ((c.tc : Thread Cert.FfnFirstSample.nD Cert.FfnFirstSample.τ).loc Cert.FfnFirstSample.main_arg0) = m ((c.tc : Thread Cert.FfnFirstSample.nD Cert.FfnFirstSample.τ).loc Cert.FfnFirstSample.main_arg0)
      ∧ r.2.mem ((c.tc : Thread Cert.FfnFirstSample.nD Cert.FfnFirstSample.τ).loc Cert.FfnFirstSample.main_arg1) = m ((c.tc : Thread Cert.FfnFirstSample.nD Cert.FfnFirstSample.τ).loc Cert.FfnFirstSample.main_arg1)
      ∧ r.2.mem ((c.tc : Thread Cert.FfnFirstSample.nD Cert.FfnFirstSample.τ).loc Cert.FfnFirstSample.main_arg2) = m ((c.tc : Thread Cert.FfnFirstSample.nD Cert.FfnFirstSample.τ).loc Cert.FfnFirstSample.main_arg2)
      ∧ r.2.mem ((c.tc : Thread Cert.FfnFirstSample.nD Cert.FfnFirstSample.τ).loc Cert.FfnFirstSample.main_arg3) = m ((c.tc : Thread Cert.FfnFirstSample.nD Cert.FfnFirstSample.τ).loc Cert.FfnFirstSample.main_arg3)
      ∧ r.2.mem ((c.tc : Thread Cert.FfnFirstSample.nD Cert.FfnFirstSample.τ).loc Cert.FfnFirstSample.main_arg4) = m ((c.tc : Thread Cert.FfnFirstSample.nD Cert.FfnFirstSample.τ).loc Cert.FfnFirstSample.main_arg4)
      ∧ r.2.mem ((c.tc : Thread Cert.FfnFirstSample.nD Cert.FfnFirstSample.τ).loc Cert.FfnFirstSample.main_arg5) = m ((c.tc : Thread Cert.FfnFirstSample.nD Cert.FfnFirstSample.τ).loc Cert.FfnFirstSample.main_arg5)
      ∧ r.2.mem ((c.tc : Thread Cert.FfnFirstSample.nD Cert.FfnFirstSample.τ).loc Cert.FfnFirstSample.main_arg6) = m ((c.tc : Thread Cert.FfnFirstSample.nD Cert.FfnFirstSample.τ).loc Cert.FfnFirstSample.main_arg6)
      ∧ r.2.mem ((c.tc : Thread Cert.FfnFirstSample.nD Cert.FfnFirstSample.τ).loc Cert.FfnFirstSample.main_arg7) = m ((c.tc : Thread Cert.FfnFirstSample.nD Cert.FfnFirstSample.τ).loc Cert.FfnFirstSample.main_arg7)
      ∧ r.2.mem ((c.tc : Thread Cert.FfnFirstSample.nD Cert.FfnFirstSample.τ).loc Cert.FfnFirstSample.main_arg8) = m ((c.tc : Thread Cert.FfnFirstSample.nD Cert.FfnFirstSample.τ).loc Cert.FfnFirstSample.main_arg8)
      ∧ r.2.mem ((c.tc : Thread Cert.FfnFirstSample.nD Cert.FfnFirstSample.τ).loc Cert.FfnFirstSample.main_arg9) = m ((c.tc : Thread Cert.FfnFirstSample.nD Cert.FfnFirstSample.τ).loc Cert.FfnFirstSample.main_arg9))
      ∧ r.2.sem = fun _ => 0)

def quiescent_FfnFirstSampleIdeal [hFfnFirstSampleIdeal : Cert.FfnFirstSampleIdeal.Facts] : Prop :=
  ∀ (m : (ℓ : Loc Cert.FfnFirstSampleIdeal.nD Cert.FfnFirstSampleIdeal.τ Cert.FfnFirstSampleIdeal.sig) → Buf (Elt Ideal) ℓ) (g : Dev Cert.FfnFirstSampleIdeal.nD → PrngReg), Pre_FfnFirstSampleIdeal m →
    θ_run (Cert.FfnFirstSampleIdeal.defs (F := Ideal)) (onTc (τ := Cert.FfnFirstSampleIdeal.τ) (Cert.FfnFirstSampleIdeal.main (F := Ideal))) ⟨m, fun _ => 0, g⟩ (fun r => (∀ c : Dev Cert.FfnFirstSampleIdeal.nD,
      r.2.mem ((c.tc : Thread Cert.FfnFirstSampleIdeal.nD Cert.FfnFirstSampleIdeal.τ).loc Cert.FfnFirstSampleIdeal.main_arg0) = m ((c.tc : Thread Cert.FfnFirstSampleIdeal.nD Cert.FfnFirstSampleIdeal.τ).loc Cert.FfnFirstSampleIdeal.main_arg0)
      ∧ r.2.mem ((c.tc : Thread Cert.FfnFirstSampleIdeal.nD Cert.FfnFirstSampleIdeal.τ).loc Cert.FfnFirstSampleIdeal.main_arg1) = m ((c.tc : Thread Cert.FfnFirstSampleIdeal.nD Cert.FfnFirstSampleIdeal.τ).loc Cert.FfnFirstSampleIdeal.main_arg1)
      ∧ r.2.mem ((c.tc : Thread Cert.FfnFirstSampleIdeal.nD Cert.FfnFirstSampleIdeal.τ).loc Cert.FfnFirstSampleIdeal.main_arg2) = m ((c.tc : Thread Cert.FfnFirstSampleIdeal.nD Cert.FfnFirstSampleIdeal.τ).loc Cert.FfnFirstSampleIdeal.main_arg2)
      ∧ r.2.mem ((c.tc : Thread Cert.FfnFirstSampleIdeal.nD Cert.FfnFirstSampleIdeal.τ).loc Cert.FfnFirstSampleIdeal.main_arg3) = m ((c.tc : Thread Cert.FfnFirstSampleIdeal.nD Cert.FfnFirstSampleIdeal.τ).loc Cert.FfnFirstSampleIdeal.main_arg3)
      ∧ r.2.mem ((c.tc : Thread Cert.FfnFirstSampleIdeal.nD Cert.FfnFirstSampleIdeal.τ).loc Cert.FfnFirstSampleIdeal.main_arg4) = m ((c.tc : Thread Cert.FfnFirstSampleIdeal.nD Cert.FfnFirstSampleIdeal.τ).loc Cert.FfnFirstSampleIdeal.main_arg4)
      ∧ r.2.mem ((c.tc : Thread Cert.FfnFirstSampleIdeal.nD Cert.FfnFirstSampleIdeal.τ).loc Cert.FfnFirstSampleIdeal.main_arg5) = m ((c.tc : Thread Cert.FfnFirstSampleIdeal.nD Cert.FfnFirstSampleIdeal.τ).loc Cert.FfnFirstSampleIdeal.main_arg5)
      ∧ r.2.mem ((c.tc : Thread Cert.FfnFirstSampleIdeal.nD Cert.FfnFirstSampleIdeal.τ).loc Cert.FfnFirstSampleIdeal.main_arg6) = m ((c.tc : Thread Cert.FfnFirstSampleIdeal.nD Cert.FfnFirstSampleIdeal.τ).loc Cert.FfnFirstSampleIdeal.main_arg6)
      ∧ r.2.mem ((c.tc : Thread Cert.FfnFirstSampleIdeal.nD Cert.FfnFirstSampleIdeal.τ).loc Cert.FfnFirstSampleIdeal.main_arg7) = m ((c.tc : Thread Cert.FfnFirstSampleIdeal.nD Cert.FfnFirstSampleIdeal.τ).loc Cert.FfnFirstSampleIdeal.main_arg7)
      ∧ r.2.mem ((c.tc : Thread Cert.FfnFirstSampleIdeal.nD Cert.FfnFirstSampleIdeal.τ).loc Cert.FfnFirstSampleIdeal.main_arg8) = m ((c.tc : Thread Cert.FfnFirstSampleIdeal.nD Cert.FfnFirstSampleIdeal.τ).loc Cert.FfnFirstSampleIdeal.main_arg8)
      ∧ r.2.mem ((c.tc : Thread Cert.FfnFirstSampleIdeal.nD Cert.FfnFirstSampleIdeal.τ).loc Cert.FfnFirstSampleIdeal.main_arg9) = m ((c.tc : Thread Cert.FfnFirstSampleIdeal.nD Cert.FfnFirstSampleIdeal.τ).loc Cert.FfnFirstSampleIdeal.main_arg9))
      ∧ r.2.sem = fun _ => 0)

def quiescent_FfnFirstSampleReferenceIdeal [hFfnFirstSampleReferenceIdeal : Cert.FfnFirstSampleReferenceIdeal.Facts] : Prop :=
  ∀ (m : (ℓ : Loc Cert.FfnFirstSampleReferenceIdeal.nD Cert.FfnFirstSampleReferenceIdeal.τ Cert.FfnFirstSampleReferenceIdeal.sig) → Buf (Elt Ideal) ℓ) (g : Dev Cert.FfnFirstSampleReferenceIdeal.nD → PrngReg), Pre_FfnFirstSampleReferenceIdeal m →
    θ_run (Cert.FfnFirstSampleReferenceIdeal.defs (F := Ideal)) (onTc (τ := Cert.FfnFirstSampleReferenceIdeal.τ) (Cert.FfnFirstSampleReferenceIdeal.main (F := Ideal))) ⟨m, fun _ => 0, g⟩ (fun r => (∀ c : Dev Cert.FfnFirstSampleReferenceIdeal.nD,
      r.2.mem ((c.tc : Thread Cert.FfnFirstSampleReferenceIdeal.nD Cert.FfnFirstSampleReferenceIdeal.τ).loc Cert.FfnFirstSampleReferenceIdeal.main_arg0) = m ((c.tc : Thread Cert.FfnFirstSampleReferenceIdeal.nD Cert.FfnFirstSampleReferenceIdeal.τ).loc Cert.FfnFirstSampleReferenceIdeal.main_arg0)
      ∧ r.2.mem ((c.tc : Thread Cert.FfnFirstSampleReferenceIdeal.nD Cert.FfnFirstSampleReferenceIdeal.τ).loc Cert.FfnFirstSampleReferenceIdeal.main_arg1) = m ((c.tc : Thread Cert.FfnFirstSampleReferenceIdeal.nD Cert.FfnFirstSampleReferenceIdeal.τ).loc Cert.FfnFirstSampleReferenceIdeal.main_arg1)
      ∧ r.2.mem ((c.tc : Thread Cert.FfnFirstSampleReferenceIdeal.nD Cert.FfnFirstSampleReferenceIdeal.τ).loc Cert.FfnFirstSampleReferenceIdeal.main_arg2) = m ((c.tc : Thread Cert.FfnFirstSampleReferenceIdeal.nD Cert.FfnFirstSampleReferenceIdeal.τ).loc Cert.FfnFirstSampleReferenceIdeal.main_arg2)
      ∧ r.2.mem ((c.tc : Thread Cert.FfnFirstSampleReferenceIdeal.nD Cert.FfnFirstSampleReferenceIdeal.τ).loc Cert.FfnFirstSampleReferenceIdeal.main_arg3) = m ((c.tc : Thread Cert.FfnFirstSampleReferenceIdeal.nD Cert.FfnFirstSampleReferenceIdeal.τ).loc Cert.FfnFirstSampleReferenceIdeal.main_arg3)
      ∧ r.2.mem ((c.tc : Thread Cert.FfnFirstSampleReferenceIdeal.nD Cert.FfnFirstSampleReferenceIdeal.τ).loc Cert.FfnFirstSampleReferenceIdeal.main_arg4) = m ((c.tc : Thread Cert.FfnFirstSampleReferenceIdeal.nD Cert.FfnFirstSampleReferenceIdeal.τ).loc Cert.FfnFirstSampleReferenceIdeal.main_arg4)
      ∧ r.2.mem ((c.tc : Thread Cert.FfnFirstSampleReferenceIdeal.nD Cert.FfnFirstSampleReferenceIdeal.τ).loc Cert.FfnFirstSampleReferenceIdeal.main_arg5) = m ((c.tc : Thread Cert.FfnFirstSampleReferenceIdeal.nD Cert.FfnFirstSampleReferenceIdeal.τ).loc Cert.FfnFirstSampleReferenceIdeal.main_arg5)
      ∧ r.2.mem ((c.tc : Thread Cert.FfnFirstSampleReferenceIdeal.nD Cert.FfnFirstSampleReferenceIdeal.τ).loc Cert.FfnFirstSampleReferenceIdeal.main_arg6) = m ((c.tc : Thread Cert.FfnFirstSampleReferenceIdeal.nD Cert.FfnFirstSampleReferenceIdeal.τ).loc Cert.FfnFirstSampleReferenceIdeal.main_arg6)
      ∧ r.2.mem ((c.tc : Thread Cert.FfnFirstSampleReferenceIdeal.nD Cert.FfnFirstSampleReferenceIdeal.τ).loc Cert.FfnFirstSampleReferenceIdeal.main_arg7) = m ((c.tc : Thread Cert.FfnFirstSampleReferenceIdeal.nD Cert.FfnFirstSampleReferenceIdeal.τ).loc Cert.FfnFirstSampleReferenceIdeal.main_arg7)
      ∧ r.2.mem ((c.tc : Thread Cert.FfnFirstSampleReferenceIdeal.nD Cert.FfnFirstSampleReferenceIdeal.τ).loc Cert.FfnFirstSampleReferenceIdeal.main_arg8) = m ((c.tc : Thread Cert.FfnFirstSampleReferenceIdeal.nD Cert.FfnFirstSampleReferenceIdeal.τ).loc Cert.FfnFirstSampleReferenceIdeal.main_arg8)
      ∧ r.2.mem ((c.tc : Thread Cert.FfnFirstSampleReferenceIdeal.nD Cert.FfnFirstSampleReferenceIdeal.τ).loc Cert.FfnFirstSampleReferenceIdeal.main_arg9) = m ((c.tc : Thread Cert.FfnFirstSampleReferenceIdeal.nD Cert.FfnFirstSampleReferenceIdeal.τ).loc Cert.FfnFirstSampleReferenceIdeal.main_arg9))
      ∧ r.2.sem = fun _ => 0)

def quiescent_WinSample [hWinSample : Cert.WinSample.Facts] : Prop :=
  ∀ (m : (ℓ : Loc Cert.WinSample.nD Cert.WinSample.τ Cert.WinSample.sig) → Buf (Elt Bits) ℓ) (g : Dev Cert.WinSample.nD → PrngReg), Pre_WinSample m →
    θ_run (Cert.WinSample.defs (F := Bits)) (onTc (τ := Cert.WinSample.τ) (Cert.WinSample.main (F := Bits))) ⟨m, fun _ => 0, g⟩ (fun r => (∀ c : Dev Cert.WinSample.nD,
      r.2.mem ((c.tc : Thread Cert.WinSample.nD Cert.WinSample.τ).loc Cert.WinSample.main_arg0) = m ((c.tc : Thread Cert.WinSample.nD Cert.WinSample.τ).loc Cert.WinSample.main_arg0)
      ∧ r.2.mem ((c.tc : Thread Cert.WinSample.nD Cert.WinSample.τ).loc Cert.WinSample.main_arg1) = m ((c.tc : Thread Cert.WinSample.nD Cert.WinSample.τ).loc Cert.WinSample.main_arg1)
      ∧ r.2.mem ((c.tc : Thread Cert.WinSample.nD Cert.WinSample.τ).loc Cert.WinSample.main_arg2) = m ((c.tc : Thread Cert.WinSample.nD Cert.WinSample.τ).loc Cert.WinSample.main_arg2)
      ∧ r.2.mem ((c.tc : Thread Cert.WinSample.nD Cert.WinSample.τ).loc Cert.WinSample.main_arg3) = m ((c.tc : Thread Cert.WinSample.nD Cert.WinSample.τ).loc Cert.WinSample.main_arg3)
      ∧ r.2.mem ((c.tc : Thread Cert.WinSample.nD Cert.WinSample.τ).loc Cert.WinSample.main_arg4) = m ((c.tc : Thread Cert.WinSample.nD Cert.WinSample.τ).loc Cert.WinSample.main_arg4)
      ∧ r.2.mem ((c.tc : Thread Cert.WinSample.nD Cert.WinSample.τ).loc Cert.WinSample.main_arg5) = m ((c.tc : Thread Cert.WinSample.nD Cert.WinSample.τ).loc Cert.WinSample.main_arg5))
      ∧ r.2.sem = fun _ => 0)

def quiescent_WinSampleIdeal [hWinSampleIdeal : Cert.WinSampleIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg), Pre_WinSampleIdeal m →
    θ_run (Cert.WinSampleIdeal.defs (F := Ideal)) (onTc (τ := Cert.WinSampleIdeal.τ) (Cert.WinSampleIdeal.main (F := Ideal))) ⟨m, fun _ => 0, g⟩ (fun r => (∀ c : Dev Cert.WinSampleIdeal.nD,
      r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
      ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
      ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
      ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3)
      ∧ r.2.mem ((c.tc : Thread Cert.WinSampleIdeal.nD Cert.WinSampleIdeal.τ).loc Cert.WinSampleIdeal.main_arg4) = m ((c.tc : Thread Cert.WinSampleIdeal.nD Cert.WinSampleIdeal.τ).loc Cert.WinSampleIdeal.main_arg4)
      ∧ r.2.mem ((c.tc : Thread Cert.WinSampleIdeal.nD Cert.WinSampleIdeal.τ).loc Cert.WinSampleIdeal.main_arg5) = m ((c.tc : Thread Cert.WinSampleIdeal.nD Cert.WinSampleIdeal.τ).loc Cert.WinSampleIdeal.main_arg5))
      ∧ r.2.sem = fun _ => 0)

def quiescent_WinSampleReferenceIdeal [hWinSampleReferenceIdeal : Cert.WinSampleReferenceIdeal.Facts] : Prop :=
  ∀ (m : (ℓ : Loc Cert.WinSampleReferenceIdeal.nD Cert.WinSampleReferenceIdeal.τ Cert.WinSampleReferenceIdeal.sig) → Buf (Elt Ideal) ℓ) (g : Dev Cert.WinSampleReferenceIdeal.nD → PrngReg), Pre_WinSampleReferenceIdeal m →
    θ_run (Cert.WinSampleReferenceIdeal.defs (F := Ideal)) (onTc (τ := Cert.WinSampleReferenceIdeal.τ) (Cert.WinSampleReferenceIdeal.main (F := Ideal))) ⟨m, fun _ => 0, g⟩ (fun r => (∀ c : Dev Cert.WinSampleReferenceIdeal.nD,
      r.2.mem ((c.tc : Thread Cert.WinSampleReferenceIdeal.nD Cert.WinSampleReferenceIdeal.τ).loc Cert.WinSampleReferenceIdeal.main_arg0) = m ((c.tc : Thread Cert.WinSampleReferenceIdeal.nD Cert.WinSampleReferenceIdeal.τ).loc Cert.WinSampleReferenceIdeal.main_arg0)
      ∧ r.2.mem ((c.tc : Thread Cert.WinSampleReferenceIdeal.nD Cert.WinSampleReferenceIdeal.τ).loc Cert.WinSampleReferenceIdeal.main_arg1) = m ((c.tc : Thread Cert.WinSampleReferenceIdeal.nD Cert.WinSampleReferenceIdeal.τ).loc Cert.WinSampleReferenceIdeal.main_arg1)
      ∧ r.2.mem ((c.tc : Thread Cert.WinSampleReferenceIdeal.nD Cert.WinSampleReferenceIdeal.τ).loc Cert.WinSampleReferenceIdeal.main_arg2) = m ((c.tc : Thread Cert.WinSampleReferenceIdeal.nD Cert.WinSampleReferenceIdeal.τ).loc Cert.WinSampleReferenceIdeal.main_arg2)
      ∧ r.2.mem ((c.tc : Thread Cert.WinSampleReferenceIdeal.nD Cert.WinSampleReferenceIdeal.τ).loc Cert.WinSampleReferenceIdeal.main_arg3) = m ((c.tc : Thread Cert.WinSampleReferenceIdeal.nD Cert.WinSampleReferenceIdeal.τ).loc Cert.WinSampleReferenceIdeal.main_arg3)
      ∧ r.2.mem ((c.tc : Thread Cert.WinSampleReferenceIdeal.nD Cert.WinSampleReferenceIdeal.τ).loc Cert.WinSampleReferenceIdeal.main_arg4) = m ((c.tc : Thread Cert.WinSampleReferenceIdeal.nD Cert.WinSampleReferenceIdeal.τ).loc Cert.WinSampleReferenceIdeal.main_arg4)
      ∧ r.2.mem ((c.tc : Thread Cert.WinSampleReferenceIdeal.nD Cert.WinSampleReferenceIdeal.τ).loc Cert.WinSampleReferenceIdeal.main_arg5) = m ((c.tc : Thread Cert.WinSampleReferenceIdeal.nD Cert.WinSampleReferenceIdeal.τ).loc Cert.WinSampleReferenceIdeal.main_arg5))
      ∧ r.2.sem = fun _ => 0)

def preserves_Retention_RetentionIdeal : Prop :=
  True

def algebraic_RetentionIdeal_RetentionReferenceIdeal [hRetentionIdeal : Cert.RetentionIdeal.Facts] [hRetentionReferenceIdeal : Cert.RetentionReferenceIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionReferenceIdeal.nD Cert.RetentionReferenceIdeal.τ Cert.RetentionReferenceIdeal.sig) → Buf (Elt Ideal) ℓ) (g' : Dev Cert.RetentionReferenceIdeal.nD → PrngReg), Pre_RetentionIdeal m →
    (∀ c : Dev Cert.RetentionIdeal.nD,
      m' ((c.tc : Thread Cert.RetentionReferenceIdeal.nD Cert.RetentionReferenceIdeal.τ).loc Cert.RetentionReferenceIdeal.main_arg0) = m ((c.tc : Thread Cert.RetentionIdeal.nD Cert.RetentionIdeal.τ).loc Cert.RetentionIdeal.main_arg0)) →
    ∃ (v0 : (c : Dev Cert.RetentionIdeal.nD) → Buf (Elt Ideal) ((c.tc : Thread Cert.RetentionIdeal.nD Cert.RetentionIdeal.τ).loc Cert.RetentionIdeal.main_v10_0)) (v1 : (c : Dev Cert.RetentionIdeal.nD) → Buf (Elt Ideal) ((c.tc : Thread Cert.RetentionIdeal.nD Cert.RetentionIdeal.τ).loc Cert.RetentionIdeal.main_v10_1)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v10_0) = v0 c
          ∧ r.2.mem ((c.tc : Thread Cert.RetentionIdeal.nD Cert.RetentionIdeal.τ).loc Cert.RetentionIdeal.main_v10_1) = v1 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ θ_run (Cert.RetentionReferenceIdeal.defs (F := Ideal)) (onTc (τ := Cert.RetentionReferenceIdeal.τ) (Cert.RetentionReferenceIdeal.main (F := Ideal))) ⟨m', fun _ => 0, g'⟩ (fun r => ∀ c : Dev Cert.RetentionReferenceIdeal.nD,
          r.2.mem ((c.tc : Thread Cert.RetentionReferenceIdeal.nD Cert.RetentionReferenceIdeal.τ).loc Cert.RetentionReferenceIdeal.main_v41) = v0 c
          ∧ r.2.mem ((c.tc : Thread Cert.RetentionReferenceIdeal.nD Cert.RetentionReferenceIdeal.τ).loc Cert.RetentionReferenceIdeal.main_v24_5) = v1 c
          ∧ r.2.mem ((c.tc : Thread Cert.RetentionReferenceIdeal.nD Cert.RetentionReferenceIdeal.τ).loc Cert.RetentionReferenceIdeal.main_arg0) = m' ((c.tc : Thread Cert.RetentionReferenceIdeal.nD Cert.RetentionReferenceIdeal.τ).loc Cert.RetentionReferenceIdeal.main_arg0))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v69) = v0 c
          ∧ r.2.mem ((c.tc : Thread Cert.FfnReferenceIdeal.nD Cert.FfnReferenceIdeal.τ).loc Cert.FfnReferenceIdeal.main_v51) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10))

def preserves_RetIn_RetInIdeal : Prop :=
  True

def algebraic_RetInIdeal_RetInReferenceIdeal [hRetInIdeal : Cert.RetInIdeal.Facts] [hRetInReferenceIdeal : Cert.RetInReferenceIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInReferenceIdeal.nD Cert.RetInReferenceIdeal.τ Cert.RetInReferenceIdeal.sig) → Buf (Elt Ideal) ℓ) (g' : Dev Cert.RetInReferenceIdeal.nD → PrngReg), Pre_RetInIdeal m →
    (∀ c : Dev Cert.RetInIdeal.nD,
      m' ((c.tc : Thread Cert.RetInReferenceIdeal.nD Cert.RetInReferenceIdeal.τ).loc Cert.RetInReferenceIdeal.main_arg0) = m ((c.tc : Thread Cert.RetInIdeal.nD Cert.RetInIdeal.τ).loc Cert.RetInIdeal.main_arg0)
      ∧ m' ((c.tc : Thread Cert.RetInReferenceIdeal.nD Cert.RetInReferenceIdeal.τ).loc Cert.RetInReferenceIdeal.main_arg1) = m ((c.tc : Thread Cert.RetInIdeal.nD Cert.RetInIdeal.τ).loc Cert.RetInIdeal.main_arg1)
      ∧ m' ((c.tc : Thread Cert.RetInReferenceIdeal.nD Cert.RetInReferenceIdeal.τ).loc Cert.RetInReferenceIdeal.main_arg2) = m ((c.tc : Thread Cert.RetInIdeal.nD Cert.RetInIdeal.τ).loc Cert.RetInIdeal.main_arg2)
      ∧ m' ((c.tc : Thread Cert.RetInReferenceIdeal.nD Cert.RetInReferenceIdeal.τ).loc Cert.RetInReferenceIdeal.main_arg3) = m ((c.tc : Thread Cert.RetInIdeal.nD Cert.RetInIdeal.τ).loc Cert.RetInIdeal.main_arg3)
      ∧ m' ((c.tc : Thread Cert.RetInReferenceIdeal.nD Cert.RetInReferenceIdeal.τ).loc Cert.RetInReferenceIdeal.main_arg4) = m ((c.tc : Thread Cert.RetInIdeal.nD Cert.RetInIdeal.τ).loc Cert.RetInIdeal.main_arg4)) →
    ∃ (v0 : (c : Dev Cert.RetInIdeal.nD) → Buf (Elt Ideal) ((c.tc : Thread Cert.RetInIdeal.nD Cert.RetInIdeal.τ).loc Cert.RetInIdeal.main_v5)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v5) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3)
          ∧ r.2.mem ((c.tc : Thread Cert.RetInIdeal.nD Cert.RetInIdeal.τ).loc Cert.RetInIdeal.main_arg4) = m ((c.tc : Thread Cert.RetInIdeal.nD Cert.RetInIdeal.τ).loc Cert.RetInIdeal.main_arg4))
      ∧ θ_run (Cert.RetInReferenceIdeal.defs (F := Ideal)) (onTc (τ := Cert.RetInReferenceIdeal.τ) (Cert.RetInReferenceIdeal.main (F := Ideal))) ⟨m', fun _ => 0, g'⟩ (fun r => ∀ c : Dev Cert.RetInReferenceIdeal.nD,
          r.2.mem ((c.tc : Thread Cert.RetInReferenceIdeal.nD Cert.RetInReferenceIdeal.τ).loc Cert.RetInReferenceIdeal.main_v22) = v0 c
          ∧ r.2.mem ((c.tc : Thread Cert.RetInReferenceIdeal.nD Cert.RetInReferenceIdeal.τ).loc Cert.RetInReferenceIdeal.main_arg0) = m' ((c.tc : Thread Cert.RetInReferenceIdeal.nD Cert.RetInReferenceIdeal.τ).loc Cert.RetInReferenceIdeal.main_arg0)
          ∧ r.2.mem ((c.tc : Thread Cert.RetInReferenceIdeal.nD Cert.RetInReferenceIdeal.τ).loc Cert.RetInReferenceIdeal.main_arg1) = m' ((c.tc : Thread Cert.RetInReferenceIdeal.nD Cert.RetInReferenceIdeal.τ).loc Cert.RetInReferenceIdeal.main_arg1)
          ∧ r.2.mem ((c.tc : Thread Cert.RetInReferenceIdeal.nD Cert.RetInReferenceIdeal.τ).loc Cert.RetInReferenceIdeal.main_arg2) = m' ((c.tc : Thread Cert.RetInReferenceIdeal.nD Cert.RetInReferenceIdeal.τ).loc Cert.RetInReferenceIdeal.main_arg2)
          ∧ r.2.mem ((c.tc : Thread Cert.RetInReferenceIdeal.nD Cert.RetInReferenceIdeal.τ).loc Cert.RetInReferenceIdeal.main_arg3) = m' ((c.tc : Thread Cert.RetInReferenceIdeal.nD Cert.RetInReferenceIdeal.τ).loc Cert.RetInReferenceIdeal.main_arg3)
          ∧ r.2.mem ((c.tc : Thread Cert.RetInReferenceIdeal.nD Cert.RetInReferenceIdeal.τ).loc Cert.RetInReferenceIdeal.main_arg4) = m' ((c.tc : Thread Cert.RetInReferenceIdeal.nD Cert.RetInReferenceIdeal.τ).loc Cert.RetInReferenceIdeal.main_arg4))

def preserves_KvRows_KvRowsIdeal : Prop :=
  True

def algebraic_KvRowsIdeal_KvRowsReferenceIdeal [hKvRowsIdeal : Cert.KvRowsIdeal.Facts] [hKvRowsReferenceIdeal : Cert.KvRowsReferenceIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg)
    (m' : (ℓ : Loc Cert.KvRowsReferenceIdeal.nD Cert.KvRowsReferenceIdeal.τ Cert.KvRowsReferenceIdeal.sig) → Buf (Elt Ideal) ℓ) (g' : Dev Cert.KvRowsReferenceIdeal.nD → PrngReg), Pre_KvRowsIdeal m →
    (∀ c : Dev Cert.KvRowsIdeal.nD,
      m' ((c.tc : Thread Cert.KvRowsReferenceIdeal.nD Cert.KvRowsReferenceIdeal.τ).loc Cert.KvRowsReferenceIdeal.main_arg0) = m ((c.tc : Thread Cert.KvRowsIdeal.nD Cert.KvRowsIdeal.τ).loc Cert.KvRowsIdeal.main_arg0)
      ∧ m' ((c.tc : Thread Cert.KvRowsReferenceIdeal.nD Cert.KvRowsReferenceIdeal.τ).loc Cert.KvRowsReferenceIdeal.main_arg1) = m ((c.tc : Thread Cert.KvRowsIdeal.nD Cert.KvRowsIdeal.τ).loc Cert.KvRowsIdeal.main_arg1)
      ∧ m' ((c.tc : Thread Cert.KvRowsReferenceIdeal.nD Cert.KvRowsReferenceIdeal.τ).loc Cert.KvRowsReferenceIdeal.main_arg2) = m ((c.tc : Thread Cert.KvRowsIdeal.nD Cert.KvRowsIdeal.τ).loc Cert.KvRowsIdeal.main_arg2)
      ∧ m' ((c.tc : Thread Cert.KvRowsReferenceIdeal.nD Cert.KvRowsReferenceIdeal.τ).loc Cert.KvRowsReferenceIdeal.main_arg3) = m ((c.tc : Thread Cert.KvRowsIdeal.nD Cert.KvRowsIdeal.τ).loc Cert.KvRowsIdeal.main_arg3)
      ∧ m' ((c.tc : Thread Cert.KvRowsReferenceIdeal.nD Cert.KvRowsReferenceIdeal.τ).loc Cert.KvRowsReferenceIdeal.main_arg4) = m ((c.tc : Thread Cert.KvRowsIdeal.nD Cert.KvRowsIdeal.τ).loc Cert.KvRowsIdeal.main_arg4)) →
    ∃ (v0 : (c : Dev Cert.KvRowsIdeal.nD) → Buf (Elt Ideal) ((c.tc : Thread Cert.KvRowsIdeal.nD Cert.KvRowsIdeal.τ).loc Cert.KvRowsIdeal.main_v6)),
      θ_run (Cert.KvRowsIdeal.defs (F := Ideal)) (onTc (τ := Cert.KvRowsIdeal.τ) (Cert.KvRowsIdeal.main (F := Ideal))) ⟨m, fun _ => 0, g⟩ (fun r => ∀ c : Dev Cert.KvRowsIdeal.nD,
          r.2.mem ((c.tc : Thread Cert.KvRowsIdeal.nD Cert.KvRowsIdeal.τ).loc Cert.KvRowsIdeal.main_v6) = v0 c
          ∧ r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
          ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
          ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
          ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3)
          ∧ r.2.mem ((c.tc : Thread Cert.KvRowsIdeal.nD Cert.KvRowsIdeal.τ).loc Cert.KvRowsIdeal.main_arg4) = m ((c.tc : Thread Cert.KvRowsIdeal.nD Cert.KvRowsIdeal.τ).loc Cert.KvRowsIdeal.main_arg4))
      ∧ θ_run (Cert.KvRowsReferenceIdeal.defs (F := Ideal)) (onTc (τ := Cert.KvRowsReferenceIdeal.τ) (Cert.KvRowsReferenceIdeal.main (F := Ideal))) ⟨m', fun _ => 0, g'⟩ (fun r => ∀ c : Dev Cert.KvRowsReferenceIdeal.nD,
          r.2.mem ((c.tc : Thread Cert.KvRowsReferenceIdeal.nD Cert.KvRowsReferenceIdeal.τ).loc Cert.KvRowsReferenceIdeal.main_v24) = v0 c
          ∧ r.2.mem ((c.tc : Thread Cert.KvRowsReferenceIdeal.nD Cert.KvRowsReferenceIdeal.τ).loc Cert.KvRowsReferenceIdeal.main_arg0) = m' ((c.tc : Thread Cert.KvRowsReferenceIdeal.nD Cert.KvRowsReferenceIdeal.τ).loc Cert.KvRowsReferenceIdeal.main_arg0)
          ∧ r.2.mem ((c.tc : Thread Cert.KvRowsReferenceIdeal.nD Cert.KvRowsReferenceIdeal.τ).loc Cert.KvRowsReferenceIdeal.main_arg1) = m' ((c.tc : Thread Cert.KvRowsReferenceIdeal.nD Cert.KvRowsReferenceIdeal.τ).loc Cert.KvRowsReferenceIdeal.main_arg1)
          ∧ r.2.mem ((c.tc : Thread Cert.KvRowsReferenceIdeal.nD Cert.KvRowsReferenceIdeal.τ).loc Cert.KvRowsReferenceIdeal.main_arg2) = m' ((c.tc : Thread Cert.KvRowsReferenceIdeal.nD Cert.KvRowsReferenceIdeal.τ).loc Cert.KvRowsReferenceIdeal.main_arg2)
          ∧ r.2.mem ((c.tc : Thread Cert.KvRowsReferenceIdeal.nD Cert.KvRowsReferenceIdeal.τ).loc Cert.KvRowsReferenceIdeal.main_arg3) = m' ((c.tc : Thread Cert.KvRowsReferenceIdeal.nD Cert.KvRowsReferenceIdeal.τ).loc Cert.KvRowsReferenceIdeal.main_arg3)
          ∧ r.2.mem ((c.tc : Thread Cert.KvRowsReferenceIdeal.nD Cert.KvRowsReferenceIdeal.τ).loc Cert.KvRowsReferenceIdeal.main_arg4) = m' ((c.tc : Thread Cert.KvRowsReferenceIdeal.nD Cert.KvRowsReferenceIdeal.τ).loc Cert.KvRowsReferenceIdeal.main_arg4))

def preserves_WinRows_WinRowsIdeal : Prop :=
  True

def algebraic_WinRowsIdeal_WinRowsReferenceIdeal [hWinRowsIdeal : Cert.WinRowsIdeal.Facts] [hWinRowsReferenceIdeal : Cert.WinRowsReferenceIdeal.Facts] : Prop :=
  ∀ (m : (ℓ : Loc Cert.WinRowsIdeal.nD Cert.WinRowsIdeal.τ Cert.WinRowsIdeal.sig) → Buf (Elt Ideal) ℓ) (g : Dev Cert.WinRowsIdeal.nD → PrngReg)
    (m' : (ℓ : Loc Cert.WinRowsReferenceIdeal.nD Cert.WinRowsReferenceIdeal.τ Cert.WinRowsReferenceIdeal.sig) → Buf (Elt Ideal) ℓ) (g' : Dev Cert.WinRowsReferenceIdeal.nD → PrngReg), Pre_WinRowsIdeal m →
    (∀ c : Dev Cert.WinRowsIdeal.nD,
      m' ((c.tc : Thread Cert.WinRowsReferenceIdeal.nD Cert.WinRowsReferenceIdeal.τ).loc Cert.WinRowsReferenceIdeal.main_arg0) = m ((c.tc : Thread Cert.WinRowsIdeal.nD Cert.WinRowsIdeal.τ).loc Cert.WinRowsIdeal.main_arg0)
      ∧ m' ((c.tc : Thread Cert.WinRowsReferenceIdeal.nD Cert.WinRowsReferenceIdeal.τ).loc Cert.WinRowsReferenceIdeal.main_arg1) = m ((c.tc : Thread Cert.WinRowsIdeal.nD Cert.WinRowsIdeal.τ).loc Cert.WinRowsIdeal.main_arg1)
      ∧ m' ((c.tc : Thread Cert.WinRowsReferenceIdeal.nD Cert.WinRowsReferenceIdeal.τ).loc Cert.WinRowsReferenceIdeal.main_arg2) = m ((c.tc : Thread Cert.WinRowsIdeal.nD Cert.WinRowsIdeal.τ).loc Cert.WinRowsIdeal.main_arg2)
      ∧ m' ((c.tc : Thread Cert.WinRowsReferenceIdeal.nD Cert.WinRowsReferenceIdeal.τ).loc Cert.WinRowsReferenceIdeal.main_arg3) = m ((c.tc : Thread Cert.WinRowsIdeal.nD Cert.WinRowsIdeal.τ).loc Cert.WinRowsIdeal.main_arg3)
      ∧ m' ((c.tc : Thread Cert.WinRowsReferenceIdeal.nD Cert.WinRowsReferenceIdeal.τ).loc Cert.WinRowsReferenceIdeal.main_arg4) = m ((c.tc : Thread Cert.WinRowsIdeal.nD Cert.WinRowsIdeal.τ).loc Cert.WinRowsIdeal.main_arg4)) →
    ∃ (v0 : (c : Dev Cert.WinRowsIdeal.nD) → Buf (Elt Ideal) ((c.tc : Thread Cert.WinRowsIdeal.nD Cert.WinRowsIdeal.τ).loc Cert.WinRowsIdeal.main_v6)),
      θ_run (Cert.WinRowsIdeal.defs (F := Ideal)) (onTc (τ := Cert.WinRowsIdeal.τ) (Cert.WinRowsIdeal.main (F := Ideal))) ⟨m, fun _ => 0, g⟩ (fun r => ∀ c : Dev Cert.WinRowsIdeal.nD,
          r.2.mem ((c.tc : Thread Cert.WinRowsIdeal.nD Cert.WinRowsIdeal.τ).loc Cert.WinRowsIdeal.main_v6) = v0 c
          ∧ r.2.mem ((c.tc : Thread Cert.WinRowsIdeal.nD Cert.WinRowsIdeal.τ).loc Cert.WinRowsIdeal.main_arg0) = m ((c.tc : Thread Cert.WinRowsIdeal.nD Cert.WinRowsIdeal.τ).loc Cert.WinRowsIdeal.main_arg0)
          ∧ r.2.mem ((c.tc : Thread Cert.WinRowsIdeal.nD Cert.WinRowsIdeal.τ).loc Cert.WinRowsIdeal.main_arg1) = m ((c.tc : Thread Cert.WinRowsIdeal.nD Cert.WinRowsIdeal.τ).loc Cert.WinRowsIdeal.main_arg1)
          ∧ r.2.mem ((c.tc : Thread Cert.WinRowsIdeal.nD Cert.WinRowsIdeal.τ).loc Cert.WinRowsIdeal.main_arg2) = m ((c.tc : Thread Cert.WinRowsIdeal.nD Cert.WinRowsIdeal.τ).loc Cert.WinRowsIdeal.main_arg2)
          ∧ r.2.mem ((c.tc : Thread Cert.WinRowsIdeal.nD Cert.WinRowsIdeal.τ).loc Cert.WinRowsIdeal.main_arg3) = m ((c.tc : Thread Cert.WinRowsIdeal.nD Cert.WinRowsIdeal.τ).loc Cert.WinRowsIdeal.main_arg3)
          ∧ r.2.mem ((c.tc : Thread Cert.WinRowsIdeal.nD Cert.WinRowsIdeal.τ).loc Cert.WinRowsIdeal.main_arg4) = m ((c.tc : Thread Cert.WinRowsIdeal.nD Cert.WinRowsIdeal.τ).loc Cert.WinRowsIdeal.main_arg4))
      ∧ θ_run (Cert.WinRowsReferenceIdeal.defs (F := Ideal)) (onTc (τ := Cert.WinRowsReferenceIdeal.τ) (Cert.WinRowsReferenceIdeal.main (F := Ideal))) ⟨m', fun _ => 0, g'⟩ (fun r => ∀ c : Dev Cert.WinRowsReferenceIdeal.nD,
          r.2.mem ((c.tc : Thread Cert.WinRowsReferenceIdeal.nD Cert.WinRowsReferenceIdeal.τ).loc Cert.WinRowsReferenceIdeal.main_v24) = v0 c
          ∧ r.2.mem ((c.tc : Thread Cert.WinRowsReferenceIdeal.nD Cert.WinRowsReferenceIdeal.τ).loc Cert.WinRowsReferenceIdeal.main_arg0) = m' ((c.tc : Thread Cert.WinRowsReferenceIdeal.nD Cert.WinRowsReferenceIdeal.τ).loc Cert.WinRowsReferenceIdeal.main_arg0)
          ∧ r.2.mem ((c.tc : Thread Cert.WinRowsReferenceIdeal.nD Cert.WinRowsReferenceIdeal.τ).loc Cert.WinRowsReferenceIdeal.main_arg1) = m' ((c.tc : Thread Cert.WinRowsReferenceIdeal.nD Cert.WinRowsReferenceIdeal.τ).loc Cert.WinRowsReferenceIdeal.main_arg1)
          ∧ r.2.mem ((c.tc : Thread Cert.WinRowsReferenceIdeal.nD Cert.WinRowsReferenceIdeal.τ).loc Cert.WinRowsReferenceIdeal.main_arg2) = m' ((c.tc : Thread Cert.WinRowsReferenceIdeal.nD Cert.WinRowsReferenceIdeal.τ).loc Cert.WinRowsReferenceIdeal.main_arg2)
          ∧ r.2.mem ((c.tc : Thread Cert.WinRowsReferenceIdeal.nD Cert.WinRowsReferenceIdeal.τ).loc Cert.WinRowsReferenceIdeal.main_arg3) = m' ((c.tc : Thread Cert.WinRowsReferenceIdeal.nD Cert.WinRowsReferenceIdeal.τ).loc Cert.WinRowsReferenceIdeal.main_arg3)
          ∧ r.2.mem ((c.tc : Thread Cert.WinRowsReferenceIdeal.nD Cert.WinRowsReferenceIdeal.τ).loc Cert.WinRowsReferenceIdeal.main_arg4) = m' ((c.tc : Thread Cert.WinRowsReferenceIdeal.nD Cert.WinRowsReferenceIdeal.τ).loc Cert.WinRowsReferenceIdeal.main_arg4))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)
      ∧ m' ((c.tc : Thread Cert.QProjReferenceIdeal.nD Cert.QProjReferenceIdeal.τ).loc Cert.QProjReferenceIdeal.main_arg2) = m ((c.tc : Thread Cert.QProjIdeal.nD Cert.QProjIdeal.τ).loc Cert.QProjIdeal.main_arg2)
      ∧ m' ((c.tc : Thread Cert.QProjReferenceIdeal.nD Cert.QProjReferenceIdeal.τ).loc Cert.QProjReferenceIdeal.main_arg3) = m ((c.tc : Thread Cert.QProjIdeal.nD Cert.QProjIdeal.τ).loc Cert.QProjIdeal.main_arg3)
      ∧ m' ((c.tc : Thread Cert.QProjReferenceIdeal.nD Cert.QProjReferenceIdeal.τ).loc Cert.QProjReferenceIdeal.main_arg4) = m ((c.tc : Thread Cert.QProjIdeal.nD Cert.QProjIdeal.τ).loc Cert.QProjIdeal.main_arg4)) →
    ∃ (v0 : (c : Dev Cert.QProjIdeal.nD) → Buf (Elt Ideal) ((c.tc : Thread Cert.QProjIdeal.nD Cert.QProjIdeal.τ).loc Cert.QProjIdeal.main_v11)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v11) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
          ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v28) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1)
          ∧ r.2.mem ((c.tc : Thread Cert.QProjReferenceIdeal.nD Cert.QProjReferenceIdeal.τ).loc Cert.QProjReferenceIdeal.main_arg2) = m' ((c.tc : Thread Cert.QProjReferenceIdeal.nD Cert.QProjReferenceIdeal.τ).loc Cert.QProjReferenceIdeal.main_arg2)
          ∧ r.2.mem ((c.tc : Thread Cert.QProjReferenceIdeal.nD Cert.QProjReferenceIdeal.τ).loc Cert.QProjReferenceIdeal.main_arg3) = m' ((c.tc : Thread Cert.QProjReferenceIdeal.nD Cert.QProjReferenceIdeal.τ).loc Cert.QProjReferenceIdeal.main_arg3)
          ∧ r.2.mem ((c.tc : Thread Cert.QProjReferenceIdeal.nD Cert.QProjReferenceIdeal.τ).loc Cert.QProjReferenceIdeal.main_arg4) = m' ((c.tc : Thread Cert.QProjReferenceIdeal.nD Cert.QProjReferenceIdeal.τ).loc Cert.QProjReferenceIdeal.main_arg4))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)
      ∧ m' ((c.tc : Thread Cert.RetOutReferenceIdeal.nD Cert.RetOutReferenceIdeal.τ).loc Cert.RetOutReferenceIdeal.main_arg2) = m ((c.tc : Thread Cert.RetOutIdeal.nD Cert.RetOutIdeal.τ).loc Cert.RetOutIdeal.main_arg2)
      ∧ m' ((c.tc : Thread Cert.RetOutReferenceIdeal.nD Cert.RetOutReferenceIdeal.τ).loc Cert.RetOutReferenceIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v3)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v3) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v7) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1)
          ∧ r.2.mem ((c.tc : Thread Cert.RetOutReferenceIdeal.nD Cert.RetOutReferenceIdeal.τ).loc Cert.RetOutReferenceIdeal.main_arg2) = m' ((c.tc : Thread Cert.RetOutReferenceIdeal.nD Cert.RetOutReferenceIdeal.τ).loc Cert.RetOutReferenceIdeal.main_arg2)
          ∧ r.2.mem ((c.tc : Thread Cert.RetOutReferenceIdeal.nD Cert.RetOutReferenceIdeal.τ).loc Cert.RetOutReferenceIdeal.main_arg3) = m' ((c.tc : Thread Cert.RetOutReferenceIdeal.nD Cert.RetOutReferenceIdeal.τ).loc Cert.RetOutReferenceIdeal.main_arg3))

def preserves_NsaOut_NsaOutIdeal : Prop :=
  True

def algebraic_NsaOutIdeal_NsaOutReferenceIdeal [hNsaOutIdeal : Cert.NsaOutIdeal.Facts] [hNsaOutReferenceIdeal : Cert.NsaOutReferenceIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg)
    (m' : (ℓ : Loc Cert.NsaOutReferenceIdeal.nD Cert.NsaOutReferenceIdeal.τ Cert.NsaOutReferenceIdeal.sig) → Buf (Elt Ideal) ℓ) (g' : Dev Cert.NsaOutReferenceIdeal.nD → PrngReg), Pre_NsaOutIdeal m →
    (∀ c : Dev Cert.NsaOutIdeal.nD,
      m' ((c.tc : Thread Cert.NsaOutReferenceIdeal.nD Cert.NsaOutReferenceIdeal.τ).loc Cert.NsaOutReferenceIdeal.main_arg0) = m ((c.tc : Thread Cert.NsaOutIdeal.nD Cert.NsaOutIdeal.τ).loc Cert.NsaOutIdeal.main_arg0)
      ∧ m' ((c.tc : Thread Cert.NsaOutReferenceIdeal.nD Cert.NsaOutReferenceIdeal.τ).loc Cert.NsaOutReferenceIdeal.main_arg1) = m ((c.tc : Thread Cert.NsaOutIdeal.nD Cert.NsaOutIdeal.τ).loc Cert.NsaOutIdeal.main_arg1)
      ∧ m' ((c.tc : Thread Cert.NsaOutReferenceIdeal.nD Cert.NsaOutReferenceIdeal.τ).loc Cert.NsaOutReferenceIdeal.main_arg2) = m ((c.tc : Thread Cert.NsaOutIdeal.nD Cert.NsaOutIdeal.τ).loc Cert.NsaOutIdeal.main_arg2)
      ∧ m' ((c.tc : Thread Cert.NsaOutReferenceIdeal.nD Cert.NsaOutReferenceIdeal.τ).loc Cert.NsaOutReferenceIdeal.main_arg3) = m ((c.tc : Thread Cert.NsaOutIdeal.nD Cert.NsaOutIdeal.τ).loc Cert.NsaOutIdeal.main_arg3)) →
    ∃ (v0 : (c : Dev Cert.NsaOutIdeal.nD) → Buf (Elt Ideal) ((c.tc : Thread Cert.NsaOutIdeal.nD Cert.NsaOutIdeal.τ).loc Cert.NsaOutIdeal.main_v6)),
      θ_run (Cert.NsaOutIdeal.defs (F := Ideal)) (onTc (τ := Cert.NsaOutIdeal.τ) (Cert.NsaOutIdeal.main (F := Ideal))) ⟨m, fun _ => 0, g⟩ (fun r => ∀ c : Dev Cert.NsaOutIdeal.nD,
          r.2.mem ((c.tc : Thread Cert.NsaOutIdeal.nD Cert.NsaOutIdeal.τ).loc Cert.NsaOutIdeal.main_v6) = v0 c
          ∧ r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
          ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1)
          ∧ r.2.mem ((c.tc : Thread Cert.NsaOutIdeal.nD Cert.NsaOutIdeal.τ).loc Cert.NsaOutIdeal.main_arg2) = m ((c.tc : Thread Cert.NsaOutIdeal.nD Cert.NsaOutIdeal.τ).loc Cert.NsaOutIdeal.main_arg2)
          ∧ r.2.mem ((c.tc : Thread Cert.NsaOutIdeal.nD Cert.NsaOutIdeal.τ).loc Cert.NsaOutIdeal.main_arg3) = m ((c.tc : Thread Cert.NsaOutIdeal.nD Cert.NsaOutIdeal.τ).loc Cert.NsaOutIdeal.main_arg3))
      ∧ θ_run (Cert.NsaOutReferenceIdeal.defs (F := Ideal)) (onTc (τ := Cert.NsaOutReferenceIdeal.τ) (Cert.NsaOutReferenceIdeal.main (F := Ideal))) ⟨m', fun _ => 0, g'⟩ (fun r => ∀ c : Dev Cert.NsaOutReferenceIdeal.nD,
          r.2.mem ((c.tc : Thread Cert.NsaOutReferenceIdeal.nD Cert.NsaOutReferenceIdeal.τ).loc Cert.NsaOutReferenceIdeal.main_v9) = v0 c
          ∧ r.2.mem ((c.tc : Thread Cert.NsaOutReferenceIdeal.nD Cert.NsaOutReferenceIdeal.τ).loc Cert.NsaOutReferenceIdeal.main_arg0) = m' ((c.tc : Thread Cert.NsaOutReferenceIdeal.nD Cert.NsaOutReferenceIdeal.τ).loc Cert.NsaOutReferenceIdeal.main_arg0)
          ∧ r.2.mem ((c.tc : Thread Cert.NsaOutReferenceIdeal.nD Cert.NsaOutReferenceIdeal.τ).loc Cert.NsaOutReferenceIdeal.main_arg1) = m' ((c.tc : Thread Cert.NsaOutReferenceIdeal.nD Cert.NsaOutReferenceIdeal.τ).loc Cert.NsaOutReferenceIdeal.main_arg1)
          ∧ r.2.mem ((c.tc : Thread Cert.NsaOutReferenceIdeal.nD Cert.NsaOutReferenceIdeal.τ).loc Cert.NsaOutReferenceIdeal.main_arg2) = m' ((c.tc : Thread Cert.NsaOutReferenceIdeal.nD Cert.NsaOutReferenceIdeal.τ).loc Cert.NsaOutReferenceIdeal.main_arg2)
          ∧ r.2.mem ((c.tc : Thread Cert.NsaOutReferenceIdeal.nD Cert.NsaOutReferenceIdeal.τ).loc Cert.NsaOutReferenceIdeal.main_arg3) = m' ((c.tc : Thread Cert.NsaOutReferenceIdeal.nD Cert.NsaOutReferenceIdeal.τ).loc Cert.NsaOutReferenceIdeal.main_arg3))

def preserves_RetSample_RetSampleIdeal : Prop :=
  True

def algebraic_RetSampleIdeal_RetSampleReferenceIdeal [hRetSampleIdeal : Cert.RetSampleIdeal.Facts] [hRetSampleReferenceIdeal : Cert.RetSampleReferenceIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleReferenceIdeal.nD Cert.RetSampleReferenceIdeal.τ Cert.RetSampleReferenceIdeal.sig) → Buf (Elt Ideal) ℓ) (g' : Dev Cert.RetSampleReferenceIdeal.nD → PrngReg), Pre_RetSampleIdeal m →
    (∀ c : Dev Cert.RetSampleIdeal.nD,
      m' ((c.tc : Thread Cert.RetSampleReferenceIdeal.nD Cert.RetSampleReferenceIdeal.τ).loc Cert.RetSampleReferenceIdeal.main_arg0) = m ((c.tc : Thread Cert.RetSampleIdeal.nD Cert.RetSampleIdeal.τ).loc Cert.RetSampleIdeal.main_arg0)
      ∧ m' ((c.tc : Thread Cert.RetSampleReferenceIdeal.nD Cert.RetSampleReferenceIdeal.τ).loc Cert.RetSampleReferenceIdeal.main_arg1) = m ((c.tc : Thread Cert.RetSampleIdeal.nD Cert.RetSampleIdeal.τ).loc Cert.RetSampleIdeal.main_arg1)) →
    ∃ (v0 : (c : Dev Cert.RetSampleIdeal.nD) → Buf (Elt Ideal) ((c.tc : Thread Cert.RetSampleIdeal.nD Cert.RetSampleIdeal.τ).loc Cert.RetSampleIdeal.main_v10_0)) (v1 : (c : Dev Cert.RetSampleIdeal.nD) → Buf (Elt Ideal) ((c.tc : Thread Cert.RetSampleIdeal.nD Cert.RetSampleIdeal.τ).loc Cert.RetSampleIdeal.main_v10_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v10_0) = v0 c
          ∧ r.2.mem ((c.tc : Thread Cert.RetSampleIdeal.nD Cert.RetSampleIdeal.τ).loc Cert.RetSampleIdeal.main_v10_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ θ_run (Cert.RetSampleReferenceIdeal.defs (F := Ideal)) (onTc (τ := Cert.RetSampleReferenceIdeal.τ) (Cert.RetSampleReferenceIdeal.main (F := Ideal))) ⟨m', fun _ => 0, g'⟩ (fun r => ∀ c : Dev Cert.RetSampleReferenceIdeal.nD,
          r.2.mem ((c.tc : Thread Cert.RetSampleReferenceIdeal.nD Cert.RetSampleReferenceIdeal.τ).loc Cert.RetSampleReferenceIdeal.main_v86) = v0 c
          ∧ r.2.mem ((c.tc : Thread Cert.RetSampleReferenceIdeal.nD Cert.RetSampleReferenceIdeal.τ).loc Cert.RetSampleReferenceIdeal.main_v72) = v1 c
          ∧ r.2.mem ((c.tc : Thread Cert.RetSampleReferenceIdeal.nD Cert.RetSampleReferenceIdeal.τ).loc Cert.RetSampleReferenceIdeal.main_arg0) = m' ((c.tc : Thread Cert.RetSampleReferenceIdeal.nD Cert.RetSampleReferenceIdeal.τ).loc Cert.RetSampleReferenceIdeal.main_arg0)
          ∧ r.2.mem ((c.tc : Thread Cert.RetSampleReferenceIdeal.nD Cert.RetSampleReferenceIdeal.τ).loc Cert.RetSampleReferenceIdeal.main_arg1) = m' ((c.tc : Thread Cert.RetSampleReferenceIdeal.nD Cert.RetSampleReferenceIdeal.τ).loc Cert.RetSampleReferenceIdeal.main_arg1))

def preserves_KvSample_KvSampleIdeal : Prop :=
  True

def algebraic_KvSampleIdeal_KvSampleReferenceIdeal [hKvSampleIdeal : Cert.KvSampleIdeal.Facts] [hKvSampleReferenceIdeal : Cert.KvSampleReferenceIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleReferenceIdeal.nD Cert.KvSampleReferenceIdeal.τ Cert.KvSampleReferenceIdeal.sig) → Buf (Elt Ideal) ℓ) (g' : Dev Cert.KvSampleReferenceIdeal.nD → PrngReg), Pre_KvSampleIdeal m →
    (∀ c : Dev Cert.KvSampleIdeal.nD,
      m' ((c.tc : Thread Cert.KvSampleReferenceIdeal.nD Cert.KvSampleReferenceIdeal.τ).loc Cert.KvSampleReferenceIdeal.main_arg0) = m ((c.tc : Thread Cert.KvSampleIdeal.nD Cert.KvSampleIdeal.τ).loc Cert.KvSampleIdeal.main_arg0)
      ∧ m' ((c.tc : Thread Cert.KvSampleReferenceIdeal.nD Cert.KvSampleReferenceIdeal.τ).loc Cert.KvSampleReferenceIdeal.main_arg1) = m ((c.tc : Thread Cert.KvSampleIdeal.nD Cert.KvSampleIdeal.τ).loc Cert.KvSampleIdeal.main_arg1)
      ∧ m' ((c.tc : Thread Cert.KvSampleReferenceIdeal.nD Cert.KvSampleReferenceIdeal.τ).loc Cert.KvSampleReferenceIdeal.main_arg2) = m ((c.tc : Thread Cert.KvSampleIdeal.nD Cert.KvSampleIdeal.τ).loc Cert.KvSampleIdeal.main_arg2)
      ∧ m' ((c.tc : Thread Cert.KvSampleReferenceIdeal.nD Cert.KvSampleReferenceIdeal.τ).loc Cert.KvSampleReferenceIdeal.main_arg3) = m ((c.tc : Thread Cert.KvSampleIdeal.nD Cert.KvSampleIdeal.τ).loc Cert.KvSampleIdeal.main_arg3)
      ∧ m' ((c.tc : Thread Cert.KvSampleReferenceIdeal.nD Cert.KvSampleReferenceIdeal.τ).loc Cert.KvSampleReferenceIdeal.main_arg4) = m ((c.tc : Thread Cert.KvSampleIdeal.nD Cert.KvSampleIdeal.τ).loc Cert.KvSampleIdeal.main_arg4)) →
    ∃ (v0 : (c : Dev Cert.KvSampleIdeal.nD) → Buf (Elt Ideal) ((c.tc : Thread Cert.KvSampleIdeal.nD Cert.KvSampleIdeal.τ).loc Cert.KvSampleIdeal.main_v10)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v10) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
          ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3)
          ∧ r.2.mem ((c.tc : Thread Cert.KvSampleIdeal.nD Cert.KvSampleIdeal.τ).loc Cert.KvSampleIdeal.main_arg4) = m ((c.tc : Thread Cert.KvSampleIdeal.nD Cert.KvSampleIdeal.τ).loc Cert.KvSampleIdeal.main_arg4))
      ∧ θ_run (Cert.KvSampleReferenceIdeal.defs (F := Ideal)) (onTc (τ := Cert.KvSampleReferenceIdeal.τ) (Cert.KvSampleReferenceIdeal.main (F := Ideal))) ⟨m', fun _ => 0, g'⟩ (fun r => ∀ c : Dev Cert.KvSampleReferenceIdeal.nD,
          r.2.mem ((c.tc : Thread Cert.KvSampleReferenceIdeal.nD Cert.KvSampleReferenceIdeal.τ).loc Cert.KvSampleReferenceIdeal.main_v24) = v0 c
          ∧ r.2.mem ((c.tc : Thread Cert.KvSampleReferenceIdeal.nD Cert.KvSampleReferenceIdeal.τ).loc Cert.KvSampleReferenceIdeal.main_arg0) = m' ((c.tc : Thread Cert.KvSampleReferenceIdeal.nD Cert.KvSampleReferenceIdeal.τ).loc Cert.KvSampleReferenceIdeal.main_arg0)
          ∧ r.2.mem ((c.tc : Thread Cert.KvSampleReferenceIdeal.nD Cert.KvSampleReferenceIdeal.τ).loc Cert.KvSampleReferenceIdeal.main_arg1) = m' ((c.tc : Thread Cert.KvSampleReferenceIdeal.nD Cert.KvSampleReferenceIdeal.τ).loc Cert.KvSampleReferenceIdeal.main_arg1)
          ∧ r.2.mem ((c.tc : Thread Cert.KvSampleReferenceIdeal.nD Cert.KvSampleReferenceIdeal.τ).loc Cert.KvSampleReferenceIdeal.main_arg2) = m' ((c.tc : Thread Cert.KvSampleReferenceIdeal.nD Cert.KvSampleReferenceIdeal.τ).loc Cert.KvSampleReferenceIdeal.main_arg2)
          ∧ r.2.mem ((c.tc : Thread Cert.KvSampleReferenceIdeal.nD Cert.KvSampleReferenceIdeal.τ).loc Cert.KvSampleReferenceIdeal.main_arg3) = m' ((c.tc : Thread Cert.KvSampleReferenceIdeal.nD Cert.KvSampleReferenceIdeal.τ).loc Cert.KvSampleReferenceIdeal.main_arg3)
          ∧ r.2.mem ((c.tc : Thread Cert.KvSampleReferenceIdeal.nD Cert.KvSampleReferenceIdeal.τ).loc Cert.KvSampleReferenceIdeal.main_arg4) = m' ((c.tc : Thread Cert.KvSampleReferenceIdeal.nD Cert.KvSampleReferenceIdeal.τ).loc Cert.KvSampleReferenceIdeal.main_arg4))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)
      ∧ m' ((c.tc : Thread Cert.FfnSampleReferenceIdeal.nD Cert.FfnSampleReferenceIdeal.τ).loc Cert.FfnSampleReferenceIdeal.main_arg9) = m ((c.tc : Thread Cert.FfnSampleIdeal.nD Cert.FfnSampleIdeal.τ).loc Cert.FfnSampleIdeal.main_arg9)
      ∧ m' ((c.tc : Thread Cert.FfnSampleReferenceIdeal.nD Cert.FfnSampleReferenceIdeal.τ).loc Cert.FfnSampleReferenceIdeal.main_arg10) = m ((c.tc : Thread Cert.FfnSampleIdeal.nD Cert.FfnSampleIdeal.τ).loc Cert.FfnSampleIdeal.main_arg10)) →
    ∃ (v0 : (c : Dev Cert.FfnSampleIdeal.nD) → Buf (Elt Ideal) ((c.tc : Thread Cert.FfnSampleIdeal.nD Cert.FfnSampleIdeal.τ).loc Cert.FfnSampleIdeal.main_v15_0)) (v1 : (c : Dev Cert.FfnSampleIdeal.nD) → Buf (Elt Ideal) ((c.tc : Thread Cert.FfnSampleIdeal.nD Cert.FfnSampleIdeal.τ).loc Cert.FfnSampleIdeal.main_v15_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v15_0) = v0 c
          ∧ r.2.mem ((c.tc : Thread Cert.FfnSampleIdeal.nD Cert.FfnSampleIdeal.τ).loc Cert.FfnSampleIdeal.main_v15_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v69) = v0 c
          ∧ r.2.mem ((c.tc : Thread Cert.FfnSampleReferenceIdeal.nD Cert.FfnSampleReferenceIdeal.τ).loc Cert.FfnSampleReferenceIdeal.main_v51) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8)
          ∧ r.2.mem ((c.tc : Thread Cert.FfnSampleReferenceIdeal.nD Cert.FfnSampleReferenceIdeal.τ).loc Cert.FfnSampleReferenceIdeal.main_arg9) = m' ((c.tc : Thread Cert.FfnSampleReferenceIdeal.nD Cert.FfnSampleReferenceIdeal.τ).loc Cert.FfnSampleReferenceIdeal.main_arg9)
          ∧ r.2.mem ((c.tc : Thread Cert.FfnSampleReferenceIdeal.nD Cert.FfnSampleReferenceIdeal.τ).loc Cert.FfnSampleReferenceIdeal.main_arg10) = m' ((c.tc : Thread Cert.FfnSampleReferenceIdeal.nD Cert.FfnSampleReferenceIdeal.τ).loc Cert.FfnSampleReferenceIdeal.main_arg10))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)
      ∧ m' ((c.tc : Thread Cert.FfnFirstReferenceIdeal.nD Cert.FfnFirstReferenceIdeal.τ).loc Cert.FfnFirstReferenceIdeal.main_arg5) = m ((c.tc : Thread Cert.FfnFirstIdeal.nD Cert.FfnFirstIdeal.τ).loc Cert.FfnFirstIdeal.main_arg5)
      ∧ m' ((c.tc : Thread Cert.FfnFirstReferenceIdeal.nD Cert.FfnFirstReferenceIdeal.τ).loc Cert.FfnFirstReferenceIdeal.main_arg6) = m ((c.tc : Thread Cert.FfnFirstIdeal.nD Cert.FfnFirstIdeal.τ).loc Cert.FfnFirstIdeal.main_arg6)
      ∧ m' ((c.tc : Thread Cert.FfnFirstReferenceIdeal.nD Cert.FfnFirstReferenceIdeal.τ).loc Cert.FfnFirstReferenceIdeal.main_arg7) = m ((c.tc : Thread Cert.FfnFirstIdeal.nD Cert.FfnFirstIdeal.τ).loc Cert.FfnFirstIdeal.main_arg7)
      ∧ m' ((c.tc : Thread Cert.FfnFirstReferenceIdeal.nD Cert.FfnFirstReferenceIdeal.τ).loc Cert.FfnFirstReferenceIdeal.main_arg8) = m ((c.tc : Thread Cert.FfnFirstIdeal.nD Cert.FfnFirstIdeal.τ).loc Cert.FfnFirstIdeal.main_arg8)
      ∧ m' ((c.tc : Thread Cert.FfnFirstReferenceIdeal.nD Cert.FfnFirstReferenceIdeal.τ).loc Cert.FfnFirstReferenceIdeal.main_arg9) = m ((c.tc : Thread Cert.FfnFirstIdeal.nD Cert.FfnFirstIdeal.τ).loc Cert.FfnFirstIdeal.main_arg9)) →
    ∃ (v0 : (c : Dev Cert.FfnFirstIdeal.nD) → Buf (Elt Ideal) ((c.tc : Thread Cert.FfnFirstIdeal.nD Cert.FfnFirstIdeal.τ).loc Cert.FfnFirstIdeal.main_v8_0)) (v1 : (c : Dev Cert.FfnFirstIdeal.nD) → Buf (Elt Ideal) ((c.tc : Thread Cert.FfnFirstIdeal.nD Cert.FfnFirstIdeal.τ).loc Cert.FfnFirstIdeal.main_v8_1)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v8_0) = v0 c
          ∧ r.2.mem ((c.tc : Thread Cert.FfnFirstIdeal.nD Cert.FfnFirstIdeal.τ).loc Cert.FfnFirstIdeal.main_v8_1) = v1 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
          ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
          ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
          ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v56) = v0 c
          ∧ r.2.mem ((c.tc : Thread Cert.FfnFirstReferenceIdeal.nD Cert.FfnFirstReferenceIdeal.τ).loc Cert.FfnFirstReferenceIdeal.main_v51) = v1 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4)
          ∧ r.2.mem ((c.tc : Thread Cert.FfnFirstReferenceIdeal.nD Cert.FfnFirstReferenceIdeal.τ).loc Cert.FfnFirstReferenceIdeal.main_arg5) = m' ((c.tc : Thread Cert.FfnFirstReferenceIdeal.nD Cert.FfnFirstReferenceIdeal.τ).loc Cert.FfnFirstReferenceIdeal.main_arg5)
          ∧ r.2.mem ((c.tc : Thread Cert.FfnFirstReferenceIdeal.nD Cert.FfnFirstReferenceIdeal.τ).loc Cert.FfnFirstReferenceIdeal.main_arg6) = m' ((c.tc : Thread Cert.FfnFirstReferenceIdeal.nD Cert.FfnFirstReferenceIdeal.τ).loc Cert.FfnFirstReferenceIdeal.main_arg6)
          ∧ r.2.mem ((c.tc : Thread Cert.FfnFirstReferenceIdeal.nD Cert.FfnFirstReferenceIdeal.τ).loc Cert.FfnFirstReferenceIdeal.main_arg7) = m' ((c.tc : Thread Cert.FfnFirstReferenceIdeal.nD Cert.FfnFirstReferenceIdeal.τ).loc Cert.FfnFirstReferenceIdeal.main_arg7)
          ∧ r.2.mem ((c.tc : Thread Cert.FfnFirstReferenceIdeal.nD Cert.FfnFirstReferenceIdeal.τ).loc Cert.FfnFirstReferenceIdeal.main_arg8) = m' ((c.tc : Thread Cert.FfnFirstReferenceIdeal.nD Cert.FfnFirstReferenceIdeal.τ).loc Cert.FfnFirstReferenceIdeal.main_arg8)
          ∧ r.2.mem ((c.tc : Thread Cert.FfnFirstReferenceIdeal.nD Cert.FfnFirstReferenceIdeal.τ).loc Cert.FfnFirstReferenceIdeal.main_arg9) = m' ((c.tc : Thread Cert.FfnFirstReferenceIdeal.nD Cert.FfnFirstReferenceIdeal.τ).loc Cert.FfnFirstReferenceIdeal.main_arg9))

def preserves_FfnFirstSample_FfnFirstSampleIdeal : Prop :=
  True

def algebraic_FfnFirstSampleIdeal_FfnFirstSampleReferenceIdeal [hFfnFirstSampleIdeal : Cert.FfnFirstSampleIdeal.Facts] [hFfnFirstSampleReferenceIdeal : Cert.FfnFirstSampleReferenceIdeal.Facts] : Prop :=
  ∀ (m : (ℓ : Loc Cert.FfnFirstSampleIdeal.nD Cert.FfnFirstSampleIdeal.τ Cert.FfnFirstSampleIdeal.sig) → Buf (Elt Ideal) ℓ) (g : Dev Cert.FfnFirstSampleIdeal.nD → PrngReg)
    (m' : (ℓ : Loc Cert.FfnFirstSampleReferenceIdeal.nD Cert.FfnFirstSampleReferenceIdeal.τ Cert.FfnFirstSampleReferenceIdeal.sig) → Buf (Elt Ideal) ℓ) (g' : Dev Cert.FfnFirstSampleReferenceIdeal.nD → PrngReg), Pre_FfnFirstSampleIdeal m →
    (∀ c : Dev Cert.FfnFirstSampleIdeal.nD,
      m' ((c.tc : Thread Cert.FfnFirstSampleReferenceIdeal.nD Cert.FfnFirstSampleReferenceIdeal.τ).loc Cert.FfnFirstSampleReferenceIdeal.main_arg0) = m ((c.tc : Thread Cert.FfnFirstSampleIdeal.nD Cert.FfnFirstSampleIdeal.τ).loc Cert.FfnFirstSampleIdeal.main_arg0)
      ∧ m' ((c.tc : Thread Cert.FfnFirstSampleReferenceIdeal.nD Cert.FfnFirstSampleReferenceIdeal.τ).loc Cert.FfnFirstSampleReferenceIdeal.main_arg1) = m ((c.tc : Thread Cert.FfnFirstSampleIdeal.nD Cert.FfnFirstSampleIdeal.τ).loc Cert.FfnFirstSampleIdeal.main_arg1)
      ∧ m' ((c.tc : Thread Cert.FfnFirstSampleReferenceIdeal.nD Cert.FfnFirstSampleReferenceIdeal.τ).loc Cert.FfnFirstSampleReferenceIdeal.main_arg2) = m ((c.tc : Thread Cert.FfnFirstSampleIdeal.nD Cert.FfnFirstSampleIdeal.τ).loc Cert.FfnFirstSampleIdeal.main_arg2)
      ∧ m' ((c.tc : Thread Cert.FfnFirstSampleReferenceIdeal.nD Cert.FfnFirstSampleReferenceIdeal.τ).loc Cert.FfnFirstSampleReferenceIdeal.main_arg3) = m ((c.tc : Thread Cert.FfnFirstSampleIdeal.nD Cert.FfnFirstSampleIdeal.τ).loc Cert.FfnFirstSampleIdeal.main_arg3)
      ∧ m' ((c.tc : Thread Cert.FfnFirstSampleReferenceIdeal.nD Cert.FfnFirstSampleReferenceIdeal.τ).loc Cert.FfnFirstSampleReferenceIdeal.main_arg4) = m ((c.tc : Thread Cert.FfnFirstSampleIdeal.nD Cert.FfnFirstSampleIdeal.τ).loc Cert.FfnFirstSampleIdeal.main_arg4)
      ∧ m' ((c.tc : Thread Cert.FfnFirstSampleReferenceIdeal.nD Cert.FfnFirstSampleReferenceIdeal.τ).loc Cert.FfnFirstSampleReferenceIdeal.main_arg5) = m ((c.tc : Thread Cert.FfnFirstSampleIdeal.nD Cert.FfnFirstSampleIdeal.τ).loc Cert.FfnFirstSampleIdeal.main_arg5)
      ∧ m' ((c.tc : Thread Cert.FfnFirstSampleReferenceIdeal.nD Cert.FfnFirstSampleReferenceIdeal.τ).loc Cert.FfnFirstSampleReferenceIdeal.main_arg6) = m ((c.tc : Thread Cert.FfnFirstSampleIdeal.nD Cert.FfnFirstSampleIdeal.τ).loc Cert.FfnFirstSampleIdeal.main_arg6)
      ∧ m' ((c.tc : Thread Cert.FfnFirstSampleReferenceIdeal.nD Cert.FfnFirstSampleReferenceIdeal.τ).loc Cert.FfnFirstSampleReferenceIdeal.main_arg7) = m ((c.tc : Thread Cert.FfnFirstSampleIdeal.nD Cert.FfnFirstSampleIdeal.τ).loc Cert.FfnFirstSampleIdeal.main_arg7)
      ∧ m' ((c.tc : Thread Cert.FfnFirstSampleReferenceIdeal.nD Cert.FfnFirstSampleReferenceIdeal.τ).loc Cert.FfnFirstSampleReferenceIdeal.main_arg8) = m ((c.tc : Thread Cert.FfnFirstSampleIdeal.nD Cert.FfnFirstSampleIdeal.τ).loc Cert.FfnFirstSampleIdeal.main_arg8)
      ∧ m' ((c.tc : Thread Cert.FfnFirstSampleReferenceIdeal.nD Cert.FfnFirstSampleReferenceIdeal.τ).loc Cert.FfnFirstSampleReferenceIdeal.main_arg9) = m ((c.tc : Thread Cert.FfnFirstSampleIdeal.nD Cert.FfnFirstSampleIdeal.τ).loc Cert.FfnFirstSampleIdeal.main_arg9)) →
    ∃ (v0 : (c : Dev Cert.FfnFirstSampleIdeal.nD) → Buf (Elt Ideal) ((c.tc : Thread Cert.FfnFirstSampleIdeal.nD Cert.FfnFirstSampleIdeal.τ).loc Cert.FfnFirstSampleIdeal.main_v14_0)) (v1 : (c : Dev Cert.FfnFirstSampleIdeal.nD) → Buf (Elt Ideal) ((c.tc : Thread Cert.FfnFirstSampleIdeal.nD Cert.FfnFirstSampleIdeal.τ).loc Cert.FfnFirstSampleIdeal.main_v14_1)),
      θ_run (Cert.FfnFirstSampleIdeal.defs (F := Ideal)) (onTc (τ := Cert.FfnFirstSampleIdeal.τ) (Cert.FfnFirstSampleIdeal.main (F := Ideal))) ⟨m, fun _ => 0, g⟩ (fun r => ∀ c : Dev Cert.FfnFirstSampleIdeal.nD,
          r.2.mem ((c.tc : Thread Cert.FfnFirstSampleIdeal.nD Cert.FfnFirstSampleIdeal.τ).loc Cert.FfnFirstSampleIdeal.main_v14_0) = v0 c
          ∧ r.2.mem ((c.tc : Thread Cert.FfnFirstSampleIdeal.nD Cert.FfnFirstSampleIdeal.τ).loc Cert.FfnFirstSampleIdeal.main_v14_1) = v1 c
          ∧ r.2.mem ((c.tc : Thread Cert.FfnFirstSampleIdeal.nD Cert.FfnFirstSampleIdeal.τ).loc Cert.FfnFirstSampleIdeal.main_arg0) = m ((c.tc : Thread Cert.FfnFirstSampleIdeal.nD Cert.FfnFirstSampleIdeal.τ).loc Cert.FfnFirstSampleIdeal.main_arg0)
          ∧ r.2.mem ((c.tc : Thread Cert.FfnFirstSampleIdeal.nD Cert.FfnFirstSampleIdeal.τ).loc Cert.FfnFirstSampleIdeal.main_arg1) = m ((c.tc : Thread Cert.FfnFirstSampleIdeal.nD Cert.FfnFirstSampleIdeal.τ).loc Cert.FfnFirstSampleIdeal.main_arg1)
          ∧ r.2.mem ((c.tc : Thread Cert.FfnFirstSampleIdeal.nD Cert.FfnFirstSampleIdeal.τ).loc Cert.FfnFirstSampleIdeal.main_arg2) = m ((c.tc : Thread Cert.FfnFirstSampleIdeal.nD Cert.FfnFirstSampleIdeal.τ).loc Cert.FfnFirstSampleIdeal.main_arg2)
          ∧ r.2.mem ((c.tc : Thread Cert.FfnFirstSampleIdeal.nD Cert.FfnFirstSampleIdeal.τ).loc Cert.FfnFirstSampleIdeal.main_arg3) = m ((c.tc : Thread Cert.FfnFirstSampleIdeal.nD Cert.FfnFirstSampleIdeal.τ).loc Cert.FfnFirstSampleIdeal.main_arg3)
          ∧ r.2.mem ((c.tc : Thread Cert.FfnFirstSampleIdeal.nD Cert.FfnFirstSampleIdeal.τ).loc Cert.FfnFirstSampleIdeal.main_arg4) = m ((c.tc : Thread Cert.FfnFirstSampleIdeal.nD Cert.FfnFirstSampleIdeal.τ).loc Cert.FfnFirstSampleIdeal.main_arg4)
          ∧ r.2.mem ((c.tc : Thread Cert.FfnFirstSampleIdeal.nD Cert.FfnFirstSampleIdeal.τ).loc Cert.FfnFirstSampleIdeal.main_arg5) = m ((c.tc : Thread Cert.FfnFirstSampleIdeal.nD Cert.FfnFirstSampleIdeal.τ).loc Cert.FfnFirstSampleIdeal.main_arg5)
          ∧ r.2.mem ((c.tc : Thread Cert.FfnFirstSampleIdeal.nD Cert.FfnFirstSampleIdeal.τ).loc Cert.FfnFirstSampleIdeal.main_arg6) = m ((c.tc : Thread Cert.FfnFirstSampleIdeal.nD Cert.FfnFirstSampleIdeal.τ).loc Cert.FfnFirstSampleIdeal.main_arg6)
          ∧ r.2.mem ((c.tc : Thread Cert.FfnFirstSampleIdeal.nD Cert.FfnFirstSampleIdeal.τ).loc Cert.FfnFirstSampleIdeal.main_arg7) = m ((c.tc : Thread Cert.FfnFirstSampleIdeal.nD Cert.FfnFirstSampleIdeal.τ).loc Cert.FfnFirstSampleIdeal.main_arg7)
          ∧ r.2.mem ((c.tc : Thread Cert.FfnFirstSampleIdeal.nD Cert.FfnFirstSampleIdeal.τ).loc Cert.FfnFirstSampleIdeal.main_arg8) = m ((c.tc : Thread Cert.FfnFirstSampleIdeal.nD Cert.FfnFirstSampleIdeal.τ).loc Cert.FfnFirstSampleIdeal.main_arg8)
          ∧ r.2.mem ((c.tc : Thread Cert.FfnFirstSampleIdeal.nD Cert.FfnFirstSampleIdeal.τ).loc Cert.FfnFirstSampleIdeal.main_arg9) = m ((c.tc : Thread Cert.FfnFirstSampleIdeal.nD Cert.FfnFirstSampleIdeal.τ).loc Cert.FfnFirstSampleIdeal.main_arg9))
      ∧ θ_run (Cert.FfnFirstSampleReferenceIdeal.defs (F := Ideal)) (onTc (τ := Cert.FfnFirstSampleReferenceIdeal.τ) (Cert.FfnFirstSampleReferenceIdeal.main (F := Ideal))) ⟨m', fun _ => 0, g'⟩ (fun r => ∀ c : Dev Cert.FfnFirstSampleReferenceIdeal.nD,
          r.2.mem ((c.tc : Thread Cert.FfnFirstSampleReferenceIdeal.nD Cert.FfnFirstSampleReferenceIdeal.τ).loc Cert.FfnFirstSampleReferenceIdeal.main_v56) = v0 c
          ∧ r.2.mem ((c.tc : Thread Cert.FfnFirstSampleReferenceIdeal.nD Cert.FfnFirstSampleReferenceIdeal.τ).loc Cert.FfnFirstSampleReferenceIdeal.main_v51) = v1 c
          ∧ r.2.mem ((c.tc : Thread Cert.FfnFirstSampleReferenceIdeal.nD Cert.FfnFirstSampleReferenceIdeal.τ).loc Cert.FfnFirstSampleReferenceIdeal.main_arg0) = m' ((c.tc : Thread Cert.FfnFirstSampleReferenceIdeal.nD Cert.FfnFirstSampleReferenceIdeal.τ).loc Cert.FfnFirstSampleReferenceIdeal.main_arg0)
          ∧ r.2.mem ((c.tc : Thread Cert.FfnFirstSampleReferenceIdeal.nD Cert.FfnFirstSampleReferenceIdeal.τ).loc Cert.FfnFirstSampleReferenceIdeal.main_arg1) = m' ((c.tc : Thread Cert.FfnFirstSampleReferenceIdeal.nD Cert.FfnFirstSampleReferenceIdeal.τ).loc Cert.FfnFirstSampleReferenceIdeal.main_arg1)
          ∧ r.2.mem ((c.tc : Thread Cert.FfnFirstSampleReferenceIdeal.nD Cert.FfnFirstSampleReferenceIdeal.τ).loc Cert.FfnFirstSampleReferenceIdeal.main_arg2) = m' ((c.tc : Thread Cert.FfnFirstSampleReferenceIdeal.nD Cert.FfnFirstSampleReferenceIdeal.τ).loc Cert.FfnFirstSampleReferenceIdeal.main_arg2)
          ∧ r.2.mem ((c.tc : Thread Cert.FfnFirstSampleReferenceIdeal.nD Cert.FfnFirstSampleReferenceIdeal.τ).loc Cert.FfnFirstSampleReferenceIdeal.main_arg3) = m' ((c.tc : Thread Cert.FfnFirstSampleReferenceIdeal.nD Cert.FfnFirstSampleReferenceIdeal.τ).loc Cert.FfnFirstSampleReferenceIdeal.main_arg3)
          ∧ r.2.mem ((c.tc : Thread Cert.FfnFirstSampleReferenceIdeal.nD Cert.FfnFirstSampleReferenceIdeal.τ).loc Cert.FfnFirstSampleReferenceIdeal.main_arg4) = m' ((c.tc : Thread Cert.FfnFirstSampleReferenceIdeal.nD Cert.FfnFirstSampleReferenceIdeal.τ).loc Cert.FfnFirstSampleReferenceIdeal.main_arg4)
          ∧ r.2.mem ((c.tc : Thread Cert.FfnFirstSampleReferenceIdeal.nD Cert.FfnFirstSampleReferenceIdeal.τ).loc Cert.FfnFirstSampleReferenceIdeal.main_arg5) = m' ((c.tc : Thread Cert.FfnFirstSampleReferenceIdeal.nD Cert.FfnFirstSampleReferenceIdeal.τ).loc Cert.FfnFirstSampleReferenceIdeal.main_arg5)
          ∧ r.2.mem ((c.tc : Thread Cert.FfnFirstSampleReferenceIdeal.nD Cert.FfnFirstSampleReferenceIdeal.τ).loc Cert.FfnFirstSampleReferenceIdeal.main_arg6) = m' ((c.tc : Thread Cert.FfnFirstSampleReferenceIdeal.nD Cert.FfnFirstSampleReferenceIdeal.τ).loc Cert.FfnFirstSampleReferenceIdeal.main_arg6)
          ∧ r.2.mem ((c.tc : Thread Cert.FfnFirstSampleReferenceIdeal.nD Cert.FfnFirstSampleReferenceIdeal.τ).loc Cert.FfnFirstSampleReferenceIdeal.main_arg7) = m' ((c.tc : Thread Cert.FfnFirstSampleReferenceIdeal.nD Cert.FfnFirstSampleReferenceIdeal.τ).loc Cert.FfnFirstSampleReferenceIdeal.main_arg7)
          ∧ r.2.mem ((c.tc : Thread Cert.FfnFirstSampleReferenceIdeal.nD Cert.FfnFirstSampleReferenceIdeal.τ).loc Cert.FfnFirstSampleReferenceIdeal.main_arg8) = m' ((c.tc : Thread Cert.FfnFirstSampleReferenceIdeal.nD Cert.FfnFirstSampleReferenceIdeal.τ).loc Cert.FfnFirstSampleReferenceIdeal.main_arg8)
          ∧ r.2.mem ((c.tc : Thread Cert.FfnFirstSampleReferenceIdeal.nD Cert.FfnFirstSampleReferenceIdeal.τ).loc Cert.FfnFirstSampleReferenceIdeal.main_arg9) = m' ((c.tc : Thread Cert.FfnFirstSampleReferenceIdeal.nD Cert.FfnFirstSampleReferenceIdeal.τ).loc Cert.FfnFirstSampleReferenceIdeal.main_arg9))

def preserves_WinSample_WinSampleIdeal : Prop :=
  True

def algebraic_WinSampleIdeal_WinSampleReferenceIdeal [hWinSampleIdeal : Cert.WinSampleIdeal.Facts] [hWinSampleReferenceIdeal : Cert.WinSampleReferenceIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg)
    (m' : (ℓ : Loc Cert.WinSampleReferenceIdeal.nD Cert.WinSampleReferenceIdeal.τ Cert.WinSampleReferenceIdeal.sig) → Buf (Elt Ideal) ℓ) (g' : Dev Cert.WinSampleReferenceIdeal.nD → PrngReg), Pre_WinSampleIdeal m →
    (∀ c : Dev Cert.WinSampleIdeal.nD,
      m' ((c.tc : Thread Cert.WinSampleReferenceIdeal.nD Cert.WinSampleReferenceIdeal.τ).loc Cert.WinSampleReferenceIdeal.main_arg0) = m ((c.tc : Thread Cert.WinSampleIdeal.nD Cert.WinSampleIdeal.τ).loc Cert.WinSampleIdeal.main_arg0)
      ∧ m' ((c.tc : Thread Cert.WinSampleReferenceIdeal.nD Cert.WinSampleReferenceIdeal.τ).loc Cert.WinSampleReferenceIdeal.main_arg1) = m ((c.tc : Thread Cert.WinSampleIdeal.nD Cert.WinSampleIdeal.τ).loc Cert.WinSampleIdeal.main_arg1)
      ∧ m' ((c.tc : Thread Cert.WinSampleReferenceIdeal.nD Cert.WinSampleReferenceIdeal.τ).loc Cert.WinSampleReferenceIdeal.main_arg2) = m ((c.tc : Thread Cert.WinSampleIdeal.nD Cert.WinSampleIdeal.τ).loc Cert.WinSampleIdeal.main_arg2)
      ∧ m' ((c.tc : Thread Cert.WinSampleReferenceIdeal.nD Cert.WinSampleReferenceIdeal.τ).loc Cert.WinSampleReferenceIdeal.main_arg3) = m ((c.tc : Thread Cert.WinSampleIdeal.nD Cert.WinSampleIdeal.τ).loc Cert.WinSampleIdeal.main_arg3)
      ∧ m' ((c.tc : Thread Cert.WinSampleReferenceIdeal.nD Cert.WinSampleReferenceIdeal.τ).loc Cert.WinSampleReferenceIdeal.main_arg4) = m ((c.tc : Thread Cert.WinSampleIdeal.nD Cert.WinSampleIdeal.τ).loc Cert.WinSampleIdeal.main_arg4)
      ∧ m' ((c.tc : Thread Cert.WinSampleReferenceIdeal.nD Cert.WinSampleReferenceIdeal.τ).loc Cert.WinSampleReferenceIdeal.main_arg5) = m ((c.tc : Thread Cert.WinSampleIdeal.nD Cert.WinSampleIdeal.τ).loc Cert.WinSampleIdeal.main_arg5)) →
    ∃ (v0 : (c : Dev Cert.WinSampleIdeal.nD) → Buf (Elt Ideal) ((c.tc : Thread Cert.WinSampleIdeal.nD Cert.WinSampleIdeal.τ).loc Cert.WinSampleIdeal.main_v15)),
      θ_run (Cert.WinSampleIdeal.defs (F := Ideal)) (onTc (τ := Cert.WinSampleIdeal.τ) (Cert.WinSampleIdeal.main (F := Ideal))) ⟨m, fun _ => 0, g⟩ (fun r => ∀ c : Dev Cert.WinSampleIdeal.nD,
          r.2.mem ((c.tc : Thread Cert.WinSampleIdeal.nD Cert.WinSampleIdeal.τ).loc Cert.WinSampleIdeal.main_v15) = v0 c
          ∧ r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
          ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
          ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
          ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3)
          ∧ r.2.mem ((c.tc : Thread Cert.WinSampleIdeal.nD Cert.WinSampleIdeal.τ).loc Cert.WinSampleIdeal.main_arg4) = m ((c.tc : Thread Cert.WinSampleIdeal.nD Cert.WinSampleIdeal.τ).loc Cert.WinSampleIdeal.main_arg4)
          ∧ r.2.mem ((c.tc : Thread Cert.WinSampleIdeal.nD Cert.WinSampleIdeal.τ).loc Cert.WinSampleIdeal.main_arg5) = m ((c.tc : Thread Cert.WinSampleIdeal.nD Cert.WinSampleIdeal.τ).loc Cert.WinSampleIdeal.main_arg5))
      ∧ θ_run (Cert.WinSampleReferenceIdeal.defs (F := Ideal)) (onTc (τ := Cert.WinSampleReferenceIdeal.τ) (Cert.WinSampleReferenceIdeal.main (F := Ideal))) ⟨m', fun _ => 0, g'⟩ (fun r => ∀ c : Dev Cert.WinSampleReferenceIdeal.nD,
          r.2.mem ((c.tc : Thread Cert.WinSampleReferenceIdeal.nD Cert.WinSampleReferenceIdeal.τ).loc Cert.WinSampleReferenceIdeal.main_v25) = v0 c
          ∧ r.2.mem ((c.tc : Thread Cert.WinSampleReferenceIdeal.nD Cert.WinSampleReferenceIdeal.τ).loc Cert.WinSampleReferenceIdeal.main_arg0) = m' ((c.tc : Thread Cert.WinSampleReferenceIdeal.nD Cert.WinSampleReferenceIdeal.τ).loc Cert.WinSampleReferenceIdeal.main_arg0)
          ∧ r.2.mem ((c.tc : Thread Cert.WinSampleReferenceIdeal.nD Cert.WinSampleReferenceIdeal.τ).loc Cert.WinSampleReferenceIdeal.main_arg1) = m' ((c.tc : Thread Cert.WinSampleReferenceIdeal.nD Cert.WinSampleReferenceIdeal.τ).loc Cert.WinSampleReferenceIdeal.main_arg1)
          ∧ r.2.mem ((c.tc : Thread Cert.WinSampleReferenceIdeal.nD Cert.WinSampleReferenceIdeal.τ).loc Cert.WinSampleReferenceIdeal.main_arg2) = m' ((c.tc : Thread Cert.WinSampleReferenceIdeal.nD Cert.WinSampleReferenceIdeal.τ).loc Cert.WinSampleReferenceIdeal.main_arg2)
          ∧ r.2.mem ((c.tc : Thread Cert.WinSampleReferenceIdeal.nD Cert.WinSampleReferenceIdeal.τ).loc Cert.WinSampleReferenceIdeal.main_arg3) = m' ((c.tc : Thread Cert.WinSampleReferenceIdeal.nD Cert.WinSampleReferenceIdeal.τ).loc Cert.WinSampleReferenceIdeal.main_arg3)
          ∧ r.2.mem ((c.tc : Thread Cert.WinSampleReferenceIdeal.nD Cert.WinSampleReferenceIdeal.τ).loc Cert.WinSampleReferenceIdeal.main_arg4) = m' ((c.tc : Thread Cert.WinSampleReferenceIdeal.nD Cert.WinSampleReferenceIdeal.τ).loc Cert.WinSampleReferenceIdeal.main_arg4)
          ∧ r.2.mem ((c.tc : Thread Cert.WinSampleReferenceIdeal.nD Cert.WinSampleReferenceIdeal.τ).loc Cert.WinSampleReferenceIdeal.main_arg5) = m' ((c.tc : Thread Cert.WinSampleReferenceIdeal.nD Cert.WinSampleReferenceIdeal.τ).loc Cert.WinSampleReferenceIdeal.main_arg5))

def Claim : Prop :=
  ∃ (hRetention : Cert.Retention.Facts) (hRetentionIdeal : Cert.RetentionIdeal.Facts) (hRetentionReferenceIdeal : Cert.RetentionReferenceIdeal.Facts) (hFfn : Cert.Ffn.Facts) (hFfnIdeal : Cert.FfnIdeal.Facts) (hFfnReferenceIdeal : Cert.FfnReferenceIdeal.Facts) (hRetIn : Cert.RetIn.Facts) (hRetInIdeal : Cert.RetInIdeal.Facts) (hRetInReferenceIdeal : Cert.RetInReferenceIdeal.Facts) (hKvRows : Cert.KvRows.Facts) (hKvRowsIdeal : Cert.KvRowsIdeal.Facts) (hKvRowsReferenceIdeal : Cert.KvRowsReferenceIdeal.Facts) (hWinRows : Cert.WinRows.Facts) (hWinRowsIdeal : Cert.WinRowsIdeal.Facts) (hWinRowsReferenceIdeal : Cert.WinRowsReferenceIdeal.Facts) (hQProj : Cert.QProj.Facts) (hQProjIdeal : Cert.QProjIdeal.Facts) (hQProjReferenceIdeal : Cert.QProjReferenceIdeal.Facts) (hRetOut : Cert.RetOut.Facts) (hRetOutIdeal : Cert.RetOutIdeal.Facts) (hRetOutReferenceIdeal : Cert.RetOutReferenceIdeal.Facts) (hNsaOut : Cert.NsaOut.Facts) (hNsaOutIdeal : Cert.NsaOutIdeal.Facts) (hNsaOutReferenceIdeal : Cert.NsaOutReferenceIdeal.Facts) (hRetSample : Cert.RetSample.Facts) (hRetSampleIdeal : Cert.RetSampleIdeal.Facts) (hRetSampleReferenceIdeal : Cert.RetSampleReferenceIdeal.Facts) (hKvSample : Cert.KvSample.Facts) (hKvSampleIdeal : Cert.KvSampleIdeal.Facts) (hKvSampleReferenceIdeal : Cert.KvSampleReferenceIdeal.Facts) (hFfnSample : Cert.FfnSample.Facts) (hFfnSampleIdeal : Cert.FfnSampleIdeal.Facts) (hFfnSampleReferenceIdeal : Cert.FfnSampleReferenceIdeal.Facts) (hFfnFirst : Cert.FfnFirst.Facts) (hFfnFirstIdeal : Cert.FfnFirstIdeal.Facts) (hFfnFirstReferenceIdeal : Cert.FfnFirstReferenceIdeal.Facts) (hFfnFirstSample : Cert.FfnFirstSample.Facts) (hFfnFirstSampleIdeal : Cert.FfnFirstSampleIdeal.Facts) (hFfnFirstSampleReferenceIdeal : Cert.FfnFirstSampleReferenceIdeal.Facts) (hWinSample : Cert.WinSample.Facts) (hWinSampleIdeal : Cert.WinSampleIdeal.Facts) (hWinSampleReferenceIdeal : Cert.WinSampleReferenceIdeal.Facts),
    quiescent_Retention (hRetention := hRetention)
    ∧ quiescent_RetentionIdeal (hRetentionIdeal := hRetentionIdeal)
    ∧ quiescent_RetentionReferenceIdeal (hRetentionReferenceIdeal := hRetentionReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_RetIn (hRetIn := hRetIn)
    ∧ quiescent_RetInIdeal (hRetInIdeal := hRetInIdeal)
    ∧ quiescent_RetInReferenceIdeal (hRetInReferenceIdeal := hRetInReferenceIdeal)
    ∧ quiescent_KvRows (hKvRows := hKvRows)
    ∧ quiescent_KvRowsIdeal (hKvRowsIdeal := hKvRowsIdeal)
    ∧ quiescent_KvRowsReferenceIdeal (hKvRowsReferenceIdeal := hKvRowsReferenceIdeal)
    ∧ quiescent_WinRows (hWinRows := hWinRows)
    ∧ quiescent_WinRowsIdeal (hWinRowsIdeal := hWinRowsIdeal)
    ∧ quiescent_WinRowsReferenceIdeal (hWinRowsReferenceIdeal := hWinRowsReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_NsaOut (hNsaOut := hNsaOut)
    ∧ quiescent_NsaOutIdeal (hNsaOutIdeal := hNsaOutIdeal)
    ∧ quiescent_NsaOutReferenceIdeal (hNsaOutReferenceIdeal := hNsaOutReferenceIdeal)
    ∧ quiescent_RetSample (hRetSample := hRetSample)
    ∧ quiescent_RetSampleIdeal (hRetSampleIdeal := hRetSampleIdeal)
    ∧ quiescent_RetSampleReferenceIdeal (hRetSampleReferenceIdeal := hRetSampleReferenceIdeal)
    ∧ quiescent_KvSample (hKvSample := hKvSample)
    ∧ quiescent_KvSampleIdeal (hKvSampleIdeal := hKvSampleIdeal)
    ∧ quiescent_KvSampleReferenceIdeal (hKvSampleReferenceIdeal := hKvSampleReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_FfnFirstSample (hFfnFirstSample := hFfnFirstSample)
    ∧ quiescent_FfnFirstSampleIdeal (hFfnFirstSampleIdeal := hFfnFirstSampleIdeal)
    ∧ quiescent_FfnFirstSampleReferenceIdeal (hFfnFirstSampleReferenceIdeal := hFfnFirstSampleReferenceIdeal)
    ∧ quiescent_WinSample (hWinSample := hWinSample)
    ∧ quiescent_WinSampleIdeal (hWinSampleIdeal := hWinSampleIdeal)
    ∧ quiescent_WinSampleReferenceIdeal (hWinSampleReferenceIdeal := hWinSampleReferenceIdeal)
    ∧ preserves_Retention_RetentionIdeal
    ∧ algebraic_RetentionIdeal_RetentionReferenceIdeal (hRetentionIdeal := hRetentionIdeal) (hRetentionReferenceIdeal := hRetentionReferenceIdeal)
    ∧ preserves_Ffn_FfnIdeal
    ∧ algebraic_FfnIdeal_FfnReferenceIdeal (hFfnIdeal := hFfnIdeal) (hFfnReferenceIdeal := hFfnReferenceIdeal)
    ∧ preserves_RetIn_RetInIdeal
    ∧ algebraic_RetInIdeal_RetInReferenceIdeal (hRetInIdeal := hRetInIdeal) (hRetInReferenceIdeal := hRetInReferenceIdeal)
    ∧ preserves_KvRows_KvRowsIdeal
    ∧ algebraic_KvRowsIdeal_KvRowsReferenceIdeal (hKvRowsIdeal := hKvRowsIdeal) (hKvRowsReferenceIdeal := hKvRowsReferenceIdeal)
    ∧ preserves_WinRows_WinRowsIdeal
    ∧ algebraic_WinRowsIdeal_WinRowsReferenceIdeal (hWinRowsIdeal := hWinRowsIdeal) (hWinRowsReferenceIdeal := hWinRowsReferenceIdeal)
    ∧ preserves_QProj_QProjIdeal
    ∧ algebraic_QProjIdeal_QProjReferenceIdeal (hQProjIdeal := hQProjIdeal) (hQProjReferenceIdeal := hQProjReferenceIdeal)
    ∧ preserves_RetOut_RetOutIdeal
    ∧ algebraic_RetOutIdeal_RetOutReferenceIdeal (hRetOutIdeal := hRetOutIdeal) (hRetOutReferenceIdeal := hRetOutReferenceIdeal)
    ∧ preserves_NsaOut_NsaOutIdeal
    ∧ algebraic_NsaOutIdeal_NsaOutReferenceIdeal (hNsaOutIdeal := hNsaOutIdeal) (hNsaOutReferenceIdeal := hNsaOutReferenceIdeal)
    ∧ preserves_RetSample_RetSampleIdeal
    ∧ algebraic_RetSampleIdeal_RetSampleReferenceIdeal (hRetSampleIdeal := hRetSampleIdeal) (hRetSampleReferenceIdeal := hRetSampleReferenceIdeal)
    ∧ preserves_KvSample_KvSampleIdeal
    ∧ algebraic_KvSampleIdeal_KvSampleReferenceIdeal (hKvSampleIdeal := hKvSampleIdeal) (hKvSampleReferenceIdeal := hKvSampleReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_FfnFirstSample_FfnFirstSampleIdeal
    ∧ algebraic_FfnFirstSampleIdeal_FfnFirstSampleReferenceIdeal (hFfnFirstSampleIdeal := hFfnFirstSampleIdeal) (hFfnFirstSampleReferenceIdeal := hFfnFirstSampleReferenceIdeal)
    ∧ preserves_WinSample_WinSampleIdeal
    ∧ algebraic_WinSampleIdeal_WinSampleReferenceIdeal (hWinSampleIdeal := hWinSampleIdeal) (hWinSampleReferenceIdeal := hWinSampleReferenceIdeal)
-- ==== Retention.lean ====
abbrev S16384x6144 : Shape := ⟨2, ![16384, 6144]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S16384x2048 : Shape := ⟨2, ![16384, 2048]⟩
abbrev S8x4x256x512 : Shape := ⟨4, ![8, 4, 256, 512]⟩
abbrev S1x1x128 : Shape := ⟨3, ![1, 1, 128]⟩
abbrev S128x256 : Shape := ⟨2, ![128, 256]⟩
abbrev S128x512 : Shape := ⟨2, ![128, 512]⟩
abbrev S1x1x256x512 : Shape := ⟨4, ![1, 1, 256, 512]⟩
abbrev S256x512 : Shape := ⟨2, ![256, 512]⟩
abbrev S1x128 : Shape := ⟨2, ![1, 128]⟩
abbrev S1x1 : Shape := ⟨2, ![1, 1]⟩
abbrev S128x1 : Shape := ⟨2, ![128, 1]⟩
abbrev S128x128 : Shape := ⟨2, ![128, 128]⟩
abbrev S256x128 : Shape := ⟨2, ![256, 128]⟩
abbrev S128 : Shape := ⟨1, ![128]⟩

abbrev nBuf : Space → Nat
  | .hbm => 15
  | .vmem => 15
  | .smem => 0
  | _ => 0

abbrev bufTy : (tb : Table) → Fin (tcTables nBuf tb) → BufTy
  | .hbm, ⟨0, _⟩ => ⟨S16384x6144, .f32⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4x1x1, .f32⟩
  | .hbm, ⟨12, _⟩ => ⟨S4x1x128, .f32⟩
  | .hbm, ⟨13, _⟩ => ⟨S16384x2048, .bf16⟩
  | .hbm, ⟨14, _⟩ => ⟨S8x4x256x512, .f32⟩
  | .local _ .vmem, ⟨0, _⟩ => ⟨S1x1x128, .f32⟩
  | .local _ .vmem, ⟨1, _⟩ => ⟨S1x1x128, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .bf16⟩
  | .local _ .vmem, ⟨11, _⟩ => ⟨S128x512, .bf16⟩
  | .local _ .vmem, ⟨12, _⟩ => ⟨S1x1x256x512, .f32⟩
  | .local _ .vmem, ⟨13, _⟩ => ⟨S1x1x256x512, .f32⟩
  | .local _ .vmem, ⟨14, _⟩ => ⟨S256x512, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v86 : BitVec 1 := Scalar.cmpi .eq arg2 c15_i32
  let v87 : BitVec 32 := Scalar.extui v86
  let c0_i32_33 : BitVec 32 := 0#32
  let v88 : BitVec 1 := Scalar.cmpi .ne v87 c0_i32_33
  v88

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RetentionReferenceIdeal.lean ====
abbrev S16384x6144 : Shape := ⟨2, ![16384, 6144]⟩
abbrev S16384x1024 : Shape := ⟨2, ![16384, 1024]⟩
abbrev S8x2048x4x256 : Shape := ⟨4, ![8, 2048, 4, 256]⟩
abbrev S_ : Shape := ⟨0, ![]⟩
abbrev S16384x2048 : Shape := ⟨2, ![16384, 2048]⟩
abbrev S8x2048x4x512 : Shape := ⟨4, ![8, 2048, 4, 512]⟩
abbrev S4 : Shape := ⟨1, ![4]⟩
abbrev S8x4x256x512 : Shape := ⟨4, ![8, 4, 256, 512]⟩
abbrev S8x16x128x4x256 : Shape := ⟨5, ![8, 16, 128, 4, 256]⟩
abbrev S16x8x128x4x256 : Shape := ⟨5, ![16, 8, 128, 4, 256]⟩
abbrev S8x16x128x4x512 : Shape := ⟨5, ![8, 16, 128, 4, 512]⟩
abbrev S16x8x128x4x512 : Shape := ⟨5, ![16, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x4x128x128 : Shape := ⟨4, ![8, 4, 128, 128]⟩
abbrev S1x4x128x128 : Shape := ⟨4, ![1, 4, 128, 128]⟩
abbrev S8x4x512x128 : Shape := ⟨4, ![8, 4, 512, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩

abbrev nBuf : Space → Nat
  | .hbm => 160
  | .vmem => 0
  | .smem => 0
  | _ => 0

abbrev hbmTy0_0 (i : Nat) : BufTy := match i % 128 with
  | 0 => ⟨S16384x6144, .f32⟩
  | 1 => ⟨S16384x1024, .f32⟩
  | 2 => ⟨S8x2048x4x256, .f32⟩
  | 3 => ⟨S16384x1024, .f32⟩
  | 4 => ⟨S8x2048x4x256, .f32⟩
  | 5 => ⟨S_, .f32⟩
  | 6 => ⟨S8x2048x4x256, .f32⟩
  | 7 => ⟨S8x2048x4x256, .f32⟩
  | 8 => ⟨S16384x2048, .f32⟩
  | 9 => ⟨S8x2048x4x512, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S4, .f32⟩
  | 18 => ⟨S4, .f32⟩
  | 19 => ⟨S4, .f32⟩
  | 20 => ⟨S_, .f32⟩
  | 21 => ⟨S8x4x256x512, .f32⟩
  | 22 => ⟨S8x16x128x4x256, .f32⟩
  | 23 => ⟨S16x8x128x4x256, .f32⟩
  | 24 => ⟨S8x16x128x4x256, .f32⟩
  | 25 => ⟨S16x8x128x4x256, .f32⟩
  | 26 => ⟨S8x16x128x4x512, .f32⟩
  | 27 => ⟨S16x8x128x4x512, .f32⟩
  | 28 => ⟨S_, .f32⟩
  | 29 => ⟨S16x8x128x4x512, .f32⟩
  | 30 => ⟨S_, .i32⟩
  | 31 => ⟨S16x8x128x4x256, .f32⟩
  | 32 => ⟨S16x8x128x4x256, .f32⟩
  | 33 => ⟨S16x8x128x4x512, .f32⟩
  | 34 => ⟨S4, .f32⟩
  | 35 => ⟨S_, .i32⟩
  | 36 => ⟨S8x4x256x512, .f32⟩
  | 37 => ⟨S16x8x128x4x512, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1x8x128x4x256, .f32⟩
  | 45 => ⟨S8x128x4x256, .f32⟩
  | 46 => ⟨S_, .i32⟩
  | 47 => ⟨S_, .i32⟩
  | 48 => ⟨S_, .i32⟩
  | 49 => ⟨S_, .i32⟩
  | 50 => ⟨S1x8x128x4x256, .f32⟩
  | 51 => ⟨S8x128x4x256, .f32⟩
  | 52 => ⟨S_, .i32⟩
  | 53 => ⟨S_, .i32⟩
  | 54 => ⟨S_, .i32⟩
  | 55 => ⟨S_, .i32⟩
  | 56 => ⟨S1x8x128x4x512, .f32⟩
  | 57 => ⟨S8x128x4x512, .f32⟩
  | 58 => ⟨S128, .i32⟩
  | 59 => ⟨S128, .f32⟩
  | 60 => ⟨S128x1, .f32⟩
  | 61 => ⟨S1x128, .f32⟩
  | 62 => ⟨S128x128, .f32⟩
  | 63 => ⟨S128x128, .f32⟩
  | 64 => ⟨S128x128, .f32⟩
  | 65 => ⟨S_, .f32⟩
  | 66 => ⟨S128x128, .f32⟩
  | 67 => ⟨S128x128, .i1⟩
  | 68 => ⟨S_, .f32⟩
  | 69 => ⟨S128x128, .f32⟩
  | 70 => ⟨S128x128, .f32⟩
  | 71 => ⟨S1x128x128, .f32⟩
  | 72 => ⟨S4x1x1, .f32⟩
  | 73 => ⟨S4x128x128, .f32⟩
  | 74 => ⟨S4x128x128, .f32⟩
  | 75 => ⟨S4x128x128, .f32⟩
  | 76 => ⟨S4x128x128, .f32⟩
  | 77 => ⟨S_, .f32⟩
  | 78 => ⟨S_, .f32⟩
  | 79 => ⟨S4x128x128, .i1⟩
  | 80 => ⟨S4x128x128, .f32⟩
  | 81 => ⟨S4x128x128, .f32⟩
  | 82 => ⟨S8x4x128x128, .f32⟩
  | 83 => ⟨S1x4x128x128, .f32⟩
  | 84 => ⟨S8x4x128x128, .f32⟩
  | 85 => ⟨S8x4x128x128, .f32⟩
  | 86 => ⟨S8x4x512x128, .f32⟩
  | 87 => ⟨S8x128x4x512, .f32⟩
  | 88 => ⟨S8x4x512x128, .f32⟩
  | 89 => ⟨S8x128x4x512, .f32⟩
  | 90 => ⟨S128x1, .f32⟩
  | 91 => ⟨S_, .f32⟩
  | 92 => ⟨S128x1, .f32⟩
  | 93 => ⟨S128x1, .f32⟩
  | 94 => ⟨S1x4, .f32⟩
  | 95 => ⟨S128x4, .f32⟩
  | 96 => ⟨S128x4, .f32⟩
  | 97 => ⟨S128x4, .f32⟩
  | 98 => ⟨S128x4, .f32⟩
  | 99 => ⟨S1x128x4x1, .f32⟩
  | 100 => ⟨S8x128x4x512, .f32⟩
  | 101 => ⟨S8x128x4x512, .f32⟩
  | 102 => ⟨S8x128x4x512, .f32⟩
  | 103 => ⟨S_, .f32⟩
  | 104 => ⟨S128, .f32⟩
  | 105 => ⟨S128, .f32⟩
  | 106 => ⟨S128x1, .f32⟩
  | 107 => ⟨S1x4, .f32⟩
  | 108 => ⟨S128x4, .f32⟩
  | 109 => ⟨S128x4, .f32⟩
  | 110 => ⟨S128x4, .f32⟩
  | 111 => ⟨S128x4, .f32⟩
  | 112 => ⟨S1x128x4x1, .f32⟩
  | 113 => ⟨S8x128x4x256, .f32⟩
  | 114 => ⟨S8x128x4x256, .f32⟩
  | 115 => ⟨S_, .f32⟩
  | 116 => ⟨S4, .f32⟩
  | 117 => ⟨S4, .f32⟩
  | 118 => ⟨S4, .f32⟩
  | 119 => ⟨S1x4x1x1, .f32⟩
  | 120 => ⟨S8x4x256x512, .f32⟩
  | 121 => ⟨S8x4x256x512, .f32⟩
  | 122 => ⟨S8x4x256x512, .f32⟩
  | 123 => ⟨S8x4x256x512, .f32⟩
  | 124 => ⟨S1x8x128x4x512, .f32⟩
  | 125 => ⟨S_, .i32⟩
  | 126 => ⟨S_, .i32⟩
  | 127 => ⟨S_, .i32⟩
  | _ => ⟨S16384x6144, .f32⟩

abbrev hbmTy0_1 (i : Nat) : BufTy := match i % 128 with
  | 0 => ⟨S_, .i32⟩
  | 1 => ⟨S16x8x128x4x512, .f32⟩
  | 2 => ⟨S_, .i32⟩
  | 3 => ⟨S_, .i32⟩
  | 4 => ⟨S8x16x128x4x512, .f32⟩
  | 5 => ⟨S8x2048x4x512, .f32⟩
  | 6 => ⟨S8x2048x4x512, .f32⟩
  | 7 => ⟨S_, .f32⟩
  | 8 => ⟨S8x2048x4, .f32⟩
  | 9 => ⟨S8x2048x4x1, .f32⟩
  | 10 => ⟨S_, .f32⟩
  | 11 => ⟨S8x2048x4x1, .f32⟩
  | 12 => ⟨S8x2048x4x1, .f32⟩
  | 13 => ⟨S_, .f32⟩
  | 14 => ⟨S8x2048x4x1, .f32⟩
  | 15 => ⟨S8x2048x4x1, .f32⟩
  | 16 => ⟨S8x2048x4x1, .f32⟩
  | 17 => ⟨S8x2048x4x512, .f32⟩
  | 18 => ⟨S8x2048x4x512, .f32⟩
  | 19 => ⟨S16384x2048, .f32⟩
  | 20 => ⟨S16384x2048, .f32⟩
  | 21 => ⟨S16384x2048, .f32⟩
  | 22 => ⟨S16384x2048, .f32⟩
  | 23 => ⟨S_, .f32⟩
  | 24 => ⟨S16384x2048, .f32⟩
  | 25 => ⟨S16384x2048, .f32⟩
  | 26 => ⟨S_, .f32⟩
  | 27 => ⟨S16384x2048, .f32⟩
  | 28 => ⟨S16384x2048, .f32⟩
  | 29 => ⟨S16384x2048, .f32⟩
  | 30 => ⟨S16384x2048, .f32⟩
  | 31 => ⟨S16384x2048, .bf16⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_c : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v24_3 : Ref sig .tc := ⟨.hbm, 34, rfl⟩
abbrev main_v24_4 : Ref sig .tc := ⟨.hbm, 35, rfl⟩
abbrev main_v24_5 : Ref sig .tc := ⟨.hbm, 36, rfl⟩
abbrev main_v24_6 : Ref sig .tc := ⟨.hbm, 37, rfl⟩
abbrev main_while0c_c_13 : Ref sig .tc := ⟨.hbm, 38, rfl⟩
abbrev main_while0c_v42 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v42 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v43 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v44 : Ref sig .tc := ⟨.hbm, 57, rfl⟩
abbrev main_while0b_v45 : Ref sig .tc := ⟨.hbm, 58, rfl⟩
abbrev main_while0b_v46 : Ref sig .tc := ⟨.hbm, 59, rfl⟩
abbrev main_while0b_v47 : Ref sig .tc := ⟨.hbm, 60, rfl⟩
abbrev main_while0b_v48 : Ref sig .tc := ⟨.hbm, 61, rfl⟩
abbrev main_while0b_v49 : Ref sig .tc := ⟨.hbm, 62, rfl⟩
abbrev main_while0b_v50 : Ref sig .tc := ⟨.hbm, 63, rfl⟩
abbrev main_while0b_v51 : Ref sig .tc := ⟨.hbm, 64, rfl⟩
abbrev main_while0b_cst_13 : Ref sig .tc := ⟨.hbm, 65, rfl⟩
abbrev main_while0b_v52 : Ref sig .tc := ⟨.hbm, 66, rfl⟩
abbrev main_while0b_v53 : Ref sig .tc := ⟨.hbm, 67, rfl⟩
abbrev main_while0b_cst_14 : Ref sig .tc := ⟨.hbm, 68, rfl⟩
abbrev main_while0b_v54 : Ref sig .tc := ⟨.hbm, 69, rfl⟩
abbrev main_while0b_v55 : Ref sig .tc := ⟨.hbm, 70, rfl⟩
abbrev main_while0b_v56 : Ref sig .tc := ⟨.hbm, 71, rfl⟩
abbrev main_while0b_v57 : Ref sig .tc := ⟨.hbm, 72, rfl⟩
abbrev main_while0b_v58 : Ref sig .tc := ⟨.hbm, 73, rfl⟩
abbrev main_while0b_v59 : Ref sig .tc := ⟨.hbm, 74, rfl⟩
abbrev main_while0b_v60 : Ref sig .tc := ⟨.hbm, 75, rfl⟩
abbrev main_while0b_v61 : Ref sig .tc := ⟨.hbm, 76, rfl⟩
abbrev main_while0b_cst_15 : Ref sig .tc := ⟨.hbm, 77, rfl⟩
abbrev main_while0b_call3_v0 : Ref sig .tc := ⟨.hbm, 78, rfl⟩
abbrev main_while0b_call3_v1 : Ref sig .tc := ⟨.hbm, 79, rfl⟩
abbrev main_while0b_call3_v2 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_v67 : Ref sig .tc := ⟨.hbm, 86, rfl⟩
abbrev main_while0b_v68 : Ref sig .tc := ⟨.hbm, 87, rfl⟩
abbrev main_while0b_v69 : Ref sig .tc := ⟨.hbm, 88, rfl⟩
abbrev main_while0b_v70 : Ref sig .tc := ⟨.hbm, 89, rfl⟩
abbrev main_while0b_v71 : Ref sig .tc := ⟨.hbm, 90, rfl⟩
abbrev main_while0b_cst_16 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_cst_17 : Ref sig .tc := ⟨.hbm, 103, rfl⟩
abbrev main_while0b_v83 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_cst_18 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_v100 : Ref sig .tc := ⟨.hbm, 122, rfl⟩
abbrev main_while0b_v101 : Ref sig .tc := ⟨.hbm, 123, rfl⟩
abbrev main_while0b_call4_v0 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_v102 : Ref sig .tc := ⟨.hbm, 129, rfl⟩
abbrev main_while0b_c_19 : Ref sig .tc := ⟨.hbm, 130, rfl⟩
abbrev main_while0b_v103 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_cst_4 : Ref sig .tc := ⟨.hbm, 135, rfl⟩
abbrev main_v28 : Ref sig .tc := ⟨.hbm, 136, rfl⟩
abbrev main_v29 : Ref sig .tc := ⟨.hbm, 137, rfl⟩
abbrev main_cst_5 : Ref sig .tc := ⟨.hbm, 138, rfl⟩
abbrev main_v30 : Ref sig .tc := ⟨.hbm, 139, rfl⟩
abbrev main_v31 : Ref sig .tc := ⟨.hbm, 140, rfl⟩
abbrev main_cst_6 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_call5_v0 : Ref sig .tc := ⟨.hbm, 149, rfl⟩
abbrev main_call5_v1 : Ref sig .tc := ⟨.hbm, 150, rfl⟩
abbrev main_call5_cst : Ref sig .tc := ⟨.hbm, 151, rfl⟩
abbrev main_call5_v2 : Ref sig .tc := ⟨.hbm, 152, rfl⟩
abbrev main_call5_v3 : Ref sig .tc := ⟨.hbm, 153, rfl⟩
abbrev main_call5_cst_0 : Ref sig .tc := ⟨.hbm, 154, rfl⟩
abbrev main_call5_v4 : Ref sig .tc := ⟨.hbm, 155, rfl⟩
abbrev main_call5_v5 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩

abbrev nD : Nat := 1
abbrev τ : Topo := Topo.v7x

variable {F : FTy → Type} [FloatOps F]

abbrev main_while0_count : Scf.Loop 32 := ⟨0#32, 16#32, 1#32⟩
-- ==== Ffn.lean ====
abbrev S8x2048x1024 : Shape := ⟨3, ![8, 2048, 1024]⟩
abbrev S1024 : Shape := ⟨1, ![1024]⟩
abbrev S8x1024 : Shape := ⟨2, ![8, 1024]⟩
abbrev S1024x5632 : Shape := ⟨2, ![1024, 5632]⟩
abbrev S3x5632 : Shape := ⟨2, ![3, 5632]⟩
abbrev S5632 : Shape := ⟨1, ![5632]⟩
abbrev S8x2x5632 : Shape := ⟨3, ![8, 2, 5632]⟩
abbrev S2816x1024 : Shape := ⟨2, ![2816, 1024]⟩
abbrev S16384x1024 : Shape := ⟨2, ![16384, 1024]⟩
abbrev S8x1x1024 : Shape := ⟨3, ![8, 1, 1024]⟩
abbrev S1x1024 : Shape := ⟨2, ![1, 1024]⟩
abbrev S1x5632 : Shape := ⟨2, ![1, 5632]⟩
abbrev S512x1024 : Shape := ⟨2, ![512, 1024]⟩
abbrev S1x1x1024 : Shape := ⟨3, ![1, 1, 1024]⟩
abbrev S1x2x5632 : Shape := ⟨3, ![1, 2, 5632]⟩
abbrev S512 : Shape := ⟨1, ![512]⟩
abbrev S512x1 : Shape := ⟨2, ![512, 1]⟩
abbrev S1x512x256 : Shape := ⟨3, ![1, 512, 256]⟩
abbrev S1024x256 : Shape := ⟨2, ![1024, 256]⟩
abbrev S512x256 : Shape := ⟨2, ![512, 256]⟩
abbrev S1x2x256 : Shape := ⟨3, ![1, 2, 256]⟩
abbrev S1x1x256 : Shape := ⟨3, ![1, 1, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 22
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S8x2x5632, .f32⟩
  | .hbm, ⟨9, _⟩ => ⟨S2816x1024, .f32⟩
  | .hbm, ⟨10, _⟩ => ⟨S1024, .f32⟩
  | .hbm, ⟨11, _⟩ => ⟨S16384x1024, .f32⟩
  | .hbm, ⟨12, _⟩ => ⟨S1024x5632, .bf16⟩
  | .hbm, ⟨13, _⟩ => ⟨S2816x1024, .bf16⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1x1024, .f32⟩
  | .hbm, ⟨18, _⟩ => ⟨S1x5632, .f32⟩
  | .hbm, ⟨19, _⟩ => ⟨S1x1024, .f32⟩
  | .hbm, ⟨20, _⟩ => ⟨S16384x1024, .f32⟩
  | .hbm, ⟨21, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S1x2x5632, .f32⟩
  | .local _ .vmem, ⟨13, _⟩ => ⟨S1x2x5632, .f32⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x2x5632, .f32⟩
  | .local _ .vmem, ⟨19, _⟩ => ⟨S1x2x5632, .f32⟩
  | .local _ .vmem, ⟨20, _⟩ => ⟨S512x1024, .bf16⟩
  | .local _ .vmem, ⟨21, _⟩ => ⟨S1x2x5632, .f32⟩
  | .local _ .vmem, ⟨22, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnReferenceIdeal.lean ====
abbrev S8x2048x1024 : Shape := ⟨3, ![8, 2048, 1024]⟩
abbrev S1024 : Shape := ⟨1, ![1024]⟩
abbrev S8x1024 : Shape := ⟨2, ![8, 1024]⟩
abbrev S1024x5632 : Shape := ⟨2, ![1024, 5632]⟩
abbrev S3x5632 : Shape := ⟨2, ![3, 5632]⟩
abbrev S5632 : Shape := ⟨1, ![5632]⟩
abbrev S8x2x5632 : Shape := ⟨3, ![8, 2, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S8x2x5632, .f32⟩
  | .hbm, ⟨9, _⟩ => ⟨S2816x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x5632, .f32⟩
  | .hbm, ⟨37, _⟩ => ⟨S8x2050x5632, .f32⟩
  | .hbm, ⟨38, _⟩ => ⟨S1x5632, .f32⟩
  | .hbm, ⟨39, _⟩ => ⟨S5632, .f32⟩
  | .hbm, ⟨40, _⟩ => ⟨S8x2048x5632, .f32⟩
  | .hbm, ⟨41, _⟩ => ⟨S1x1x5632, .f32⟩
  | .hbm, ⟨42, _⟩ => ⟨S8x2048x5632, .f32⟩
  | .hbm, ⟨43, _⟩ => ⟨S8x2048x5632, .f32⟩
  | .hbm, ⟨44, _⟩ => ⟨S1x1x5632, .f32⟩
  | .hbm, ⟨45, _⟩ => ⟨S8x2048x5632, .f32⟩
  | .hbm, ⟨46, _⟩ => ⟨S8x2048x5632, .f32⟩
  | .hbm, ⟨47, _⟩ => ⟨S1x5632, .f32⟩
  | .hbm, ⟨48, _⟩ => ⟨S5632, .f32⟩
  | .hbm, ⟨49, _⟩ => ⟨S8x2048x5632, .f32⟩
  | .hbm, ⟨50, _⟩ => ⟨S1x1x5632, .f32⟩
  | .hbm, ⟨51, _⟩ => ⟨S8x2048x5632, .f32⟩
  | .hbm, ⟨52, _⟩ => ⟨S8x2048x5632, .f32⟩
  | .hbm, ⟨53, _⟩ => ⟨S8x2048x5632, .f32⟩
  | .hbm, ⟨54, _⟩ => ⟨S1x5632, .f32⟩
  | .hbm, ⟨55, _⟩ => ⟨S5632, .f32⟩
  | .hbm, ⟨56, _⟩ => ⟨S8x2048x5632, .f32⟩
  | .hbm, ⟨57, _⟩ => ⟨S1x1x5632, .f32⟩
  | .hbm, ⟨58, _⟩ => ⟨S8x2048x5632, .f32⟩
  | .hbm, ⟨59, _⟩ => ⟨S8x2048x5632, .f32⟩
  | .hbm, ⟨60, _⟩ => ⟨S8x2048x5632, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S_, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x1024, .f32⟩
  | .hbm, ⟨74, _⟩ => ⟨S8x2x5632, .f32⟩
  | .hbm, ⟨75, _⟩ => ⟨S8x1x1024, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_3 : Ref sig .tc := ⟨.hbm, 80, rfl⟩
abbrev main_v57 : Ref sig .tc := ⟨.hbm, 81, rfl⟩
abbrev main_v58 : Ref sig .tc := ⟨.hbm, 82, rfl⟩
abbrev main_cst_4 : Ref sig .tc := ⟨.hbm, 83, rfl⟩
abbrev main_v59 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== RetIn.lean ====
abbrev S8x2048x1024 : Shape := ⟨3, ![8, 2048, 1024]⟩
abbrev S1024 : Shape := ⟨1, ![1024]⟩
abbrev S8x1024 : Shape := ⟨2, ![8, 1024]⟩
abbrev S1024x6144 : Shape := ⟨2, ![1024, 6144]⟩
abbrev S16384x1024 : Shape := ⟨2, ![16384, 1024]⟩
abbrev S8x1x1024 : Shape := ⟨3, ![8, 1, 1024]⟩
abbrev S1x1024 : Shape := ⟨2, ![1, 1024]⟩
abbrev S16384x6144 : Shape := ⟨2, ![16384, 6144]⟩
abbrev S512x1024 : Shape := ⟨2, ![512, 1024]⟩
abbrev S1x1x1024 : Shape := ⟨3, ![1, 1, 1024]⟩
abbrev S1024x1536 : Shape := ⟨2, ![1024, 1536]⟩
abbrev S512x1536 : Shape := ⟨2, ![512, 1536]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x6144, .f32⟩
  | .hbm, ⟨5, _⟩ => ⟨S16384x1024, .f32⟩
  | .hbm, ⟨6, _⟩ => ⟨S1024x6144, .bf16⟩
  | .hbm, ⟨7, _⟩ => ⟨S8x1x1024, .f32⟩
  | .hbm, ⟨8, _⟩ => ⟨S8x1x1024, .f32⟩
  | .hbm, ⟨9, _⟩ => ⟨S1x1024, .f32⟩
  | .hbm, ⟨10, _⟩ => ⟨S16384x6144, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x1536, .bf16⟩
  | .local _ .vmem, ⟨9, _⟩ => ⟨S512x1536, .f32⟩
  | .local _ .vmem, ⟨10, _⟩ => ⟨S512x1536, .f32⟩
  | .local _ .vmem, ⟨11, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetInReferenceIdeal.lean ====
abbrev S8x2048x1024 : Shape := ⟨3, ![8, 2048, 1024]⟩
abbrev S1024 : Shape := ⟨1, ![1024]⟩
abbrev S8x1024 : Shape := ⟨2, ![8, 1024]⟩
abbrev S1024x6144 : Shape := ⟨2, ![1024, 6144]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x6144 : Shape := ⟨3, ![8, 2048, 6144]⟩
abbrev S16384x6144 : Shape := ⟨2, ![16384, 6144]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x6144, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x6144, .f32⟩
  | .hbm, ⟨31, _⟩ => ⟨S16384x6144, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== KvRows.lean ====
abbrev S8x2048x1024 : Shape := ⟨3, ![8, 2048, 1024]⟩
abbrev S1024 : Shape := ⟨1, ![1024]⟩
abbrev S8x1024 : Shape := ⟨2, ![8, 1024]⟩
abbrev S1024x1536 : Shape := ⟨2, ![1024, 1536]⟩
abbrev S16384x1024 : Shape := ⟨2, ![16384, 1024]⟩
abbrev S1024x1024 : Shape := ⟨2, ![1024, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1536, .f32⟩
  | .hbm, ⟨5, _⟩ => ⟨S16384x1024, .f32⟩
  | .hbm, ⟨6, _⟩ => ⟨S1024x1536, .bf16⟩
  | .hbm, ⟨7, _⟩ => ⟨S1024x1024, .bf16⟩
  | .hbm, ⟨8, _⟩ => ⟨S8x1x1024, .f32⟩
  | .hbm, ⟨9, _⟩ => ⟨S8x1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvRowsReferenceIdeal.lean ====
abbrev S8x2048x1024 : Shape := ⟨3, ![8, 2048, 1024]⟩
abbrev S1024 : Shape := ⟨1, ![1024]⟩
abbrev S8x1024 : Shape := ⟨2, ![8, 1024]⟩
abbrev S1024x1536 : Shape := ⟨2, ![1024, 1536]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x1536 : Shape := ⟨3, ![8, 2048, 1536]⟩
abbrev S8x2048x6x4x64 : Shape := ⟨5, ![8, 2048, 6, 4, 64]⟩
abbrev S8x2048x4x4x64 : Shape := ⟨5, ![8, 2048, 4, 4, 64]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1536, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1536, .f32⟩
  | .hbm, ⟨31, _⟩ => ⟨S8x2048x6x4x64, .f32⟩
  | .hbm, ⟨32, _⟩ => ⟨S8x2048x4x4x64, .f32⟩
  | .hbm, ⟨33, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== WinRows.lean ====
abbrev S8x2048x1024 : Shape := ⟨3, ![8, 2048, 1024]⟩
abbrev S1024 : Shape := ⟨1, ![1024]⟩
abbrev S8x1024 : Shape := ⟨2, ![8, 1024]⟩
abbrev S1024x1536 : Shape := ⟨2, ![1024, 1536]⟩
abbrev S16384x1024 : Shape := ⟨2, ![16384, 1024]⟩
abbrev S1024x512 : Shape := ⟨2, ![1024, 512]⟩
abbrev S8x1x1024 : Shape := ⟨3, ![8, 1, 1024]⟩
abbrev S1x1024 : Shape := ⟨2, ![1, 1024]⟩
abbrev S16384x512 : Shape := ⟨2, ![16384, 512]⟩
abbrev S512x1024 : Shape := ⟨2, ![512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1536, .f32⟩
  | .hbm, ⟨5, _⟩ => ⟨S16384x1024, .f32⟩
  | .hbm, ⟨6, _⟩ => ⟨S1024x1536, .bf16⟩
  | .hbm, ⟨7, _⟩ => ⟨S1024x512, .bf16⟩
  | .hbm, ⟨8, _⟩ => ⟨S8x1x1024, .f32⟩
  | .hbm, ⟨9, _⟩ => ⟨S8x1x1024, .f32⟩
  | .hbm, ⟨10, _⟩ => ⟨S1x1024, .f32⟩
  | .hbm, ⟨11, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WinRowsReferenceIdeal.lean ====
abbrev S8x2048x1024 : Shape := ⟨3, ![8, 2048, 1024]⟩
abbrev S1024 : Shape := ⟨1, ![1024]⟩
abbrev S8x1024 : Shape := ⟨2, ![8, 1024]⟩
abbrev S1024x1536 : Shape := ⟨2, ![1024, 1536]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x1536 : Shape := ⟨3, ![8, 2048, 1536]⟩
abbrev S8x2048x6x4x64 : Shape := ⟨5, ![8, 2048, 6, 4, 64]⟩
abbrev S8x2048x2x4x64 : Shape := ⟨5, ![8, 2048, 2, 4, 64]⟩
abbrev S16384x512 : Shape := ⟨2, ![16384, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1536, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1536, .f32⟩
  | .hbm, ⟨31, _⟩ => ⟨S8x2048x6x4x64, .f32⟩
  | .hbm, ⟨32, _⟩ => ⟨S8x2048x2x4x64, .f32⟩
  | .hbm, ⟨33, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== QProj.lean ====
abbrev S8x2048x1024 : Shape := ⟨3, ![8, 2048, 1024]⟩
abbrev S1024 : Shape := ⟨1, ![1024]⟩
abbrev S8x1024 : Shape := ⟨2, ![8, 1024]⟩
abbrev S1024x1072 : Shape := ⟨2, ![1024, 1072]⟩
abbrev S1024x1024 : Shape := ⟨2, ![1024, 1024]⟩
abbrev S1024x4x4x64 : Shape := ⟨4, ![1024, 4, 4, 64]⟩
abbrev S_ : Shape := ⟨0, ![]⟩
abbrev S16384x1024 : Shape := ⟨2, ![16384, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1072, .f32⟩
  | .hbm, ⟨5, _⟩ => ⟨S1024x1024, .f32⟩
  | .hbm, ⟨6, _⟩ => ⟨S1024x4x4x64, .f32⟩
  | .hbm, ⟨7, _⟩ => ⟨S1024x4x4x64, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S16384x1024, .f32⟩
  | .hbm, ⟨14, _⟩ => ⟨S8x1x1024, .f32⟩
  | .hbm, ⟨15, _⟩ => ⟨S8x1x1024, .f32⟩
  | .hbm, ⟨16, _⟩ => ⟨S1x1024, .f32⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QProjReferenceIdeal.lean ====
abbrev S8x2048x1024 : Shape := ⟨3, ![8, 2048, 1024]⟩
abbrev S1024 : Shape := ⟨1, ![1024]⟩
abbrev S8x1024 : Shape := ⟨2, ![8, 1024]⟩
abbrev S1024x1072 : Shape := ⟨2, ![1024, 1072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x1072 : Shape := ⟨3, ![8, 2048, 1072]⟩
abbrev S8x2048x4x4x64 : Shape := ⟨5, ![8, 2048, 4, 4, 64]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S1024x1072, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1072, .f32⟩
  | .hbm, ⟨31, _⟩ => ⟨S8x2048x1024, .f32⟩
  | .hbm, ⟨32, _⟩ => ⟨S8x2048x4x4x64, .f32⟩
  | .hbm, ⟨33, _⟩ => ⟨S_, .f32⟩
  | .hbm, ⟨34, _⟩ => ⟨S8x2048x4x4x64, .f32⟩
  | .hbm, ⟨35, _⟩ => ⟨S8x2048x4x4x64, .f32⟩
  | .hbm, ⟨36, _⟩ => ⟨S8x2048x4x4x64, .f32⟩
  | .hbm, ⟨37, _⟩ => ⟨S16384x1024, .f32⟩
  | .hbm, ⟨38, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== RetOut.lean ====
abbrev S16384x2048 : Shape := ⟨2, ![16384, 2048]⟩
abbrev S2048x1024 : Shape := ⟨2, ![2048, 1024]⟩
abbrev S8x2048x1024 : Shape := ⟨3, ![8, 2048, 1024]⟩
abbrev S8x1024 : Shape := ⟨2, ![8, 1024]⟩
abbrev S16384x1024 : Shape := ⟨2, ![16384, 1024]⟩
abbrev S8x1x1024 : Shape := ⟨3, ![8, 1, 1024]⟩
abbrev S512x2048 : Shape := ⟨2, ![512, 2048]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S8x2048x1024, .f32⟩
  | .hbm, ⟨3, _⟩ => ⟨S8x1024, .f32⟩
  | .hbm, ⟨4, _⟩ => ⟨S2048x1024, .bf16⟩
  | .hbm, ⟨5, _⟩ => ⟨S16384x1024, .f32⟩
  | .hbm, ⟨6, _⟩ => ⟨S8x1x1024, .f32⟩
  | .hbm, ⟨7, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetOutReferenceIdeal.lean ====
abbrev S16384x2048 : Shape := ⟨2, ![16384, 2048]⟩
abbrev S2048x1024 : Shape := ⟨2, ![2048, 1024]⟩
abbrev S8x2048x1024 : Shape := ⟨3, ![8, 2048, 1024]⟩
abbrev S8x1024 : Shape := ⟨2, ![8, 1024]⟩
abbrev S8x2048x2048 : Shape := ⟨3, ![8, 2048, 2048]⟩
abbrev S8x1x1024 : Shape := ⟨3, ![8, 1, 1024]⟩
abbrev S16384x1024 : Shape := ⟨2, ![16384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S8x2048x1024, .f32⟩
  | .hbm, ⟨3, _⟩ => ⟨S8x1024, .f32⟩
  | .hbm, ⟨4, _⟩ => ⟨S16384x2048, .f32⟩
  | .hbm, ⟨5, _⟩ => ⟨S8x2048x2048, .f32⟩
  | .hbm, ⟨6, _⟩ => ⟨S8x2048x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== NsaOut.lean ====
abbrev S16384x1024 : Shape := ⟨2, ![16384, 1024]⟩
abbrev S1024x1024 : Shape := ⟨2, ![1024, 1024]⟩
abbrev S8x2048x1024 : Shape := ⟨3, ![8, 2048, 1024]⟩
abbrev S8x1024 : Shape := ⟨2, ![8, 1024]⟩
abbrev S4x4x64x1024 : Shape := ⟨4, ![4, 4, 64, 1024]⟩
abbrev S8x1x1024 : Shape := ⟨3, ![8, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S8x2048x1024, .f32⟩
  | .hbm, ⟨3, _⟩ => ⟨S8x1024, .f32⟩
  | .hbm, ⟨4, _⟩ => ⟨S4x4x64x1024, .f32⟩
  | .hbm, ⟨5, _⟩ => ⟨S4x4x64x1024, .f32⟩
  | .hbm, ⟨6, _⟩ => ⟨S1024x1024, .f32⟩
  | .hbm, ⟨7, _⟩ => ⟨S1024x1024, .bf16⟩
  | .hbm, ⟨8, _⟩ => ⟨S16384x1024, .f32⟩
  | .hbm, ⟨9, _⟩ => ⟨S8x1x1024, .f32⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NsaOutReferenceIdeal.lean ====
abbrev S16384x1024 : Shape := ⟨2, ![16384, 1024]⟩
abbrev S1024x1024 : Shape := ⟨2, ![1024, 1024]⟩
abbrev S8x2048x1024 : Shape := ⟨3, ![8, 2048, 1024]⟩
abbrev S8x1024 : Shape := ⟨2, ![8, 1024]⟩
abbrev S8x2048x4x4x64 : Shape := ⟨5, ![8, 2048, 4, 4, 64]⟩
abbrev S8x1x1024 : Shape := ⟨3, ![8, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S8x2048x1024, .f32⟩
  | .hbm, ⟨3, _⟩ => ⟨S8x1024, .f32⟩
  | .hbm, ⟨4, _⟩ => ⟨S16384x1024, .f32⟩
  | .hbm, ⟨5, _⟩ => ⟨S8x2048x4x4x64, .f32⟩
  | .hbm, ⟨6, _⟩ => ⟨S8x2048x4x4x64, .f32⟩
  | .hbm, ⟨7, _⟩ => ⟨S8x2048x1024, .f32⟩
  | .hbm, ⟨8, _⟩ => ⟨S8x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== RetSample.lean ====
abbrev S1024x6144 : Shape := ⟨2, ![1024, 6144]⟩
abbrev S128x4x256x512 : Shape := ⟨4, ![128, 4, 256, 512]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1024x2048 : Shape := ⟨2, ![1024, 2048]⟩
abbrev S1x1x128 : Shape := ⟨3, ![1, 1, 128]⟩
abbrev S8x256 : Shape := ⟨2, ![8, 256]⟩
abbrev S8x512 : Shape := ⟨2, ![8, 512]⟩
abbrev S1x1x256x512 : Shape := ⟨4, ![1, 1, 256, 512]⟩
abbrev S256x512 : Shape := ⟨2, ![256, 512]⟩
abbrev S1x128 : Shape := ⟨2, ![1, 128]⟩
abbrev S1x1 : Shape := ⟨2, ![1, 1]⟩
abbrev S120x256 : Shape := ⟨2, ![120, 256]⟩
abbrev S128x256 : Shape := ⟨2, ![128, 256]⟩
abbrev S120x512 : Shape := ⟨2, ![120, 512]⟩
abbrev S128x512 : Shape := ⟨2, ![128, 512]⟩
abbrev S128x1 : Shape := ⟨2, ![128, 1]⟩
abbrev S128x128 : Shape := ⟨2, ![128, 128]⟩
abbrev S256x128 : Shape := ⟨2, ![256, 128]⟩
abbrev S128 : Shape := ⟨1, ![128]⟩

abbrev nBuf : Space → Nat
  | .hbm => 16
  | .vmem => 17
  | .smem => 0
  | _ => 0

abbrev bufTy : (tb : Table) → Fin (tcTables nBuf tb) → BufTy
  | .hbm, ⟨0, _⟩ => ⟨S1024x6144, .f32⟩
  | .hbm, ⟨1, _⟩ => ⟨S128x4x256x512, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4x1x1, .f32⟩
  | .hbm, ⟨13, _⟩ => ⟨S4x1x128, .f32⟩
  | .hbm, ⟨14, _⟩ => ⟨S1024x2048, .f32⟩
  | .hbm, ⟨15, _⟩ => ⟨S128x4x256x512, .f32⟩
  | .local _ .vmem, ⟨0, _⟩ => ⟨S1x1x128, .f32⟩
  | .local _ .vmem, ⟨1, _⟩ => ⟨S1x1x128, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x1x256x512, .f32⟩
  | .local _ .vmem, ⟨11, _⟩ => ⟨S1x1x256x512, .f32⟩
  | .local _ .vmem, ⟨12, _⟩ => ⟨S8x512, .f32⟩
  | .local _ .vmem, ⟨13, _⟩ => ⟨S8x512, .f32⟩
  | .local _ .vmem, ⟨14, _⟩ => ⟨S1x1x256x512, .f32⟩
  | .local _ .vmem, ⟨15, _⟩ => ⟨S1x1x256x512, .f32⟩
  | .local _ .vmem, ⟨16, _⟩ => ⟨S256x512, .f32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![128, 4, 1], ![false, false, false]⟩

def k0_cond2 (i : grid0.Coords) : BitVec 1 :=
  let arg2 : BitVec 32 := BitVec.ofNat 32 (i 2).val
  let c0_i32_36 : BitVec 32 := 0#32
  let v92 : BitVec 1 := Scalar.cmpi .eq arg2 c0_i32_36
  let v93 : BitVec 32 := Scalar.extui v92
  let c0_i32_37 : BitVec 32 := 0#32
  let v94 : BitVec 1 := Scalar.cmpi .ne v93 c0_i32_37
  v94

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== RetSampleReferenceIdeal.lean ====
abbrev S1024x6144 : Shape := ⟨2, ![1024, 6144]⟩
abbrev S128x4x256x512 : Shape := ⟨4, ![128, 4, 256, 512]⟩
abbrev S1024x1024 : Shape := ⟨2, ![1024, 1024]⟩
abbrev S128x8x4x256 : Shape := ⟨4, ![128, 8, 4, 256]⟩
abbrev S_ : Shape := ⟨0, ![]⟩
abbrev S1024x2048 : Shape := ⟨2, ![1024, 2048]⟩
abbrev S128x8x4x512 : Shape := ⟨4, ![128, 8, 4, 512]⟩
abbrev S4 : Shape := ⟨1, ![4]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S128x4x8x8 : Shape := ⟨4, ![128, 4, 8, 8]⟩
abbrev S1x4x8x8 : Shape := ⟨4, ![1, 4, 8, 8]⟩
abbrev S128x4x512x8 : Shape := ⟨4, ![128, 4, 512, 8]⟩
abbrev S1x4 : Shape := ⟨2, ![1, 4]⟩
abbrev S8x4 : Shape := ⟨2, ![8, 4]⟩
abbrev S1x8x4x1 : Shape := ⟨4, ![1, 8, 4, 1]⟩
abbrev S1x4x1x1 : Shape := ⟨4, ![1, 4, 1, 1]⟩
abbrev S128x8x4 : Shape := ⟨3, ![128, 8, 4]⟩
abbrev S128x8x4x1 : Shape := ⟨4, ![128, 8, 4, 1]⟩

abbrev nBuf : Space → Nat
  | .hbm => 112
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S128x4x256x512, .f32⟩
  | .hbm, ⟨2, _⟩ => ⟨S1024x1024, .f32⟩
  | .hbm, ⟨3, _⟩ => ⟨S128x8x4x256, .f32⟩
  | .hbm, ⟨4, _⟩ => ⟨S1024x1024, .f32⟩
  | .hbm, ⟨5, _⟩ => ⟨S128x8x4x256, .f32⟩
  | .hbm, ⟨6, _⟩ => ⟨S_, .f32⟩
  | .hbm, ⟨7, _⟩ => ⟨S128x8x4x256, .f32⟩
  | .hbm, ⟨8, _⟩ => ⟨S128x8x4x256, .f32⟩
  | .hbm, ⟨9, _⟩ => ⟨S1024x2048, .f32⟩
  | .hbm, ⟨10, _⟩ => ⟨S128x8x4x512, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S8, .i32⟩
  | .hbm, ⟨22, _⟩ => ⟨S8, .f32⟩
  | .hbm, ⟨23, _⟩ => ⟨S8x1, .f32⟩
  | .hbm, ⟨24, _⟩ => ⟨S1x8, .f32⟩
  | .hbm, ⟨25, _⟩ => ⟨S8x8, .f32⟩
  | .hbm, ⟨26, _⟩ => ⟨S8x8, .f32⟩
  | .hbm, ⟨27, _⟩ => ⟨S8x8, .f32⟩
  | .hbm, ⟨28, _⟩ => ⟨S_, .f32⟩
  | .hbm, ⟨29, _⟩ => ⟨S8x8, .f32⟩
  | .hbm, ⟨30, _⟩ => ⟨S8x8, .i1⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S4x1x1, .f32⟩
  | .hbm, ⟨36, _⟩ => ⟨S4x8x8, .f32⟩
  | .hbm, ⟨37, _⟩ => ⟨S4x8x8, .f32⟩
  | .hbm, ⟨38, _⟩ => ⟨S4x8x8, .f32⟩
  | .hbm, ⟨39, _⟩ => ⟨S4x8x8, .f32⟩
  | .hbm, ⟨40, _⟩ => ⟨S_, .f32⟩
  | .hbm, ⟨41, _⟩ => ⟨S_, .f32⟩
  | .hbm, ⟨42, _⟩ => ⟨S4x8x8, .i1⟩
  | .hbm, ⟨43, _⟩ => ⟨S4x8x8, .f32⟩
  | .hbm, ⟨44, _⟩ => ⟨S4x8x8, .f32⟩
  | .hbm, ⟨45, _⟩ => ⟨S128x4x8x8, .f32⟩
  | .hbm, ⟨46, _⟩ => ⟨S1x4x8x8, .f32⟩
  | .hbm, ⟨47, _⟩ => ⟨S128x4x8x8, .f32⟩
  | .hbm, ⟨48, _⟩ => ⟨S128x4x8x8, .f32⟩
  | .hbm, ⟨49, _⟩ => ⟨S128x4x512x8, .f32⟩
  | .hbm, ⟨50, _⟩ => ⟨S128x8x4x512, .f32⟩
  | .hbm, ⟨51, _⟩ => ⟨S128x4x512x8, .f32⟩
  | .hbm, ⟨52, _⟩ => ⟨S128x8x4x512, .f32⟩
  | .hbm, ⟨53, _⟩ => ⟨S8x1, .f32⟩
  | .hbm, ⟨54, _⟩ => ⟨S_, .f32⟩
  | .hbm, ⟨55, _⟩ => ⟨S8x1, .f32⟩
  | .hbm, ⟨56, _⟩ => ⟨S8x1, .f32⟩
  | .hbm, ⟨57, _⟩ => ⟨S1x4, .f32⟩
  | .hbm, ⟨58, _⟩ => ⟨S8x4, .f32⟩
  | .hbm, ⟨59, _⟩ => ⟨S8x4, .f32⟩
  | .hbm, ⟨60, _⟩ => ⟨S8x4, .f32⟩
  | .hbm, ⟨61, _⟩ => ⟨S8x4, .f32⟩
  | .hbm, ⟨62, _⟩ => ⟨S1x8x4x1, .f32⟩
  | .hbm, ⟨63, _⟩ => ⟨S128x8x4x512, .f32⟩
  | .hbm, ⟨64, _⟩ => ⟨S128x8x4x512, .f32⟩
  | .hbm, ⟨65, _⟩ => ⟨S128x8x4x512, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S8x1, .f32⟩
  | .hbm, ⟨70, _⟩ => ⟨S1x4, .f32⟩
  | .hbm, ⟨71, _⟩ => ⟨S8x4, .f32⟩
  | .hbm, ⟨72, _⟩ => ⟨S8x4, .f32⟩
  | .hbm, ⟨73, _⟩ => ⟨S8x4, .f32⟩
  | .hbm, ⟨74, _⟩ => ⟨S8x4, .f32⟩
  | .hbm, ⟨75, _⟩ => ⟨S1x8x4x1, .f32⟩
  | .hbm, ⟨76, _⟩ => ⟨S128x8x4x256, .f32⟩
  | .hbm, ⟨77, _⟩ => ⟨S128x8x4x256, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S1x4x1x1, .f32⟩
  | .hbm, ⟨83, _⟩ => ⟨S128x4x256x512, .f32⟩
  | .hbm, ⟨84, _⟩ => ⟨S128x4x256x512, .f32⟩
  | .hbm, ⟨85, _⟩ => ⟨S128x4x256x512, .f32⟩
  | .hbm, ⟨86, _⟩ => ⟨S128x4x256x512, .f32⟩
  | .hbm, ⟨87, _⟩ => ⟨S128x8x4x512, .f32⟩
  | .hbm, ⟨88, _⟩ => ⟨S_, .f32⟩
  | .hbm, ⟨89, _⟩ => ⟨S128x8x4, .f32⟩
  | .hbm, ⟨90, _⟩ => ⟨S128x8x4x1, .f32⟩
  | .hbm, ⟨91, _⟩ => ⟨S_, .f32⟩
  | .hbm, ⟨92, _⟩ => ⟨S128x8x4x1, .f32⟩
  | .hbm, ⟨93, _⟩ => ⟨S128x8x4x1, .f32⟩
  | .hbm, ⟨94, _⟩ => ⟨S_, .f32⟩
  | .hbm, ⟨95, _⟩ => ⟨S128x8x4x1, .f32⟩
  | .hbm, ⟨96, _⟩ => ⟨S128x8x4x1, .f32⟩
  | .hbm, ⟨97, _⟩ => ⟨S128x8x4x1, .f32⟩
  | .hbm, ⟨98, _⟩ => ⟨S128x8x4x512, .f32⟩
  | .hbm, ⟨99, _⟩ => ⟨S128x8x4x512, .f32⟩
  | .hbm, ⟨100, _⟩ => ⟨S1024x2048, .f32⟩
  | .hbm, ⟨101, _⟩ => ⟨S1024x2048, .f32⟩
  | .hbm, ⟨102, _⟩ => ⟨S1024x2048, .f32⟩
  | .hbm, ⟨103, _⟩ => ⟨S1024x2048, .f32⟩
  | .hbm, ⟨104, _⟩ => ⟨S_, .f32⟩
  | .hbm, ⟨105, _⟩ => ⟨S1024x2048, .f32⟩
  | .hbm, ⟨106, _⟩ => ⟨S1024x2048, .f32⟩
  | .hbm, ⟨107, _⟩ => ⟨S_, .f32⟩
  | .hbm, ⟨108, _⟩ => ⟨S1024x2048, .f32⟩
  | .hbm, ⟨109, _⟩ => ⟨S1024x2048, .f32⟩
  | .hbm, ⟨110, _⟩ => ⟨S1024x2048, .f32⟩
  | .hbm, ⟨111, _⟩ => ⟨S1024x2048, .f32⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_8 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== KvSample.lean ====
abbrev S128x8x1024 : Shape := ⟨3, ![128, 8, 1024]⟩
abbrev S1024 : Shape := ⟨1, ![1024]⟩
abbrev S128x1024 : Shape := ⟨2, ![128, 1024]⟩
abbrev S1024x1536 : Shape := ⟨2, ![1024, 1536]⟩
abbrev S1024x1024 : Shape := ⟨2, ![1024, 1024]⟩
abbrev S4x256x1024 : Shape := ⟨3, ![4, 256, 1024]⟩
abbrev S1x1024 : Shape := ⟨2, ![1, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1024x1536, .f32⟩
  | .hbm, ⟨5, _⟩ => ⟨S1024x1024, .f32⟩
  | .hbm, ⟨6, _⟩ => ⟨S1024x1536, .bf16⟩
  | .hbm, ⟨7, _⟩ => ⟨S1024x1024, .bf16⟩
  | .hbm, ⟨8, _⟩ => ⟨S128x8x1024, .f32⟩
  | .hbm, ⟨9, _⟩ => ⟨S1024x1024, .f32⟩
  | .hbm, ⟨10, _⟩ => ⟨S4x256x1024, .f32⟩
  | .hbm, ⟨11, _⟩ => ⟨S128x8x1024, .f32⟩
  | .hbm, ⟨12, _⟩ => ⟨S1024x1024, .f32⟩
  | .hbm, ⟨13, _⟩ => ⟨S4x256x1024, .f32⟩
  | .hbm, ⟨14, _⟩ => ⟨S1x1024, .f32⟩
  | .hbm, ⟨15, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvSampleReferenceIdeal.lean ====
abbrev S128x8x1024 : Shape := ⟨3, ![128, 8, 1024]⟩
abbrev S1024 : Shape := ⟨1, ![1024]⟩
abbrev S128x1024 : Shape := ⟨2, ![128, 1024]⟩
abbrev S1024x1536 : Shape := ⟨2, ![1024, 1536]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x8x1536 : Shape := ⟨3, ![128, 8, 1536]⟩
abbrev S128x8x6x4x64 : Shape := ⟨5, ![128, 8, 6, 4, 64]⟩
abbrev S128x8x4x4x64 : Shape := ⟨5, ![128, 8, 4, 4, 64]⟩
abbrev S1024x1024 : Shape := ⟨2, ![1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1024x1536, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x1x1024, .f32⟩
  | .hbm, ⟨22, _⟩ => ⟨S_, .f32⟩
  | .hbm, ⟨23, _⟩ => ⟨S128x1x1024, .f32⟩
  | .hbm, ⟨24, _⟩ => ⟨S128x1x1024, .f32⟩
  | .hbm, ⟨25, _⟩ => ⟨S128x8x1024, .f32⟩
  | .hbm, ⟨26, _⟩ => ⟨S128x8x1024, .f32⟩
  | .hbm, ⟨27, _⟩ => ⟨S128x1x1024, .f32⟩
  | .hbm, ⟨28, _⟩ => ⟨S128x8x1024, .f32⟩
  | .hbm, ⟨29, _⟩ => ⟨S128x8x1024, .f32⟩
  | .hbm, ⟨30, _⟩ => ⟨S128x8x1536, .f32⟩
  | .hbm, ⟨31, _⟩ => ⟨S128x8x6x4x64, .f32⟩
  | .hbm, ⟨32, _⟩ => ⟨S128x8x4x4x64, .f32⟩
  | .hbm, ⟨33, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== FfnSample.lean ====
abbrev S128x8x1024 : Shape := ⟨3, ![128, 8, 1024]⟩
abbrev S1024 : Shape := ⟨1, ![1024]⟩
abbrev S128x1024 : Shape := ⟨2, ![128, 1024]⟩
abbrev S1024x5632 : Shape := ⟨2, ![1024, 5632]⟩
abbrev S3x5632 : Shape := ⟨2, ![3, 5632]⟩
abbrev S5632 : Shape := ⟨1, ![5632]⟩
abbrev S128x2x5632 : Shape := ⟨3, ![128, 2, 5632]⟩
abbrev S2816x1024 : Shape := ⟨2, ![2816, 1024]⟩
abbrev S1024x1024 : Shape := ⟨2, ![1024, 1024]⟩
abbrev S4x256x1024 : Shape := ⟨3, ![4, 256, 1024]⟩
abbrev S1x1024 : Shape := ⟨2, ![1, 1024]⟩
abbrev S1x5632 : Shape := ⟨2, ![1, 5632]⟩
abbrev S256x1024 : Shape := ⟨2, ![256, 1024]⟩
abbrev S1x256x1024 : Shape := ⟨3, ![1, 256, 1024]⟩
abbrev S32x2x5632 : Shape := ⟨3, ![32, 2, 5632]⟩
abbrev S256 : Shape := ⟨1, ![256]⟩
abbrev S256x1 : Shape := ⟨2, ![256, 1]⟩
abbrev S32x8x256 : Shape := ⟨3, ![32, 8, 256]⟩
abbrev S1024x256 : Shape := ⟨2, ![1024, 256]⟩
abbrev S256x256 : Shape := ⟨2, ![256, 256]⟩
abbrev S32x2x256 : Shape := ⟨3, ![32, 2, 256]⟩
abbrev S32x1x256 : Shape := ⟨3, ![32, 1, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 28
  | .vmem => 23
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S128x2x5632, .f32⟩
  | .hbm, ⟨9, _⟩ => ⟨S2816x1024, .f32⟩
  | .hbm, ⟨10, _⟩ => ⟨S1024, .f32⟩
  | .hbm, ⟨11, _⟩ => ⟨S1024x1024, .f32⟩
  | .hbm, ⟨12, _⟩ => ⟨S1024x5632, .bf16⟩
  | .hbm, ⟨13, _⟩ => ⟨S2816x1024, .bf16⟩
  | .hbm, ⟨14, _⟩ => ⟨S128x8x1024, .f32⟩
  | .hbm, ⟨15, _⟩ => ⟨S1024x1024, .f32⟩
  | .hbm, ⟨16, _⟩ => ⟨S4x256x1024, .f32⟩
  | .hbm, ⟨17, _⟩ => ⟨S128x8x1024, .f32⟩
  | .hbm, ⟨18, _⟩ => ⟨S1024x1024, .f32⟩
  | .hbm, ⟨19, _⟩ => ⟨S4x256x1024, .f32⟩
  | .hbm, ⟨20, _⟩ => ⟨S128x8x1024, .f32⟩
  | .hbm, ⟨21, _⟩ => ⟨S1024x1024, .f32⟩
  | .hbm, ⟨22, _⟩ => ⟨S4x256x1024, .f32⟩
  | .hbm, ⟨23, _⟩ => ⟨S1x1024, .f32⟩
  | .hbm, ⟨24, _⟩ => ⟨S1x5632, .f32⟩
  | .hbm, ⟨25, _⟩ => ⟨S1x1024, .f32⟩
  | .hbm, ⟨26, _⟩ => ⟨S1024x1024, .f32⟩
  | .hbm, ⟨27, _⟩ => ⟨S128x2x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S32x2x5632, .f32⟩
  | .local _ .vmem, ⟨13, _⟩ => ⟨S32x2x5632, .f32⟩
  | .local _ .vmem, ⟨14, _⟩ => ⟨S2816x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S32x2x5632, .f32⟩
  | .local _ .vmem, ⟨19, _⟩ => ⟨S32x2x5632, .f32⟩
  | .local _ .vmem, ⟨20, _⟩ => ⟨S256x1024, .bf16⟩
  | .local _ .vmem, ⟨21, _⟩ => ⟨S32x2x5632, .f32⟩
  | .local _ .vmem, ⟨22, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnSampleReferenceIdeal.lean ====
abbrev S128x8x1024 : Shape := ⟨3, ![128, 8, 1024]⟩
abbrev S1024 : Shape := ⟨1, ![1024]⟩
abbrev S128x1024 : Shape := ⟨2, ![128, 1024]⟩
abbrev S1024x5632 : Shape := ⟨2, ![1024, 5632]⟩
abbrev S3x5632 : Shape := ⟨2, ![3, 5632]⟩
abbrev S5632 : Shape := ⟨1, ![5632]⟩
abbrev S128x2x5632 : Shape := ⟨3, ![128, 2, 5632]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x8x5632 : Shape := ⟨3, ![128, 8, 5632]⟩
abbrev S128x10x5632 : Shape := ⟨3, ![128, 10, 5632]⟩
abbrev S1x5632 : Shape := ⟨2, ![1, 5632]⟩
abbrev S1x1x5632 : Shape := ⟨3, ![1, 1, 5632]⟩
abbrev S128x8x2816 : Shape := ⟨3, ![128, 8, 2816]⟩
abbrev S1024x1024 : Shape := ⟨2, ![1024, 1024]⟩

abbrev nBuf : Space → Nat
  | .hbm => 96
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S128x2x5632, .f32⟩
  | .hbm, ⟨9, _⟩ => ⟨S2816x1024, .f32⟩
  | .hbm, ⟨10, _⟩ => ⟨S1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S128x1x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S128x8x1024, .f32⟩
  | .hbm, ⟨32, _⟩ => ⟨S128x8x1024, .f32⟩
  | .hbm, ⟨33, _⟩ => ⟨S128x1x1024, .f32⟩
  | .hbm, ⟨34, _⟩ => ⟨S128x8x1024, .f32⟩
  | .hbm, ⟨35, _⟩ => ⟨S128x8x1024, .f32⟩
  | .hbm, ⟨36, _⟩ => ⟨S128x8x5632, .f32⟩
  | .hbm, ⟨37, _⟩ => ⟨S128x10x5632, .f32⟩
  | .hbm, ⟨38, _⟩ => ⟨S1x5632, .f32⟩
  | .hbm, ⟨39, _⟩ => ⟨S5632, .f32⟩
  | .hbm, ⟨40, _⟩ => ⟨S128x8x5632, .f32⟩
  | .hbm, ⟨41, _⟩ => ⟨S1x1x5632, .f32⟩
  | .hbm, ⟨42, _⟩ => ⟨S128x8x5632, .f32⟩
  | .hbm, ⟨43, _⟩ => ⟨S128x8x5632, .f32⟩
  | .hbm, ⟨44, _⟩ => ⟨S1x1x5632, .f32⟩
  | .hbm, ⟨45, _⟩ => ⟨S128x8x5632, .f32⟩
  | .hbm, ⟨46, _⟩ => ⟨S128x8x5632, .f32⟩
  | .hbm, ⟨47, _⟩ => ⟨S1x5632, .f32⟩
  | .hbm, ⟨48, _⟩ => ⟨S5632, .f32⟩
  | .hbm, ⟨49, _⟩ => ⟨S128x8x5632, .f32⟩
  | .hbm, ⟨50, _⟩ => ⟨S1x1x5632, .f32⟩
  | .hbm, ⟨51, _⟩ => ⟨S128x8x5632, .f32⟩
  | .hbm, ⟨52, _⟩ => ⟨S128x8x5632, .f32⟩
  | .hbm, ⟨53, _⟩ => ⟨S128x8x5632, .f32⟩
  | .hbm, ⟨54, _⟩ => ⟨S1x5632, .f32⟩
  | .hbm, ⟨55, _⟩ => ⟨S5632, .f32⟩
  | .hbm, ⟨56, _⟩ => ⟨S128x8x5632, .f32⟩
  | .hbm, ⟨57, _⟩ => ⟨S1x1x5632, .f32⟩
  | .hbm, ⟨58, _⟩ => ⟨S128x8x5632, .f32⟩
  | .hbm, ⟨59, _⟩ => ⟨S128x8x5632, .f32⟩
  | .hbm, ⟨60, _⟩ => ⟨S128x8x5632, .f32⟩
  | .hbm, ⟨61, _⟩ => ⟨S128x8x2816, .f32⟩
  | .hbm, ⟨62, _⟩ => ⟨S128x8x2816, .f32⟩
  | .hbm, ⟨63, _⟩ => ⟨S128x8x2816, .f32⟩
  | .hbm, ⟨64, _⟩ => ⟨S128x8x2816, .f32⟩
  | .hbm, ⟨65, _⟩ => ⟨S_, .f32⟩
  | .hbm, ⟨66, _⟩ => ⟨S128x8x2816, .f32⟩
  | .hbm, ⟨67, _⟩ => ⟨S128x8x2816, .f32⟩
  | .hbm, ⟨68, _⟩ => ⟨S_, .f32⟩
  | .hbm, ⟨69, _⟩ => ⟨S128x8x2816, .f32⟩
  | .hbm, ⟨70, _⟩ => ⟨S128x8x2816, .f32⟩
  | .hbm, ⟨71, _⟩ => ⟨S128x8x2816, .f32⟩
  | .hbm, ⟨72, _⟩ => ⟨S128x8x2816, .f32⟩
  | .hbm, ⟨73, _⟩ => ⟨S128x8x1024, .f32⟩
  | .hbm, ⟨74, _⟩ => ⟨S128x2x5632, .f32⟩
  | .hbm, ⟨75, _⟩ => ⟨S128x1x1024, .f32⟩
  | .hbm, ⟨76, _⟩ => ⟨S128x8x1024, .f32⟩
  | .hbm, ⟨77, _⟩ => ⟨S128x8x1024, .f32⟩
  | .hbm, ⟨78, _⟩ => ⟨S128x8x1024, .f32⟩
  | .hbm, ⟨79, _⟩ => ⟨S128x8x1024, .f32⟩
  | .hbm, ⟨80, _⟩ => ⟨S_, .f32⟩
  | .hbm, ⟨81, _⟩ => ⟨S128x8, .f32⟩
  | .hbm, ⟨82, _⟩ => ⟨S128x8x1, .f32⟩
  | .hbm, ⟨83, _⟩ => ⟨S_, .f32⟩
  | .hbm, ⟨84, _⟩ => ⟨S128x8x1, .f32⟩
  | .hbm, ⟨85, _⟩ => ⟨S128x8x1, .f32⟩
  | .hbm, ⟨86, _⟩ => ⟨S_, .f32⟩
  | .hbm, ⟨87, _⟩ => ⟨S128x8x1, .f32⟩
  | .hbm, ⟨88, _⟩ => ⟨S128x8x1, .f32⟩
  | .hbm, ⟨89, _⟩ => ⟨S128x8x1, .f32⟩
  | .hbm, ⟨90, _⟩ => ⟨S128x8x1024, .f32⟩
  | .hbm, ⟨91, _⟩ => ⟨S128x8x1024, .f32⟩
  | .hbm, ⟨92, _⟩ => ⟨S1x1x1024, .f32⟩
  | .hbm, ⟨93, _⟩ => ⟨S128x8x1024, .f32⟩
  | .hbm, ⟨94, _⟩ => ⟨S128x8x1024, .f32⟩
  | .hbm, ⟨95, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_3 : Ref sig .tc := ⟨.hbm, 80, rfl⟩
abbrev main_v57 : Ref sig .tc := ⟨.hbm, 81, rfl⟩
abbrev main_v58 : Ref sig .tc := ⟨.hbm, 82, rfl⟩
abbrev main_cst_4 : Ref sig .tc := ⟨.hbm, 83, rfl⟩
abbrev main_v59 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== FfnFirst.lean ====
abbrev S8x2048x1024 : Shape := ⟨3, ![8, 2048, 1024]⟩
abbrev S1024 : Shape := ⟨1, ![1024]⟩
abbrev S8x1024 : Shape := ⟨2, ![8, 1024]⟩
abbrev S1024x5632 : Shape := ⟨2, ![1024, 5632]⟩
abbrev S3x5632 : Shape := ⟨2, ![3, 5632]⟩
abbrev S5632 : Shape := ⟨1, ![5632]⟩
abbrev S8x2x5632 : Shape := ⟨3, ![8, 2, 5632]⟩
abbrev S2816x1024 : Shape := ⟨2, ![2816, 1024]⟩
abbrev S16384x1024 : Shape := ⟨2, ![16384, 1024]⟩
abbrev S8x1x1024 : Shape := ⟨3, ![8, 1, 1024]⟩
abbrev S1x1024 : Shape := ⟨2, ![1, 1024]⟩
abbrev S1x5632 : Shape := ⟨2, ![1, 5632]⟩
abbrev S512x1024 : Shape := ⟨2, ![512, 1024]⟩
abbrev S1x1x1024 : Shape := ⟨3, ![1, 1, 1024]⟩
abbrev S1x2x5632 : Shape := ⟨3, ![1, 2, 5632]⟩
abbrev S512 : Shape := ⟨1, ![512]⟩
abbrev S512x1 : Shape := ⟨2, ![512, 1]⟩
abbrev S1x512x256 : Shape := ⟨3, ![1, 512, 256]⟩
abbrev S1024x256 : Shape := ⟨2, ![1024, 256]⟩
abbrev S512x256 : Shape := ⟨2, ![512, 256]⟩
abbrev S1x2x256 : Shape := ⟨3, ![1, 2, 256]⟩
abbrev S1x1x256 : Shape := ⟨3, ![1, 1, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 20
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S8x2x5632, .f32⟩
  | .hbm, ⟨9, _⟩ => ⟨S2816x1024, .f32⟩
  | .hbm, ⟨10, _⟩ => ⟨S16384x1024, .f32⟩
  | .hbm, ⟨11, _⟩ => ⟨S1024x5632, .bf16⟩
  | .hbm, ⟨12, _⟩ => ⟨S2816x1024, .bf16⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1x1024, .f32⟩
  | .hbm, ⟨17, _⟩ => ⟨S1x5632, .f32⟩
  | .hbm, ⟨18, _⟩ => ⟨S16384x1024, .f32⟩
  | .hbm, ⟨19, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S1x2x5632, .f32⟩
  | .local _ .vmem, ⟨13, _⟩ => ⟨S1x2x5632, .f32⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S1x2x5632, .f32⟩
  | .local _ .vmem, ⟨18, _⟩ => ⟨S1x2x5632, .f32⟩
  | .local _ .vmem, ⟨19, _⟩ => ⟨S512x1024, .bf16⟩
  | .local _ .vmem, ⟨20, _⟩ => ⟨S1x2x5632, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnFirstReferenceIdeal.lean ====
abbrev S8x2048x1024 : Shape := ⟨3, ![8, 2048, 1024]⟩
abbrev S1024 : Shape := ⟨1, ![1024]⟩
abbrev S8x1024 : Shape := ⟨2, ![8, 1024]⟩
abbrev S1024x5632 : Shape := ⟨2, ![1024, 5632]⟩
abbrev S3x5632 : Shape := ⟨2, ![3, 5632]⟩
abbrev S5632 : Shape := ⟨1, ![5632]⟩
abbrev S8x2x5632 : Shape := ⟨3, ![8, 2, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S8x2x5632, .f32⟩
  | .hbm, ⟨9, _⟩ => ⟨S2816x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x5632, .f32⟩
  | .hbm, ⟨36, _⟩ => ⟨S8x2050x5632, .f32⟩
  | .hbm, ⟨37, _⟩ => ⟨S1x5632, .f32⟩
  | .hbm, ⟨38, _⟩ => ⟨S5632, .f32⟩
  | .hbm, ⟨39, _⟩ => ⟨S8x2048x5632, .f32⟩
  | .hbm, ⟨40, _⟩ => ⟨S1x1x5632, .f32⟩
  | .hbm, ⟨41, _⟩ => ⟨S8x2048x5632, .f32⟩
  | .hbm, ⟨42, _⟩ => ⟨S8x2048x5632, .f32⟩
  | .hbm, ⟨43, _⟩ => ⟨S1x1x5632, .f32⟩
  | .hbm, ⟨44, _⟩ => ⟨S8x2048x5632, .f32⟩
  | .hbm, ⟨45, _⟩ => ⟨S8x2048x5632, .f32⟩
  | .hbm, ⟨46, _⟩ => ⟨S1x5632, .f32⟩
  | .hbm, ⟨47, _⟩ => ⟨S5632, .f32⟩
  | .hbm, ⟨48, _⟩ => ⟨S8x2048x5632, .f32⟩
  | .hbm, ⟨49, _⟩ => ⟨S1x1x5632, .f32⟩
  | .hbm, ⟨50, _⟩ => ⟨S8x2048x5632, .f32⟩
  | .hbm, ⟨51, _⟩ => ⟨S8x2048x5632, .f32⟩
  | .hbm, ⟨52, _⟩ => ⟨S8x2048x5632, .f32⟩
  | .hbm, ⟨53, _⟩ => ⟨S1x5632, .f32⟩
  | .hbm, ⟨54, _⟩ => ⟨S5632, .f32⟩
  | .hbm, ⟨55, _⟩ => ⟨S8x2048x5632, .f32⟩
  | .hbm, ⟨56, _⟩ => ⟨S1x1x5632, .f32⟩
  | .hbm, ⟨57, _⟩ => ⟨S8x2048x5632, .f32⟩
  | .hbm, ⟨58, _⟩ => ⟨S8x2048x5632, .f32⟩
  | .hbm, ⟨59, _⟩ => ⟨S8x2048x5632, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S_, .f32⟩
  | .hbm, ⟨65, _⟩ => ⟨S8x2048x2816, .f32⟩
  | .hbm, ⟨66, _⟩ => ⟨S8x2048x2816, .f32⟩
  | .hbm, ⟨67, _⟩ => ⟨S_, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S8x2048x1024, .f32⟩
  | .hbm, ⟨73, _⟩ => ⟨S8x2x5632, .f32⟩
  | .hbm, ⟨74, _⟩ => ⟨S8x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== FfnFirstSample.lean ====
abbrev S128x8x1024 : Shape := ⟨3, ![128, 8, 1024]⟩
abbrev S1024 : Shape := ⟨1, ![1024]⟩
abbrev S128x1024 : Shape := ⟨2, ![128, 1024]⟩
abbrev S1024x5632 : Shape := ⟨2, ![1024, 5632]⟩
abbrev S3x5632 : Shape := ⟨2, ![3, 5632]⟩
abbrev S5632 : Shape := ⟨1, ![5632]⟩
abbrev S128x2x5632 : Shape := ⟨3, ![128, 2, 5632]⟩
abbrev S2816x1024 : Shape := ⟨2, ![2816, 1024]⟩
abbrev S1024x1024 : Shape := ⟨2, ![1024, 1024]⟩
abbrev S4x256x1024 : Shape := ⟨3, ![4, 256, 1024]⟩
abbrev S1x1024 : Shape := ⟨2, ![1, 1024]⟩
abbrev S1x5632 : Shape := ⟨2, ![1, 5632]⟩
abbrev S256x1024 : Shape := ⟨2, ![256, 1024]⟩
abbrev S1x256x1024 : Shape := ⟨3, ![1, 256, 1024]⟩
abbrev S32x2x5632 : Shape := ⟨3, ![32, 2, 5632]⟩
abbrev S256 : Shape := ⟨1, ![256]⟩
abbrev S256x1 : Shape := ⟨2, ![256, 1]⟩
abbrev S32x8x256 : Shape := ⟨3, ![32, 8, 256]⟩
abbrev S1024x256 : Shape := ⟨2, ![1024, 256]⟩
abbrev S256x256 : Shape := ⟨2, ![256, 256]⟩
abbrev S32x2x256 : Shape := ⟨3, ![32, 2, 256]⟩
abbrev S32x1x256 : Shape := ⟨3, ![32, 1, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 26
  | .vmem => 22
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S128x2x5632, .f32⟩
  | .hbm, ⟨9, _⟩ => ⟨S2816x1024, .f32⟩
  | .hbm, ⟨10, _⟩ => ⟨S1024x1024, .f32⟩
  | .hbm, ⟨11, _⟩ => ⟨S1024x5632, .bf16⟩
  | .hbm, ⟨12, _⟩ => ⟨S2816x1024, .bf16⟩
  | .hbm, ⟨13, _⟩ => ⟨S128x8x1024, .f32⟩
  | .hbm, ⟨14, _⟩ => ⟨S1024x1024, .f32⟩
  | .hbm, ⟨15, _⟩ => ⟨S4x256x1024, .f32⟩
  | .hbm, ⟨16, _⟩ => ⟨S128x8x1024, .f32⟩
  | .hbm, ⟨17, _⟩ => ⟨S1024x1024, .f32⟩
  | .hbm, ⟨18, _⟩ => ⟨S4x256x1024, .f32⟩
  | .hbm, ⟨19, _⟩ => ⟨S128x8x1024, .f32⟩
  | .hbm, ⟨20, _⟩ => ⟨S1024x1024, .f32⟩
  | .hbm, ⟨21, _⟩ => ⟨S4x256x1024, .f32⟩
  | .hbm, ⟨22, _⟩ => ⟨S1x1024, .f32⟩
  | .hbm, ⟨23, _⟩ => ⟨S1x5632, .f32⟩
  | .hbm, ⟨24, _⟩ => ⟨S1024x1024, .f32⟩
  | .hbm, ⟨25, _⟩ => ⟨S128x2x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S32x2x5632, .f32⟩
  | .local _ .vmem, ⟨13, _⟩ => ⟨S32x2x5632, .f32⟩
  | .local _ .vmem, ⟨14, _⟩ => ⟨S2816x1024, .bf16⟩
  | .local _ .vmem, ⟨15, _⟩ => ⟨S256x1024, .f32⟩
  | .local _ .vmem, ⟨16, _⟩ => ⟨S256x1024, .f32⟩
  | .local _ .vmem, ⟨17, _⟩ => ⟨S32x2x5632, .f32⟩
  | .local _ .vmem, ⟨18, _⟩ => ⟨S32x2x5632, .f32⟩
  | .local _ .vmem, ⟨19, _⟩ => ⟨S256x1024, .bf16⟩
  | .local _ .vmem, ⟨20, _⟩ => ⟨S32x2x5632, .f32⟩
  | .local _ .vmem, ⟨21, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnFirstSampleReferenceIdeal.lean ====
abbrev S128x8x1024 : Shape := ⟨3, ![128, 8, 1024]⟩
abbrev S1024 : Shape := ⟨1, ![1024]⟩
abbrev S128x1024 : Shape := ⟨2, ![128, 1024]⟩
abbrev S1024x5632 : Shape := ⟨2, ![1024, 5632]⟩
abbrev S3x5632 : Shape := ⟨2, ![3, 5632]⟩
abbrev S5632 : Shape := ⟨1, ![5632]⟩
abbrev S128x2x5632 : Shape := ⟨3, ![128, 2, 5632]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x8x5632 : Shape := ⟨3, ![128, 8, 5632]⟩
abbrev S128x10x5632 : Shape := ⟨3, ![128, 10, 5632]⟩
abbrev S1x5632 : Shape := ⟨2, ![1, 5632]⟩
abbrev S1x1x5632 : Shape := ⟨3, ![1, 1, 5632]⟩
abbrev S128x8x2816 : Shape := ⟨3, ![128, 8, 2816]⟩
abbrev S1024x1024 : Shape := ⟨2, ![1024, 1024]⟩

abbrev nBuf : Space → Nat
  | .hbm => 79
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S128x2x5632, .f32⟩
  | .hbm, ⟨9, _⟩ => ⟨S2816x1024, .f32⟩
  | .hbm, ⟨10, _⟩ => ⟨S128x8x1024, .f32⟩
  | .hbm, ⟨11, _⟩ => ⟨S_, .f32⟩
  | .hbm, ⟨12, _⟩ => ⟨S128x8, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S128x8x1, .f32⟩
  | .hbm, ⟨21, _⟩ => ⟨S128x8x1024, .f32⟩
  | .hbm, ⟨22, _⟩ => ⟨S128x8x1024, .f32⟩
  | .hbm, ⟨23, _⟩ => ⟨S1x1x1024, .f32⟩
  | .hbm, ⟨24, _⟩ => ⟨S128x8x1024, .f32⟩
  | .hbm, ⟨25, _⟩ => ⟨S128x8x1024, .f32⟩
  | .hbm, ⟨26, _⟩ => ⟨S128x1x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x8x1024, .f32⟩
  | .hbm, ⟨31, _⟩ => ⟨S128x8x1024, .f32⟩
  | .hbm, ⟨32, _⟩ => ⟨S128x1x1024, .f32⟩
  | .hbm, ⟨33, _⟩ => ⟨S128x8x1024, .f32⟩
  | .hbm, ⟨34, _⟩ => ⟨S128x8x1024, .f32⟩
  | .hbm, ⟨35, _⟩ => ⟨S128x8x5632, .f32⟩
  | .hbm, ⟨36, _⟩ => ⟨S128x10x5632, .f32⟩
  | .hbm, ⟨37, _⟩ => ⟨S1x5632, .f32⟩
  | .hbm, ⟨38, _⟩ => ⟨S5632, .f32⟩
  | .hbm, ⟨39, _⟩ => ⟨S128x8x5632, .f32⟩
  | .hbm, ⟨40, _⟩ => ⟨S1x1x5632, .f32⟩
  | .hbm, ⟨41, _⟩ => ⟨S128x8x5632, .f32⟩
  | .hbm, ⟨42, _⟩ => ⟨S128x8x5632, .f32⟩
  | .hbm, ⟨43, _⟩ => ⟨S1x1x5632, .f32⟩
  | .hbm, ⟨44, _⟩ => ⟨S128x8x5632, .f32⟩
  | .hbm, ⟨45, _⟩ => ⟨S128x8x5632, .f32⟩
  | .hbm, ⟨46, _⟩ => ⟨S1x5632, .f32⟩
  | .hbm, ⟨47, _⟩ => ⟨S5632, .f32⟩
  | .hbm, ⟨48, _⟩ => ⟨S128x8x5632, .f32⟩
  | .hbm, ⟨49, _⟩ => ⟨S1x1x5632, .f32⟩
  | .hbm, ⟨50, _⟩ => ⟨S128x8x5632, .f32⟩
  | .hbm, ⟨51, _⟩ => ⟨S128x8x5632, .f32⟩
  | .hbm, ⟨52, _⟩ => ⟨S128x8x5632, .f32⟩
  | .hbm, ⟨53, _⟩ => ⟨S1x5632, .f32⟩
  | .hbm, ⟨54, _⟩ => ⟨S5632, .f32⟩
  | .hbm, ⟨55, _⟩ => ⟨S128x8x5632, .f32⟩
  | .hbm, ⟨56, _⟩ => ⟨S1x1x5632, .f32⟩
  | .hbm, ⟨57, _⟩ => ⟨S128x8x5632, .f32⟩
  | .hbm, ⟨58, _⟩ => ⟨S128x8x5632, .f32⟩
  | .hbm, ⟨59, _⟩ => ⟨S128x8x5632, .f32⟩
  | .hbm, ⟨60, _⟩ => ⟨S128x8x2816, .f32⟩
  | .hbm, ⟨61, _⟩ => ⟨S128x8x2816, .f32⟩
  | .hbm, ⟨62, _⟩ => ⟨S128x8x2816, .f32⟩
  | .hbm, ⟨63, _⟩ => ⟨S128x8x2816, .f32⟩
  | .hbm, ⟨64, _⟩ => ⟨S_, .f32⟩
  | .hbm, ⟨65, _⟩ => ⟨S128x8x2816, .f32⟩
  | .hbm, ⟨66, _⟩ => ⟨S128x8x2816, .f32⟩
  | .hbm, ⟨67, _⟩ => ⟨S_, .f32⟩
  | .hbm, ⟨68, _⟩ => ⟨S128x8x2816, .f32⟩
  | .hbm, ⟨69, _⟩ => ⟨S128x8x2816, .f32⟩
  | .hbm, ⟨70, _⟩ => ⟨S128x8x2816, .f32⟩
  | .hbm, ⟨71, _⟩ => ⟨S128x8x2816, .f32⟩
  | .hbm, ⟨72, _⟩ => ⟨S128x8x1024, .f32⟩
  | .hbm, ⟨73, _⟩ => ⟨S128x2x5632, .f32⟩
  | .hbm, ⟨74, _⟩ => ⟨S128x1x1024, .f32⟩
  | .hbm, ⟨75, _⟩ => ⟨S128x8x1024, .f32⟩
  | .hbm, ⟨76, _⟩ => ⟨S128x8x1024, .f32⟩
  | .hbm, ⟨77, _⟩ => ⟨S128x8x1024, .f32⟩
  | .hbm, ⟨78, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== WinSample.lean ====
abbrev S128x8x1024 : Shape := ⟨3, ![128, 8, 1024]⟩
abbrev S1024 : Shape := ⟨1, ![1024]⟩
abbrev S128x1024 : Shape := ⟨2, ![128, 1024]⟩
abbrev S1024x1536 : Shape := ⟨2, ![1024, 1536]⟩
abbrev S128x512x2x4x64 : Shape := ⟨5, ![128, 512, 2, 4, 64]⟩
abbrev S1024x1024 : Shape := ⟨2, ![1024, 1024]⟩
abbrev S1024x512 : Shape := ⟨2, ![1024, 512]⟩
abbrev S4x256x1024 : Shape := ⟨3, ![4, 256, 1024]⟩
abbrev S1x1024 : Shape := ⟨2, ![1, 1024]⟩
abbrev S256x1024 : Shape := ⟨2, ![256, 1024]⟩
abbrev S1x256x1024 : Shape := ⟨3, ![1, 256, 1024]⟩
abbrev S256x512 : Shape := ⟨2, ![256, 512]⟩
abbrev S256 : Shape := ⟨1, ![256]⟩
abbrev S256x1 : Shape := ⟨2, ![256, 1]⟩
abbrev S128x512x512 : Shape := ⟨3, ![128, 512, 512]⟩
abbrev S128x8x512 : Shape := ⟨3, ![128, 8, 512]⟩
abbrev S128x520x512 : Shape := ⟨3, ![128, 520, 512]⟩

abbrev nBuf : Space → Nat
  | .hbm => 22
  | .vmem => 11
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1024x1536, .f32⟩
  | .hbm, ⟨5, _⟩ => ⟨S128x512x2x4x64, .f32⟩
  | .hbm, ⟨6, _⟩ => ⟨S1024x1024, .f32⟩
  | .hbm, ⟨7, _⟩ => ⟨S1024x1536, .bf16⟩
  | .hbm, ⟨8, _⟩ => ⟨S1024x512, .bf16⟩
  | .hbm, ⟨9, _⟩ => ⟨S128x8x1024, .f32⟩
  | .hbm, ⟨10, _⟩ => ⟨S1024x1024, .f32⟩
  | .hbm, ⟨11, _⟩ => ⟨S4x256x1024, .f32⟩
  | .hbm, ⟨12, _⟩ => ⟨S128x8x1024, .f32⟩
  | .hbm, ⟨13, _⟩ => ⟨S1024x1024, .f32⟩
  | .hbm, ⟨14, _⟩ => ⟨S4x256x1024, .f32⟩
  | .hbm, ⟨15, _⟩ => ⟨S1x1024, .f32⟩
  | .hbm, ⟨16, _⟩ => ⟨S1024x512, .f32⟩
  | .hbm, ⟨17, _⟩ => ⟨S128x512x512, .f32⟩
  | .hbm, ⟨18, _⟩ => ⟨S128x8x512, .f32⟩
  | .hbm, ⟨19, _⟩ => ⟨S128x520x512, .f32⟩
  | .hbm, ⟨20, _⟩ => ⟨S128x512x512, .f32⟩
  | .hbm, ⟨21, _⟩ => ⟨S128x512x2x4x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1024x512, .bf16⟩
  | .local _ .vmem, ⟨8, _⟩ => ⟨S256x512, .f32⟩
  | .local _ .vmem, ⟨9, _⟩ => ⟨S256x512, .f32⟩
  | .local _ .vmem, ⟨10, _⟩ => ⟨S256x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WinSampleReferenceIdeal.lean ====
abbrev S128x8x1024 : Shape := ⟨3, ![128, 8, 1024]⟩
abbrev S1024 : Shape := ⟨1, ![1024]⟩
abbrev S128x1024 : Shape := ⟨2, ![128, 1024]⟩
abbrev S1024x1536 : Shape := ⟨2, ![1024, 1536]⟩
abbrev S128x512x2x4x64 : Shape := ⟨5, ![128, 512, 2, 4, 64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x8x1536 : Shape := ⟨3, ![128, 8, 1536]⟩
abbrev S128x8x6x4x64 : Shape := ⟨5, ![128, 8, 6, 4, 64]⟩
abbrev S128x8x2x4x64 : Shape := ⟨5, ![128, 8, 2, 4, 64]⟩
abbrev S128x520x2x4x64 : Shape := ⟨5, ![128, 520, 2, 4, 64]⟩

abbrev nBuf : Space → Nat
  | .hbm => 36
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1024x1536, .f32⟩
  | .hbm, ⟨5, _⟩ => ⟨S128x512x2x4x64, .f32⟩
  | .hbm, ⟨6, _⟩ => ⟨S128x8x1024, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S128x8x1, .f32⟩
  | .hbm, ⟨17, _⟩ => ⟨S128x8x1024, .f32⟩
  | .hbm, ⟨18, _⟩ => ⟨S128x8x1024, .f32⟩
  | .hbm, ⟨19, _⟩ => ⟨S1x1x1024, .f32⟩
  | .hbm, ⟨20, _⟩ => ⟨S128x8x1024, .f32⟩
  | .hbm, ⟨21, _⟩ => ⟨S128x8x1024, .f32⟩
  | .hbm, ⟨22, _⟩ => ⟨S128x1x1024, .f32⟩
  | .hbm, ⟨23, _⟩ => ⟨S_, .f32⟩
  | .hbm, ⟨24, _⟩ => ⟨S128x1x1024, .f32⟩
  | .hbm, ⟨25, _⟩ => ⟨S128x1x1024, .f32⟩
  | .hbm, ⟨26, _⟩ => ⟨S128x8x1024, .f32⟩
  | .hbm, ⟨27, _⟩ => ⟨S128x8x1024, .f32⟩
  | .hbm, ⟨28, _⟩ => ⟨S128x1x1024, .f32⟩
  | .hbm, ⟨29, _⟩ => ⟨S128x8x1024, .f32⟩
  | .hbm, ⟨30, _⟩ => ⟨S128x8x1024, .f32⟩
  | .hbm, ⟨31, _⟩ => ⟨S128x8x1536, .f32⟩
  | .hbm, ⟨32, _⟩ => ⟨S128x8x6x4x64, .f32⟩
  | .hbm, ⟨33, _⟩ => ⟨S128x8x2x4x64, .f32⟩
  | .hbm, ⟨34, _⟩ => ⟨S128x520x2x4x64, .f32⟩
  | .hbm, ⟨35, _⟩ => ⟨S128x512x2x4x64, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.RetSpec.lean ====
module

public import Idealize.ShloMosaic.Lib.Pointwise

@[expose] public section

/-! # The retention recurrence, as plain sums

The mathematics both programs compute, on a matrix of projections given by naturals: queries, keys, values and the gate of one head
side by side in the columns, the tokens of the sequences one after the other in the rows. -/

noncomputable section

open Idealize.ShloMosaic

namespace Cert.RetSpec

/-- An entry of the projections by its two coordinates as naturals (taken modulo the extents, which no use exceeds). -/
def ent (x : Fin 16384 → Fin 6144 → EReal) (r c : ℕ) : EReal :=
  x ⟨r % 16384, Nat.mod_lt _ (by decide)⟩ ⟨c % 6144, Nat.mod_lt _ (by decide)⟩

/-- Inside the extents `ent` is the entry itself. -/
theorem ent_eq (x : Fin 16384 → Fin 6144 → EReal) (r : Fin 16384) (c : Fin 6144) : x r c = ent x r.val c.val := by
  simp only [ent, Nat.mod_eq_of_lt r.isLt, Nat.mod_eq_of_lt c.isLt]

/-- An entry inside the extents, its coordinates spelt in any way. -/
theorem ent_of (x : Fin 16384 → Fin 6144 → EReal) {r c r' c' : ℕ} (hr : r < 16384) (hc : c < 6144) (er : r = r') (ec : c = c') :
    x ⟨r, hr⟩ ⟨c, hc⟩ = ent x r' c' := by
  subst er ec
  exact ent_eq x ⟨r, hr⟩ ⟨c, hc⟩

/-- The query of token `i` in chunk `n` of sequence `b`, head `h`. -/
def q (x : Fin 16384 → Fin 6144 → EReal) (b h n i d : ℕ) : EReal := ent x (b * 2048 + (n * 128 + i)) (h * 256 + d)

/-- The key, scaled by `256 ^ (-1/2)`. -/
def k (x : Fin 16384 → Fin 6144 → EReal) (b h n i d : ℕ) : EReal :=
  ent x (b * 2048 + (n * 128 + i)) (1024 + (h * 256 + d)) * Ideal.ofBits .f32 0x3D800000#32

/-- The value. -/
def v (x : Fin 16384 → Fin 6144 → EReal) (b h n i e : ℕ) : EReal := ent x (b * 2048 + (n * 128 + i)) (2048 + (h * 512 + e))

/-- A position inside a chunk, as the float the programs make of it. -/
def pos (i : ℕ) : EReal := FloatOps.sitofp (F := Ideal) .f32 (BitVec.ofNat 32 i)

/-- The state before chunk `n`: it decays by `γ ^ 128` over a chunk and takes up the chunk's keys and values, each decayed to the
chunk's end (`lg` the logarithm of the head's decay `γ`). -/
def st (x : Fin 16384 → Fin 6144 → EReal) (lg : EReal) (b h : ℕ) : ℕ → ℕ → ℕ → EReal
  | 0, _, _ => 0
  | n + 1, d, e => Ideal.exp (Ideal.ofBits .f32 0x43000000#32 * lg) * st x lg b h n d e
      + ∑ j : Fin 128, k x b h n j d * Ideal.exp ((Ideal.ofBits .f32 0x42FE0000#32 - pos j) * lg) * v x b h n j e

/-- The causal decay between positions `i` and `j` of one chunk. -/
def mask (lg : EReal) (i j : ℕ) : EReal :=
  if 0 ≤ pos i - pos j then Ideal.exp (max (pos i - pos j) 0 * lg) else 0

/-- The mixer's output for one token before normalisation: the chunk's own part and the part of the carried state. -/
def o (x : Fin 16384 → Fin 6144 → EReal) (lg : EReal) (b h n i e : ℕ) : EReal :=
  (∑ j : Fin 128, (∑ d : Fin 256, q x b h n i d * k x b h n j d) * mask lg i j * v x b h n j e)
    + (∑ d : Fin 256, q x b h n i d * st x lg b h n d e) * Ideal.exp ((pos i + 1) * lg)

/-- The output normalised over the head's 512 values and gated. -/
def y (x : Fin 16384 → Fin 6144 → EReal) (lg : EReal) (b h n i e : ℕ) : EReal :=
  o x lg b h n i e * Ideal.rsqrt (Ideal.div (∑ f : Fin 512, o x lg b h n i f * o x lg b h n i f) (Ideal.ofBits .f32 0x44000000#32)
      + Ideal.ofBits .f32 0x358637BD#32)
    * (ent x (b * 2048 + (n * 128 + i)) (4096 + (h * 512 + e))
      * Ideal.div 1 (1 + Ideal.exp (-ent x (b * 2048 + (n * 128 + i)) (4096 + (h * 512 + e)))))

end Cert.RetSpec

end
-- ==== Proof.RetKernel.lean ====
module

public import proofs.«01_k».proof.Proof.Gen.RetentionIdeal.Value
public import proofs.«01_k».proof.Proof.RetSpec
public import Idealize.ShloMosaic.Lib.Pointwise
public import Idealize.ShloMosaic.Lib.Pipeline.ValueKit
public import Idealize.ShloMosaic.Lib.Pipeline.ReadBack

@[expose] public section

/-! # The retention kernel, read at an index -/

set_option maxRecDepth 16384

noncomputable section

open Idealize.ShloMosaic Idealize.ShloMosaic.TcCoe Idealize.SL.Sem
open Idealize.ShloMosaic.Pipeline (Dat)

namespace Cert.RetentionIdeal.Blocks

open Cert.RetentionIdeal Cert.RetentionIdeal.Gen

variable (m : (ℓ : Loc nD τ sig) → Buf (Elt Ideal) ℓ) (c : Dev nD)

/-- The windows' block indices: a grid point is sequence `t / 64`, head `t / 16 % 4`, chunk `t % 16`. -/
theorem idx : ∀ t : Fin cfg0.N, win0_0.index t = ![t.val / 16 % 4, 0, 0]
    ∧ win0_1.index t = ![t.val / 64 * 16 + t.val % 16, t.val / 16 % 4]
    ∧ win0_2.index t = ![t.val / 64 * 16 + t.val % 16, 4 + t.val / 16 % 4]
    ∧ win0_3.index t = ![t.val / 64 * 16 + t.val % 16, 4 + t.val / 16 % 4]
    ∧ win0_4.index t = ![t.val / 64 * 16 + t.val % 16, 8 + t.val / 16 % 4]
    ∧ win0_5.index t = ![t.val / 64 * 16 + t.val % 16, t.val / 16 % 4]
    ∧ win0_6.index t = ![t.val / 64, t.val / 16 % 4, 0, 0] ∧ t.val < 512 :=
  (by decide +kernel : ∀ t : Fin grid0.N, _)

/-- The projections of the argument, by row and column. -/
abbrev ofArg (X : Vec Ideal S16384x6144 .f32) : Fin 16384 → Fin 6144 → EReal := fun r c => X (ix2 r c)

/-- The argument's projections, by row and column. -/
abbrev proj : Fin 16384 → Fin 6144 → EReal := ofArg (m ((c : Thread nD τ).loc main_arg0))

/-- The logarithm of head `h`'s decay, `log1p (-2 ^ (-5 - h))`. -/
def lgKer (h : ℕ) : EReal :=
  Ideal.log1p (-Ideal.exp (Ideal.ofBits .f32 0x3F317218#32 * (Ideal.ofBits .f32 0xC0A00000#32 - FloatOps.sitofp (F := Ideal) .f32 (BitVec.ofNat 32 h))))

section Blocks

variable (t : Fin cfg0.N)

/-- The table of decays, at a head. -/
theorem lg_tab (h : Fin 4) : (V m c main_v9 : Vec Ideal S4x1x128 .f32) (ix3 h 0 0) = lgKer h := by
  entry_read
  pointwise [lgKer]

/-- The block of decays holds the head's. -/
theorem lg_blk : (iblk m c 0 t : Vec Ideal S1x1x128 .f32) (ix3 0 0 0) = lgKer (t.val / 16 % 4) := by
  rw [← lg_tab m c ⟨t.val / 16 % 4, by omega⟩]
  blk_ext [iblk, idx t]

/-- The block of queries. -/
theorem q_blk (i : Fin 128) (d : Fin 256) : (iblk m c 1 t : Vec Ideal S128x256 .f32) (ix2 i d)
    = RetSpec.q (proj m c) (t.val / 64) (t.val / 16 % 4) (t.val % 16) i d := by
  have ht := (idx t).2.2.2.2.2.2.2
  have e : (iblk m c 1 t : Vec Ideal S128x256 .f32) (ix2 i d)
      = m ((c : Thread nD τ).loc main_arg0) (ix2 ⟨(t.val / 64 * 16 + t.val % 16) * 128 + i, by omega⟩ ⟨t.val / 16 % 4 * 256 + d, by omega⟩) := by
    blk_ext [iblk, V, idx t]
  rw [e]
  exact RetSpec.ent_of (proj m c) _ _ (by omega) (by omega)

/-- The block of keys. -/
theorem k_blk (i : Fin 128) (d : Fin 256) : (iblk m c 2 t : Vec Ideal S128x256 .f32) (ix2 i d)
    = RetSpec.ent (proj m c) (t.val / 64 * 2048 + (t.val % 16 * 128 + i)) (1024 + (t.val / 16 % 4 * 256 + d)) := by
  have ht := (idx t).2.2.2.2.2.2.2
  have e : (iblk m c 2 t : Vec Ideal S128x256 .f32) (ix2 i d)
      = m ((c : Thread nD τ).loc main_arg0) (ix2 ⟨(t.val / 64 * 16 + t.val % 16) * 128 + i, by omega⟩ ⟨(4 + t.val / 16 % 4) * 256 + d, by omega⟩) := by
    blk_ext [iblk, V, idx t]
  rw [e]
  exact RetSpec.ent_of (proj m c) _ _ (by omega) (by omega)

/-- The block of values. -/
theorem v_blk (i : Fin 128) (e : Fin 512) : (iblk m c 3 t : Vec Ideal S128x512 .f32) (ix2 i e)
    = RetSpec.v (proj m c) (t.val / 64) (t.val / 16 % 4) (t.val % 16) i e := by
  have ht := (idx t).2.2.2.2.2.2.2
  have e : (iblk m c 3 t : Vec Ideal S128x512 .f32) (ix2 i e)
      = m ((c : Thread nD τ).loc main_arg0) (ix2 ⟨(t.val / 64 * 16 + t.val % 16) * 128 + i, by omega⟩ ⟨(4 + t.val / 16 % 4) * 512 + e, by omega⟩) := by
    blk_ext [iblk, V, idx t]
  rw [e]
  exact RetSpec.ent_of (proj m c) _ _ (by omega) (by omega)

/-- The block of gates. -/
theorem g_blk (i : Fin 128) (e : Fin 512) : (iblk m c 4 t : Vec Ideal S128x512 .f32) (ix2 i e)
    = RetSpec.ent (proj m c) (t.val / 64 * 2048 + (t.val % 16 * 128 + i)) (4096 + (t.val / 16 % 4 * 512 + e)) := by
  have ht := (idx t).2.2.2.2.2.2.2
  have e : (iblk m c 4 t : Vec Ideal S128x512 .f32) (ix2 i e)
      = m ((c : Thread nD τ).loc main_arg0) (ix2 ⟨(t.val / 64 * 16 + t.val % 16) * 128 + i, by omega⟩ ⟨(8 + t.val / 16 % 4) * 512 + e, by omega⟩) := by
    blk_ext [iblk, V, idx t]
  rw [e]
  exact RetSpec.ent_of (proj m c) _ _ (by omega) (by omega)

end Blocks

/-! ### One point's arithmetic, over blocks that hold a chunk -/

section Pay

variable (x : Fin 16384 → Fin 6144 → EReal) (lg : EReal) (b h n : ℕ)
  (v3 : Vec Ideal S1x1x128 .f32) (v6 v8 : Vec Ideal S128x256 .f32) (v11 v74 : Vec Ideal S128x512 .f32) (s : Vec Ideal S256x512 .f32)
  (h3 : v3 (ix3 0 0 0) = lg)
  (h6 : ∀ (i : Fin 128) (d : Fin 256), v6 (ix2 i d) = RetSpec.q x b h n i d)
  (h8 : ∀ (i : Fin 128) (d : Fin 256), v8 (ix2 i d) = RetSpec.ent x (b * 2048 + (n * 128 + i)) (1024 + (h * 256 + d)))
  (h11 : ∀ (i : Fin 128) (e : Fin 512), v11 (ix2 i e) = RetSpec.v x b h n i e)
  (h74 : ∀ (i : Fin 128) (e : Fin 512), v74 (ix2 i e) = RetSpec.ent x (b * 2048 + (n * 128 + i)) (4096 + (h * 512 + e)))
  (hs : ∀ (d : Fin 256) (e : Fin 512), s (ix2 d e) = RetSpec.st x lg b h n d e)

include h3 h8 h11 hs

/-- One point's new state, over the state before it: the recurrence's step. -/
theorem state_pay (d : Fin 256) (e : Fin 512) :
    k0_pay11 (F := Ideal) (k0_pay4 v3) (k0_pay6 v8) (k0_pay7 v11) k0_pay8 s (ix2 d e) = RetSpec.st x lg b h (n + 1) d e := by
  pointwise [k0_pay11, k0_pay4, k0_pay6, k0_pay7, k0_pay8]
  simp only [hs, h11, h8, h3, RetSpec.st, RetSpec.pos, RetSpec.k]

include h6 h74

/-- One point's output block, over the state before it. -/
theorem out_pay (i : Fin 128) (e : Fin 512) :
    k0_pay1 (F := Ideal) (k0_pay13 (k0_pay4 v3) (k0_pay5 v6) k0_pay8 (k0_pay9 v3 v6 v8 v11) (k0_pay10 s) (constant S128x512 .f32 0x00000000#32))
      v74 (k0_pay14 v74) k0_pay15 (ix2 i e) = (RetSpec.y x lg b h n i e : EReal) := by
  pointwise [k0_pay1, k0_pay13, k0_pay14, k0_pay15, k0_pay9, k0_pay10, k0_pay4, k0_pay5, k0_pay6, k0_pay7, k0_pay8]
  simp only [hs, h11, h8, h3, h6, h74, zero_sub, RetSpec.y, RetSpec.o, RetSpec.mask, RetSpec.pos, RetSpec.k]
  rfl

end Pay

/-- The state before point `t`: what the point before left, or zero at a sequence's first chunk. -/
def before (t : Fin cfg0.N) : Vec Ideal S256x512 .f32 :=
  if t.val % 16 = 0 then fun _ => 0 else (outsAt0 m c (t.val - 1) (Nat.lt_of_le_of_lt (Nat.sub_le _ _) t.isLt)).2.2

/-- The scratch's store writes the new state as it is. -/
theorem pay12 (a : FVec Ideal S1x1 .f32) (k v) (i) (s : Vec Ideal S256x512 .f32) :
    k0_pay12 (F := Ideal) a k v i s = k0_pay11 (F := Ideal) a k v i s := by
  unfold k0_pay12
  exact shapeCast_id _ _

/-- What a point leaves in the carried scratch. -/
theorem scr_eq (t : Fin cfg0.N) : (outsAt0 m c t.val t.isLt).2.2
    = k0_pay11 (F := Ideal) (k0_pay4 (iblk m c 0 t)) (k0_pay6 (iblk m c 2 t)) (k0_pay7 (iblk m c 3 t)) k0_pay8 (before m c t) := by
  have z : (k0_pay3 (F := Ideal) : Vec Ideal S256x512 .f32) = fun _ => 0 := by
    funext j
    pointwise [k0_pay3]
  by_cases h0 : t.val % 16 = 0
  · rw [outsAt0_A m c t h0 (by omega)]
    frame_out
    rw [before, if_pos h0, ← z, pay12]
  · by_cases h1 : t.val % 16 = 15
    · rw [outsAt0_C m c t h0 h1]
      frame_out
      rw [before, if_neg h0, read_unread_whole, pay12]
    · rw [outsAt0_B m c t h0 h1]
      frame_out
      rw [before, if_neg h0, read_unread_whole, pay12]

/-- What a point leaves in the first output's block. -/
theorem out_eq (t : Fin cfg0.N) : (outsAt0 m c t.val t.isLt).1
    = k0_pay1 (F := Ideal) (k0_pay13 (k0_pay4 (iblk m c 0 t)) (k0_pay5 (iblk m c 1 t)) k0_pay8
        (k0_pay9 (iblk m c 0 t) (iblk m c 1 t) (iblk m c 2 t) (iblk m c 3 t)) (k0_pay10 (before m c t)) (constant S128x512 .f32 0x00000000#32))
      (iblk m c 4 t) (k0_pay14 (iblk m c 4 t)) k0_pay15 := by
  have z : (k0_pay3 (F := Ideal) : Vec Ideal S256x512 .f32) = fun _ => 0 := by
    funext j
    pointwise [k0_pay3]
  by_cases h0 : t.val % 16 = 0
  · rw [outsAt0_A m c t h0 (by omega)]
    frame_out
    rw [before, if_pos h0, ← z]
  · by_cases h1 : t.val % 16 = 15
    · rw [outsAt0_C m c t h0 h1]
      frame_out
      rw [before, if_neg h0, read_unread_whole]
    · rw [outsAt0_B m c t h0 h1]
      frame_out
      rw [before, if_neg h0, read_unread_whole]

/-- What a sequence's last point leaves in the second output's block: the state. -/
theorem last_eq (t : Fin cfg0.N) (h1 : t.val % 16 = 15) (d : Fin 256) (e : Fin 512) :
    ((outsAt0 m c t.val t.isLt).2.1 : Vec Ideal S1x1x256x512 .f32) (ix4 0 0 d e)
      = ((outsAt0 m c t.val t.isLt).2.2 : Vec Ideal S256x512 .f32) (ix2 d e) := by
  rw [scr_eq, outsAt0_C m c t (by omega) h1]
  frame_out
  rw [before, if_neg (by omega), read_unread_whole]
  pointwise [k0_pay2]

/-- The state before a point is the recurrence's. -/
theorem before_st : ∀ (n : ℕ) (hn : n < cfg0.N) (d : Fin 256) (e : Fin 512),
    before m c ⟨n, hn⟩ (ix2 d e) = RetSpec.st (proj m c) (lgKer (n / 16 % 4)) (n / 64) (n / 16 % 4) (n % 16) d e := by
  intro n
  induction n with
  | zero =>
    intro hn d e
    rw [before, if_pos (Nat.zero_mod 16)]
    rfl
  | succ n ih =>
    intro hn d e
    by_cases h0 : (n + 1) % 16 = 0
    · rw [before, if_pos h0, h0]
      rfl
    · have hb : n < cfg0.N := by omega
      rw [before, if_neg h0]
      have e1 : (n + 1) / 16 % 4 = n / 16 % 4 := by omega
      have e2 : (n + 1) / 64 = n / 64 := by omega
      have e3 : (n + 1) % 16 = n % 16 + 1 := by omega
      rw [e1, e2, e3]
      refine (congrFun (scr_eq m c ⟨n, hb⟩) (ix2 d e)).trans ?_
      exact state_pay (proj m c) (lgKer (n / 16 % 4)) (n / 64) (n / 16 % 4) (n % 16) (iblk m c 0 ⟨n, hb⟩) (iblk m c 2 ⟨n, hb⟩)
        (iblk m c 3 ⟨n, hb⟩) (before m c ⟨n, hb⟩) (lg_blk m c ⟨n, hb⟩) (k_blk m c ⟨n, hb⟩) (v_blk m c ⟨n, hb⟩) (ih hb) d e

/-- The state after a point is the recurrence's, one chunk on. -/
theorem after_st (t : Fin cfg0.N) (d : Fin 256) (e : Fin 512) :
    ((outsAt0 m c t.val t.isLt).2.2 : Vec Ideal S256x512 .f32) (ix2 d e)
      = RetSpec.st (proj m c) (lgKer (t.val / 16 % 4)) (t.val / 64) (t.val / 16 % 4) (t.val % 16 + 1) d e := by
  rw [scr_eq]
  exact state_pay _ _ _ _ _ _ _ _ _ (lg_blk m c t) (k_blk m c t) (v_blk m c t) (before_st m c t.val t.isLt) d e

/-- The kernel's first result, index by index. -/
def outK (x : Fin 16384 → Fin 6144 → EReal) : Vec Ideal S16384x2048 .bf16 := fun j =>
  (RetSpec.y x (lgKer ((j 1).val / 512)) ((j 0).val / 2048) ((j 1).val / 512) ((j 0).val % 2048 / 128) ((j 0).val % 2048 % 128)
    ((j 1).val % 512) : EReal)

/-- The kernel's second result, index by index. -/
def stateK (x : Fin 16384 → Fin 6144 → EReal) : Vec Ideal S8x4x256x512 .f32 := fun j =>
  RetSpec.st x (lgKer (j 1).val) (j 0).val (j 1).val 16 (j 2).val (j 3).val

/-- A point's block of the first result. -/
theorem out_at (t : Fin cfg0.N) (y : S128x512.Idx) : ((outsAt0 m c t.val t.isLt).1 : Vec Ideal S128x512 .bf16) y
    = (RetSpec.y (proj m c) (lgKer (t.val / 16 % 4)) (t.val / 64) (t.val / 16 % 4) (t.val % 16) (y 0).val (y 1).val : EReal) := by
  idx_vars y
  rw [out_eq]
  exact out_pay _ _ _ _ _ _ _ _ _ _ _ (lg_blk m c t) (q_blk m c t) (k_blk m c t) (v_blk m c t) (g_blk m c t)
    (before_st m c t.val t.isLt) _ _

/-- The last block of the second result. -/
theorem state_at (t : Fin cfg0.N) (h1 : t.val % 16 = 15) (y : S1x1x256x512.Idx) :
    ((outsAt0 m c t.val t.isLt).2.1 : Vec Ideal S1x1x256x512 .f32) y
      = RetSpec.st (proj m c) (lgKer (t.val / 16 % 4)) (t.val / 64) (t.val / 16 % 4) 16 (y 2).val (y 3).val := by
  idx_vars y
  obtain rfl : y0 = 0 := Subsingleton.elim _ _
  obtain rfl : y1 = 0 := Subsingleton.elim _ _
  refine (last_eq m c t h1 y2 y3).trans ((after_st m c t y2 y3).trans ?_)
  rw [h1]

/-- The first result array after the run. -/
theorem final_out : (dats m 0 c).arrAt 5 cfg0.N = outK (proj m c) := by
  refine (dats m 0 c).arrAt_eq_of_covers 5 _ (by decide +kernel) fun t hf y => ?_
  have ht := (idx t).2.2.2.2.2.2.2
  have e0 : ((win0_5.blk t).view.emb y 0 : ℕ) = (t.val / 64 * 16 + t.val % 16) * 128 + (y 0).val := by blk_simp [idx t]
  have e1 : ((win0_5.blk t).view.emb y 1 : ℕ) = t.val / 16 % 4 * 512 + (y 1).val := by blk_simp [idx t]
  have h0 : (y 0).val < 128 := (y 0).isLt
  have h1 : (y 1).val < 512 := (y 1).isLt
  blk_simp
  rw [after0_5]
  refine (out_at m c t y).trans ?_
  unfold outK
  rw [e0, e1]
  have a0 : ((t.val / 64 * 16 + t.val % 16) * 128 + (y 0).val) / 2048 = t.val / 64 := by omega
  have a1 : ((t.val / 64 * 16 + t.val % 16) * 128 + (y 0).val) % 2048 / 128 = t.val % 16 := by omega
  have a2 : ((t.val / 64 * 16 + t.val % 16) * 128 + (y 0).val) % 2048 % 128 = (y 0).val := by omega
  have a3 : (t.val / 16 % 4 * 512 + (y 1).val) / 512 = t.val / 16 % 4 := by omega
  have a4 : (t.val / 16 % 4 * 512 + (y 1).val) % 512 = (y 1).val := by omega
  rw [a0, a1, a2, a3, a4]

/-- The second result array after the run. -/
theorem final_state : (dats m 0 c).arrAt 6 cfg0.N = stateK (proj m c) := by
  refine (dats m 0 c).arrAt_eq_of_covers 6 _ (by decide +kernel) fun t hf y => ?_
  have h1 : t.val % 16 = 15 := (flush0_6 t).mp hf
  have e0 : ((win0_6.blk t).view.emb y 0 : ℕ) = t.val / 64 := by blk_simp [idx t]
  have e1 : ((win0_6.blk t).view.emb y 1 : ℕ) = t.val / 16 % 4 := by blk_simp [idx t]
  have e2 : ((win0_6.blk t).view.emb y 2 : ℕ) = (y 2).val := by blk_simp [idx t]
  have e3 : ((win0_6.blk t).view.emb y 3 : ℕ) = (y 3).val := by blk_simp [idx t]
  blk_simp
  rw [after0_6]
  refine (state_at m c t h1 y).trans ?_
  unfold stateK
  rw [e0, e1, e2, e3]

end Cert.RetentionIdeal.Blocks

end
-- ==== Proof.RetRef.lean ====
module

public import proofs.«01_k».proof.Proof.Gen.RetentionReferenceIdeal.Run
public import proofs.«01_k».proof.Proof.Gen.RetentionReferenceIdeal.Step
public import proofs.«01_k».proof.Proof.RetSpec
public import Idealize.ShloMosaic.Lib.Pointwise
public import Idealize.ShloMosaic.Lib.DynamicIndex
public import Idealize.ShloMosaic.Lib.Pipeline.Value

@[expose] public section

/-! # The retention reference, read at an index

The scan's sixteen trips are followed by induction: before trip `n` the carried state is `RetSpec.st … n`, and the chunks of the
stacked outputs below `n` are `RetSpec.o`. -/

set_option maxRecDepth 16384

noncomputable section

open Idealize.ShloMosaic Idealize.ShloMosaic.TcCoe Idealize.SL.Sem Idealize.ShloMosaic.StableHlo

namespace Cert.RetentionReferenceIdeal.Scan

open Cert.RetentionReferenceIdeal Cert.RetentionReferenceIdeal.Gen Cert.RetentionReferenceIdeal.Value

/-- The start of a trip's slice, as the integer it is read as. -/
theorem start_eq (n : Fin 16) (k : Fin 5) :
    ((((![constantI S_ 32 (BitVec.ofNat 32 n.val), constantI S_ 32 0#32, constantI S_ 32 0#32, constantI S_ 32 0#32,
      constantI S_ 32 0#32] : Fin 5 → (⟨S_, .i32⟩ : BufTy).Contents (Elt Ideal))) k (Shape.Idx.first h_S_)).toInt)
      = ((![n.val, 0, 0, 0, 0] : Fin 5 → ℕ) k : ℤ) := by
  show ((((![fun _ => (BitVec.ofNat 32 n.val), fun _ => 0#32, fun _ => 0#32, fun _ => 0#32, fun _ => 0#32] :
      Fin 5 → (⟨S_, .i32⟩ : BufTy).Contents (Elt Ideal))) k (Shape.Idx.first h_S_)).toInt)
      = ((![n.val, 0, 0, 0, 0] : Fin 5 → ℕ) k : ℤ)
  fin_cases k <;> revert n <;> simp <;> decide

/-- The chunks of queries the trips read. -/
abbrev qs (V0 : Valuation τ sig (Elt Ideal)) : Vec Ideal S16x8x128x4x256 .f32 := V0 (Proc.devRef .tc main_v24_0)
/-- The chunks of scaled keys the trips read. -/
abbrev ks (V0 : Valuation τ sig (Elt Ideal)) : Vec Ideal S16x8x128x4x256 .f32 := V0 (Proc.devRef .tc main_v24_1)
/-- The chunks of values the trips read. -/
abbrev vs (V0 : Valuation τ sig (Elt Ideal)) : Vec Ideal S16x8x128x4x512 .f32 := V0 (Proc.devRef .tc main_v24_2)
/-- The logarithms of the heads' decays. -/
abbrev lgs (V0 : Valuation τ sig (Elt Ideal)) : Vec Ideal S4 .f32 := V0 (Proc.devRef .tc main_v24_3)
/-- The carried state. -/
abbrev state (V0 : Valuation τ sig (Elt Ideal)) : Vec Ideal S8x4x256x512 .f32 := V0 (Proc.devRef .tc main_v24_5)
/-- The stacked outputs. -/
abbrev outs (V0 : Valuation τ sig (Elt Ideal)) : Vec Ideal S16x8x128x4x512 .f32 := V0 (Proc.devRef .tc main_v24_6)

section Trip

variable (V0 : Valuation τ sig (Elt Ideal)) (n : Fin 16)
  (hn : V0 (Proc.devRef .tc main_v24_4) = constantI S_ 32 (BitVec.ofNat 32 n.val))

include hn

/-- Trip `n` reads chunk `n` of the queries. -/
theorem q_read (b : Fin 8) (i : Fin 128) (h : Fin 4) (d : Fin 256) :
    res_main_while0b_v42 V0 (ix4 b i h d) = qs V0 (ix5 n b i h d) := by
  unfold res_main_while0b_v42
  rw [hn, Host.dynamicSlice_eq_extractStridedSlice _ _ _ ![n.val, 0, 0, 0, 0] _ (by clear hn; revert n; decide) (start_eq n)]
  pointwise []

/-- Trip `n` reads chunk `n` of the keys. -/
theorem k_read (b : Fin 8) (i : Fin 128) (h : Fin 4) (d : Fin 256) :
    res_main_while0b_v43 V0 (ix4 b i h d) = ks V0 (ix5 n b i h d) := by
  unfold res_main_while0b_v43
  rw [hn, Host.dynamicSlice_eq_extractStridedSlice _ _ _ ![n.val, 0, 0, 0, 0] _ (by clear hn; revert n; decide) (start_eq n)]
  pointwise []

/-- Trip `n` reads chunk `n` of the values. -/
theorem v_read (b : Fin 8) (i : Fin 128) (h : Fin 4) (e : Fin 512) :
    res_main_while0b_v44 V0 (ix4 b i h e) = vs V0 (ix5 n b i h e) := by
  unfold res_main_while0b_v44
  rw [hn, Host.dynamicSlice_eq_extractStridedSlice _ _ _ ![n.val, 0, 0, 0, 0] _ (by clear hn; revert n; decide) (start_eq n)]
  pointwise []

/-- The carried state after a trip, at an index. -/
theorem state_read (b : Fin 8) (h : Fin 4) (d : Fin 256) (e : Fin 512) :
    step_main_v24_5 V0 (ix4 b h d e)
      = (Ideal.exp (Ideal.ofBits .f32 0x43000000#32 * lgs V0 (ix1 h)) * state V0 (ix4 b h d e)
        + ∑ j : Fin 128, ks V0 (ix5 n b j h d)
          * Ideal.exp ((Ideal.ofBits .f32 0x42FE0000#32 - RetSpec.pos j) * lgs V0 (ix1 h))
          * vs V0 (ix5 n b j h e) : EReal) := by
  pointwise [step_main_v24_5, id, res_main_while0b_v46]
  simp only [k_read V0 n hn, v_read V0 n hn]
  rfl

/-- The stacked outputs after a trip: trip `n` writes chunk `n` and keeps the others. -/
theorem out_read (a : Fin 16) (b : Fin 8) (i : Fin 128) (h : Fin 4) (e : Fin 512) :
    step_main_v24_6 V0 (ix5 a b i h e)
      = (if a = n then
          (∑ j : Fin 128, vs V0 (ix5 n b j h e)
              * ((∑ d : Fin 256, qs V0 (ix5 n b i h d) * ks V0 (ix5 n b j h d))
                * RetSpec.mask (lgs V0 (ix1 h)) i j))
            + (∑ d : Fin 256, state V0 (ix4 b h d e) * qs V0 (ix5 n b i h d))
              * Ideal.exp ((RetSpec.pos i + 1) * lgs V0 (ix1 h))
        else outs V0 (ix5 a b i h e) : EReal) := by
  have key : ∀ (x : Vec Ideal S16x8x128x4x512 .f32) (u : Vec Ideal S1x8x128x4x512 .f32),
      Host.dynamicUpdateSlice x u (fun k => (((![constantI S_ 32 (BitVec.ofNat 32 n.val), constantI S_ 32 0#32, constantI S_ 32 0#32,
        constantI S_ 32 0#32, constantI S_ 32 0#32] : Fin 5 → (⟨S_, .i32⟩ : BufTy).Contents (Elt Ideal))) k (Shape.Idx.first h_S_)).toInt)
        updateFits_S16x8x128x4x512_S1x8x128x4x512 (ix5 a b i h e)
      = if a = n then u (ix5 0 b i h e) else x (ix5 a b i h e) := by
    intro x u
    rw [Host.dynamicUpdateSlice_eq_updateSlice _ _ _ _ ![n.val, 0, 0, 0, 0]
      (fun a => by rw [start_eq]; clear hn; revert n a; decide) (by clear hn; revert n; decide)]
    pointwise []
    by_cases ha : a = n
    · subst ha
      simp
    · have : ¬ (n.val ≤ a.val ∧ a.val < n.val + 1) := fun hh => ha (Fin.ext (by omega))
      simp only [dif_neg this, if_neg ha]
  unfold step_main_v24_6
  rw [hn]
  refine (key _ _).trans ?_
  split
  · pointwise [id, res_main_while0b_v46, res_main_while0b_v51]
    simp only [q_read V0 n hn, k_read V0 n hn, v_read V0 n hn]
    rfl
  · rfl

end Trip

/-- The projections of the argument, by row and column. -/
abbrev ofArg (X : Vec Ideal S16384x6144 .f32) : Fin 16384 → Fin 6144 → EReal := fun r c => X (ix2 r c)

/-- The logarithm of head `h`'s decay, `log1p (-2 ^ (-5 - h))`. -/
abbrev lgRef (h : Fin 4) : EReal := Step.K_main_v15 (F := Ideal) (ix1 h)

/-- The chunks of queries are the argument's first 1024 columns. -/
theorem q_entry (X : Vec Ideal S16384x6144 .f32) (n : Fin 16) (b : Fin 8) (i : Fin 128) (h : Fin 4) (d : Fin 256) :
    Step.A_main_v18 X (ix5 n b i h d) = RetSpec.q (ofArg X) b h n i d := by
  pointwise [Step.A_main_v18, Step.A_main_v17, Step.A_main_v1, Step.A_main_v0]
  exact RetSpec.ent_of (ofArg X) _ _ (by omega) (by omega)

/-- The chunks of keys are the next 1024, scaled. -/
theorem k_entry (X : Vec Ideal S16384x6144 .f32) (n : Fin 16) (b : Fin 8) (i : Fin 128) (h : Fin 4) (d : Fin 256) :
    Step.A_main_v20 X (ix5 n b i h d) = RetSpec.k (ofArg X) b h n i d := by
  pointwise [Step.A_main_v20, Step.A_main_v19, Step.A_main_v5, Step.K_main_v4, Step.K_main_cst, Step.A_main_v3, Step.A_main_v2]
  exact congrArg (· * _) (RetSpec.ent_of (ofArg X) _ _ (by omega) (by omega))

/-- The chunks of values are the 2048 after these. -/
theorem v_entry (X : Vec Ideal S16384x6144 .f32) (n : Fin 16) (b : Fin 8) (i : Fin 128) (h : Fin 4) (e : Fin 512) :
    Step.A_main_v22 X (ix5 n b i h e) = RetSpec.v (ofArg X) b h n i e := by
  pointwise [Step.A_main_v22, Step.A_main_v21, Step.A_main_v7, Step.A_main_v6]
  exact RetSpec.ent_of (ofArg X) _ _ (by omega) (by omega)

/-- What holds before trip `n`. -/
structure Inv (X : Vec Ideal S16384x6144 .f32) (n : ℕ) (V0 : Valuation τ sig (Elt Ideal)) : Prop where
  num : V0 (Proc.devRef .tc main_v24_4) = constantI S_ 32 (BitVec.ofNat 32 n)
  q : ∀ (n : Fin 16) (b : Fin 8) (i : Fin 128) (h : Fin 4) (d : Fin 256), qs V0 (ix5 n b i h d) = RetSpec.q (ofArg X) b h n i d
  k : ∀ (n : Fin 16) (b : Fin 8) (i : Fin 128) (h : Fin 4) (d : Fin 256), ks V0 (ix5 n b i h d) = RetSpec.k (ofArg X) b h n i d
  v : ∀ (n : Fin 16) (b : Fin 8) (i : Fin 128) (h : Fin 4) (e : Fin 512), vs V0 (ix5 n b i h e) = RetSpec.v (ofArg X) b h n i e
  lg : ∀ h : Fin 4, lgs V0 (ix1 h) = lgRef h
  st : ∀ (b : Fin 8) (h : Fin 4) (d : Fin 256) (e : Fin 512), state V0 (ix4 b h d e) = RetSpec.st (ofArg X) (lgRef h) b h n d e
  out : ∀ (a : Fin 16) (b : Fin 8) (i : Fin 128) (h : Fin 4) (e : Fin 512), a.val < n →
    outs V0 (ix5 a b i h e) = RetSpec.o (ofArg X) (lgRef h) b h a i e

/-- One trip takes the invariant from `n` to `n + 1`. -/
theorem Inv.step {X : Vec Ideal S16384x6144 .f32} {n : ℕ} (hn : n < 16) {V0 : Valuation τ sig (Elt Ideal)} (H : Inv X n V0) :
    Inv X (n + 1) (STEP V0) where
  num := by
    rw [STEP_main_v24_4, step_main_v24_4, H.num]
    funext j
    exact BitVec.ofNat_add_ofNat n 1
  q := by
    intros; rw [qs, STEP_main_v24_0, ← H.q]
  k := by
    intros; rw [ks, STEP_main_v24_1, ← H.k]
  v := by
    intros; rw [vs, STEP_main_v24_2, ← H.v]
  lg := by
    intros; rw [lgs, STEP_main_v24_3, ← H.lg]
  st := by
    intro b h d e
    rw [state, STEP_main_v24_5, state_read V0 ⟨n, hn⟩ H.num]
    simp only [H.k, H.v, H.lg, H.st]
    rfl
  out := by
    intro a b i h e ha
    rw [outs, STEP_main_v24_6, out_read V0 ⟨n, hn⟩ H.num]
    split
    · subst a
      simp only [H.k, H.v, H.q, H.lg, H.st]
      unfold RetSpec.o
      congr 1
      · refine Finset.sum_congr rfl fun j _ => mul_comm _ _
      · refine congrArg (· * _) (Finset.sum_congr rfl fun j _ => mul_comm _ _)
    · exact H.out a b i h e (by have : a.val ≠ n := fun hh => ‹¬ _› (Fin.ext hh); omega)

variable (m : (ℓ : Loc nD τ sig) → Buf (Elt Ideal) ℓ) (c : Dev nD)

set_option maxRecDepth 65536 in
set_option maxHeartbeats 300000 in
/-- The invariant holds on the loop's entry. -/
theorem inv_entry : Inv (m ((c.tc : Thread nD τ).loc main_arg0)) 0 (entryContents preI m c) := by
  constructor
  · (simp only [entryContents, afterL_cons, afterL_nil]; after_reads_simp) <;> rfl
  · intro n b i h d
    rw [← q_entry]
    refine congrFun ?_ _
    (simp only [qs, entryContents, afterL_cons, afterL_nil]; after_reads_simp) <;> rfl
  · intro n b i h d
    rw [← k_entry]
    refine congrFun ?_ _
    (simp only [ks, entryContents, afterL_cons, afterL_nil]; after_reads_simp) <;> rfl
  · intro n b i h d
    rw [← v_entry]
    refine congrFun ?_ _
    (simp only [vs, entryContents, afterL_cons, afterL_nil]; after_reads_simp) <;> rfl
  · intro h
    refine congrFun ?_ _
    (simp only [lgs, entryContents, afterL_cons, afterL_nil]; after_reads_simp) <;> rfl
  · intro b h d e
    have : state (entryContents preI m c) = Step.K_main_v16 := by
      (simp only [state, entryContents, afterL_cons, afterL_nil]; after_reads_simp) <;> rfl
    rw [this]
    pointwise [Step.K_main_v16, Step.K_main_cst_2, RetSpec.st]
  · intro a b i h e ha
    omega

/-- … and, carried along, before each of the sixteen trips and after the last. -/
theorem inv_iter : ∀ n ≤ 16, Inv (m ((c.tc : Thread nD τ).loc main_arg0)) n (STEP^[n] (entryContents preI m c))
  | 0, _ => inv_entry m c
  | n + 1, h => by
    rw [Function.iterate_succ_apply']
    exact (inv_iter n (by omega)).step (by omega)

/-- The reference's final state. -/
theorem ref_state (b : Fin 8) (h : Fin 4) (d : Fin 256) (e : Fin 512) :
    state (STEP^[16] (entryContents preI m c)) (ix4 b h d e)
      = RetSpec.st (ofArg (m ((c.tc : Thread nD τ).loc main_arg0))) (lgRef h) b h 16 d e :=
  (inv_iter m c 16 (le_refl _)).st b h d e

/-- What the operations after the loop make of stacked outputs and the argument, at an index. -/
theorem post_read (X : Vec Ideal S16384x6144 .f32) (s : Step.State Ideal)
    (hO : ∀ (a : Fin 16) (b : Fin 8) (i : Fin 128) (h : Fin 4) (e : Fin 512),
      s.main_v24_6 (ix5 a b i h e) = RetSpec.o (ofArg X) (lgRef h) b h a i e) (r : Fin 16384) (w : Fin 2048) :
    Step.R_main_v41 s X (ix2 r w)
      = (RetSpec.y (ofArg X) (lgRef ⟨w.val / 512, by omega⟩) (r.val / 2048) (w.val / 512)
          (r.val % 2048 / 128) (r.val % 2048 % 128) (w.val % 512) : EReal) := by
  pointwise [Step.R_main_v41]
  simp only [hO]
  have hg : X (ix2 r ⟨4096 + w.val, by omega⟩) = RetSpec.ent (ofArg X)
      (r.val / 2048 * 2048 + (r.val % 2048 / 128 * 128 + r.val % 2048 % 128)) (4096 + (w.val / 512 * 512 + w.val % 512)) := by
    have h1 : r.val / 2048 * 2048 + (r.val % 2048 / 128 * 128 + r.val % 2048 % 128) = r.val := by omega
    have h2 : w.val / 512 * 512 + w.val % 512 = w.val := by omega
    rw [h1, h2]
    exact RetSpec.ent_eq (ofArg X) r ⟨4096 + w.val, by omega⟩
  simp only [hg]
  rfl

/-- The reference's first result is the operations after the loop of its final state and the argument. -/
theorem out_eq (V0 : Valuation τ sig (Elt Ideal)) :
    out_main_v41 V0 = Step.R_main_v41 ⟨state V0, outs V0, qs V0, ks V0, vs V0⟩ (V0 (Proc.devRef .tc main_arg0)) := rfl

/-- The reference's first result after the loop, at an index. -/
theorem out_of_inv {X : Vec Ideal S16384x6144 .f32} {V0 : Valuation τ sig (Elt Ideal)} (H : Inv X 16 V0)
    (hX : V0 (Proc.devRef .tc main_arg0) = X) (r : Fin 16384) (w : Fin 2048) :
    out_main_v41 V0 (ix2 r w)
      = (RetSpec.y (ofArg X) (lgRef ⟨w.val / 512, by omega⟩) (r.val / 2048) (w.val / 512)
          (r.val % 2048 / 128) (r.val % 2048 % 128) (w.val % 512) : EReal) := by
  subst hX
  exact post_read (V0 (Proc.devRef .tc main_arg0)) ⟨state V0, outs V0, qs V0, ks V0, vs V0⟩ (fun a b i h e => H.out a b i h e a.isLt) r w

/-- The reference's first result, at an index. -/
theorem ref_out (r : Fin 16384) (w : Fin 2048) :
    out_main_v41 (STEP^[16] (entryContents preI m c)) (ix2 r w)
      = (RetSpec.y (ofArg (m ((c.tc : Thread nD τ).loc main_arg0))) (lgRef ⟨w.val / 512, by omega⟩) (r.val / 2048) (w.val / 512)
          (r.val % 2048 / 128) (r.val % 2048 % 128) (w.val % 512) : EReal) := by
  have H := inv_iter m c 16 (le_refl _)
  have hX := iter_main_arg0 m c 16
  generalize STEP^[16] (entryContents preI m c) = V0 at H hX ⊢
  exact out_of_inv H hX r w

end Cert.RetentionReferenceIdeal.Scan

end
-- ==== Proof.RetValue.lean ====
module

public import proofs.«01_k».proof.Defs
public import proofs.«01_k».proof.Proof.RetKernel
public import proofs.«01_k».proof.Proof.RetRef
public import Idealize.ShloMosaic.Lib.Quiescent

@[expose] public section

/-! # The retention kernel computes the reference's retention -/

set_option maxRecDepth 16384

noncomputable section

open Idealize.ShloMosaic Idealize.ShloMosaic.TcCoe Idealize.SL.Sem

namespace Cert.Proof.Retention

/-- Both programs compute one logarithm of the decay. -/
theorem lg_eq (h : Fin 4) : RetentionReferenceIdeal.Scan.lgRef h = RetentionIdeal.Blocks.lgKer h := by
  pointwise [RetentionReferenceIdeal.Step.K_main_v15, RetentionReferenceIdeal.Step.K_main_v14, RetentionReferenceIdeal.Step.K_main_v13,
    RetentionReferenceIdeal.Step.K_main_v12, RetentionReferenceIdeal.Step.K_main_v11, RetentionReferenceIdeal.Step.K_main_v10,
    RetentionReferenceIdeal.Step.K_main_v9, RetentionReferenceIdeal.Step.K_main_v8, RetentionReferenceIdeal.Step.K_main_cst_0, RetentionReferenceIdeal.Step.K_main_cst_1,
    RetentionIdeal.Blocks.lgKer, RetentionReferenceIdeal.Scan.lgRef]

open RetentionReferenceIdeal RetentionReferenceIdeal.Value in
/-- The reference's results, index by index, are the kernel's. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = RetentionIdeal.Blocks.outK (Scan.ofArg (m ((c.tc : Thread nD τ).loc main_arg0)))
      ∧ r.2.mem ((c.tc : Thread nD τ).loc main_v24_5) = RetentionIdeal.Blocks.stateK (Scan.ofArg (m ((c.tc : Thread nD τ).loc main_arg0)))
      ∧ r.2.mem ((c.tc : Thread nD τ).loc main_arg0) = m ((c.tc : Thread nD τ).loc main_arg0) :=
  (θ_run defs _ _).mono (fun r h c => ⟨(h c).1.trans (by
      funext j
      change S16384x2048.Idx at j
      idx_vars j
      refine (Scan.ref_out m c _ _).trans ?_
      rw [lg_eq]
      rfl), (h c).2.1.trans (by
      funext j
      change S8x4x256x512.Idx at j
      idx_vars j
      refine (Scan.ref_state m c _ _ _ _).trans ?_
      rw [lg_eq]
      rfl), (h c).2.2⟩) (run m ρ)

/-- The kernel's two result arrays and the reference's are equal. -/
theorem algebraic : Cert.algebraic_RetentionIdeal_RetentionReferenceIdeal :=
  fun m ρ m' ρ' _ hag =>
    ⟨fun c => RetentionIdeal.Blocks.outK (RetentionIdeal.Blocks.proj m c),
      fun c => RetentionIdeal.Blocks.stateK (RetentionIdeal.Blocks.proj m c),
      (θ_run _ _ _).mono (fun _ h c => ⟨(h c).1.trans (RetentionIdeal.Blocks.final_out m c),
        (h c).2.1.trans (RetentionIdeal.Blocks.final_state m c), (h c).2.2⟩) (RetentionIdeal.Value.run_blocks m ρ),
      (θ_run _ _ _).mono (fun _ h c => ⟨(h c).1.trans (by rw [hag c]), (h c).2.1.trans (by rw [hag c]), (h c).2.2⟩)
        (ref_run m' ρ')⟩

/-- The reference runs to its end and leaves its argument and every counter as they were. -/
theorem quiescent : Cert.quiescent_RetentionReferenceIdeal :=
  fun m ρ _ => (θ_run _ _ _).mono (fun r h => ⟨fun c => (h c).2.2, Idealize.ShloMosaic.sem_eq_zero_of_no_sems (by decide) r.2⟩)
    (RetentionReferenceIdeal.Value.run (F := Ideal) m ρ)

end Cert.Proof.Retention

end
-- ==== Proof.FfnForm.lean ====
module

public import proofs.«01_k».proof.Proof.Gen.FfnIdeal.Value
public import Idealize.ShloMosaic.Lib.Pointwise
public import Idealize.ShloMosaic.Lib.Pipeline.ValueKit
public import Idealize.ShloMosaic.Lib.Pipeline.ReadBack

@[expose] public section

/-! # One tile of the feed-forward kernel: eleven times one chunk

The body handles 256 columns of the hidden layer at a time. Every chunk is one function of the tile's blocks and of the chunk's
first column; this module states that function and says that the tile's results are made of it. -/

set_option maxRecDepth 16384

noncomputable section

open Idealize.ShloMosaic Idealize.ShloMosaic.TcCoe Idealize.SL.Sem
open Idealize.ShloMosaic.Pipeline (Dat)

namespace Cert.FfnIdeal.Blocks

open Cert.FfnIdeal Cert.FfnIdeal.Gen

/-- Columns `o` to `o + 255` of the first weight. -/
def wIn (x : Vec Ideal S1024x5632 .bf16) (o : ℕ) (h : o + 256 ≤ 5632) : Vec Ideal S1024x256 .bf16 :=
  View.ld x (Rect.unit (s := S1024x5632) ![0, o] S1024x256.size (by intro a; fin_cases a <;> simp <;> omega))

/-- Columns `o` to `o + 255` of the convolution's taps. -/
def taps (x : Vec Ideal S3x5632 .f32) (o : ℕ) (h : o + 256 ≤ 5632) : Vec Ideal S3x256 .f32 :=
  View.ld x (Rect.unit (s := S3x5632) ![0, o] S3x256.size (by intro a; fin_cases a <;> simp <;> omega))

/-- Columns `o` to `o + 255` of the convolution's bias. -/
def bias (x : Vec Ideal S1x5632 .f32) (o : ℕ) (h : o + 256 ≤ 5632) : Vec Ideal S1x256 .f32 :=
  View.ld x (Rect.unit (s := S1x5632) ![0, o] S1x256.size (by intro a; fin_cases a <;> simp <;> omega))

/-- Columns `o` to `o + 255` of the two rows before the tile. -/
def prev (x : Vec Ideal S1x2x5632 .f32) (o : ℕ) (h : o + 256 ≤ 5632) : Vec Ideal S1x2x256 .f32 :=
  View.ld x (Rect.unit (s := S1x2x5632) ![0, 0, o] S1x2x256.size (by intro a; fin_cases a <;> simp <;> omega))

/-- Rows `o` to `o + 255` of the second weight. -/
def wOut (x : Vec Ideal S2816x1024 .bf16) (o : ℕ) (h : o + 256 ≤ 2816) : Vec Ideal S256x1024 .bf16 :=
  View.ld x (Rect.unit (s := S2816x1024) ![o, 0] S256x1024.size (by intro a; fin_cases a <;> simp <;> omega))

/-- The mask of a tile's second row. -/
def row1 : IVec S1x512x256 1 := k0_pay6 (iota .tc S1x512x256 32 [1] iota_S1x512x256_d1_w32) 1#32

section Chunk

variable (h : Vec Ideal S512x1024 .bf16) (x5 : Vec Ideal S1024x5632 .bf16) (x6 : Vec Ideal S3x5632 .f32) (x7 : Vec Ideal S1x5632 .f32)
  (p : Vec Ideal S1x2x5632 .f32) (x9 : Vec Ideal S2816x1024 .bf16)

/-- The convolved columns `o` to `o + 255`. -/
def conv (o : ℕ) (ho : o + 256 ≤ 5632) : FVec Ideal S512x256 .f32 :=
  k0_pay48 (k0_pay49 h (wIn x5 o ho)) (k0_pay52 k0_pay5 h (wIn x5 o ho) (prev p o ho))
    (k0_pay53 k0_pay5 row1 h (wIn x5 o ho) (prev p o ho)) (taps x6 o ho) (bias x7 o ho)

/-- The chunk that begins with column `o`: its part of the second product. -/
def chunk (o : ℕ) (ho : o + 256 ≤ 2816) : FVec Ideal S512x1024 .f32 :=
  k0_pay56 (conv h x5 x6 x7 p o (by omega)) (k0_pay49 h (wIn x5 (2816 + o) (by omega)))
    (k0_pay52 k0_pay5 h (wIn x5 (2816 + o) (by omega)) (prev p (2816 + o) (by omega)))
    (k0_pay53 k0_pay5 row1 h (wIn x5 (2816 + o) (by omega)) (prev p (2816 + o) (by omega)))
    (taps x6 (2816 + o) (by omega)) (bias x7 (2816 + o) (by omega)) (wOut x9 o ho)

/-- The accumulator after chunk `n`. -/
def accs : (n : ℕ) → n < 11 → FVec Ideal S512x1024 .f32
  | 0, _ => shapeCast S512x1024 (chunk h x5 x6 x7 p x9 0 (by omega)) shapeCasts_S512x1024_S512x1024
  | n + 1, hn => k0_pay57 (chunk h x5 x6 x7 p x9 ((n + 1) * 256) (by omega)) (accs n (by omega))

end Chunk

variable (m : (ℓ : Loc nD τ sig) → Buf (Elt Ideal) ℓ) (c : Dev nD)

/-- The two rows before tile `t`: the tile before left them, or, at a sequence's first tile, the buffer holds them. -/
def before (t : Fin cfg0.N) : Vec Ideal S1x2x5632 .f32 :=
  if t.val % 4 = 0 then k0_pay2 (iblk m c 8 t) else (outsAt0 m c (t.val - 1) (Nat.lt_of_le_of_lt (Nat.sub_le _ _) t.isLt)).2.2

/-- The tile's normed and modulated rows. -/
def hid (t : Fin cfg0.N) : Vec Ideal S512x1024 .bf16 := k0_pay4 (iblk m c 0 t) (iblk m c 1 t) (iblk m c 2 t) (iblk m c 3 t)

/-- Two functions that agree, at arguments that agree. -/
theorem peel {A B : Type} {f g : A → B} {a b : A} (h : a = b) (e : ∀ x, f x = g x) : f a = g b := h ▸ e a

/-- What a tile leaves in the first output's block. -/
theorem out_eq (t : Fin cfg0.N) : (outsAt0 m c t.val t.isLt).1
    = k0_pay1 (k0_pay3 (iblk m c 0 t)) (accs (hid m c t) (iblk m c 5 t) (iblk m c 6 t) (iblk m c 7 t) (before m c t) (iblk m c 9 t) 10 (by omega))
        (k0_pay187 (iblk m c 4 t)) (iblk m c 10 t) := by
  by_cases h0 : t.val % 4 = 0
  on_goal 1 =>
    rw [outsAt0_A m c t h0]
    frame_out
    rw [before, if_pos h0]
    simp (disch := first | decide | (intro a; fin_cases a <;> rfl))
      only [↓View.readCov_skip, View.readCov_fill]
    simp only [accs]
    generalize k0_pay2 (iblk m c 8 t) = p
  on_goal 2 =>
    rw [outsAt0_B m c t h0]
    frame_out
    rw [before, if_neg h0, read_unread_whole]
    simp only [accs]
    generalize (outsAt0 m c (t.val - 1) _).2.2 = p
  all_goals
    unfold hid
    generalize k0_pay4 (iblk m c 0 t) (iblk m c 1 t) (iblk m c 2 t) (iblk m c 3 t) = h
    generalize iblk m c 5 t = x5
    generalize iblk m c 6 t = x6
    generalize iblk m c 7 t = x7
    generalize iblk m c 9 t = x9
    refine congr (congr (congr (congrArg _ rfl) ?_) rfl) rfl
    iterate 10 refine peel ?_ fun _ => ?_
    all_goals
      dsimp only [chunk, conv, wIn, taps, bias, prev, wOut, row1, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29,
        k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53,
        k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77,
        k0_pay78, k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145,
        k0_pay146, k0_pay147, k0_pay148, k0_pay149, k0_pay150, k0_pay151, k0_pay152, k0_pay153, k0_pay154, k0_pay155, k0_pay156,
        k0_pay157, k0_pay158, k0_pay159, k0_pay160, k0_pay161, k0_pay162, k0_pay163, k0_pay164, k0_pay165, k0_pay166, k0_pay167,
        k0_pay168, k0_pay169, k0_pay170, k0_pay171, k0_pay172, k0_pay173, k0_pay174, k0_pay175, k0_pay176, k0_pay177, k0_pay178,
        k0_pay179, k0_pay180, k0_pay181, k0_pay182, k0_pay183, k0_pay184, k0_pay185, k0_pay186]

/-- The last two rows of a tile, before the convolution. -/
def tail (h : Vec Ideal S512x1024 .bf16) (x5 : Vec Ideal S1024x5632 .bf16) : Vec Ideal S1x2x5632 .f32 :=
  fun y => ∑ k : Fin 1024, (h (ix2 (⟨510 + (y 1).val, by have := (y 1).isLt; change _ < 2 at this; omega⟩ : Fin 512) k) * x5 (ix2 k (y 2)) : EReal)

/-- One chunk's part of them. -/
theorem tail_chunk (h : Vec Ideal S512x1024 .bf16) (x5 : Vec Ideal S1024x5632 .bf16) (o : ℕ) (ho : o + 256 ≤ 5632)
    (inb : ∀ a, ![0, 0, o] a + ![1, 2, 256] a ≤ S1x2x5632.size a) (x : S1x2x256.Idx) :
    k0_pay55 (k0_pay51 h (wIn x5 o ho)) x = tail h x5 ((Rect.unit (s := S1x2x5632) ![0, 0, o] ![1, 2, 256] inb).emb x) := by
  idx_vars x
  pointwise [k0_pay55, k0_pay51, k0_pay54, k0_pay49, wIn, tail]
  have e1 : (((Rect.unit (s := S1x2x5632) ![0, 0, o] ![1, 2, 256] inb).emb (ix3 x0 x1 x2) 1 : Fin _) : ℕ) = x1.val := by
    simp [Rect.emb, Rect.unit]
  have e2 : (((Rect.unit (s := S1x2x5632) ![0, 0, o] ![1, 2, 256] inb).emb (ix3 x0 x1 x2) 2 : Fin _) : ℕ) = o + x2.val := by
    simp [Rect.emb, Rect.unit]
  refine Finset.sum_congr rfl fun k _ => ?_
  congr 3
  · exact Fin.ext (by simp only [e1]; omega)
  · exact Fin.ext (by simp only [e2])

/-- A list of stores whose newest is one chunk's part of the rows: it leaves the rows if the earlier ones do so outside of that part. -/
theorem canon_step {h : Vec Ideal S512x1024 .bf16} {x5 : Vec Ideal S1024x5632 .bf16} {o : ℕ}
    {inb : ∀ a, ![0, 0, o] a + ![1, 2, 256] a ≤ S1x2x5632.size a} {w : Vec Ideal S1x2x256 .f32} {L : List (View.Piece (Elt Ideal) S1x2x5632 .f32)}
    {y : S1x2x5632.Idx} (ho : o + 256 ≤ 5632) (hw : w = k0_pay55 (k0_pay51 h (wIn x5 o ho)))
    (hL : (y 2).val < o ∨ o + 256 ≤ (y 2).val → View.canon L y = tail h x5 y) :
    View.canon (⟨Rect.unit ![0, 0, o] ![1, 2, 256] inb, w⟩ :: L) y = tail h x5 y := by
  by_cases hm : y ∈ (Rect.unit (s := S1x2x5632) ![0, 0, o] ![1, 2, 256] inb).set
  · obtain ⟨x, rfl⟩ := (Rect.unit (s := S1x2x5632) ![0, 0, o] ![1, 2, 256] inb).exists_idx_of_mem hm
    subst hw
    exact (View.canon_cons_emb _ _ _ x).trans (tail_chunk h x5 o ho inb x)
  · refine (View.canon_cons_of_not_mem (⟨Rect.unit ![0, 0, o] ![1, 2, 256] inb, w⟩ : View.Piece (Elt Ideal) S1x2x5632 .f32) L hm).trans ?_
    refine hL (by_contra fun hn => hm (Rect.mem_set_unit.mpr fun a => ?_))
    have h0 : (y 0).val < 1 := (y 0).isLt
    have h1 : (y 1).val < 2 := (y 1).isLt
    fin_cases a <;> simp <;> omega

/-- The same of a store that writes the part without a reshape. -/
theorem canon_step' {h : Vec Ideal S512x1024 .bf16} {x5 : Vec Ideal S1024x5632 .bf16} {o : ℕ}
    {inb : ∀ a, ![0, 0, o] a + ![1, 2, 256] a ≤ S1x2x5632.size a} {w : Vec Ideal S1x2x256 .f32} {L : List (View.Piece (Elt Ideal) S1x2x5632 .f32)}
    {y : S1x2x5632.Idx} (ho : o + 256 ≤ 5632) (hw : w = k0_pay54 (k0_pay51 h (wIn x5 o ho)))
    (hL : (y 2).val < o ∨ o + 256 ≤ (y 2).val → View.canon L y = tail h x5 y) :
    View.canon (⟨Rect.unit ![0, 0, o] ![1, 2, 256] inb, w⟩ :: L) y = tail h x5 y :=
  canon_step ho (hw.trans (shapeCast_id _ _).symm) hL

/-- What a tile leaves for the next one: its last two rows. -/
theorem scr_eq (t : Fin cfg0.N) : (outsAt0 m c t.val t.isLt).2.2 = tail (hid m c t) (iblk m c 5 t) := by
  unfold hid
  funext y
  have h2 : (y 2).val < 5632 := (y 2).isLt
  by_cases h0 : t.val % 4 = 0
  · rw [outsAt0_A m c t h0]
    frame_out
    generalize k0_pay4 (iblk m c 0 t) (iblk m c 1 t) (iblk m c 2 t) (iblk m c 3 t) = h
    generalize iblk m c 5 t = x5
    iterate 22 refine canon_step (by omega) rfl fun _ => ?_
    omega
  · rw [outsAt0_B m c t h0]
    frame_out
    generalize k0_pay4 (iblk m c 0 t) (iblk m c 1 t) (iblk m c 2 t) (iblk m c 3 t) = h
    generalize iblk m c 5 t = x5
    iterate 22 refine canon_step (by omega) rfl fun _ => ?_
    omega

/-- What a tile leaves in the second output's block: its last two rows. -/
theorem new_eq (t : Fin cfg0.N) : (outsAt0 m c t.val t.isLt).2.1 = tail (hid m c t) (iblk m c 5 t) := by
  unfold hid
  funext y
  have h2 : (y 2).val < 5632 := (y 2).isLt
  by_cases h0 : t.val % 4 = 0
  · rw [outsAt0_A m c t h0]
    frame_out
    generalize k0_pay4 (iblk m c 0 t) (iblk m c 1 t) (iblk m c 2 t) (iblk m c 3 t) = h
    generalize iblk m c 5 t = x5
    iterate 22 refine canon_step' (by omega) rfl fun _ => ?_
    omega
  · rw [outsAt0_B m c t h0]
    frame_out
    generalize k0_pay4 (iblk m c 0 t) (iblk m c 1 t) (iblk m c 2 t) (iblk m c 3 t) = h
    generalize iblk m c 5 t = x5
    iterate 22 refine canon_step' (by omega) rfl fun _ => ?_
    omega

end Cert.FfnIdeal.Blocks

end
-- ==== Proof.FfnSpec.lean ====
module

public import Idealize.ShloMosaic.Lib.Pointwise

@[expose] public section

/-! # The feed-forward layer, as plain sums

The mathematics both programs compute, on arguments read at naturals (taken modulo the extents, which no use exceeds). -/

noncomputable section

open Idealize.ShloMosaic

namespace Cert.FfnSpec

/-- The layer's arguments by their coordinates as naturals. -/
structure Args where
  /-- The rows: sequence, token, channel. -/
  x : ℕ → ℕ → ℕ → EReal
  /-- The first norm's gain. -/
  g : ℕ → EReal
  /-- The modulation's shift, its scale and the residual's gate: sequence, channel. -/
  sh : ℕ → ℕ → EReal
  sc : ℕ → ℕ → EReal
  ga : ℕ → ℕ → EReal
  /-- The first weight. -/
  wi : ℕ → ℕ → EReal
  /-- The convolution's taps, its bias and the two rows before every sequence. -/
  cw : ℕ → ℕ → EReal
  cb : ℕ → EReal
  buf : ℕ → ℕ → ℕ → EReal
  /-- The second weight. -/
  wo : ℕ → ℕ → EReal
  /-- The last norm's gain. -/
  gf : ℕ → EReal

/-- A vector by natural coordinates. -/
def nat1 {n : ℕ} [NeZero n] (x : Fin n → EReal) (i : ℕ) : EReal := x (Fin.ofNat n i)
/-- A matrix by natural coordinates. -/
def nat2 {n k : ℕ} [NeZero n] [NeZero k] (x : Fin n → Fin k → EReal) (i j : ℕ) : EReal := x (Fin.ofNat n i) (Fin.ofNat k j)
/-- A stack of matrices by natural coordinates. -/
def nat3 {n k l : ℕ} [NeZero n] [NeZero k] [NeZero l] (x : Fin n → Fin k → Fin l → EReal) (h i j : ℕ) : EReal :=
  x (Fin.ofNat n h) (Fin.ofNat k i) (Fin.ofNat l j)

theorem fin_ofNat {n : ℕ} [NeZero n] {i j : ℕ} (h : i < n) (e : i = j) : (⟨i, h⟩ : Fin n) = Fin.ofNat n j := by
  subst e
  exact Fin.ext (Nat.mod_eq_of_lt h).symm

/-- An entry of a vector, its coordinate spelt in any way. -/
theorem nat1_of {n : ℕ} [NeZero n] (x : Fin n → EReal) {i i' : ℕ} (h : i < n) (e : i = i') : x ⟨i, h⟩ = nat1 x i' := by
  rw [fin_ofNat h e]
  rfl
/-- An entry of a matrix, its coordinates spelt in any way. -/
theorem nat2_of {n k : ℕ} [NeZero n] [NeZero k] (x : Fin n → Fin k → EReal) {i i' j j' : ℕ} (h : i < n) (hj : j < k) (e : i = i') (ej : j = j') :
    x ⟨i, h⟩ ⟨j, hj⟩ = nat2 x i' j' := by
  rw [fin_ofNat h e, fin_ofNat hj ej]
  rfl
/-- An entry of a stack, its coordinates spelt in any way. -/
theorem nat3_of {n k l : ℕ} [NeZero n] [NeZero k] [NeZero l] (x : Fin n → Fin k → Fin l → EReal) {a a' i i' j j' : ℕ}
    (ha : a < n) (h : i < k) (hj : j < l) (ea : a = a') (e : i = i') (ej : j = j') :
    x ⟨a, ha⟩ ⟨i, h⟩ ⟨j, hj⟩ = nat3 x a' i' j' := by
  rw [fin_ofNat ha ea, fin_ofNat h e, fin_ofNat hj ej]
  rfl

/-- The layer's arguments, from arrays. -/
def ofArrays {B T : ℕ} [NeZero B] [NeZero T] (x : Fin B → Fin T → Fin 1024 → EReal) (g : Fin 1024 → EReal) (sh sc ga : Fin B → Fin 1024 → EReal)
    (wi : Fin 1024 → Fin 5632 → EReal) (cw : Fin 3 → Fin 5632 → EReal) (cb : Fin 5632 → EReal) (buf : Fin B → Fin 2 → Fin 5632 → EReal)
    (wo : Fin 2816 → Fin 1024 → EReal) (gf : Fin 1024 → EReal) : Args :=
  ⟨nat3 x, nat1 g, nat2 sh, nat2 sc, nat2 ga, nat2 wi, nat2 cw, nat1 cb, nat3 buf, nat2 wo, nat1 gf⟩

/-- The layer's arguments, from the programs' arrays. -/
def ofArgs {B T : ℕ} [NeZero B] [NeZero T] (a0 : Vec Ideal ⟨3, ![B, T, 1024]⟩ .f32) (a1 : Vec Ideal ⟨1, ![1024]⟩ .f32)
    (a2 a3 a4 : Vec Ideal ⟨2, ![B, 1024]⟩ .f32) (a5 : Vec Ideal ⟨2, ![1024, 5632]⟩ .f32) (a6 : Vec Ideal ⟨2, ![3, 5632]⟩ .f32)
    (a7 : Vec Ideal ⟨1, ![5632]⟩ .f32) (a8 : Vec Ideal ⟨3, ![B, 2, 5632]⟩ .f32) (a9 : Vec Ideal ⟨2, ![2816, 1024]⟩ .f32)
    (a10 : Vec Ideal ⟨1, ![1024]⟩ .f32) : Args :=
  ofArrays (fun b t d => a0 (ix3 b t d)) (fun d => a1 (ix1 d)) (fun b d => a2 (ix2 b d)) (fun b d => a3 (ix2 b d))
    (fun b d => a4 (ix2 b d)) (fun k f => a5 (ix2 k f)) (fun j f => a6 (ix2 j f)) (fun f => a7 (ix1 f)) (fun b r f => a8 (ix3 b r f))
    (fun f d => a9 (ix2 f d)) (fun d => a10 (ix1 d))

/-- The arrays' entries are the arguments'. -/
theorem entries {B T : ℕ} [NeZero B] [NeZero T] (a0 : Vec Ideal ⟨3, ![B, T, 1024]⟩ .f32) (a1 : Vec Ideal ⟨1, ![1024]⟩ .f32)
    (a2 a3 a4 : Vec Ideal ⟨2, ![B, 1024]⟩ .f32) (a5 : Vec Ideal ⟨2, ![1024, 5632]⟩ .f32) (a6 : Vec Ideal ⟨2, ![3, 5632]⟩ .f32)
    (a7 : Vec Ideal ⟨1, ![5632]⟩ .f32) (a8 : Vec Ideal ⟨3, ![B, 2, 5632]⟩ .f32) (a9 : Vec Ideal ⟨2, ![2816, 1024]⟩ .f32)
    (a10 : Vec Ideal ⟨1, ![1024]⟩ .f32) (A : Args) (hA : A = ofArgs a0 a1 a2 a3 a4 a5 a6 a7 a8 a9 a10) :
    (∀ (b : Fin B) (t : Fin T) (d : Fin 1024), a0 (ix3 b t d) = A.x b.val t.val d.val)
      ∧ (∀ d : Fin 1024, a1 (ix1 d) = A.g d.val)
      ∧ (∀ (b : Fin B) (d : Fin 1024), a2 (ix2 b d) = A.sh b.val d.val)
      ∧ (∀ (b : Fin B) (d : Fin 1024), a3 (ix2 b d) = A.sc b.val d.val)
      ∧ (∀ (b : Fin B) (d : Fin 1024), a4 (ix2 b d) = A.ga b.val d.val)
      ∧ (∀ (k : Fin 1024) (f : Fin 5632), a5 (ix2 k f) = A.wi k.val f.val)
      ∧ (∀ (j : Fin 3) (f : Fin 5632), a6 (ix2 j f) = A.cw j.val f.val)
      ∧ (∀ f : Fin 5632, a7 (ix1 f) = A.cb f.val)
      ∧ (∀ (b : Fin B) (r : Fin 2) (f : Fin 5632), a8 (ix3 b r f) = A.buf b.val r.val f.val)
      ∧ (∀ (f : Fin 2816) (d : Fin 1024), a9 (ix2 f d) = A.wo f.val d.val)
      ∧ (∀ d : Fin 1024, a10 (ix1 d) = A.gf d.val) := by
  subst hA
  exact ⟨fun b t d => nat3_of (fun b t d => a0 (ix3 b t d)) b.isLt t.isLt d.isLt rfl rfl rfl,
    fun d => nat1_of (fun d => a1 (ix1 d)) d.isLt rfl,
    fun b d => nat2_of (fun b d => a2 (ix2 b d)) b.isLt d.isLt rfl rfl,
    fun b d => nat2_of (fun b d => a3 (ix2 b d)) b.isLt d.isLt rfl rfl,
    fun b d => nat2_of (fun b d => a4 (ix2 b d)) b.isLt d.isLt rfl rfl,
    fun k f => nat2_of (fun k f => a5 (ix2 k f)) k.isLt f.isLt rfl rfl,
    fun j f => nat2_of (fun j f => a6 (ix2 j f)) j.isLt f.isLt rfl rfl,
    fun f => nat1_of (fun f => a7 (ix1 f)) f.isLt rfl,
    fun b r f => nat3_of (fun b r f => a8 (ix3 b r f)) b.isLt r.isLt f.isLt rfl rfl rfl,
    fun f d => nat2_of (fun f d => a9 (ix2 f d)) f.isLt d.isLt rfl rfl,
    fun d => nat1_of (fun d => a10 (ix1 d)) d.isLt rfl⟩

variable (A : Args)

/-- What a row is multiplied by to be normed: the inverse root of its mean square. -/
def inv (r : ℕ → EReal) : EReal :=
  Ideal.rsqrt (Ideal.div (∑ k : Fin 1024, r k.val * r k.val) (Ideal.ofBits .f32 0x44800000#32) + Ideal.ofBits .f32 0x358637BD#32)

/-- The normed and modulated rows. -/
def h (b τ d : ℕ) : EReal := A.x b τ d * inv (A.x b τ) * A.g d * (1 + A.sc b d) + A.sh b d

/-- Their product with the first weight. -/
def u (b τ f : ℕ) : EReal := ∑ k : Fin 1024, h A b τ k.val * A.wi k.val f

/-- The two rows before the sequence, then the product's. -/
def ext (b s f : ℕ) : EReal := if s < 2 then A.buf b s f else u A b (s - 2) f

/-- The convolved rows. -/
def z (b τ f : ℕ) : EReal := A.cb f + A.cw 0 f * ext A b τ f + A.cw 1 f * ext A b (τ + 1) f + A.cw 2 f * ext A b (τ + 2) f

/-- The gate's nonlinearity. -/
def silu (x : EReal) : EReal := x * Ideal.div 1 (1 + Ideal.exp (-x))

/-- The hidden rows. -/
def act (b τ f : ℕ) : EReal := silu (z A b τ (2816 + f)) * z A b τ f

/-- Their product with the second weight. -/
def y (b τ d : ℕ) : EReal := ∑ f ∈ Finset.range 2816, act A b τ f * A.wo f d

/-- The residual. -/
def res (b τ d : ℕ) : EReal := A.x b τ d + A.ga b d * y A b τ d

/-- The layer's rows, normed. -/
def out (b τ d : ℕ) : EReal := res A b τ d * inv (res A b τ) * A.gf d

end Cert.FfnSpec

end
-- ==== Proof.FfnPay.lean ====
module

public import proofs.«01_k».proof.Proof.FfnForm
public import proofs.«01_k».proof.Proof.FfnSpec

@[expose] public section

/-! # One tile's arithmetic, over blocks that hold the tile's part of the arguments -/

set_option maxRecDepth 16384

noncomputable section

open Idealize.ShloMosaic Idealize.ShloMosaic.TcCoe Idealize.SL.Sem

namespace Cert.FfnIdeal.Blocks

open Cert.FfnIdeal Cert.FfnIdeal.Gen

/-- A choice made on a row's number. -/
theorem sel_row (i k : ℕ) (hi : i < 512) (hk : k < 512 := by decide) (x y : EReal) :
    Scalar.select (IntOp.cmpi .eq (BitVec.ofNat 32 i) (BitVec.ofNat 32 k)) x y = if i = k then x else y := by
  by_cases e : i = k
  · rw [if_pos e, e]
    exact Scalar.select_of_eq_one (IntOp.cmpi_eq_self _) _ _
  · rw [if_neg e]
    refine Scalar.select_of_ne_one (fun h => e ?_) _ _
    have h' : BitVec.ofNat 32 i = BitVec.ofNat 32 k := by
      by_contra hn
      rw [show IntOp.cmpi .eq (BitVec.ofNat 32 i) (BitVec.ofNat 32 k) = BitVec.ofBool (BitVec.ofNat 32 i == BitVec.ofNat 32 k) from rfl,
        beq_eq_false_iff_ne.mpr hn] at h
      exact absurd h (by decide)
    have h'' := congrArg BitVec.toNat h'
    simp only [BitVec.toNat_ofNat] at h''
    omega

section Pay

variable (A : FfnSpec.Args) (b n : ℕ)
  (x0 : Vec Ideal S512x1024 .f32) (x1 x10 : Vec Ideal S1x1024 .f32) (x2 x3 x4 : Vec Ideal S1x1x1024 .f32)
  (h0 : ∀ (i : Fin 512) (d : Fin 1024), x0 (ix2 i d) = A.x b (n * 512 + i.val) d.val)
  (h1 : ∀ d : Fin 1024, x1 (ix2 0 d) = A.g d.val)
  (h2 : ∀ d : Fin 1024, x2 (ix3 0 0 d) = A.sh b d.val)
  (h3 : ∀ d : Fin 1024, x3 (ix3 0 0 d) = A.sc b d.val)
  (h4 : ∀ d : Fin 1024, x4 (ix3 0 0 d) = A.ga b d.val)
  (h10 : ∀ d : Fin 1024, x10 (ix2 0 d) = A.gf d.val)

include h0 h1 h2 h3 in
/-- The tile's normed and modulated rows. -/
theorem hid_pay (i : Fin 512) (d : Fin 1024) :
    (k0_pay4 (F := Ideal) x0 x1 x2 x3 : Vec Ideal S512x1024 .bf16) (ix2 i d) = (FfnSpec.h A b (n * 512 + i.val) d.val : EReal) := by
  pointwise [k0_pay4, k0_pay3]
  simp only [h0, h1, h2, h3, FfnSpec.h, FfnSpec.inv]

include h0 h4 h10 in
/-- The tile's results, over its rows of the second product. -/
theorem out_pay (a : FVec Ideal S512x1024 .f32)
    (ha : ∀ (i : Fin 512) (d : Fin 1024), a (ix2 i d) = FfnSpec.y A b (n * 512 + i.val) d.val) (i : Fin 512) (d : Fin 1024) :
    (k0_pay1 (F := Ideal) (k0_pay3 x0) a (k0_pay187 x4) x10 : Vec Ideal S512x1024 .f32) (ix2 i d) = (FfnSpec.out A b (n * 512 + i.val) d.val : EReal) := by
  pointwise [k0_pay1, k0_pay3, k0_pay187]
  simp only [h0, h4, h10, ha, FfnSpec.out, FfnSpec.res, FfnSpec.inv]

variable (hid : Vec Ideal S512x1024 .bf16) (x5 : Vec Ideal S1024x5632 .bf16) (x6 : Vec Ideal S3x5632 .f32) (x7 : Vec Ideal S1x5632 .f32)
  (p : Vec Ideal S1x2x5632 .f32) (x9 : Vec Ideal S2816x1024 .bf16)
  (hh : ∀ (i : Fin 512) (d : Fin 1024), hid (ix2 i d) = (FfnSpec.h A b (n * 512 + i.val) d.val : EReal))
  (h5 : ∀ (k : Fin 1024) (f : Fin 5632), x5 (ix2 k f) = (A.wi k.val f.val : EReal))
  (h6 : ∀ (j : Fin 3) (f : Fin 5632), x6 (ix2 j f) = A.cw j.val f.val)
  (h7 : ∀ f : Fin 5632, x7 (ix2 0 f) = A.cb f.val)
  (hp : ∀ (r : Fin 2) (f : Fin 5632), p (ix3 0 r f) = FfnSpec.ext A b (n * 512 + r.val) f.val)
  (h9 : ∀ (f : Fin 2816) (d : Fin 1024), x9 (ix2 f d) = (A.wo f.val d.val : EReal))

include hh h5 in
/-- A chunk's product with the first weight: the extended rows, two on. -/
theorem u_pay (o : ℕ) (ho : o + 256 ≤ 5632) (i : Fin 512) (j : Fin 256) :
    (k0_pay49 (F := Ideal) hid (wIn x5 o ho) : Vec Ideal S1x512x256 .f32) (ix3 0 i j) = FfnSpec.u A b (n * 512 + i.val) (o + j.val) := by
  pointwise [k0_pay49, wIn]
  simp only [hh, h5, FfnSpec.u]

include hh h5 hp in
/-- The rows one before. -/
theorem um1_pay (o : ℕ) (ho : o + 256 ≤ 5632) (i : Fin 512) (j : Fin 256) :
    (k0_pay52 (F := Ideal) k0_pay5 hid (wIn x5 o ho) (prev p o ho) : Vec Ideal S1x512x256 .f32) (ix3 0 i j)
      = FfnSpec.ext A b (n * 512 + i.val + 1) (o + j.val) := by
  pointwise [k0_pay52, k0_pay50, k0_pay5, k0_pay49, wIn, prev]
  simp only [sel_row _ 0 i.isLt, hp, hh, h5]
  split_ifs with e
  · rw [e]
    rfl
  · have e' : (i.val + 512 - 1) % 512 = i.val - 1 := by omega
    rw [FfnSpec.ext, if_neg (by omega), e', show n * 512 + i.val + 1 - 2 = n * 512 + (i.val - 1) by omega]
    rfl

include hh h5 hp in
/-- The rows two before. -/
theorem um2_pay (o : ℕ) (ho : o + 256 ≤ 5632) (i : Fin 512) (j : Fin 256) :
    (k0_pay53 (F := Ideal) k0_pay5 row1 hid (wIn x5 o ho) (prev p o ho) : Vec Ideal S1x512x256 .f32) (ix3 0 i j)
      = FfnSpec.ext A b (n * 512 + i.val) (o + j.val) := by
  pointwise [k0_pay53, k0_pay51, k0_pay50, k0_pay5, k0_pay6, row1, k0_pay49, wIn, prev]
  simp only [sel_row _ 0 i.isLt, sel_row _ 1 i.isLt, hp, hh, h5]
  split_ifs with e e1
  · rw [e]
    rfl
  · rw [e1]
    rfl
  · have e' : (i.val + 512 - 2) % 512 = i.val - 2 := by omega
    rw [FfnSpec.ext, if_neg (by omega), e', show n * 512 + i.val - 2 = n * 512 + (i.val - 2) by omega]
    rfl

include hh h5 h6 h7 hp in
/-- One element of a chunk's convolution. -/
theorem conv_sum (o : ℕ) (ho : o + 256 ≤ 5632) (i : Fin 512) (j : Fin 256) :
    ((bias x7 o ho (ix2 0 j) + taps x6 o ho (ix2 0 j) * k0_pay53 (F := Ideal) k0_pay5 row1 hid (wIn x5 o ho) (prev p o ho) (ix3 0 i j)
        + taps x6 o ho (ix2 1 j) * k0_pay52 (F := Ideal) k0_pay5 hid (wIn x5 o ho) (prev p o ho) (ix3 0 i j)
        + taps x6 o ho (ix2 2 j) * k0_pay49 (F := Ideal) hid (wIn x5 o ho) (ix3 0 i j) : EReal))
      = FfnSpec.z A b (n * 512 + i.val) (o + j.val) := by
  have eb : bias x7 o ho (ix2 0 j) = A.cb (o + j.val) := by
    pointwise [bias]
    exact h7 _
  have et : ∀ r : Fin 3, taps x6 o ho (ix2 r j) = A.cw r.val (o + j.val) := fun r => by
    pointwise [taps]
    exact h6 _ _
  have e2 : FfnSpec.ext A b (n * 512 + i.val + 2) (o + j.val) = FfnSpec.u A b (n * 512 + i.val) (o + j.val) := by
    rw [FfnSpec.ext, if_neg (by omega), Nat.add_sub_cancel]
  rw [um2_pay A b n hid x5 p hh h5 hp o ho i j, um1_pay A b n hid x5 p hh h5 hp o ho i j, u_pay A b n hid x5 hh h5 o ho i j, eb, et, et, et,
    FfnSpec.z, e2]
  rfl

include hh h5 h6 h7 hp in
/-- A chunk's convolved columns. -/
theorem conv_pay (o : ℕ) (ho : o + 256 ≤ 5632) (i : Fin 512) (j : Fin 256) :
    (conv hid x5 x6 x7 p o ho : Vec Ideal S512x256 .f32) (ix2 i j) = FfnSpec.z A b (n * 512 + i.val) (o + j.val) := by
  unfold conv
  pointwise [k0_pay48]
  exact conv_sum A b n hid x5 x6 x7 p hh h5 h6 h7 hp o ho i j

include hh h5 h6 h7 hp h9 in
/-- A chunk's part of the second product. -/
theorem chunk_pay (o : ℕ) (ho : o + 256 ≤ 2816) (i : Fin 512) (d : Fin 1024) :
    (chunk hid x5 x6 x7 p x9 o ho : Vec Ideal S512x1024 .f32) (ix2 i d)
      = ∑ j ∈ Finset.range 256, FfnSpec.act A b (n * 512 + i.val) (o + j) * A.wo (o + j) d.val := by
  have ec := fun j => conv_pay A b n hid x5 x6 x7 p hh h5 h6 h7 hp o (by omega) i j
  have ez := fun j => conv_sum A b n hid x5 x6 x7 p hh h5 h6 h7 hp (2816 + o) (by omega) i j
  rw [Finset.sum_range]
  unfold chunk
  pointwise [k0_pay56, wOut]
  simp only [ez, ec, h9, zero_sub, FfnSpec.act, FfnSpec.silu, Nat.add_assoc]

include hh h5 h6 h7 hp h9 in
/-- The accumulator after chunk `q`: the product's first columns. -/
theorem accs_pay (i : Fin 512) (d : Fin 1024) : ∀ (q : ℕ) (hq : q < 11),
    (accs hid x5 x6 x7 p x9 q hq : Vec Ideal S512x1024 .f32) (ix2 i d)
      = ∑ f ∈ Finset.range ((q + 1) * 256), FfnSpec.act A b (n * 512 + i.val) f * A.wo f d.val
  | 0, _ => by
    rw [accs, shapeCast_id]
    refine (chunk_pay A b n hid x5 x6 x7 p x9 hh h5 h6 h7 hp h9 0 (by omega) i d).trans ?_
    simp only [Nat.zero_add, Nat.one_mul]
  | q + 1, hq => by
    have e := accs_pay i d q (by omega)
    have e' := chunk_pay A b n hid x5 x6 x7 p x9 hh h5 h6 h7 hp h9 ((q + 1) * 256) (by omega) i d
    rw [accs]
    revert e e'
    generalize accs hid x5 x6 x7 p x9 q _ = a
    generalize chunk hid x5 x6 x7 p x9 ((q + 1) * 256) _ = k
    intro e e'
    pointwise [k0_pay57]
    rw [e, e', Nat.succ_mul (q + 1), Finset.sum_range_add]

include hh h5 in
/-- The tile's last two rows, before the convolution. -/
theorem tail_pay (r : Fin 2) (f : Fin 5632) : tail hid x5 (ix3 0 r f) = FfnSpec.ext A b ((n + 1) * 512 + r.val) f.val := by
  rw [FfnSpec.ext, if_neg (by omega), show (n + 1) * 512 + r.val - 2 = n * 512 + (510 + r.val) by omega]
  unfold tail
  simp only [hh, FfnSpec.u]
  exact Finset.sum_congr rfl fun k _ => congrArg (_ * ·) (h5 k f)

end Pay

end Cert.FfnIdeal.Blocks

end
-- ==== Proof.Put.lean ====
module

public import Idealize.ShloMosaic.Lib.Pointwise
public import Idealize.ShloMosaic.Lib.Pipeline.ValueKit

@[expose] public section

/-! # A memory that holds given arrays

A fact about one program's blocks serves another program whose blocks hold the same arrays: it is applied at a memory of the first
program that holds the second one's arguments. -/

noncomputable section

open Idealize.ShloMosaic Idealize.ShloMosaic.TcCoe Idealize.SL.Sem

namespace Put

variable {nD : ℕ} {τ : Topo} {sig : RefSig}

/-- The memory `m`, but for one device's array. -/
def put (m : (ℓ : Loc nD τ sig) → Buf (Elt Ideal) ℓ) (c : Dev nD) (r : Ref sig .tc) (v : Buf (Elt Ideal) ((c : Thread nD τ).loc r)) :
    (ℓ : Loc nD τ sig) → Buf (Elt Ideal) ℓ := Function.update m ((c : Thread nD τ).loc r) v

variable (m : (ℓ : Loc nD τ sig) → Buf (Elt Ideal) ℓ) (c : Dev nD) (r : Ref sig .tc) (v : Buf (Elt Ideal) ((c : Thread nD τ).loc r))

/-- The array is there. -/
theorem put_self : put m c r v ((c : Thread nD τ).loc r) = v := Function.update_self _ _ _

/-- The other arrays are as they were. -/
theorem put_ne (r' : Ref sig .tc) (h : (Proc.devRef .tc r' : DevRef τ sig) ≠ Proc.devRef .tc r) :
    put m c r v ((c : Thread nD τ).loc r') = m ((c : Thread nD τ).loc r') :=
  Function.update_of_ne (fun e => h (congrArg Prod.snd e)) _ _

end Put

end
-- ==== Proof.FfnKernel.lean ====
module

public import proofs.«01_k».proof.Proof.FfnPay
public import proofs.«01_k».proof.Proof.Put

@[expose] public section

/-! # The feed-forward kernel, read at an index -/

set_option maxRecDepth 16384

noncomputable section

open Idealize.ShloMosaic Idealize.ShloMosaic.TcCoe Idealize.SL.Sem
open Idealize.ShloMosaic.Pipeline (Dat)

namespace Cert.FfnIdeal.Blocks

open Cert.FfnIdeal Cert.FfnIdeal.Gen

variable (m : (ℓ : Loc nD τ sig) → Buf (Elt Ideal) ℓ) (c : Dev nD)

/-- The windows' block indices: a grid point is sequence `t / 4`, tile `t % 4`. -/
theorem idx : ∀ t : Fin cfg0.N, win0_0.index t = ![t.val, 0] ∧ win0_1.index t = ![0, 0]
    ∧ win0_2.index t = ![t.val / 4, 0, 0] ∧ win0_3.index t = ![t.val / 4, 0, 0] ∧ win0_4.index t = ![t.val / 4, 0, 0]
    ∧ win0_5.index t = ![0, 0] ∧ win0_6.index t = ![0, 0] ∧ win0_7.index t = ![0, 0] ∧ win0_8.index t = ![t.val / 4, 0, 0]
    ∧ win0_9.index t = ![0, 0] ∧ win0_10.index t = ![0, 0] ∧ win0_11.index t = ![t.val, 0] ∧ win0_12.index t = ![t.val / 4, 0, 0]
    ∧ t.val < 32 :=
  (by decide +kernel : ∀ t : Fin grid0.N, _)

theorem lt_32 (t : Fin cfg0.N) : t.val < 32 := (idx t).2.2.2.2.2.2.2.2.2.2.2.2.2

/-- The memory's arguments. -/
abbrev args : FfnSpec.Args :=
  FfnSpec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

section Blocks

variable (t : Fin cfg0.N)

/-- The rows, flattened. -/
theorem x_tab (r : Fin 16384) (d : Fin 1024) : (V m c main_v0 : Vec Ideal S16384x1024 .f32) (ix2 r d)
    = m ((c : Thread nD τ).loc main_arg0) (ix3 ⟨r.val / 2048, by omega⟩ ⟨r.val % 2048, by omega⟩ d) := by
  entry_read
  pointwise []

/-- The tile's rows. -/
theorem x_blk (i : Fin 512) (d : Fin 1024) :
    (iblk m c 0 t : Vec Ideal S512x1024 .f32) (ix2 i d) = (args m c).x (t.val / 4) (t.val % 4 * 512 + i.val) d.val := by
  have ht := lt_32 t
  have e : (iblk m c 0 t : Vec Ideal S512x1024 .f32) (ix2 i d) = (V m c main_v0 : Vec Ideal S16384x1024 .f32) (ix2 ⟨t.val * 512 + i, by omega⟩ d) := by
    blk_ext [iblk, idx t]
  rw [e, x_tab]
  exact FfnSpec.nat3_of (fun b t d => m ((c : Thread nD τ).loc main_arg0) (ix3 b t d)) _ _ d.isLt (by dsimp only; omega) (by dsimp only; omega) rfl

/-- The first gain. -/
theorem g_blk (d : Fin 1024) : (iblk m c 1 t : Vec Ideal S1x1024 .f32) (ix2 0 d) = (args m c).g d.val := by
  have e0 : (V m c main_v6 : Vec Ideal S1x1024 .f32) (ix2 0 d) = m ((c : Thread nD τ).loc main_arg1) (ix1 d) := by
    entry_read
    pointwise []
  have e : (iblk m c 1 t : Vec Ideal S1x1024 .f32) (ix2 0 d) = (V m c main_v6 : Vec Ideal S1x1024 .f32) (ix2 0 d) := by
    blk_ext [iblk, idx t]
  rw [e, e0]
  exact FfnSpec.nat1_of (fun d => m ((c : Thread nD τ).loc main_arg1) (ix1 d)) d.isLt rfl

/-- The sequence's shift. -/
theorem sh_blk (d : Fin 1024) : (iblk m c 2 t : Vec Ideal S1x1x1024 .f32) (ix3 0 0 d) = (args m c).sh (t.val / 4) d.val := by
  have ht := lt_32 t
  have e0 : ∀ b : Fin 8, (V m c main_v3 : Vec Ideal S8x1x1024 .f32) (ix3 b 0 d) = m ((c : Thread nD τ).loc main_arg2) (ix2 b d) := fun b => by
    entry_read
    pointwise []
  have e : (iblk m c 2 t : Vec Ideal S1x1x1024 .f32) (ix3 0 0 d) = (V m c main_v3 : Vec Ideal S8x1x1024 .f32) (ix3 ⟨t.val / 4, by omega⟩ 0 d) := by
    blk_ext [iblk, idx t]
  rw [e, e0]
  exact FfnSpec.nat2_of (fun b d => m ((c : Thread nD τ).loc main_arg2) (ix2 b d)) _ d.isLt rfl rfl

/-- The sequence's scale. -/
theorem sc_blk (d : Fin 1024) : (iblk m c 3 t : Vec Ideal S1x1x1024 .f32) (ix3 0 0 d) = (args m c).sc (t.val / 4) d.val := by
  have ht := lt_32 t
  have e0 : ∀ b : Fin 8, (V m c main_v4 : Vec Ideal S8x1x1024 .f32) (ix3 b 0 d) = m ((c : Thread nD τ).loc main_arg3) (ix2 b d) := fun b => by
    entry_read
    pointwise []
  have e : (iblk m c 3 t : Vec Ideal S1x1x1024 .f32) (ix3 0 0 d) = (V m c main_v4 : Vec Ideal S8x1x1024 .f32) (ix3 ⟨t.val / 4, by omega⟩ 0 d) := by
    blk_ext [iblk, idx t]
  rw [e, e0]
  exact FfnSpec.nat2_of (fun b d => m ((c : Thread nD τ).loc main_arg3) (ix2 b d)) _ d.isLt rfl rfl

/-- The sequence's gate. -/
theorem ga_blk (d : Fin 1024) : (iblk m c 4 t : Vec Ideal S1x1x1024 .f32) (ix3 0 0 d) = (args m c).ga (t.val / 4) d.val := by
  have ht := lt_32 t
  have e0 : ∀ b : Fin 8, (V m c main_v5 : Vec Ideal S8x1x1024 .f32) (ix3 b 0 d) = m ((c : Thread nD τ).loc main_arg4) (ix2 b d) := fun b => by
    entry_read
    pointwise []
  have e : (iblk m c 4 t : Vec Ideal S1x1x1024 .f32) (ix3 0 0 d) = (V m c main_v5 : Vec Ideal S8x1x1024 .f32) (ix3 ⟨t.val / 4, by omega⟩ 0 d) := by
    blk_ext [iblk, idx t]
  rw [e, e0]
  exact FfnSpec.nat2_of (fun b d => m ((c : Thread nD τ).loc main_arg4) (ix2 b d)) _ d.isLt rfl rfl

/-- The first weight. -/
theorem wi_blk (k : Fin 1024) (f : Fin 5632) : (iblk m c 5 t : Vec Ideal S1024x5632 .bf16) (ix2 k f) = ((args m c).wi k.val f.val : EReal) := by
  have e0 : (V m c main_v1 : Vec Ideal S1024x5632 .bf16) (ix2 k f) = (m ((c : Thread nD τ).loc main_arg5) (ix2 k f) : EReal) := by
    entry_read
    pointwise []
  have e : (iblk m c 5 t : Vec Ideal S1024x5632 .bf16) (ix2 k f) = (V m c main_v1 : Vec Ideal S1024x5632 .bf16) (ix2 k f) := by
    blk_ext [iblk, idx t]
  refine e.trans (e0.trans ?_)
  exact FfnSpec.nat2_of (fun k f => m ((c : Thread nD τ).loc main_arg5) (ix2 k f)) k.isLt f.isLt rfl rfl

/-- The taps. -/
theorem cw_blk (j : Fin 3) (f : Fin 5632) : (iblk m c 6 t : Vec Ideal S3x5632 .f32) (ix2 j f) = (args m c).cw j.val f.val := by
  have e : (iblk m c 6 t : Vec Ideal S3x5632 .f32) (ix2 j f) = m ((c : Thread nD τ).loc main_arg6) (ix2 j f) := by
    blk_ext [iblk, V, idx t]
  rw [e]
  exact FfnSpec.nat2_of (fun j f => m ((c : Thread nD τ).loc main_arg6) (ix2 j f)) j.isLt f.isLt rfl rfl

/-- The convolution's bias. -/
theorem cb_blk (f : Fin 5632) : (iblk m c 7 t : Vec Ideal S1x5632 .f32) (ix2 0 f) = (args m c).cb f.val := by
  have e0 : (V m c main_v7 : Vec Ideal S1x5632 .f32) (ix2 0 f) = m ((c : Thread nD τ).loc main_arg7) (ix1 f) := by
    entry_read
    pointwise []
  have e : (iblk m c 7 t : Vec Ideal S1x5632 .f32) (ix2 0 f) = (V m c main_v7 : Vec Ideal S1x5632 .f32) (ix2 0 f) := by
    blk_ext [iblk, idx t]
  rw [e, e0]
  exact FfnSpec.nat1_of (fun f => m ((c : Thread nD τ).loc main_arg7) (ix1 f)) f.isLt rfl

/-- The two rows before the sequence. -/
theorem buf_blk (r : Fin 2) (f : Fin 5632) : (iblk m c 8 t : Vec Ideal S1x2x5632 .f32) (ix3 0 r f) = (args m c).buf (t.val / 4) r.val f.val := by
  have ht := lt_32 t
  have e : (iblk m c 8 t : Vec Ideal S1x2x5632 .f32) (ix3 0 r f) = m ((c : Thread nD τ).loc main_arg8) (ix3 ⟨t.val / 4, by omega⟩ r f) := by
    blk_ext [iblk, V, idx t]
  rw [e]
  exact FfnSpec.nat3_of (fun b r f => m ((c : Thread nD τ).loc main_arg8) (ix3 b r f)) _ r.isLt f.isLt rfl rfl rfl

/-- The second weight. -/
theorem wo_blk (f : Fin 2816) (d : Fin 1024) : (iblk m c 9 t : Vec Ideal S2816x1024 .bf16) (ix2 f d) = ((args m c).wo f.val d.val : EReal) := by
  have e0 : (V m c main_v2 : Vec Ideal S2816x1024 .bf16) (ix2 f d) = (m ((c : Thread nD τ).loc main_arg9) (ix2 f d) : EReal) := by
    entry_read
    pointwise []
  have e : (iblk m c 9 t : Vec Ideal S2816x1024 .bf16) (ix2 f d) = (V m c main_v2 : Vec Ideal S2816x1024 .bf16) (ix2 f d) := by
    blk_ext [iblk, idx t]
  refine e.trans (e0.trans ?_)
  exact FfnSpec.nat2_of (fun f d => m ((c : Thread nD τ).loc main_arg9) (ix2 f d)) f.isLt d.isLt rfl rfl

/-- The last gain. -/
theorem gf_blk (d : Fin 1024) : (iblk m c 10 t : Vec Ideal S1x1024 .f32) (ix2 0 d) = (args m c).gf d.val := by
  have e0 : (V m c main_v8 : Vec Ideal S1x1024 .f32) (ix2 0 d) = m ((c : Thread nD τ).loc main_arg10) (ix1 d) := by
    entry_read
    pointwise []
  have e : (iblk m c 10 t : Vec Ideal S1x1024 .f32) (ix2 0 d) = (V m c main_v8 : Vec Ideal S1x1024 .f32) (ix2 0 d) := by
    blk_ext [iblk, idx t]
  rw [e, e0]
  exact FfnSpec.nat1_of (fun d => m ((c : Thread nD τ).loc main_arg10) (ix1 d)) d.isLt rfl

/-- The tile's normed and modulated rows. -/
theorem hid_at (i : Fin 512) (d : Fin 1024) :
    hid m c t (ix2 i d) = (FfnSpec.h (args m c) (t.val / 4) (t.val % 4 * 512 + i.val) d.val : EReal) :=
  hid_pay (args m c) (t.val / 4) (t.val % 4) _ _ _ _ (x_blk m c t) (g_blk m c t) (sh_blk m c t) (sc_blk m c t) i d

/-- The tile's last two rows before the convolution. -/
theorem tail_at (r : Fin 2) (f : Fin 5632) : tail (hid m c t) (iblk m c 5 t) (ix3 0 r f)
    = FfnSpec.ext (args m c) (t.val / 4) ((t.val % 4 + 1) * 512 + r.val) f.val :=
  tail_pay (args m c) (t.val / 4) (t.val % 4) _ _ (hid_at m c t) (wi_blk m c t) r f

end Blocks

/-- The two rows before a tile. -/
theorem before_at (t : Fin cfg0.N) (r : Fin 2) (f : Fin 5632) :
    before m c t (ix3 0 r f) = FfnSpec.ext (args m c) (t.val / 4) (t.val % 4 * 512 + r.val) f.val := by
  by_cases h0 : t.val % 4 = 0
  · rw [before, if_pos h0, h0, Nat.zero_mul, Nat.zero_add, FfnSpec.ext, if_pos r.isLt]
    exact (congrFun (shapeCast_id _ _) _).trans (buf_blk m c t r f)
  · have hb : t.val - 1 < cfg0.N := Nat.lt_of_le_of_lt (Nat.sub_le _ _) t.isLt
    rw [before, if_neg h0]
    refine (congrFun (scr_eq m c ⟨t.val - 1, hb⟩) (ix3 0 r f)).trans ((tail_at m c ⟨t.val - 1, hb⟩ r f).trans ?_)
    have e1 : (t.val - 1) / 4 = t.val / 4 := by omega
    have e2 : (t.val - 1) % 4 + 1 = t.val % 4 := by omega
    rw [e1, e2]

/-- A tile's rows of the second product. -/
theorem accs_at (t : Fin cfg0.N) (i : Fin 512) (d : Fin 1024) :
    accs (hid m c t) (iblk m c 5 t) (iblk m c 6 t) (iblk m c 7 t) (before m c t) (iblk m c 9 t) 10 (by omega) (ix2 i d)
      = FfnSpec.y (args m c) (t.val / 4) (t.val % 4 * 512 + i.val) d.val :=
  accs_pay (args m c) (t.val / 4) (t.val % 4) _ _ _ _ _ _ (hid_at m c t) (wi_blk m c t) (cw_blk m c t) (cb_blk m c t)
    (before_at m c t) (wo_blk m c t) i d 10 (by omega)

/-- The kernel's first result, index by index. -/
def outK (A : FfnSpec.Args) : Vec Ideal S16384x1024 .f32 := fun j =>
  FfnSpec.out A ((j 0).val / 2048) ((j 0).val % 2048) (j 1).val

/-- The kernel's second result, index by index. -/
def bufK (A : FfnSpec.Args) : Vec Ideal S8x2x5632 .f32 := fun j =>
  FfnSpec.ext A (j 0).val (2048 + (j 1).val) (j 2).val

/-- A tile's block of the first result. -/
theorem out_at (t : Fin cfg0.N) (y : S512x1024.Idx) : ((outsAt0 m c t.val t.isLt).1 : Vec Ideal S512x1024 .f32) y
    = FfnSpec.out (args m c) (t.val / 4) (t.val % 4 * 512 + (y 0).val) (y 1).val := by
  idx_vars y
  rw [out_eq]
  exact out_pay (args m c) (t.val / 4) (t.val % 4) _ _ _ (x_blk m c t) (ga_blk m c t) (gf_blk m c t) _ (accs_at m c t) y0 y1

/-- The last block of the second result. -/
theorem buf_at (t : Fin cfg0.N) (h1 : t.val % 4 = 3) (y : S1x2x5632.Idx) : ((outsAt0 m c t.val t.isLt).2.1 : Vec Ideal S1x2x5632 .f32) y
    = FfnSpec.ext (args m c) (t.val / 4) (2048 + (y 1).val) (y 2).val := by
  idx_vars y
  obtain rfl : y0 = 0 := Subsingleton.elim _ _
  refine (congrFun (new_eq m c t) (ix3 0 y1 y2)).trans ((tail_at m c t y1 y2).trans ?_)
  rw [h1]

/-- The first result array after the run. -/
theorem final_out : (dats m 0 c).arrAt 11 cfg0.N = outK (args m c) := by
  refine (dats m 0 c).arrAt_eq_of_covers 11 _ (by decide +kernel) fun t hf y => ?_
  have ht := lt_32 t
  have e0 : ((win0_11.blk t).view.emb y 0 : ℕ) = t.val * 512 + (y 0).val := by blk_simp [idx t]
  have e1 : ((win0_11.blk t).view.emb y 1 : ℕ) = (y 1).val := by blk_simp [idx t]
  have h0 : (y 0).val < 512 := (y 0).isLt
  blk_simp
  rw [after0_11]
  refine (out_at m c t y).trans ?_
  unfold outK
  rw [e0, e1]
  have a0 : (t.val * 512 + (y 0).val) / 2048 = t.val / 4 := by omega
  have a1 : (t.val * 512 + (y 0).val) % 2048 = t.val % 4 * 512 + (y 0).val := by omega
  rw [a0, a1]

/-- The second result array after the run. -/
theorem final_buf : (dats m 0 c).arrAt 12 cfg0.N = bufK (args m c) := by
  refine (dats m 0 c).arrAt_eq_of_covers 12 _ (by decide +kernel) fun t hf y => ?_
  have h1 : t.val % 4 = 3 := (flush0_12 t).mp hf
  have e0 : ((win0_12.blk t).view.emb y 0 : ℕ) = t.val / 4 := by blk_simp [idx t]
  have e1 : ((win0_12.blk t).view.emb y 1 : ℕ) = (y 1).val := by blk_simp [idx t]
  have e2 : ((win0_12.blk t).view.emb y 2 : ℕ) = (y 2).val := by blk_simp [idx t]
  blk_simp
  rw [after0_12]
  refine (buf_at m c t h1 y).trans ?_
  unfold bufK
  rw [e0, e1, e2]

/-- A memory that holds given arguments. -/
theorem exists_memory (c : Dev nD) (a0 : Vec Ideal S8x2048x1024 .f32) (a1 : Vec Ideal S1024 .f32) (a2 a3 a4 : Vec Ideal S8x1024 .f32) (a5 : Vec Ideal S1024x5632 .f32)
    (a6 : Vec Ideal S3x5632 .f32) (a7 : Vec Ideal S5632 .f32) (a8 : Vec Ideal S8x2x5632 .f32) (a9 : Vec Ideal S2816x1024 .f32)
    (a10 : Vec Ideal S1024 .f32) :
    ∃ m : (ℓ : Loc nD τ sig) → Buf (Elt Ideal) ℓ, m ((c : Thread nD τ).loc main_arg0) = a0 ∧ m ((c : Thread nD τ).loc main_arg1) = a1
      ∧ m ((c : Thread nD τ).loc main_arg2) = a2 ∧ m ((c : Thread nD τ).loc main_arg3) = a3 ∧ m ((c : Thread nD τ).loc main_arg4) = a4
      ∧ m ((c : Thread nD τ).loc main_arg5) = a5 ∧ m ((c : Thread nD τ).loc main_arg6) = a6 ∧ m ((c : Thread nD τ).loc main_arg7) = a7
      ∧ m ((c : Thread nD τ).loc main_arg8) = a8 ∧ m ((c : Thread nD τ).loc main_arg9) = a9 ∧ m ((c : Thread nD τ).loc main_arg10) = a10 := by
  have h : ∀ ℓ : Loc nD τ sig, Nonempty (Buf (Elt Ideal) ℓ) := fun ℓ => inferInstance
  refine ⟨Put.put (Put.put (Put.put (Put.put (Put.put (Put.put (Put.put (Put.put (Put.put (Put.put (Put.put (fun ℓ => Classical.choice (h ℓ))
    c main_arg0 a0) c main_arg1 a1) c main_arg2 a2) c main_arg3 a3) c main_arg4 a4) c main_arg5 a5) c main_arg6 a6) c main_arg7 a7)
    c main_arg8 a8) c main_arg9 a9) c main_arg10 a10, ?_⟩
  repeat' constructor
  all_goals
    repeat rw [Put.put_ne _ _ _ _ _ (by decide)]
    rw [Put.put_self]

end Cert.FfnIdeal.Blocks

end
-- ==== Proof.FfnRef.lean ====
module

public import proofs.«01_k».proof.Proof.Gen.FfnReferenceIdeal.Read
public import proofs.«01_k».proof.Proof.FfnSpec

@[expose] public section

/-! # The feed-forward reference, read at an index -/

set_option maxRecDepth 16384

noncomputable section

open Idealize.ShloMosaic Idealize.ShloMosaic.TcCoe Idealize.SL.Sem

namespace Cert.FfnReferenceIdeal.Rows

open Cert.FfnReferenceIdeal Cert.FfnReferenceIdeal.Read

variable (x0 : Vec Ideal S8x2048x1024 .f32) (x1 : Vec Ideal S1024 .f32) (x2 x3 x4 : Vec Ideal S8x1024 .f32) (x5 : Vec Ideal S1024x5632 .f32)
  (x6 : Vec Ideal S3x5632 .f32) (x7 : Vec Ideal S5632 .f32) (x8 : Vec Ideal S8x2x5632 .f32) (x9 : Vec Ideal S2816x1024 .f32)
  (x10 : Vec Ideal S1024 .f32)
  (A : FfnSpec.Args)
  (h0 : ∀ (b : Fin 8) (t : Fin 2048) (d : Fin 1024), x0 (ix3 b t d) = A.x b.val t.val d.val)
  (h1 : ∀ d : Fin 1024, x1 (ix1 d) = A.g d.val)
  (h2 : ∀ (b : Fin 8) (d : Fin 1024), x2 (ix2 b d) = A.sh b.val d.val)
  (h3 : ∀ (b : Fin 8) (d : Fin 1024), x3 (ix2 b d) = A.sc b.val d.val)
  (h4 : ∀ (b : Fin 8) (d : Fin 1024), x4 (ix2 b d) = A.ga b.val d.val)
  (h5 : ∀ (k : Fin 1024) (f : Fin 5632), x5 (ix2 k f) = A.wi k.val f.val)
  (h6 : ∀ (j : Fin 3) (f : Fin 5632), x6 (ix2 j f) = A.cw j.val f.val)
  (h7 : ∀ f : Fin 5632, x7 (ix1 f) = A.cb f.val)
  (h8 : ∀ (b : Fin 8) (r : Fin 2) (f : Fin 5632), x8 (ix3 b r f) = A.buf b.val r.val f.val)
  (h9 : ∀ (f : Fin 2816) (d : Fin 1024), x9 (ix2 f d) = A.wo f.val d.val)
  (h10 : ∀ d : Fin 1024, x10 (ix1 d) = A.gf d.val)

include h0 h1 h2 h3

/-- The normed and modulated rows. -/
theorem h_at (b : Fin 8) (t : Fin 2048) (d : Fin 1024) :
    (val_main_v20 (F := Ideal) x0 x1 x2 x3 : Vec Ideal S8x2048x1024 .f32) (ix3 b t d) = FfnSpec.h A b.val t.val d.val := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [h0, h1, h2, h3, FfnSpec.h, FfnSpec.inv, zero_add]

include h5

/-- Their product with the first weight. -/
theorem u_at (b : Fin 8) (t : Fin 2048) (f : Fin 5632) :
    (val_main_v21 (F := Ideal) x0 x1 x2 x3 x5 : Vec Ideal S8x2048x5632 .f32) (ix3 b t f) = FfnSpec.u A b.val t.val f.val := by
  have e := h_at x0 x1 x2 x3 A h0 h1 h2 h3 b t
  unfold val_main_v21
  revert e
  generalize (val_main_v20 (F := Ideal) x0 x1 x2 x3) = a
  intro e
  pointwise []
  simp only [e, h5, FfnSpec.u]

include h8

/-- The rows extended by the two before them. -/
theorem ext_at (b : Fin 8) (s : Fin 2050) (f : Fin 5632) :
    (val_main_v22 (F := Ideal) x0 x1 x2 x3 x5 x8 : Vec Ideal S8x2050x5632 .f32) (ix3 b s f) = FfnSpec.ext A b.val s.val f.val := by
  have e := u_at x0 x1 x2 x3 x5 A h0 h1 h2 h3 h5 b
  unfold val_main_v22
  revert e
  generalize (val_main_v21 (F := Ideal) x0 x1 x2 x3 x5) = a
  intro e
  pointwise []
  simp only [e, h8, FfnSpec.ext, dite_eq_ite]

/-- The second result: the last two of them. -/
theorem buf_at (b : Fin 8) (r : Fin 2) (f : Fin 5632) :
    (val_main_v51 (F := Ideal) x0 x1 x2 x3 x5 x8 : Vec Ideal S8x2x5632 .f32) (ix3 b r f) = FfnSpec.ext A b.val (2048 + r.val) f.val := by
  have e := ext_at x0 x1 x2 x3 x5 x8 A h0 h1 h2 h3 h5 h8 b
  unfold val_main_v51
  revert e
  generalize (val_main_v22 (F := Ideal) x0 x1 x2 x3 x5 x8) = a
  intro e
  pointwise []
  simp only [e]

include h6 h7

/-- The convolved rows. -/
theorem z_at (b : Fin 8) (t : Fin 2048) (f : Fin 5632) :
    (val_main_v45 (F := Ideal) x0 x1 x2 x3 x5 x6 x7 x8 : Vec Ideal S8x2048x5632 .f32) (ix3 b t f) = FfnSpec.z A b.val t.val f.val := by
  have e := ext_at x0 x1 x2 x3 x5 x8 A h0 h1 h2 h3 h5 h8 b
  unfold val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23
  revert e
  generalize (val_main_v22 (F := Ideal) x0 x1 x2 x3 x5 x8) = a
  intro e
  pointwise []
  simp only [e, h6, h7, FfnSpec.z, Nat.add_comm _ t.val]
  rfl

/-- The hidden rows. -/
theorem act_at (b : Fin 8) (t : Fin 2048) (f : Fin 2816) :
    (val_main_v49 (F := Ideal) x0 x1 x2 x3 x5 x6 x7 x8 : Vec Ideal S8x2048x2816 .f32) (ix3 b t f) = FfnSpec.act A b.val t.val f.val := by
  have e := z_at x0 x1 x2 x3 x5 x6 x7 x8 A h0 h1 h2 h3 h5 h6 h7 h8 b t
  unfold val_main_v49 val_main_v48 val_main_v47 val_main_v46 val_main_call0_v5 val_main_call0_v4 val_main_call0_v3 val_main_call0_v2 val_main_call0_v1 val_main_call0_v0
    val_main_v47 val_main_call0_cst val_main_call0_cst_0
  revert e
  generalize (val_main_v45 (F := Ideal) x0 x1 x2 x3 x5 x6 x7 x8) = a
  intro e
  pointwise []
  simp only [e, FfnSpec.act, FfnSpec.silu]

include h9

/-- The second product. -/
theorem y_at (b : Fin 8) (t : Fin 2048) (d : Fin 1024) :
    (val_main_v50 (F := Ideal) x0 x1 x2 x3 x5 x6 x7 x8 x9 : Vec Ideal S8x2048x1024 .f32) (ix3 b t d) = FfnSpec.y A b.val t.val d.val := by
  have e := act_at x0 x1 x2 x3 x5 x6 x7 x8 A h0 h1 h2 h3 h5 h6 h7 h8 b t
  unfold val_main_v50
  revert e
  generalize (val_main_v49 (F := Ideal) x0 x1 x2 x3 x5 x6 x7 x8) = a
  intro e
  pointwise []
  rw [FfnSpec.y, Finset.sum_range]
  simp only [e, h9]

include h4

/-- The residual. -/
theorem res_at (b : Fin 8) (t : Fin 2048) (d : Fin 1024) :
    (val_main_v55 (F := Ideal) x0 x1 x2 x3 x4 x5 x6 x7 x8 x9 : Vec Ideal S8x2048x1024 .f32) (ix3 b t d) = FfnSpec.res A b.val t.val d.val := by
  have e := y_at x0 x1 x2 x3 x5 x6 x7 x8 x9 A h0 h1 h2 h3 h5 h6 h7 h8 h9 b t
  unfold val_main_v55 val_main_v54 val_main_v53 val_main_v52
  revert e
  generalize (val_main_v50 (F := Ideal) x0 x1 x2 x3 x5 x6 x7 x8 x9) = a
  intro e
  pointwise []
  simp only [e, h0, h4, FfnSpec.res]

include h10

/-- The first result. -/
theorem out_at (r : Fin 16384) (d : Fin 1024) :
    (val_main_v69 (F := Ideal) x0 x1 x2 x3 x4 x5 x6 x7 x8 x9 x10 : Vec Ideal S16384x1024 .f32) (ix2 r d)
      = FfnSpec.out A (r.val / 2048) (r.val % 2048) d.val := by
  have e := res_at x0 x1 x2 x3 x4 x5 x6 x7 x8 x9 A h0 h1 h2 h3 h4 h5 h6 h7 h8 h9
  unfold val_main_v69 val_main_v68 val_main_v67 val_main_v66 val_main_v65 val_main_v64 val_main_v63 val_main_v62 val_main_v61 val_main_v60 val_main_v59 val_main_v58 val_main_v57 val_main_v56 val_main_cst_3 val_main_cst_4 val_main_cst_5
  revert e
  generalize (val_main_v55 (F := Ideal) x0 x1 x2 x3 x4 x5 x6 x7 x8 x9) = a
  intro e
  pointwise []
  simp only [e, h10, FfnSpec.out, FfnSpec.inv, zero_add]

omit h0 h1 h2 h3 h4 h5 h6 h7 h8 h9 h10

/-- The residual's rows, of the arrays' arguments. -/
theorem res_of (hA : A = FfnSpec.ofArgs x0 x1 x2 x3 x4 x5 x6 x7 x8 x9 x10) (b : Fin 8) (t : Fin 2048) (d : Fin 1024) :
    (val_main_v55 (F := Ideal) x0 x1 x2 x3 x4 x5 x6 x7 x8 x9 : Vec Ideal S8x2048x1024 .f32) (ix3 b t d) = FfnSpec.res A b.val t.val d.val :=
  have ⟨h0, h1, h2, h3, h4, h5, h6, h7, h8, h9, _⟩ := FfnSpec.entries _ _ _ _ _ _ _ _ _ _ _ A hA
  res_at x0 x1 x2 x3 x4 x5 x6 x7 x8 x9 A h0 h1 h2 h3 h4 h5 h6 h7 h8 h9 b t d

/-- The second result's rows, of the arrays' arguments. -/
theorem buf_of (hA : A = FfnSpec.ofArgs x0 x1 x2 x3 x4 x5 x6 x7 x8 x9 x10) (b : Fin 8) (r : Fin 2) (f : Fin 5632) :
    (val_main_v51 (F := Ideal) x0 x1 x2 x3 x5 x8 : Vec Ideal S8x2x5632 .f32) (ix3 b r f) = FfnSpec.ext A b.val (2048 + r.val) f.val :=
  have ⟨h0, h1, h2, h3, _, h5, _, _, h8, _, _⟩ := FfnSpec.entries _ _ _ _ _ _ _ _ _ _ _ A hA
  buf_at x0 x1 x2 x3 x5 x8 A h0 h1 h2 h3 h5 h8 b r f

/-- The first result's rows, of the arrays' arguments. -/
theorem out_of (hA : A = FfnSpec.ofArgs x0 x1 x2 x3 x4 x5 x6 x7 x8 x9 x10) (r : Fin 16384) (d : Fin 1024) :
    (val_main_v69 (F := Ideal) x0 x1 x2 x3 x4 x5 x6 x7 x8 x9 x10 : Vec Ideal S16384x1024 .f32) (ix2 r d)
      = FfnSpec.out A (r.val / 2048) (r.val % 2048) d.val :=
  have ⟨h0, h1, h2, h3, h4, h5, h6, h7, h8, h9, h10⟩ := FfnSpec.entries _ _ _ _ _ _ _ _ _ _ _ A hA
  out_at x0 x1 x2 x3 x4 x5 x6 x7 x8 x9 x10 A h0 h1 h2 h3 h4 h5 h6 h7 h8 h9 h10 r d

end Cert.FfnReferenceIdeal.Rows

end
-- ==== Proof.FfnValue.lean ====
module

public import proofs.«01_k».proof.Defs
public import proofs.«01_k».proof.Proof.FfnKernel
public import proofs.«01_k».proof.Proof.FfnRef
public import Idealize.ShloMosaic.Lib.Quiescent

@[expose] public section

/-! # The feed-forward kernel computes the reference's layer -/

set_option maxRecDepth 16384

noncomputable section

open Idealize.ShloMosaic Idealize.ShloMosaic.TcCoe Idealize.SL.Sem

namespace Cert.Proof.Ffn

section Ref

open FfnReferenceIdeal

variable (x0 : Vec Ideal S8x2048x1024 .f32) (x1 : Vec Ideal S1024 .f32) (x2 x3 x4 : Vec Ideal S8x1024 .f32) (x5 : Vec Ideal S1024x5632 .f32)
  (x6 : Vec Ideal S3x5632 .f32) (x7 : Vec Ideal S5632 .f32) (x8 : Vec Ideal S8x2x5632 .f32) (x9 : Vec Ideal S2816x1024 .f32)
  (x10 : Vec Ideal S1024 .f32)

/-- The reference's first result is the kernel's. -/
theorem ref_out : (Read.val_main_v69 (F := Ideal) x0 x1 x2 x3 x4 x5 x6 x7 x8 x9 x10 : Vec Ideal S16384x1024 .f32)
    = FfnIdeal.Blocks.outK (FfnSpec.ofArgs x0 x1 x2 x3 x4 x5 x6 x7 x8 x9 x10) := by
  funext j
  change S16384x1024.Idx at j
  idx_vars j
  exact Rows.out_of x0 x1 x2 x3 x4 x5 x6 x7 x8 x9 x10 _ rfl j0 j1

/-- The reference's second result is the kernel's. -/
theorem ref_buf : (Read.val_main_v51 (F := Ideal) x0 x1 x2 x3 x5 x8 : Vec Ideal S8x2x5632 .f32)
    = FfnIdeal.Blocks.bufK (FfnSpec.ofArgs x0 x1 x2 x3 x4 x5 x6 x7 x8 x9 x10) := by
  funext j
  change S8x2x5632.Idx at j
  idx_vars j
  exact Rows.buf_of x0 x1 x2 x3 x4 x5 x6 x7 x8 x9 x10 _ rfl j0 j1 j2

/-- The memory's arguments, by coordinates. -/
abbrev args (m : (ℓ : Loc nD τ sig) → Buf (Elt Ideal) ℓ) (c : Dev nD) : FfnSpec.Args :=
  FfnSpec.ofArgs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- The reference's results, index by index, are the kernel's. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69) = FfnIdeal.Blocks.outK (args m c)
      ∧ r.2.mem ((c.tc : Thread nD τ).loc main_v51) = FfnIdeal.Blocks.bufK (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((Read.val_main_v69_eq m c).trans (ref_out _ _ _ _ _ _ _ _ _ _ _)),
    (h c).2.1.trans ((Read.val_main_v51_eq _ _ _ _ _ _).trans (ref_buf _ _ _ _ _ _ _ _ _ _ _)), (h c).2.2⟩) (Value.run m ρ)

end Ref

/-- The kernel's two result arrays and the reference's are equal. -/
theorem algebraic : Cert.algebraic_FfnIdeal_FfnReferenceIdeal :=
  fun m ρ m' ρ' _ hag =>
    have e : ∀ c, args m' c = FfnIdeal.Blocks.args m c := fun c => by
      obtain ⟨a0, a1, a2, a3, a4, a5, a6, a7, a8, a9, a10⟩ := hag c
      unfold args
      rw [a0, a1, a2, a3, a4, a5, a6, a7, a8, a9, a10]
    ⟨fun c => FfnIdeal.Blocks.outK (FfnIdeal.Blocks.args m c), fun c => FfnIdeal.Blocks.bufK (FfnIdeal.Blocks.args m c),
      (θ_run _ _ _).mono (fun _ h c => ⟨(h c).1.trans (FfnIdeal.Blocks.final_out m c),
        (h c).2.1.trans (FfnIdeal.Blocks.final_buf m c), (h c).2.2⟩) (FfnIdeal.Value.run_blocks m ρ),
      (θ_run _ _ _).mono (fun _ h c => ⟨(h c).1.trans (by rw [e c]), (h c).2.1.trans (by rw [e c]), (h c).2.2⟩) (ref_run m' ρ')⟩

/-- The reference runs to its end and leaves its arguments and every counter as they were. -/
theorem quiescent : Cert.quiescent_FfnReferenceIdeal :=
  fun m ρ _ => (θ_run _ _ _).mono (fun r h => ⟨fun c => (h c).2.2, Idealize.ShloMosaic.sem_eq_zero_of_no_sems (by decide) r.2⟩)
    (FfnReferenceIdeal.Value.run (F := Ideal) m ρ)

end Cert.Proof.Ffn

end
-- ==== Proof.ProjSpec.lean ====
module

public import proofs.«01_k».proof.Proof.FfnSpec

@[expose] public section

/-! # The projections of the normed rows, as plain sums

The projection that opens the retention layer and those that open the sparse attention layer are one function: the rows are normed
and modulated, then multiplied by a weight. Arguments are read at naturals, as in `FfnSpec`. -/

noncomputable section

open Idealize.ShloMosaic

namespace Cert.ProjSpec

/-- A projection's arguments by their coordinates as naturals. -/
structure Args where
  /-- The rows: sequence, token, channel. -/
  x : ℕ → ℕ → ℕ → EReal
  /-- The norm's gain. -/
  g : ℕ → EReal
  /-- The modulation's shift and its scale: sequence, channel. -/
  sh : ℕ → ℕ → EReal
  sc : ℕ → ℕ → EReal
  /-- The weight. -/
  w : ℕ → ℕ → EReal

/-- A projection's arguments, from arrays. -/
def ofArrays {B T n : ℕ} [NeZero B] [NeZero T] [NeZero n] (x : Fin B → Fin T → Fin 1024 → EReal) (g : Fin 1024 → EReal)
    (sh sc : Fin B → Fin 1024 → EReal) (w : Fin 1024 → Fin n → EReal) : Args :=
  ⟨FfnSpec.nat3 x, FfnSpec.nat1 g, FfnSpec.nat2 sh, FfnSpec.nat2 sc, FfnSpec.nat2 w⟩

/-- A projection's arguments, from the programs' arrays. -/
abbrev ofArgs {B T n : ℕ} [NeZero B] [NeZero T] [NeZero n] (a0 : Vec Ideal ⟨3, ![B, T, 1024]⟩ .f32) (a1 : Vec Ideal ⟨1, ![1024]⟩ .f32)
    (a2 a3 : Vec Ideal ⟨2, ![B, 1024]⟩ .f32) (a4 : Vec Ideal ⟨2, ![1024, n]⟩ .f32) : Args :=
  ofArrays (fun b t d => a0 (ix3 b t d)) (fun d => a1 (ix1 d)) (fun b d => a2 (ix2 b d)) (fun b d => a3 (ix2 b d)) (fun k f => a4 (ix2 k f))

variable (A : Args)

/-- The normed and modulated rows. -/
def h (b τ d : ℕ) : EReal := A.x b τ d * FfnSpec.inv (A.x b τ) * A.g d * (1 + A.sc b d) + A.sh b d

/-- Their product with the weight. -/
def proj (b τ f : ℕ) : EReal := ∑ k : Fin 1024, h A b τ k.val * A.w k.val f

/-- Columns `o` to `o + n - 1` of the product, the sequences' rows one after another. -/
def rows (n o : ℕ) : Vec Ideal ⟨2, ![16384, n]⟩ .f32 := fun j => proj A ((j 0).val / 2048) ((j 0).val % 2048) (o + (j 1).val)

end Cert.ProjSpec

end
-- ==== Proof.RetInKernel.lean ====
module

public import proofs.«01_k».proof.Proof.ProjSpec
public import proofs.«01_k».proof.Proof.Gen.RetInIdeal.Value
public import Idealize.ShloMosaic.Lib.Pointwise
public import Idealize.ShloMosaic.Lib.Pipeline.ValueKit
public import Idealize.ShloMosaic.Lib.Pipeline.ReadBack

@[expose] public section

/-! # The kernel of the retention layer's first projection, read at an index

A grid point is a tile of 512 rows and a quarter of the weight's columns. The normed rows are computed at a tile's first point and kept
for the other three. -/

set_option maxRecDepth 16384

noncomputable section

open Idealize.ShloMosaic Idealize.ShloMosaic.TcCoe Idealize.SL.Sem
open Idealize.ShloMosaic.Pipeline (Dat)

namespace Cert.RetInIdeal.Blocks

open Cert.RetInIdeal Cert.RetInIdeal.Gen

/-- A tile's normed and modulated rows, over blocks that hold the tile's part of the arguments. -/
theorem hid_pay (A : ProjSpec.Args) (b n : ℕ) (x0 : Vec Ideal S512x1024 .f32) (x1 : Vec Ideal S1x1024 .f32) (x2 x3 : Vec Ideal S1x1x1024 .f32)
    (h0 : ∀ (i : Fin 512) (d : Fin 1024), x0 (ix2 i d) = A.x b (n * 512 + i.val) d.val)
    (h1 : ∀ d : Fin 1024, x1 (ix2 0 d) = A.g d.val)
    (h2 : ∀ d : Fin 1024, x2 (ix3 0 0 d) = A.sh b d.val)
    (h3 : ∀ d : Fin 1024, x3 (ix3 0 0 d) = A.sc b d.val) (i : Fin 512) (d : Fin 1024) :
    (k0_pay1 (F := Ideal) x0 x1 x2 x3 : Vec Ideal S512x1024 .bf16) (ix2 i d) = (ProjSpec.h A b (n * 512 + i.val) d.val : EReal) := by
  pointwise [k0_pay1]
  simp only [h0, h1, h2, h3, ProjSpec.h, FfnSpec.inv]

variable (m : (ℓ : Loc nD τ sig) → Buf (Elt Ideal) ℓ) (c : Dev nD)

/-- The windows' block indices: a grid point is tile `t / 4`, of sequence `t / 16`, and quarter `t % 4`. -/
theorem idx : ∀ t : Fin cfg0.N, win0_0.index t = ![t.val / 4, 0] ∧ win0_1.index t = ![0, 0]
    ∧ win0_2.index t = ![t.val / 16, 0, 0] ∧ win0_3.index t = ![t.val / 16, 0, 0] ∧ win0_4.index t = ![0, t.val % 4]
    ∧ win0_5.index t = ![t.val / 4, t.val % 4] ∧ t.val < 128 :=
  (by decide +kernel : ∀ t : Fin grid0.N, _)

theorem lt_128 (t : Fin cfg0.N) : t.val < 128 := (idx t).2.2.2.2.2.2

/-- The memory's arguments. -/
abbrev args : ProjSpec.Args :=
  ProjSpec.ofArgs (n := 6144) (m ((c : Thread nD τ).loc main_arg0)) (m ((c : Thread nD τ).loc main_arg1)) (m ((c : Thread nD τ).loc main_arg2))
    (m ((c : Thread nD τ).loc main_arg3)) (m ((c : Thread nD τ).loc main_arg4))

section Blocks

variable (t : Fin cfg0.N)

/-- The tile's rows. -/
theorem x_blk (i : Fin 512) (d : Fin 1024) :
    (iblk m c 0 t : Vec Ideal S512x1024 .f32) (ix2 i d) = (args m c).x (t.val / 16) (t.val / 4 % 4 * 512 + i.val) d.val := by
  have ht := lt_128 t
  have e0 : ∀ r : Fin 16384, (V m c main_v0 : Vec Ideal S16384x1024 .f32) (ix2 r d)
      = m ((c : Thread nD τ).loc main_arg0) (ix3 ⟨r.val / 2048, by omega⟩ ⟨r.val % 2048, by omega⟩ d) := fun r => by
    entry_read
    pointwise []
  have e : (iblk m c 0 t : Vec Ideal S512x1024 .f32) (ix2 i d) = (V m c main_v0 : Vec Ideal S16384x1024 .f32) (ix2 ⟨t.val / 4 * 512 + i, by omega⟩ d) := by
    blk_ext [iblk, idx t]
  rw [e, e0]
  exact FfnSpec.nat3_of (fun b t d => m ((c : Thread nD τ).loc main_arg0) (ix3 b t d)) _ _ d.isLt (by dsimp only; omega) (by dsimp only; omega) rfl

/-- The gain. -/
theorem g_blk (d : Fin 1024) : (iblk m c 1 t : Vec Ideal S1x1024 .f32) (ix2 0 d) = (args m c).g d.val := by
  have e0 : (V m c main_v4 : Vec Ideal S1x1024 .f32) (ix2 0 d) = m ((c : Thread nD τ).loc main_arg1) (ix1 d) := by
    entry_read
    pointwise []
  have e : (iblk m c 1 t : Vec Ideal S1x1024 .f32) (ix2 0 d) = (V m c main_v4 : Vec Ideal S1x1024 .f32) (ix2 0 d) := by
    blk_ext [iblk, idx t]
  rw [e, e0]
  exact FfnSpec.nat1_of (fun d => m ((c : Thread nD τ).loc main_arg1) (ix1 d)) d.isLt rfl

/-- The sequence's shift. -/
theorem sh_blk (d : Fin 1024) : (iblk m c 2 t : Vec Ideal S1x1x1024 .f32) (ix3 0 0 d) = (args m c).sh (t.val / 16) d.val := by
  have ht := lt_128 t
  have e0 : ∀ b : Fin 8, (V m c main_v2 : Vec Ideal S8x1x1024 .f32) (ix3 b 0 d) = m ((c : Thread nD τ).loc main_arg2) (ix2 b d) := fun b => by
    entry_read
    pointwise []
  have e : (iblk m c 2 t : Vec Ideal S1x1x1024 .f32) (ix3 0 0 d) = (V m c main_v2 : Vec Ideal S8x1x1024 .f32) (ix3 ⟨t.val / 16, by omega⟩ 0 d) := by
    blk_ext [iblk, idx t]
  rw [e, e0]
  exact FfnSpec.nat2_of (fun b d => m ((c : Thread nD τ).loc main_arg2) (ix2 b d)) _ d.isLt rfl rfl

/-- The sequence's scale. -/
theorem sc_blk (d : Fin 1024) : (iblk m c 3 t : Vec Ideal S1x1x1024 .f32) (ix3 0 0 d) = (args m c).sc (t.val / 16) d.val := by
  have ht := lt_128 t
  have e0 : ∀ b : Fin 8, (V m c main_v3 : Vec Ideal S8x1x1024 .f32) (ix3 b 0 d) = m ((c : Thread nD τ).loc main_arg3) (ix2 b d) := fun b => by
    entry_read
    pointwise []
  have e : (iblk m c 3 t : Vec Ideal S1x1x1024 .f32) (ix3 0 0 d) = (V m c main_v3 : Vec Ideal S8x1x1024 .f32) (ix3 ⟨t.val / 16, by omega⟩ 0 d) := by
    blk_ext [iblk, idx t]
  rw [e, e0]
  exact FfnSpec.nat2_of (fun b d => m ((c : Thread nD τ).loc main_arg3) (ix2 b d)) _ d.isLt rfl rfl

/-- The weight's quarter. -/
theorem w_blk (k : Fin 1024) (f : Fin 1536) :
    (iblk m c 4 t : Vec Ideal S1024x1536 .bf16) (ix2 k f) = ((args m c).w k.val (t.val % 4 * 1536 + f.val) : EReal) := by
  have e0 : ∀ f : Fin 6144, (V m c main_v1 : Vec Ideal S1024x6144 .bf16) (ix2 k f) = (m ((c : Thread nD τ).loc main_arg4) (ix2 k f) : EReal) := fun f => by
    entry_read
    pointwise []
  have e : (iblk m c 4 t : Vec Ideal S1024x1536 .bf16) (ix2 k f)
      = (V m c main_v1 : Vec Ideal S1024x6144 .bf16) (ix2 k ⟨t.val % 4 * 1536 + f.val, by omega⟩) := by
    blk_ext [iblk, idx t]
  refine e.trans ((e0 _).trans ?_)
  exact FfnSpec.nat2_of (fun k f => m ((c : Thread nD τ).loc main_arg4) (ix2 k f)) k.isLt _ rfl rfl

/-- The tile's normed and modulated rows. -/
theorem hid_at (i : Fin 512) (d : Fin 1024) :
    (k0_pay1 (F := Ideal) (iblk m c 0 t) (iblk m c 1 t) (iblk m c 2 t) (iblk m c 3 t) : Vec Ideal S512x1024 .bf16) (ix2 i d)
      = (ProjSpec.h (args m c) (t.val / 16) (t.val / 4 % 4 * 512 + i.val) d.val : EReal) :=
  hid_pay (args m c) (t.val / 16) (t.val / 4 % 4) _ _ _ _ (x_blk m c t) (g_blk m c t) (sh_blk m c t) (sc_blk m c t) i d

end Blocks

/-- The rows kept for the tile's later points. -/
theorem kept_at : ∀ (n : ℕ) (hn : n < cfg0.N) (i : Fin 512) (d : Fin 1024),
    ((outsAt0 m c n hn).2 : Vec Ideal S512x1024 .bf16) (ix2 i d) = (ProjSpec.h (args m c) (n / 16) (n / 4 % 4 * 512 + i.val) d.val : EReal)
  | n, hn, i, d => by
    by_cases h0 : n % 4 = 0
    · have e : (outsAt0 m c n hn).2 = k0_pay1 (iblk m c 0 ⟨n, hn⟩) (iblk m c 1 ⟨n, hn⟩) (iblk m c 2 ⟨n, hn⟩) (iblk m c 3 ⟨n, hn⟩) := by
        rw [show outsAt0 m c n hn = _ from outsAt0_A m c ⟨n, hn⟩ h0]
        frame_out
      exact (congrFun e _).trans (hid_at m c ⟨n, hn⟩ i d)
    · have hb : n - 1 < cfg0.N := Nat.lt_of_le_of_lt (Nat.sub_le _ _) hn
      have e : (outsAt0 m c n hn).2 = (outsAt0 m c (n - 1) hb).2 := by
        rw [show outsAt0 m c n hn = _ from outsAt0_B m c ⟨n, hn⟩ h0]
        rfl
      refine (congrFun e _).trans ((kept_at (n - 1) hb i d).trans ?_)
      rw [show (n - 1) / 16 = n / 16 by omega, show (n - 1) / 4 = n / 4 by omega]
  termination_by n => n
  decreasing_by omega

/-- A point's block is the kept rows' product with its quarter of the weight. -/
theorem out_eq (t : Fin cfg0.N) : (outsAt0 m c t.val t.isLt).1 = k0_pay2 (outsAt0 m c t.val t.isLt).2 (iblk m c 4 t) := by
  by_cases h0 : t.val % 4 = 0
  · rw [outsAt0_A m c t h0]
    frame_out
  · rw [outsAt0_B m c t h0]
    frame_out
    rw [read_unread_whole]
    rfl

/-- A point's block, index by index. -/
theorem out_at (t : Fin cfg0.N) (y : S512x1536.Idx) : ((outsAt0 m c t.val t.isLt).1 : Vec Ideal S512x1536 .f32) y
    = ProjSpec.proj (args m c) (t.val / 16) (t.val / 4 % 4 * 512 + (y 0).val) (t.val % 4 * 1536 + (y 1).val) := by
  idx_vars y
  rw [out_eq]
  have e := kept_at m c t.val t.isLt
  have e' := w_blk m c t
  revert e e'
  generalize (outsAt0 m c t.val t.isLt).2 = a
  generalize iblk m c 4 t = w
  intro e e'
  pointwise [k0_pay2]
  simp only [e, e', ProjSpec.proj]

/-- The result array after the run. -/
theorem final_out : (dats m 0 c).arrAt 5 cfg0.N = ProjSpec.rows (args m c) 6144 0 := by
  refine (dats m 0 c).arrAt_eq_of_covers 5 _ (by decide +kernel) fun t hf y => ?_
  have ht := lt_128 t
  have e0 : ((win0_5.blk t).view.emb y 0 : ℕ) = t.val / 4 * 512 + (y 0).val := by blk_simp [idx t]
  have e1 : ((win0_5.blk t).view.emb y 1 : ℕ) = t.val % 4 * 1536 + (y 1).val := by blk_simp [idx t]
  have h0 : (y 0).val < 512 := (y 0).isLt
  blk_simp
  rw [after0_5]
  refine (out_at m c t y).trans ?_
  unfold ProjSpec.rows
  rw [e0, e1, Nat.zero_add]
  have a0 : (t.val / 4 * 512 + (y 0).val) / 2048 = t.val / 16 := by omega
  have a1 : (t.val / 4 * 512 + (y 0).val) % 2048 = t.val / 4 % 4 * 512 + (y 0).val := by omega
  rw [a0, a1]

end Cert.RetInIdeal.Blocks

end
-- ==== Proof.RetInValue.lean ====
module

public import proofs.«01_k».proof.Defs
public import proofs.«01_k».proof.Proof.RetInKernel
public import proofs.«01_k».proof.Proof.Gen.RetInReferenceIdeal.Read
public import Idealize.ShloMosaic.Lib.Quiescent

@[expose] public section

/-! # The retention layer's first projection: the kernel computes the reference's product -/

set_option maxRecDepth 16384

noncomputable section

open Idealize.ShloMosaic Idealize.ShloMosaic.TcCoe Idealize.SL.Sem

namespace Cert.Proof.RetIn

section Ref

open RetInReferenceIdeal RetInReferenceIdeal.Read

variable (x0 : Vec Ideal S8x2048x1024 .f32) (x1 : Vec Ideal S1024 .f32) (x2 x3 : Vec Ideal S8x1024 .f32)

/-- The normed and modulated rows. -/
theorem h_at {n : ℕ} [NeZero n] (x4 : Vec Ideal ⟨2, ![1024, n]⟩ .f32) (b : Fin 8) (t : Fin 2048) (d : Fin 1024) :
    (val_main_v20 (F := Ideal) x0 x1 x2 x3 : Vec Ideal S8x2048x1024 .f32) (ix3 b t d)
      = ProjSpec.h (ProjSpec.ofArgs x0 x1 x2 x3 x4) b.val t.val d.val := by
  have h0 : ∀ (b : Fin 8) (t : Fin 2048) (d : Fin 1024), x0 (ix3 b t d) = (ProjSpec.ofArgs x0 x1 x2 x3 x4).x b.val t.val d.val :=
    fun b t d => FfnSpec.nat3_of (fun b t d => x0 (ix3 b t d)) b.isLt t.isLt d.isLt rfl rfl rfl
  have h1 : ∀ d : Fin 1024, x1 (ix1 d) = (ProjSpec.ofArgs x0 x1 x2 x3 x4).g d.val :=
    fun d => FfnSpec.nat1_of (fun d => x1 (ix1 d)) d.isLt rfl
  have h2 : ∀ (b : Fin 8) (d : Fin 1024), x2 (ix2 b d) = (ProjSpec.ofArgs x0 x1 x2 x3 x4).sh b.val d.val :=
    fun b d => FfnSpec.nat2_of (fun b d => x2 (ix2 b d)) b.isLt d.isLt rfl rfl
  have h3 : ∀ (b : Fin 8) (d : Fin 1024), x3 (ix2 b d) = (ProjSpec.ofArgs x0 x1 x2 x3 x4).sc b.val d.val :=
    fun b d => FfnSpec.nat2_of (fun b d => x3 (ix2 b d)) b.isLt d.isLt rfl rfl
  revert h0 h1 h2 h3
  generalize ProjSpec.ofArgs x0 x1 x2 x3 x4 = A
  intro h0 h1 h2 h3
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [h0, h1, h2, h3, ProjSpec.h, FfnSpec.inv, zero_add]

variable (x4 : Vec Ideal S1024x6144 .f32)

/-- The reference's result is the kernel's. -/
theorem ref_out : (val_main_v22 (F := Ideal) x0 x1 x2 x3 x4 : Vec Ideal S16384x6144 .f32)
    = ProjSpec.rows (ProjSpec.ofArgs (n := 6144) x0 x1 x2 x3 x4) 6144 0 := by
  funext j
  change S16384x6144.Idx at j
  idx_vars j
  have e := h_at x0 x1 x2 x3 (n := 6144) x4
  have e4 : ∀ (k : Fin 1024) (f : Fin 6144), x4 (ix2 k f) = (ProjSpec.ofArgs (n := 6144) x0 x1 x2 x3 x4).w k.val f.val :=
    fun k f => FfnSpec.nat2_of (fun k f => x4 (ix2 k f)) k.isLt f.isLt rfl rfl
  unfold val_main_v22 val_main_v21
  revert e e4
  generalize (val_main_v20 (F := Ideal) x0 x1 x2 x3) = a
  generalize ProjSpec.ofArgs (n := 6144) x0 x1 x2 x3 x4 = A
  intro e e4
  pointwise []
  simp only [e, e4, ProjSpec.rows, ProjSpec.proj, Nat.zero_add]
  rfl

/-- The memory's arguments, by coordinates. -/
abbrev args (m : (ℓ : Loc nD τ sig) → Buf (Elt Ideal) ℓ) (c : Dev nD) : ProjSpec.Args :=
  ProjSpec.ofArgs (n := 6144) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Ref

/-- The kernel's result array and the reference's are equal. -/
theorem algebraic : Cert.algebraic_RetInIdeal_RetInReferenceIdeal :=
  fun m ρ m' ρ' _ hag =>
    have e : ∀ c, args m' c = RetInIdeal.Blocks.args m c := fun c => by
      obtain ⟨a0, a1, a2, a3, a4⟩ := hag c
      unfold args
      rw [a0, a1, a2, a3, a4]
    ⟨fun c => ProjSpec.rows (RetInIdeal.Blocks.args m c) 6144 0,
      (θ_run _ _ _).mono (fun _ h c => ⟨(h c).1.trans (RetInIdeal.Blocks.final_out m c), (h c).2⟩) (RetInIdeal.Value.run_blocks m ρ),
      (θ_run _ _ _).mono (fun _ h c => ⟨(h c).1.trans ((RetInReferenceIdeal.Read.val_main_v22_eq _ _ _ _ _).trans ((ref_out _ _ _ _ _).trans (congrArg (ProjSpec.rows · 6144 0) (e c)))), (h c).2⟩)
        (RetInReferenceIdeal.Value.run (F := Ideal) m' ρ')⟩

/-- The reference runs to its end and leaves its arguments and every counter as they were. -/
theorem quiescent : Cert.quiescent_RetInReferenceIdeal :=
  fun m ρ _ => (θ_run _ _ _).mono (fun r h => ⟨fun c => (h c).2, Idealize.ShloMosaic.sem_eq_zero_of_no_sems (by decide) r.2⟩)
    (RetInReferenceIdeal.Value.run (F := Ideal) m ρ)

end Cert.Proof.RetIn

end
-- ==== Proof.ResSpec.lean ====
module

public import proofs.«01_k».proof.Proof.FfnSpec

@[expose] public section

/-! # The products that close a layer, as plain sums

The retention layer and the sparse attention layer end alike: the layer's rows are multiplied by a weight, gated and added to the
residual stream. The sparse attention works on the sixteen heads of 64 channels in another order than its weights have; `swap` is the
change of order. Arguments are read at naturals, as in `FfnSpec`. -/

noncomputable section

open Idealize.ShloMosaic

namespace Cert.ResSpec

/-- The arguments by their coordinates as naturals, the product being over `K` channels. -/
structure Args (K : ℕ) where
  /-- The layer's rows, the sequences' one after another. -/
  a : ℕ → ℕ → EReal
  /-- The weight. -/
  w : ℕ → ℕ → EReal
  /-- The residual stream: sequence, token, channel. -/
  x : ℕ → ℕ → ℕ → EReal
  /-- The gate: sequence, channel. -/
  ga : ℕ → ℕ → EReal

/-- The arguments, from arrays. -/
def ofArrays {K : ℕ} [NeZero K] (a : Fin 16384 → Fin K → EReal) (w : Fin K → Fin 1024 → EReal) (x : Fin 8 → Fin 2048 → Fin 1024 → EReal)
    (ga : Fin 8 → Fin 1024 → EReal) : Args K :=
  ⟨FfnSpec.nat2 a, FfnSpec.nat2 w, FfnSpec.nat3 x, FfnSpec.nat2 ga⟩

/-- The arguments, from the programs' arrays. -/
abbrev ofArgs {K : ℕ} [NeZero K] (a0 : Vec Ideal ⟨2, ![16384, K]⟩ .bf16) (a1 : Vec Ideal ⟨2, ![K, 1024]⟩ .f32)
    (a2 : Vec Ideal ⟨3, ![8, 2048, 1024]⟩ .f32) (a3 : Vec Ideal ⟨2, ![8, 1024]⟩ .f32) : Args K :=
  ofArrays (fun r k => a0 (ix2 r k)) (fun k d => a1 (ix2 k d)) (fun b t d => a2 (ix3 b t d)) (fun b d => a3 (ix2 b d))

variable {K : ℕ} (A : Args K)

/-- The residual stream after the layer. -/
def res (r d : ℕ) : EReal := A.x (r / 2048) (r % 2048) d + A.ga (r / 2048) d * ∑ k : Fin K, A.a r k.val * A.w k.val d

/-- The same as an array. -/
def rows : Vec Ideal ⟨2, ![16384, 1024]⟩ .f32 := fun j => res A (j 0).val (j 1).val

/-- Sixteen heads of 64 channels, four groups of four: the channel of head `h` of group `g` for that of head `g` of group `h`. -/
def swap (k : ℕ) : ℕ := k / 64 % 4 * 256 + k / 256 * 64 + k % 64

theorem swap_lt {k : ℕ} (h : k < 1024) : swap k < 1024 := by
  unfold swap
  omega

theorem swap_swap {k : ℕ} (h : k < 1024) : swap (swap k) = k :=
  (by decide +kernel : ∀ k : Fin 1024, swap (swap k.val) = k.val) ⟨k, h⟩

/-- The channels in the other order. -/
def swapEquiv : Fin 1024 ≃ Fin 1024 where
  toFun k := ⟨swap k.val, swap_lt k.isLt⟩
  invFun k := ⟨swap k.val, swap_lt k.isLt⟩
  left_inv k := Fin.ext (swap_swap k.isLt)
  right_inv k := Fin.ext (swap_swap k.isLt)

/-- The weight's rows in the other order. -/
def swapW (A : Args 1024) : Args 1024 := { A with w := fun k d => A.w (swap k) d }

/-- The layer's channels in the other order. -/
def swapA (A : Args 1024) : Args 1024 := { A with a := fun r k => A.a r (swap k) }

/-- Reordering the weight's rows or the channels is the same. -/
theorem rows_swap (A : Args 1024) : rows (swapW A) = rows (swapA A) := by
  funext j
  refine congrArg (fun s => A.x _ _ _ + A.ga _ _ * s) ?_
  refine (swapEquiv.sum_comp fun k : Fin 1024 => A.a (j 0).val k.val * A.w (swap k.val) (j 1).val).symm.trans ?_
  refine Finset.sum_congr rfl fun k _ => ?_
  change A.a _ (swap k.val) * A.w (swap (swap k.val)) _ = A.a _ (swap k.val) * A.w k.val _
  rw [swap_swap k.isLt]

end Cert.ResSpec

end
-- ==== Proof.QProjKernel.lean ====
module

public import proofs.«01_k».proof.Proof.RetInKernel
public import proofs.«01_k».proof.Proof.Put
public import proofs.«01_k».proof.Proof.ResSpec
public import proofs.«01_k».proof.Proof.Gen.QProjIdeal.Value

@[expose] public section

/-! # The kernel of the queries, read at an index

A grid point is a tile of 512 rows. The weight is in one block: its first 1024 columns, the heads in the order the attention takes
them in, multiplied by one eighth. -/

set_option maxRecDepth 16384

noncomputable section

open Idealize.ShloMosaic Idealize.ShloMosaic.TcCoe Idealize.SL.Sem
open Idealize.ShloMosaic.Pipeline (Dat)

namespace Cert.QProjIdeal.Blocks

open Cert.QProjIdeal Cert.QProjIdeal.Gen

/-- The queries' scale. -/
def eighth : EReal := Ideal.ofBits .f32 0x3E000000#32

theorem eighth_eq : eighth = (((1 : ℝ) / 8 : ℝ) : EReal) := by
  unfold eighth
  simp [Ideal.ofBits, Ideal.ieee, -EReal.coe_mul]
  norm_num

theorem eighth_nonneg : 0 ≤ eighth := by
  rw [eighth_eq]
  exact_mod_cast (by norm_num : (0 : ℝ) ≤ 1 / 8)

theorem eighth_ne_top : eighth ≠ ⊤ := by
  rw [eighth_eq]
  exact EReal.coe_ne_top _

/-- The scale comes out of a product's sum. -/
theorem sum_mul_eighth {n : ℕ} (a w : Fin n → EReal) : ∑ k, a k * (w k * eighth) = (∑ k, a k * w k) * eighth := by
  rw [Finset.sum_congr rfl fun k _ => (mul_assoc (a k) (w k) eighth).symm]
  generalize (Finset.univ : Finset (Fin n)) = s
  induction s using Finset.cons_induction with
  | empty => simp
  | cons k s hk ih => rw [Finset.sum_cons, Finset.sum_cons, ih, EReal.right_distrib_of_nonneg_of_ne_top eighth_nonneg eighth_ne_top]

/-- The queries: the product's first 1024 columns, the heads in the attention's order, scaled. -/
def queries (A : ProjSpec.Args) : Vec Ideal S16384x1024 .bf16 := fun j =>
  (ProjSpec.proj A ((j 0).val / 2048) ((j 0).val % 2048) (ResSpec.swap (j 1).val) * eighth : EReal)

variable (m : (ℓ : Loc nD τ sig) → Buf (Elt Ideal) ℓ) (c : Dev nD)

/-- The windows' block indices: a grid point is tile `t`, of sequence `t / 4`. -/
theorem idx : ∀ t : Fin cfg0.N, win0_0.index t = ![t.val, 0] ∧ win0_1.index t = ![0, 0]
    ∧ win0_2.index t = ![t.val / 4, 0, 0] ∧ win0_3.index t = ![t.val / 4, 0, 0] ∧ win0_4.index t = ![0, 0]
    ∧ win0_5.index t = ![t.val, 0] ∧ t.val < 32 :=
  (by decide +kernel : ∀ t : Fin grid0.N, _)

theorem lt_32 (t : Fin cfg0.N) : t.val < 32 := (idx t).2.2.2.2.2.2

/-- The memory's arguments. -/
abbrev args : ProjSpec.Args :=
  ProjSpec.ofArgs (n := 1072) (m ((c : Thread nD τ).loc main_arg0)) (m ((c : Thread nD τ).loc main_arg1)) (m ((c : Thread nD τ).loc main_arg2))
    (m ((c : Thread nD τ).loc main_arg3)) (m ((c : Thread nD τ).loc main_arg4))

section Blocks

variable (t : Fin cfg0.N)

/-- The tile's rows. -/
theorem x_blk (i : Fin 512) (d : Fin 1024) :
    (iblk m c 0 t : Vec Ideal S512x1024 .f32) (ix2 i d) = (args m c).x (t.val / 4) (t.val % 4 * 512 + i.val) d.val := by
  have ht := lt_32 t
  have e0 : ∀ r : Fin 16384, (V m c main_v7 : Vec Ideal S16384x1024 .f32) (ix2 r d)
      = m ((c : Thread nD τ).loc main_arg0) (ix3 ⟨r.val / 2048, by omega⟩ ⟨r.val % 2048, by omega⟩ d) := fun r => by
    entry_read
    pointwise []
  have e : (iblk m c 0 t : Vec Ideal S512x1024 .f32) (ix2 i d) = (V m c main_v7 : Vec Ideal S16384x1024 .f32) (ix2 ⟨t.val * 512 + i, by omega⟩ d) := by
    blk_ext [iblk, idx t]
  rw [e, e0]
  exact FfnSpec.nat3_of (fun b t d => m ((c : Thread nD τ).loc main_arg0) (ix3 b t d)) _ _ d.isLt (by dsimp only; omega) (by dsimp only; omega) rfl

/-- The gain. -/
theorem g_blk (d : Fin 1024) : (iblk m c 1 t : Vec Ideal S1x1024 .f32) (ix2 0 d) = (args m c).g d.val := by
  have e0 : (V m c main_v10 : Vec Ideal S1x1024 .f32) (ix2 0 d) = m ((c : Thread nD τ).loc main_arg1) (ix1 d) := by
    entry_read
    pointwise []
  have e : (iblk m c 1 t : Vec Ideal S1x1024 .f32) (ix2 0 d) = (V m c main_v10 : Vec Ideal S1x1024 .f32) (ix2 0 d) := by
    blk_ext [iblk, idx t]
  rw [e, e0]
  exact FfnSpec.nat1_of (fun d => m ((c : Thread nD τ).loc main_arg1) (ix1 d)) d.isLt rfl

/-- The sequence's shift. -/
theorem sh_blk (d : Fin 1024) : (iblk m c 2 t : Vec Ideal S1x1x1024 .f32) (ix3 0 0 d) = (args m c).sh (t.val / 4) d.val := by
  have ht := lt_32 t
  have e0 : ∀ b : Fin 8, (V m c main_v8 : Vec Ideal S8x1x1024 .f32) (ix3 b 0 d) = m ((c : Thread nD τ).loc main_arg2) (ix2 b d) := fun b => by
    entry_read
    pointwise []
  have e : (iblk m c 2 t : Vec Ideal S1x1x1024 .f32) (ix3 0 0 d) = (V m c main_v8 : Vec Ideal S8x1x1024 .f32) (ix3 ⟨t.val / 4, by omega⟩ 0 d) := by
    blk_ext [iblk, idx t]
  rw [e, e0]
  exact FfnSpec.nat2_of (fun b d => m ((c : Thread nD τ).loc main_arg2) (ix2 b d)) _ d.isLt rfl rfl

/-- The sequence's scale. -/
theorem sc_blk (d : Fin 1024) : (iblk m c 3 t : Vec Ideal S1x1x1024 .f32) (ix3 0 0 d) = (args m c).sc (t.val / 4) d.val := by
  have ht := lt_32 t
  have e0 : ∀ b : Fin 8, (V m c main_v9 : Vec Ideal S8x1x1024 .f32) (ix3 b 0 d) = m ((c : Thread nD τ).loc main_arg3) (ix2 b d) := fun b => by
    entry_read
    pointwise []
  have e : (iblk m c 3 t : Vec Ideal S1x1x1024 .f32) (ix3 0 0 d) = (V m c main_v9 : Vec Ideal S8x1x1024 .f32) (ix3 ⟨t.val / 4, by omega⟩ 0 d) := by
    blk_ext [iblk, idx t]
  rw [e, e0]
  exact FfnSpec.nat2_of (fun b d => m ((c : Thread nD τ).loc main_arg3) (ix2 b d)) _ d.isLt rfl rfl

/-- The weight's columns, scaled. -/
theorem w_blk (k : Fin 1024) (f : Fin 1024) : (iblk m c 4 t : Vec Ideal S1024x1024 .bf16) (ix2 k f) = ((args m c).w k.val (ResSpec.swap f.val) * eighth : EReal) := by
  have e0 : (V m c main_v6 : Vec Ideal S1024x1024 .bf16) (ix2 k f) = ((args m c).w k.val (ResSpec.swap f.val) * eighth : EReal) := by
    have hf := ResSpec.swap_lt f.isLt
    entry_read
    pointwise []
    exact congrArg (fun x : EReal => x * eighth)
      (FfnSpec.nat2_of (fun k f => m ((c : Thread nD τ).loc main_arg4) (ix2 k f)) k.isLt (j := ResSpec.swap f.val) (by omega) rfl rfl)
  have e : (iblk m c 4 t : Vec Ideal S1024x1024 .bf16) (ix2 k f) = (V m c main_v6 : Vec Ideal S1024x1024 .bf16) (ix2 k f) := by
    blk_ext [iblk, idx t]
  exact e.trans e0

/-- The tile's normed and modulated rows. -/
theorem hid_at (i : Fin 512) (d : Fin 1024) :
    (k0_pay1 (F := Ideal) (iblk m c 0 t) (iblk m c 1 t) (iblk m c 2 t) (iblk m c 3 t) : Vec Ideal S512x1024 .bf16) (ix2 i d)
      = (ProjSpec.h (args m c) (t.val / 4) (t.val % 4 * 512 + i.val) d.val : EReal) :=
  RetInIdeal.Blocks.hid_pay (args m c) (t.val / 4) (t.val % 4) _ _ _ _ (x_blk m c t) (g_blk m c t) (sh_blk m c t) (sc_blk m c t) i d

/-- A tile's block is its rows' product with the weight's columns. -/
theorem out_eq : outsAt0 m c t = k0_pay2 (k0_pay1 (iblk m c 0 t) (iblk m c 1 t) (iblk m c 2 t) (iblk m c 3 t)) (iblk m c 4 t) := by
  unfold outsAt0
  frame_out

/-- A tile's block, index by index. -/
theorem out_at (y : S512x1024.Idx) : (outsAt0 m c t : Vec Ideal S512x1024 .bf16) y
    = (ProjSpec.proj (args m c) (t.val / 4) (t.val % 4 * 512 + (y 0).val) (ResSpec.swap (y 1).val) * eighth : EReal) := by
  idx_vars y
  rw [out_eq]
  have e := hid_at m c t
  have e' := w_blk m c t
  revert e e'
  generalize k0_pay1 (iblk m c 0 t) (iblk m c 1 t) (iblk m c 2 t) (iblk m c 3 t) = a
  generalize iblk m c 4 t = w
  intro e e'
  pointwise [k0_pay2]
  simp only [e, e', ProjSpec.proj, sum_mul_eighth]

end Blocks

/-- The normed and modulated rows of any arrays: a memory that holds them, and its tiles' rows. The projections that have the same
tiles take their rows from here. -/
theorem hid_of (c : Dev nD) (a0 : Vec Ideal S8x2048x1024 .f32) (a1 : Vec Ideal S1024 .f32) (a2 a3 : Vec Ideal S8x1024 .f32)
    {n : ℕ} [NeZero n] (a4 : Vec Ideal ⟨2, ![1024, n]⟩ .f32) :
    ∃ m : (ℓ : Loc nD τ sig) → Buf (Elt Ideal) ℓ,
      m ((c : Thread nD τ).loc main_arg0) = a0 ∧ m ((c : Thread nD τ).loc main_arg1) = a1
      ∧ m ((c : Thread nD τ).loc main_arg2) = a2 ∧ m ((c : Thread nD τ).loc main_arg3) = a3
      ∧ ∀ (t : Fin cfg0.N) (i : Fin 512) (d : Fin 1024),
        (k0_pay1 (F := Ideal) (iblk m c 0 t) (iblk m c 1 t) (iblk m c 2 t) (iblk m c 3 t) : Vec Ideal S512x1024 .bf16) (ix2 i d)
          = (ProjSpec.h (ProjSpec.ofArgs a0 a1 a2 a3 a4) (t.val / 4) (t.val % 4 * 512 + i.val) d.val : EReal) := by
  have h : ∀ ℓ : Loc nD τ sig, Nonempty (Buf (Elt Ideal) ℓ) := fun ℓ => inferInstance
  have ⟨m, h0, h1, h2, h3⟩ : ∃ m : (ℓ : Loc nD τ sig) → Buf (Elt Ideal) ℓ,
      m ((c : Thread nD τ).loc main_arg0) = a0 ∧ m ((c : Thread nD τ).loc main_arg1) = a1
      ∧ m ((c : Thread nD τ).loc main_arg2) = a2 ∧ m ((c : Thread nD τ).loc main_arg3) = a3 := by
    refine ⟨Put.put (Put.put (Put.put (Put.put (fun ℓ => Classical.choice (h ℓ)) c main_arg0 a0) c main_arg1 a1) c main_arg2 a2)
      c main_arg3 a3, ?_⟩
    repeat' constructor
    all_goals
      repeat rw [Put.put_ne _ _ _ _ _ (by decide)]
      rw [Put.put_self]
  refine ⟨m, h0, h1, h2, h3, fun t i d => (hid_at m c t i d).trans ?_⟩
  rw [args, h0, h1, h2, h3]
  rfl

/-- The result array after the run. -/
theorem final_out : (dats m 0 c).arrAt 5 cfg0.N = queries (args m c) := by
  refine (dats m 0 c).arrAt_eq_of_covers 5 _ (by decide +kernel) fun t hf y => ?_
  have ht := lt_32 t
  have e0 : ((win0_5.blk t).view.emb y 0 : ℕ) = t.val * 512 + (y 0).val := by blk_simp [idx t]
  have e1 : ((win0_5.blk t).view.emb y 1 : ℕ) = (y 1).val := by blk_simp [idx t]
  have h0 : (y 0).val < 512 := (y 0).isLt
  blk_simp
  rw [after0_5]
  refine (out_at m c t y).trans ?_
  unfold queries
  rw [e0, e1]
  have a0 : (t.val * 512 + (y 0).val) / 2048 = t.val / 4 := by omega
  have a1 : (t.val * 512 + (y 0).val) % 2048 = t.val % 4 * 512 + (y 0).val := by omega
  rw [a0, a1]

end Cert.QProjIdeal.Blocks

end
-- ==== Proof.KvRowsKernel.lean ====
module

public import proofs.«01_k».proof.Proof.QProjKernel
public import proofs.«01_k».proof.Proof.Gen.KvRowsIdeal.Value

@[expose] public section

/-! # The kernel of the block keys and values, read at an index

A grid point is a tile of 512 rows; the weight is in one block, the first 1024 columns of the keys' and values' weight. -/

set_option maxRecDepth 16384

noncomputable section

open Idealize.ShloMosaic Idealize.ShloMosaic.TcCoe Idealize.SL.Sem
open Idealize.ShloMosaic.Pipeline (Dat)

namespace Cert.KvRowsIdeal.Blocks

open Cert.KvRowsIdeal Cert.KvRowsIdeal.Gen

variable (m : (ℓ : Loc nD τ sig) → Buf (Elt Ideal) ℓ) (c : Dev nD)

/-- The windows' block indices: a grid point is tile `t`, of sequence `t / 4`. -/
theorem idx : ∀ t : Fin cfg0.N, win0_0.index t = ![t.val, 0] ∧ win0_1.index t = ![0, 0]
    ∧ win0_2.index t = ![t.val / 4, 0, 0] ∧ win0_3.index t = ![t.val / 4, 0, 0] ∧ win0_4.index t = ![0, 0]
    ∧ win0_5.index t = ![t.val, 0] ∧ t.val < 32 :=
  (by decide +kernel : ∀ t : Fin grid0.N, _)

theorem lt_32 (t : Fin cfg0.N) : t.val < 32 := (idx t).2.2.2.2.2.2

/-- The memory's arguments. -/
abbrev args : ProjSpec.Args :=
  ProjSpec.ofArgs (n := 1536) (m ((c : Thread nD τ).loc main_arg0)) (m ((c : Thread nD τ).loc main_arg1)) (m ((c : Thread nD τ).loc main_arg2))
    (m ((c : Thread nD τ).loc main_arg3)) (m ((c : Thread nD τ).loc main_arg4))

section Blocks

variable (t : Fin cfg0.N)

/-- The weight's columns. -/
theorem w_blk (k : Fin 1024) (f : Fin 1024) : (iblk m c 4 t : Vec Ideal S1024x1024 .bf16) (ix2 k f) = ((args m c).w k.val f.val : EReal) := by
  have e0 : (V m c main_v2 : Vec Ideal S1024x1024 .bf16) (ix2 k f) = (m ((c : Thread nD τ).loc main_arg4) (ix2 k ⟨f.val, by omega⟩) : EReal) := by
    entry_read
    pointwise []
  have e : (iblk m c 4 t : Vec Ideal S1024x1024 .bf16) (ix2 k f) = (V m c main_v2 : Vec Ideal S1024x1024 .bf16) (ix2 k f) := by
    blk_ext [iblk, idx t]
  refine e.trans (e0.trans ?_)
  exact FfnSpec.nat2_of (fun k f => m ((c : Thread nD τ).loc main_arg4) (ix2 k f)) k.isLt _ rfl rfl

/-- The tile's normed and modulated rows. -/
theorem hid_at (i : Fin 512) (d : Fin 1024) :
    (k0_pay1 (F := Ideal) (iblk m c 0 t) (iblk m c 1 t) (iblk m c 2 t) (iblk m c 3 t) : Vec Ideal S512x1024 .bf16) (ix2 i d)
      = (ProjSpec.h (args m c) (t.val / 4) (t.val % 4 * 512 + i.val) d.val : EReal) := by
  obtain ⟨m', h0, h1, h2, h3, e⟩ := QProjIdeal.Blocks.hid_of c (m ((c : Thread nD τ).loc main_arg0)) (m ((c : Thread nD τ).loc main_arg1))
    (m ((c : Thread nD τ).loc main_arg2)) (m ((c : Thread nD τ).loc main_arg3)) (m ((c : Thread nD τ).loc main_arg4))
  have v0 : (V m c main_v0 : Vec Ideal S16384x1024 .f32) = QProjIdeal.Gen.V m' c QProjIdeal.main_v7 := by
    entry_read
    rw [h0]
    rfl
  have v1 : (V m c main_v5 : Vec Ideal S1x1024 .f32) = QProjIdeal.Gen.V m' c QProjIdeal.main_v10 := by
    entry_read
    rw [h1]
    rfl
  have v2 : (V m c main_v3 : Vec Ideal S8x1x1024 .f32) = QProjIdeal.Gen.V m' c QProjIdeal.main_v8 := by
    entry_read
    rw [h2]
    rfl
  have v3 : (V m c main_v4 : Vec Ideal S8x1x1024 .f32) = QProjIdeal.Gen.V m' c QProjIdeal.main_v9 := by
    entry_read
    rw [h3]
    rfl
  have e0 : iblk m c 0 t = QProjIdeal.Gen.iblk m' c 0 t := congrArg (View.read (Elt Ideal) ((cfg0.win 0).blk t).view) v0
  have e1 : iblk m c 1 t = QProjIdeal.Gen.iblk m' c 1 t := congrArg (View.read (Elt Ideal) ((cfg0.win 1).blk t).view) v1
  have e2 : iblk m c 2 t = QProjIdeal.Gen.iblk m' c 2 t := congrArg (View.read (Elt Ideal) ((cfg0.win 2).blk t).view) v2
  have e3 : iblk m c 3 t = QProjIdeal.Gen.iblk m' c 3 t := congrArg (View.read (Elt Ideal) ((cfg0.win 3).blk t).view) v3
  rw [e0, e1, e2, e3]
  exact e t i d

/-- A tile's block is its rows' product with the weight's columns. -/
theorem out_eq : outsAt0 m c t = k0_pay2 (k0_pay1 (iblk m c 0 t) (iblk m c 1 t) (iblk m c 2 t) (iblk m c 3 t)) (iblk m c 4 t) := by
  unfold outsAt0
  frame_out

/-- A tile's block, index by index. -/
theorem out_at (y : S512x1024.Idx) : (outsAt0 m c t : Vec Ideal S512x1024 .f32) y
    = ProjSpec.proj (args m c) (t.val / 4) (t.val % 4 * 512 + (y 0).val) (y 1).val := by
  idx_vars y
  rw [out_eq]
  have e := hid_at m c t
  have e' := w_blk m c t
  revert e e'
  generalize k0_pay1 (iblk m c 0 t) (iblk m c 1 t) (iblk m c 2 t) (iblk m c 3 t) = a
  generalize iblk m c 4 t = w
  intro e e'
  pointwise [k0_pay2]
  simp only [e, e', ProjSpec.proj]

end Blocks

/-- The result array after the run. -/
theorem final_out : (dats m 0 c).arrAt 5 cfg0.N = ProjSpec.rows (args m c) 1024 0 := by
  refine (dats m 0 c).arrAt_eq_of_covers 5 _ (by decide +kernel) fun t hf y => ?_
  have ht := lt_32 t
  have e0 : ((win0_5.blk t).view.emb y 0 : ℕ) = t.val * 512 + (y 0).val := by blk_simp [idx t]
  have e1 : ((win0_5.blk t).view.emb y 1 : ℕ) = (y 1).val := by blk_simp [idx t]
  have h0 : (y 0).val < 512 := (y 0).isLt
  blk_simp
  rw [after0_5]
  refine (out_at m c t y).trans ?_
  unfold ProjSpec.rows
  rw [e0, e1, Nat.zero_add]
  have a0 : (t.val * 512 + (y 0).val) / 2048 = t.val / 4 := by omega
  have a1 : (t.val * 512 + (y 0).val) % 2048 = t.val % 4 * 512 + (y 0).val := by omega
  rw [a0, a1]

end Cert.KvRowsIdeal.Blocks

end
-- ==== Proof.KvRowsValue.lean ====
module

public import proofs.«01_k».proof.Defs
public import proofs.«01_k».proof.Proof.RetInValue
public import proofs.«01_k».proof.Proof.KvRowsKernel
public import proofs.«01_k».proof.Proof.Gen.KvRowsReferenceIdeal.Read

@[expose] public section

/-! # The block keys and values: the kernel computes the reference's rows -/

set_option maxRecDepth 16384

noncomputable section

open Idealize.ShloMosaic Idealize.ShloMosaic.TcCoe Idealize.SL.Sem

namespace Cert.Proof.KvRows

section Ref

open KvRowsReferenceIdeal KvRowsReferenceIdeal.Read

variable (x0 : Vec Ideal S8x2048x1024 .f32) (x1 : Vec Ideal S1024 .f32) (x2 x3 : Vec Ideal S8x1024 .f32) (x4 : Vec Ideal S1024x1536 .f32)

/-- The reference's result is the kernel's: the first 1024 columns of the product. -/
theorem ref_out : (val_main_v24 (F := Ideal) x0 x1 x2 x3 x4 : Vec Ideal S16384x1024 .f32)
    = ProjSpec.rows (ProjSpec.ofArgs (n := 1536) x0 x1 x2 x3 x4) 1024 0 := by
  funext j
  change S16384x1024.Idx at j
  idx_vars j
  have e : ∀ (b : Fin 8) (t : Fin 2048) (d : Fin 1024), (val_main_v20 (F := Ideal) x0 x1 x2 x3 : Vec Ideal S8x2048x1024 .f32) (ix3 b t d)
      = ProjSpec.h (ProjSpec.ofArgs (n := 1536) x0 x1 x2 x3 x4) b.val t.val d.val := RetIn.h_at x0 x1 x2 x3 x4
  have e4 : ∀ (k : Fin 1024) (f : Fin 1536), x4 (ix2 k f) = (ProjSpec.ofArgs (n := 1536) x0 x1 x2 x3 x4).w k.val f.val :=
    fun k f => FfnSpec.nat2_of (fun k f => x4 (ix2 k f)) k.isLt f.isLt rfl rfl
  unfold val_main_v24 val_main_v23 val_main_v22 val_main_v21
  revert e e4
  generalize (val_main_v20 (F := Ideal) x0 x1 x2 x3) = a
  generalize ProjSpec.ofArgs (n := 1536) x0 x1 x2 x3 x4 = A
  intro e e4
  pointwise []
  simp only [e, e4, ProjSpec.rows, ProjSpec.proj, Nat.zero_add]
  have ej : j1.val / 256 * 256 + j1.val / 64 % 4 * 64 + j1.val % 64 = j1.val := by omega
  rw [ej]
  rfl

/-- The memory's arguments, by coordinates. -/
abbrev args (m : (ℓ : Loc nD τ sig) → Buf (Elt Ideal) ℓ) (c : Dev nD) : ProjSpec.Args :=
  ProjSpec.ofArgs (n := 1536) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Ref

/-- The kernel's result array and the reference's are equal. -/
theorem algebraic : Cert.algebraic_KvRowsIdeal_KvRowsReferenceIdeal :=
  fun m ρ m' ρ' _ hag =>
    have e : ∀ c, args m' c = KvRowsIdeal.Blocks.args m c := fun c => by
      obtain ⟨a0, a1, a2, a3, a4⟩ := hag c
      unfold args
      rw [a0, a1, a2, a3, a4]
    ⟨fun c => ProjSpec.rows (KvRowsIdeal.Blocks.args m c) 1024 0,
      (θ_run _ _ _).mono (fun _ h c => ⟨(h c).1.trans (KvRowsIdeal.Blocks.final_out m c), (h c).2⟩) (KvRowsIdeal.Value.run_blocks m ρ),
      (θ_run _ _ _).mono (fun _ h c => ⟨(h c).1.trans ((KvRowsReferenceIdeal.Read.val_main_v24_eq _ _ _ _ _).trans ((ref_out _ _ _ _ _).trans (congrArg (ProjSpec.rows · 1024 0) (e c)))), (h c).2⟩)
        (KvRowsReferenceIdeal.Value.run (F := Ideal) m' ρ')⟩

/-- The reference runs to its end and leaves its arguments and every counter as they were. -/
theorem quiescent : Cert.quiescent_KvRowsReferenceIdeal :=
  fun m ρ _ => (θ_run _ _ _).mono (fun r h => ⟨fun c => (h c).2, Idealize.ShloMosaic.sem_eq_zero_of_no_sems (by decide) r.2⟩)
    (KvRowsReferenceIdeal.Value.run (F := Ideal) m ρ)

end Cert.Proof.KvRows

end
-- ==== Proof.WinRowsKernel.lean ====
module

public import proofs.«01_k».proof.Proof.QProjKernel
public import proofs.«01_k».proof.Proof.Gen.WinRowsIdeal.Value

@[expose] public section

/-! # The kernel of the window's keys and values, read at an index

A grid point is a tile of 512 rows; the weight is in one block, the last 512 columns of the keys' and values' weight. -/

set_option maxRecDepth 16384

noncomputable section

open Idealize.ShloMosaic Idealize.ShloMosaic.TcCoe Idealize.SL.Sem
open Idealize.ShloMosaic.Pipeline (Dat)

namespace Cert.WinRowsIdeal.Blocks

open Cert.WinRowsIdeal Cert.WinRowsIdeal.Gen

variable (m : (ℓ : Loc nD τ sig) → Buf (Elt Ideal) ℓ) (c : Dev nD)

/-- The windows' block indices: a grid point is tile `t`, of sequence `t / 4`. -/
theorem idx : ∀ t : Fin cfg0.N, win0_0.index t = ![t.val, 0] ∧ win0_1.index t = ![0, 0]
    ∧ win0_2.index t = ![t.val / 4, 0, 0] ∧ win0_3.index t = ![t.val / 4, 0, 0] ∧ win0_4.index t = ![0, 0]
    ∧ win0_5.index t = ![t.val, 0] ∧ t.val < 32 :=
  (by decide +kernel : ∀ t : Fin grid0.N, _)

theorem lt_32 (t : Fin cfg0.N) : t.val < 32 := (idx t).2.2.2.2.2.2

/-- The memory's arguments. -/
abbrev args : ProjSpec.Args :=
  ProjSpec.ofArgs (n := 1536) (m ((c : Thread nD τ).loc main_arg0)) (m ((c : Thread nD τ).loc main_arg1)) (m ((c : Thread nD τ).loc main_arg2))
    (m ((c : Thread nD τ).loc main_arg3)) (m ((c : Thread nD τ).loc main_arg4))

section Blocks

variable (t : Fin cfg0.N)

/-- The weight's columns. -/
theorem w_blk (k : Fin 1024) (f : Fin 512) : (iblk m c 4 t : Vec Ideal S1024x512 .bf16) (ix2 k f) = ((args m c).w k.val (1024 + f.val) : EReal) := by
  have e0 : (V m c main_v2 : Vec Ideal S1024x512 .bf16) (ix2 k f) = (m ((c : Thread nD τ).loc main_arg4) (ix2 k ⟨1024 + f.val, by omega⟩) : EReal) := by
    entry_read
    pointwise []
  have e : (iblk m c 4 t : Vec Ideal S1024x512 .bf16) (ix2 k f) = (V m c main_v2 : Vec Ideal S1024x512 .bf16) (ix2 k f) := by
    blk_ext [iblk, idx t]
  refine e.trans (e0.trans ?_)
  exact FfnSpec.nat2_of (fun k f => m ((c : Thread nD τ).loc main_arg4) (ix2 k f)) k.isLt _ rfl rfl

/-- The tile's normed and modulated rows. -/
theorem hid_at (i : Fin 512) (d : Fin 1024) :
    (k0_pay1 (F := Ideal) (iblk m c 0 t) (iblk m c 1 t) (iblk m c 2 t) (iblk m c 3 t) : Vec Ideal S512x1024 .bf16) (ix2 i d)
      = (ProjSpec.h (args m c) (t.val / 4) (t.val % 4 * 512 + i.val) d.val : EReal) := by
  obtain ⟨m', h0, h1, h2, h3, e⟩ := QProjIdeal.Blocks.hid_of c (m ((c : Thread nD τ).loc main_arg0)) (m ((c : Thread nD τ).loc main_arg1))
    (m ((c : Thread nD τ).loc main_arg2)) (m ((c : Thread nD τ).loc main_arg3)) (m ((c : Thread nD τ).loc main_arg4))
  have v0 : (V m c main_v0 : Vec Ideal S16384x1024 .f32) = QProjIdeal.Gen.V m' c QProjIdeal.main_v7 := by
    entry_read
    rw [h0]
    rfl
  have v1 : (V m c main_v5 : Vec Ideal S1x1024 .f32) = QProjIdeal.Gen.V m' c QProjIdeal.main_v10 := by
    entry_read
    rw [h1]
    rfl
  have v2 : (V m c main_v3 : Vec Ideal S8x1x1024 .f32) = QProjIdeal.Gen.V m' c QProjIdeal.main_v8 := by
    entry_read
    rw [h2]
    rfl
  have v3 : (V m c main_v4 : Vec Ideal S8x1x1024 .f32) = QProjIdeal.Gen.V m' c QProjIdeal.main_v9 := by
    entry_read
    rw [h3]
    rfl
  have e0 : iblk m c 0 t = QProjIdeal.Gen.iblk m' c 0 t := congrArg (View.read (Elt Ideal) ((cfg0.win 0).blk t).view) v0
  have e1 : iblk m c 1 t = QProjIdeal.Gen.iblk m' c 1 t := congrArg (View.read (Elt Ideal) ((cfg0.win 1).blk t).view) v1
  have e2 : iblk m c 2 t = QProjIdeal.Gen.iblk m' c 2 t := congrArg (View.read (Elt Ideal) ((cfg0.win 2).blk t).view) v2
  have e3 : iblk m c 3 t = QProjIdeal.Gen.iblk m' c 3 t := congrArg (View.read (Elt Ideal) ((cfg0.win 3).blk t).view) v3
  rw [e0, e1, e2, e3]
  exact e t i d

/-- A tile's block is its rows' product with the weight's columns. -/
theorem out_eq : outsAt0 m c t = k0_pay2 (k0_pay1 (iblk m c 0 t) (iblk m c 1 t) (iblk m c 2 t) (iblk m c 3 t)) (iblk m c 4 t) := by
  unfold outsAt0
  frame_out

/-- A tile's block, index by index. -/
theorem out_at (y : S512x512.Idx) : (outsAt0 m c t : Vec Ideal S512x512 .f32) y
    = ProjSpec.proj (args m c) (t.val / 4) (t.val % 4 * 512 + (y 0).val) (1024 + (y 1).val) := by
  idx_vars y
  rw [out_eq]
  have e := hid_at m c t
  have e' := w_blk m c t
  revert e e'
  generalize k0_pay1 (iblk m c 0 t) (iblk m c 1 t) (iblk m c 2 t) (iblk m c 3 t) = a
  generalize iblk m c 4 t = w
  intro e e'
  pointwise [k0_pay2]
  simp only [e, e', ProjSpec.proj]

end Blocks

/-- The result array after the run. -/
theorem final_out : (dats m 0 c).arrAt 5 cfg0.N = ProjSpec.rows (args m c) 512 1024 := by
  refine (dats m 0 c).arrAt_eq_of_covers 5 _ (by decide +kernel) fun t hf y => ?_
  have ht := lt_32 t
  have e0 : ((win0_5.blk t).view.emb y 0 : ℕ) = t.val * 512 + (y 0).val := by blk_simp [idx t]
  have e1 : ((win0_5.blk t).view.emb y 1 : ℕ) = (y 1).val := by blk_simp [idx t]
  have h0 : (y 0).val < 512 := (y 0).isLt
  blk_simp
  rw [after0_5]
  refine (out_at m c t y).trans ?_
  unfold ProjSpec.rows
  rw [e0, e1]
  have a0 : (t.val * 512 + (y 0).val) / 2048 = t.val / 4 := by omega
  have a1 : (t.val * 512 + (y 0).val) % 2048 = t.val % 4 * 512 + (y 0).val := by omega
  rw [a0, a1]

end Cert.WinRowsIdeal.Blocks

end
-- ==== Proof.WinRowsValue.lean ====
module

public import proofs.«01_k».proof.Defs
public import proofs.«01_k».proof.Proof.RetInValue
public import proofs.«01_k».proof.Proof.WinRowsKernel
public import proofs.«01_k».proof.Proof.Gen.WinRowsReferenceIdeal.Read

@[expose] public section

/-! # The window's keys and values: the kernel computes the reference's rows -/

set_option maxRecDepth 16384

noncomputable section

open Idealize.ShloMosaic Idealize.ShloMosaic.TcCoe Idealize.SL.Sem

namespace Cert.Proof.WinRows

section Ref

open WinRowsReferenceIdeal WinRowsReferenceIdeal.Read

variable (x0 : Vec Ideal S8x2048x1024 .f32) (x1 : Vec Ideal S1024 .f32) (x2 x3 : Vec Ideal S8x1024 .f32) (x4 : Vec Ideal S1024x1536 .f32)

/-- The reference's result is the kernel's: the last 512 columns of the product. -/
theorem ref_out : (val_main_v24 (F := Ideal) x0 x1 x2 x3 x4 : Vec Ideal S16384x512 .f32)
    = ProjSpec.rows (ProjSpec.ofArgs (n := 1536) x0 x1 x2 x3 x4) 512 1024 := by
  funext j
  change S16384x512.Idx at j
  idx_vars j
  have e : ∀ (b : Fin 8) (t : Fin 2048) (d : Fin 1024), (val_main_v20 (F := Ideal) x0 x1 x2 x3 : Vec Ideal S8x2048x1024 .f32) (ix3 b t d)
      = ProjSpec.h (ProjSpec.ofArgs (n := 1536) x0 x1 x2 x3 x4) b.val t.val d.val := RetIn.h_at x0 x1 x2 x3 x4
  have e4 : ∀ (k : Fin 1024) (f : Fin 1536), x4 (ix2 k f) = (ProjSpec.ofArgs (n := 1536) x0 x1 x2 x3 x4).w k.val f.val :=
    fun k f => FfnSpec.nat2_of (fun k f => x4 (ix2 k f)) k.isLt f.isLt rfl rfl
  unfold val_main_v24 val_main_v23 val_main_v22 val_main_v21
  revert e e4
  generalize (val_main_v20 (F := Ideal) x0 x1 x2 x3) = a
  generalize ProjSpec.ofArgs (n := 1536) x0 x1 x2 x3 x4 = A
  intro e e4
  pointwise []
  simp only [e, e4, ProjSpec.rows, ProjSpec.proj]
  have ej : (4 + j1.val / 256) * 256 + j1.val / 64 % 4 * 64 + j1.val % 64 = 1024 + j1.val := by omega
  rw [ej]
  rfl

/-- The memory's arguments, by coordinates. -/
abbrev args (m : (ℓ : Loc nD τ sig) → Buf (Elt Ideal) ℓ) (c : Dev nD) : ProjSpec.Args :=
  ProjSpec.ofArgs (n := 1536) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Ref

/-- The kernel's result array and the reference's are equal. -/
theorem algebraic : Cert.algebraic_WinRowsIdeal_WinRowsReferenceIdeal :=
  fun m ρ m' ρ' _ hag =>
    have e : ∀ c, args m' c = WinRowsIdeal.Blocks.args m c := fun c => by
      obtain ⟨a0, a1, a2, a3, a4⟩ := hag c
      unfold args
      rw [a0, a1, a2, a3, a4]
    ⟨fun c => ProjSpec.rows (WinRowsIdeal.Blocks.args m c) 512 1024,
      (θ_run _ _ _).mono (fun _ h c => ⟨(h c).1.trans (WinRowsIdeal.Blocks.final_out m c), (h c).2⟩) (WinRowsIdeal.Value.run_blocks m ρ),
      (θ_run _ _ _).mono (fun _ h c => ⟨(h c).1.trans ((WinRowsReferenceIdeal.Read.val_main_v24_eq _ _ _ _ _).trans ((ref_out _ _ _ _ _).trans (congrArg (ProjSpec.rows · 512 1024) (e c)))), (h c).2⟩)
        (WinRowsReferenceIdeal.Value.run (F := Ideal) m' ρ')⟩

/-- The reference runs to its end and leaves its arguments and every counter as they were. -/
theorem quiescent : Cert.quiescent_WinRowsReferenceIdeal :=
  fun m ρ _ => (θ_run _ _ _).mono (fun r h => ⟨fun c => (h c).2, Idealize.ShloMosaic.sem_eq_zero_of_no_sems (by decide) r.2⟩)
    (WinRowsReferenceIdeal.Value.run (F := Ideal) m ρ)

end Cert.Proof.WinRows

end
-- ==== Proof.QProjValue.lean ====
module

public import proofs.«01_k».proof.Defs
public import proofs.«01_k».proof.Proof.RetInValue
public import proofs.«01_k».proof.Proof.QProjKernel
public import proofs.«01_k».proof.Proof.Gen.QProjReferenceIdeal.Read

@[expose] public section

/-! # The queries: the kernel computes the reference's -/

set_option maxRecDepth 16384

noncomputable section

open Idealize.ShloMosaic Idealize.ShloMosaic.TcCoe Idealize.SL.Sem

namespace Cert.Proof.QProj

section Ref

open QProjReferenceIdeal QProjReferenceIdeal.Read

variable (x0 : Vec Ideal S8x2048x1024 .f32) (x1 : Vec Ideal S1024 .f32) (x2 x3 : Vec Ideal S8x1024 .f32) (x4 : Vec Ideal S1024x1072 .f32)

/-- The reference's result is the kernel's. -/
theorem ref_out : (val_main_v28 (F := Ideal) x0 x1 x2 x3 x4 : Vec Ideal S16384x1024 .bf16)
    = QProjIdeal.Blocks.queries (ProjSpec.ofArgs (n := 1072) x0 x1 x2 x3 x4) := by
  funext j
  change S16384x1024.Idx at j
  idx_vars j
  have e : ∀ (b : Fin 8) (t : Fin 2048) (d : Fin 1024), (val_main_v20 (F := Ideal) x0 x1 x2 x3 : Vec Ideal S8x2048x1024 .f32) (ix3 b t d)
      = ProjSpec.h (ProjSpec.ofArgs (n := 1072) x0 x1 x2 x3 x4) b.val t.val d.val := RetIn.h_at x0 x1 x2 x3 x4
  have e4 : ∀ (k : Fin 1024) (f : Fin 1072), x4 (ix2 k f) = (ProjSpec.ofArgs (n := 1072) x0 x1 x2 x3 x4).w k.val f.val :=
    fun k f => FfnSpec.nat2_of (fun k f => x4 (ix2 k f)) k.isLt f.isLt rfl rfl
  unfold val_main_v28 val_main_v27 val_main_v26 val_main_v25 val_main_v24 val_main_cst_3 val_main_v23 val_main_v22 val_main_v21
  revert e e4
  generalize (val_main_v20 (F := Ideal) x0 x1 x2 x3) = a
  generalize ProjSpec.ofArgs (n := 1072) x0 x1 x2 x3 x4 = A
  intro e e4
  pointwise []
  simp only [e, e4, QProjIdeal.Blocks.queries, ProjSpec.proj]
  rfl

/-- The memory's arguments, by coordinates. -/
abbrev args (m : (ℓ : Loc nD τ sig) → Buf (Elt Ideal) ℓ) (c : Dev nD) : ProjSpec.Args :=
  ProjSpec.ofArgs (n := 1072) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Ref

/-- The kernel's result array and the reference's are equal. -/
theorem algebraic : Cert.algebraic_QProjIdeal_QProjReferenceIdeal :=
  fun m ρ m' ρ' _ hag =>
    have e : ∀ c, args m' c = QProjIdeal.Blocks.args m c := fun c => by
      obtain ⟨a0, a1, a2, a3, a4⟩ := hag c
      unfold args
      rw [a0, a1, a2, a3, a4]
    ⟨fun c => QProjIdeal.Blocks.queries (QProjIdeal.Blocks.args m c),
      (θ_run _ _ _).mono (fun _ h c => ⟨(h c).1.trans (QProjIdeal.Blocks.final_out m c), (h c).2⟩) (QProjIdeal.Value.run_blocks m ρ),
      (θ_run _ _ _).mono (fun _ h c => ⟨(h c).1.trans ((QProjReferenceIdeal.Read.val_main_v28_eq _ _ _ _ _).trans ((ref_out _ _ _ _ _).trans (congrArg QProjIdeal.Blocks.queries (e c)))), (h c).2⟩)
        (QProjReferenceIdeal.Value.run (F := Ideal) m' ρ')⟩

/-- The reference runs to its end and leaves its arguments and every counter as they were. -/
theorem quiescent : Cert.quiescent_QProjReferenceIdeal :=
  fun m ρ _ => (θ_run _ _ _).mono (fun r h => ⟨fun c => (h c).2, Idealize.ShloMosaic.sem_eq_zero_of_no_sems (by decide) r.2⟩)
    (QProjReferenceIdeal.Value.run (F := Ideal) m ρ)

end Cert.Proof.QProj

end
-- ==== Proof.RetOutKernel.lean ====
module

public import proofs.«01_k».proof.Proof.ResSpec
public import proofs.«01_k».proof.Proof.Put
public import proofs.«01_k».proof.Proof.Gen.RetOutIdeal.Value
public import Idealize.ShloMosaic.Lib.Pointwise
public import Idealize.ShloMosaic.Lib.Pipeline.ValueKit
public import Idealize.ShloMosaic.Lib.Pipeline.ReadBack

@[expose] public section

/-! # The kernel that closes the retention layer, read at an index -/

set_option maxRecDepth 16384

noncomputable section

open Idealize.ShloMosaic Idealize.ShloMosaic.TcCoe Idealize.SL.Sem
open Idealize.ShloMosaic.Pipeline (Dat)

namespace Cert.RetOutIdeal.Blocks

open Cert.RetOutIdeal Cert.RetOutIdeal.Gen

variable (m : (ℓ : Loc nD τ sig) → Buf (Elt Ideal) ℓ) (c : Dev nD)

/-- The windows' block indices: a grid point is tile `t` of 512 rows, of sequence `t / 4`. -/
theorem idx : ∀ t : Fin cfg0.N, win0_0.index t = ![t.val, 0] ∧ win0_1.index t = ![0, 0]
    ∧ win0_2.index t = ![t.val, 0] ∧ win0_3.index t = ![t.val / 4, 0, 0] ∧ win0_4.index t = ![t.val, 0] ∧ t.val < 32 :=
  (by decide +kernel : ∀ t : Fin grid0.N, _)

theorem lt_32 (t : Fin cfg0.N) : t.val < 32 := (idx t).2.2.2.2.2

/-- The memory's arguments. -/
abbrev args : ResSpec.Args 2048 :=
  ResSpec.ofArgs (K := 2048) (m ((c : Thread nD τ).loc main_arg0)) (m ((c : Thread nD τ).loc main_arg1)) (m ((c : Thread nD τ).loc main_arg2))
    (m ((c : Thread nD τ).loc main_arg3))

section Blocks

variable (t : Fin cfg0.N)

/-- The layer's rows. -/
theorem a_blk (i : Fin 512) (k : Fin 2048) :
    (iblk m c 0 t : Vec Ideal S512x2048 .bf16) (ix2 i k) = ((args m c).a (t.val * 512 + i.val) k.val : EReal) := by
  have ht := lt_32 t
  have e : (iblk m c 0 t : Vec Ideal S512x2048 .bf16) (ix2 i k) = m ((c : Thread nD τ).loc main_arg0) (ix2 ⟨t.val * 512 + i.val, by omega⟩ k) := by
    blk_ext [iblk, V, idx t]
  refine e.trans ?_
  exact FfnSpec.nat2_of (fun r k => m ((c : Thread nD τ).loc main_arg0) (ix2 r k)) _ k.isLt rfl rfl

/-- The weight. -/
theorem w_blk (k : Fin 2048) (d : Fin 1024) : (iblk m c 1 t : Vec Ideal S2048x1024 .bf16) (ix2 k d) = ((args m c).w k.val d.val : EReal) := by
  have e0 : (V m c main_v0 : Vec Ideal S2048x1024 .bf16) (ix2 k d) = (m ((c : Thread nD τ).loc main_arg1) (ix2 k d) : EReal) := by
    entry_read
    pointwise []
  have e : (iblk m c 1 t : Vec Ideal S2048x1024 .bf16) (ix2 k d) = (V m c main_v0 : Vec Ideal S2048x1024 .bf16) (ix2 k d) := by
    blk_ext [iblk, idx t]
  refine e.trans (e0.trans ?_)
  exact FfnSpec.nat2_of (fun k d => m ((c : Thread nD τ).loc main_arg1) (ix2 k d)) k.isLt d.isLt rfl rfl

/-- The residual stream's rows. -/
theorem x_blk (i : Fin 512) (d : Fin 1024) : (iblk m c 2 t : Vec Ideal S512x1024 .f32) (ix2 i d)
    = (args m c).x ((t.val * 512 + i.val) / 2048) ((t.val * 512 + i.val) % 2048) d.val := by
  have ht := lt_32 t
  have e0 : ∀ r : Fin 16384, (V m c main_v1 : Vec Ideal S16384x1024 .f32) (ix2 r d)
      = m ((c : Thread nD τ).loc main_arg2) (ix3 ⟨r.val / 2048, by omega⟩ ⟨r.val % 2048, by omega⟩ d) := fun r => by
    entry_read
    pointwise []
  have e : (iblk m c 2 t : Vec Ideal S512x1024 .f32) (ix2 i d) = (V m c main_v1 : Vec Ideal S16384x1024 .f32) (ix2 ⟨t.val * 512 + i.val, by omega⟩ d) := by
    blk_ext [iblk, idx t]
  rw [e, e0]
  exact FfnSpec.nat3_of (fun b t d => m ((c : Thread nD τ).loc main_arg2) (ix3 b t d)) _ _ d.isLt rfl rfl rfl

/-- The sequence's gate. -/
theorem ga_blk (i : Fin 512) (d : Fin 1024) : (iblk m c 3 t : Vec Ideal S1x1x1024 .f32) (ix3 0 0 d)
    = (args m c).ga ((t.val * 512 + i.val) / 2048) d.val := by
  have ht := lt_32 t
  have e0 : ∀ b : Fin 8, (V m c main_v2 : Vec Ideal S8x1x1024 .f32) (ix3 b 0 d) = m ((c : Thread nD τ).loc main_arg3) (ix2 b d) := fun b => by
    entry_read
    pointwise []
  have e : (iblk m c 3 t : Vec Ideal S1x1x1024 .f32) (ix3 0 0 d) = (V m c main_v2 : Vec Ideal S8x1x1024 .f32) (ix3 ⟨t.val / 4, by omega⟩ 0 d) := by
    blk_ext [iblk, idx t]
  rw [e, e0]
  exact FfnSpec.nat2_of (fun b d => m ((c : Thread nD τ).loc main_arg3) (ix2 b d)) _ d.isLt (by omega) rfl

end Blocks

/-- A memory that holds any rows of the residual stream and any gates. The kernel that closes the
sparse attention layer takes its blocks from here. -/
theorem exists_memory (c : Dev nD) (a2 : Vec Ideal S8x2048x1024 .f32) (a3 : Vec Ideal S8x1024 .f32) :
    ∃ m : (ℓ : Loc nD τ sig) → Buf (Elt Ideal) ℓ,
      m ((c : Thread nD τ).loc main_arg2) = a2 ∧ m ((c : Thread nD τ).loc main_arg3) = a3 := by
  have h : ∀ ℓ : Loc nD τ sig, Nonempty (Buf (Elt Ideal) ℓ) := fun ℓ => inferInstance
  refine ⟨Put.put (Put.put (fun ℓ => Classical.choice (h ℓ)) c main_arg2 a2) c main_arg3 a3, ?_, Put.put_self _ _ _ _⟩
  rw [Put.put_ne _ _ _ _ _ (by decide), Put.put_self]

/-- A tile's arithmetic, over blocks that hold the tile's part of the arguments. -/
theorem res_pay (A : ResSpec.Args 2048) (r : Fin 512 → ℕ) (x0 : Vec Ideal S512x2048 .bf16) (x1 : Vec Ideal S2048x1024 .bf16)
    (x2 : Vec Ideal S512x1024 .f32) (x3 : Vec Ideal S1x1x1024 .f32)
    (h0 : ∀ (i : Fin 512) (k : Fin 2048), x0 (ix2 i k) = (A.a (r i) k.val : EReal))
    (h1 : ∀ (k : Fin 2048) (d : Fin 1024), x1 (ix2 k d) = (A.w k.val d.val : EReal))
    (h2 : ∀ (i : Fin 512) (d : Fin 1024), x2 (ix2 i d) = A.x (r i / 2048) (r i % 2048) d.val)
    (h3 : ∀ (i : Fin 512) (d : Fin 1024), x3 (ix3 0 0 d) = A.ga (r i / 2048) d.val) (i : Fin 512) (d : Fin 1024) :
    (k0_pay1 (F := Ideal) x0 x1 x2 x3 : Vec Ideal S512x1024 .f32) (ix2 i d) = ResSpec.res A (r i) d.val := by
  pointwise [k0_pay1]
  simp only [h0, h1, h2, h3 i, ResSpec.res]

/-- A tile's block, index by index. -/
theorem out_at (t : Fin cfg0.N) (y : S512x1024.Idx) :
    (out0_4 (iblk m c 0 t) (iblk m c 1 t) (iblk m c 2 t) (iblk m c 3 t) : Vec Ideal S512x1024 .f32) y
      = ResSpec.res (args m c) (t.val * 512 + (y 0).val) (y 1).val := by
  have e : out0_4 (iblk m c 0 t) (iblk m c 1 t) (iblk m c 2 t) (iblk m c 3 t) = k0_pay1 (iblk m c 0 t) (iblk m c 1 t) (iblk m c 2 t) (iblk m c 3 t) := by
    frame_out
  idx_vars y
  rw [e]
  exact res_pay (args m c) (fun i => t.val * 512 + i.val) _ _ _ _ (a_blk m c t) (w_blk m c t) (x_blk m c t) (ga_blk m c t) y0 y1

/-- The result array after the run. -/
theorem final_out : (dats m 0 c).arrAt 4 cfg0.N = ResSpec.rows (args m c) := by
  refine (dats m 0 c).arrAt_eq_of_covers 4 _ (by decide +kernel) fun t hf y => ?_
  have e0 : ((win0_4.blk t).view.emb y 0 : ℕ) = t.val * 512 + (y 0).val := by blk_simp [idx t]
  have e1 : ((win0_4.blk t).view.emb y 1 : ℕ) = (y 1).val := by blk_simp [idx t]
  blk_simp
  rw [after0_4]
  refine (out_at m c t y).trans ?_
  unfold ResSpec.rows
  rw [e0, e1]

end Cert.RetOutIdeal.Blocks

end
-- ==== Proof.RetOutValue.lean ====
module

public import proofs.«01_k».proof.Defs
public import proofs.«01_k».proof.Proof.RetOutKernel
public import proofs.«01_k».proof.Proof.Gen.RetOutReferenceIdeal.Read
public import Idealize.ShloMosaic.Lib.Quiescent

@[expose] public section

/-! # The retention layer's closing product: the kernel computes the reference's residual stream -/

set_option maxRecDepth 16384

noncomputable section

open Idealize.ShloMosaic Idealize.ShloMosaic.TcCoe Idealize.SL.Sem

namespace Cert.Proof.RetOut

section Ref

open RetOutReferenceIdeal RetOutReferenceIdeal.Read

variable (x0 : Vec Ideal S16384x2048 .bf16) (x1 : Vec Ideal S2048x1024 .f32) (x2 : Vec Ideal S8x2048x1024 .f32) (x3 : Vec Ideal S8x1024 .f32)

/-- The reference's result is the kernel's. -/
theorem ref_out : (val_main_v7 (F := Ideal) x0 x1 x2 x3 : Vec Ideal S16384x1024 .f32) = ResSpec.rows (ResSpec.ofArgs (K := 2048) x0 x1 x2 x3) := by
  funext j
  change S16384x1024.Idx at j
  idx_vars j
  have h0 : ∀ (r : Fin 16384) (k : Fin 2048), x0 (ix2 r k) = ((ResSpec.ofArgs (K := 2048) x0 x1 x2 x3).a r.val k.val : EReal) :=
    fun r k => FfnSpec.nat2_of (fun r k => x0 (ix2 r k)) r.isLt k.isLt rfl rfl
  have h1 : ∀ (k : Fin 2048) (d : Fin 1024), x1 (ix2 k d) = (ResSpec.ofArgs (K := 2048) x0 x1 x2 x3).w k.val d.val :=
    fun k d => FfnSpec.nat2_of (fun k d => x1 (ix2 k d)) k.isLt d.isLt rfl rfl
  have h2 : ∀ (b : Fin 8) (t : Fin 2048) (d : Fin 1024), x2 (ix3 b t d) = (ResSpec.ofArgs (K := 2048) x0 x1 x2 x3).x b.val t.val d.val :=
    fun b t d => FfnSpec.nat3_of (fun b t d => x2 (ix3 b t d)) b.isLt t.isLt d.isLt rfl rfl rfl
  have h3 : ∀ (b : Fin 8) (d : Fin 1024), x3 (ix2 b d) = (ResSpec.ofArgs (K := 2048) x0 x1 x2 x3).ga b.val d.val :=
    fun b d => FfnSpec.nat2_of (fun b d => x3 (ix2 b d)) b.isLt d.isLt rfl rfl
  revert h0 h1 h2 h3
  generalize ResSpec.ofArgs (K := 2048) x0 x1 x2 x3 = A
  intro h0 h1 h2 h3
  have er : j0.val / 2048 * 2048 + j0.val % 2048 = j0.val := Nat.div_add_mod' _ _
  pointwise [val_main_v7, val_main_v6, val_main_v5, val_main_v4, val_main_v3, val_main_v2, val_main_v1, val_main_v0]
  simp only [h0, h1, h2, h3, ResSpec.rows, ResSpec.res, er]
  rfl

/-- The memory's arguments, by coordinates. -/
abbrev args (m : (ℓ : Loc nD τ sig) → Buf (Elt Ideal) ℓ) (c : Dev nD) : ResSpec.Args 2048 :=
  ResSpec.ofArgs (K := 2048) (m ((c.tc : Thread nD τ).loc main_arg0)) (m ((c.tc : Thread nD τ).loc main_arg1)) (m ((c.tc : Thread nD τ).loc main_arg2))
    (m ((c.tc : Thread nD τ).loc main_arg3))

end Ref

/-- The kernel's result array and the reference's are equal. -/
theorem algebraic : Cert.algebraic_RetOutIdeal_RetOutReferenceIdeal :=
  fun m ρ m' ρ' _ hag =>
    have e : ∀ c, args m' c = RetOutIdeal.Blocks.args m c := fun c => by
      obtain ⟨a0, a1, a2, a3⟩ := hag c
      unfold args
      rw [a0, a1, a2, a3]
    ⟨fun c => ResSpec.rows (RetOutIdeal.Blocks.args m c),
      (θ_run _ _ _).mono (fun _ h c => ⟨(h c).1.trans (RetOutIdeal.Blocks.final_out m c), (h c).2⟩) (RetOutIdeal.Value.run_blocks m ρ),
      (θ_run _ _ _).mono (fun _ h c => ⟨(h c).1.trans ((RetOutReferenceIdeal.Read.val_main_v7_eq _ _ _ _).trans ((ref_out _ _ _ _).trans (congrArg ResSpec.rows (e c)))), (h c).2⟩)
        (RetOutReferenceIdeal.Value.run (F := Ideal) m' ρ')⟩

/-- The reference runs to its end and leaves its arguments and every counter as they were. -/
theorem quiescent : Cert.quiescent_RetOutReferenceIdeal :=
  fun m ρ _ => (θ_run _ _ _).mono (fun r h => ⟨fun c => (h c).2, Idealize.ShloMosaic.sem_eq_zero_of_no_sems (by decide) r.2⟩)
    (RetOutReferenceIdeal.Value.run (F := Ideal) m ρ)

end Cert.Proof.RetOut

end
-- ==== Proof.NsaOutKernel.lean ====
module

public import proofs.«01_k».proof.Proof.RetOutKernel
public import proofs.«01_k».proof.Proof.Gen.NsaOutIdeal.Value
public import Idealize.ShloMosaic.Lib.Pointwise
public import Idealize.ShloMosaic.Lib.Pipeline.ValueKit
public import Idealize.ShloMosaic.Lib.Pipeline.ReadBack

@[expose] public section

/-! # The kernel that closes the sparse attention layer, read at an index

The weight's rows are in the order the attention leaves its heads in. -/

set_option maxRecDepth 16384

noncomputable section

open Idealize.ShloMosaic Idealize.ShloMosaic.TcCoe Idealize.SL.Sem
open Idealize.ShloMosaic.Pipeline (Dat)

namespace Cert.NsaOutIdeal.Blocks

open Cert.NsaOutIdeal Cert.NsaOutIdeal.Gen

variable (m : (ℓ : Loc nD τ sig) → Buf (Elt Ideal) ℓ) (c : Dev nD)

/-- The windows' block indices: a grid point is tile `t` of 512 rows, of sequence `t / 4`. -/
theorem idx : ∀ t : Fin cfg0.N, win0_0.index t = ![t.val, 0] ∧ win0_1.index t = ![0, 0]
    ∧ win0_2.index t = ![t.val, 0] ∧ win0_3.index t = ![t.val / 4, 0, 0] ∧ win0_4.index t = ![t.val, 0] ∧ t.val < 32 :=
  (by decide +kernel : ∀ t : Fin grid0.N, _)

theorem lt_32 (t : Fin cfg0.N) : t.val < 32 := (idx t).2.2.2.2.2

/-- The memory's arguments. -/
abbrev args : ResSpec.Args 1024 :=
  ResSpec.ofArgs (K := 1024) (m ((c : Thread nD τ).loc main_arg0)) (m ((c : Thread nD τ).loc main_arg1)) (m ((c : Thread nD τ).loc main_arg2))
    (m ((c : Thread nD τ).loc main_arg3))

section Blocks

variable (t : Fin cfg0.N)

/-- The layer's rows. -/
theorem a_blk (i : Fin 512) (k : Fin 1024) :
    (iblk m c 0 t : Vec Ideal S512x1024 .bf16) (ix2 i k) = ((args m c).a (t.val * 512 + i.val) k.val : EReal) := by
  have ht := lt_32 t
  have e : (iblk m c 0 t : Vec Ideal S512x1024 .bf16) (ix2 i k) = m ((c : Thread nD τ).loc main_arg0) (ix2 ⟨t.val * 512 + i.val, by omega⟩ k) := by
    blk_ext [iblk, V, idx t]
  refine e.trans ?_
  exact FfnSpec.nat2_of (fun r k => m ((c : Thread nD τ).loc main_arg0) (ix2 r k)) _ k.isLt rfl rfl

/-- The weight, its rows in the other order. -/
theorem w_blk (k : Fin 1024) (d : Fin 1024) : (iblk m c 1 t : Vec Ideal S1024x1024 .bf16) (ix2 k d) = ((args m c).w (ResSpec.swap k.val) d.val : EReal) := by
  have e0 : (V m c main_v3 : Vec Ideal S1024x1024 .bf16) (ix2 k d) = (m ((c : Thread nD τ).loc main_arg1) (ix2 ⟨ResSpec.swap k.val, ResSpec.swap_lt k.isLt⟩ d) : EReal) := by
    entry_read
    pointwise []
    rfl
  have e : (iblk m c 1 t : Vec Ideal S1024x1024 .bf16) (ix2 k d) = (V m c main_v3 : Vec Ideal S1024x1024 .bf16) (ix2 k d) := by
    blk_ext [iblk, idx t]
  refine e.trans (e0.trans ?_)
  exact FfnSpec.nat2_of (fun k d => m ((c : Thread nD τ).loc main_arg1) (ix2 k d)) _ d.isLt rfl rfl

/-- The residual stream's rows and the sequence's gate: the blocks are those of the kernel that closes the retention layer. -/
theorem x_ga_blk (i : Fin 512) (d : Fin 1024) : (iblk m c 2 t : Vec Ideal S512x1024 .f32) (ix2 i d)
      = (args m c).x ((t.val * 512 + i.val) / 2048) ((t.val * 512 + i.val) % 2048) d.val
    ∧ (iblk m c 3 t : Vec Ideal S1x1x1024 .f32) (ix3 0 0 d) = (args m c).ga ((t.val * 512 + i.val) / 2048) d.val := by
  obtain ⟨m', h2, h3⟩ := RetOutIdeal.Blocks.exists_memory c (m ((c : Thread nD τ).loc main_arg2)) (m ((c : Thread nD τ).loc main_arg3))
  have v2 : (V m c main_v4 : Vec Ideal S16384x1024 .f32) = RetOutIdeal.Gen.V m' c RetOutIdeal.main_v1 := by
    entry_read
    rw [h2]
    rfl
  have v3 : (V m c main_v5 : Vec Ideal S8x1x1024 .f32) = RetOutIdeal.Gen.V m' c RetOutIdeal.main_v2 := by
    entry_read
    rw [h3]
    rfl
  have e2 : iblk m c 2 t = RetOutIdeal.Gen.iblk m' c 2 t := congrArg (View.read (Elt Ideal) ((cfg0.win 2).blk t).view) v2
  have e3 : iblk m c 3 t = RetOutIdeal.Gen.iblk m' c 3 t := congrArg (View.read (Elt Ideal) ((cfg0.win 3).blk t).view) v3
  have ex := RetOutIdeal.Blocks.x_blk m' c t i d
  have eg := RetOutIdeal.Blocks.ga_blk m' c t i d
  rw [RetOutIdeal.Blocks.args, h2] at ex
  rw [RetOutIdeal.Blocks.args, h3] at eg
  rw [e2, e3]
  exact ⟨ex, eg⟩

end Blocks

/-- A tile's arithmetic, over blocks that hold the tile's part of the arguments. -/
theorem res_pay (A : ResSpec.Args 1024) (r : Fin 512 → ℕ) (x0 : Vec Ideal S512x1024 .bf16) (x1 : Vec Ideal S1024x1024 .bf16)
    (x2 : Vec Ideal S512x1024 .f32) (x3 : Vec Ideal S1x1x1024 .f32)
    (h0 : ∀ (i : Fin 512) (k : Fin 1024), x0 (ix2 i k) = (A.a (r i) k.val : EReal))
    (h1 : ∀ (k : Fin 1024) (d : Fin 1024), x1 (ix2 k d) = (A.w k.val d.val : EReal))
    (h2 : ∀ (i : Fin 512) (d : Fin 1024), x2 (ix2 i d) = A.x (r i / 2048) (r i % 2048) d.val)
    (h3 : ∀ (i : Fin 512) (d : Fin 1024), x3 (ix3 0 0 d) = A.ga (r i / 2048) d.val) (i : Fin 512) (d : Fin 1024) :
    (k0_pay1 (F := Ideal) x0 x1 x2 x3 : Vec Ideal S512x1024 .f32) (ix2 i d) = ResSpec.res A (r i) d.val := by
  pointwise [k0_pay1]
  simp only [h0, h1, h2, h3 i, ResSpec.res]

/-- A tile's block, index by index. -/
theorem out_at (t : Fin cfg0.N) (y : S512x1024.Idx) :
    (out0_4 (iblk m c 0 t) (iblk m c 1 t) (iblk m c 2 t) (iblk m c 3 t) : Vec Ideal S512x1024 .f32) y
      = ResSpec.res (ResSpec.swapW (args m c)) (t.val * 512 + (y 0).val) (y 1).val := by
  have e : out0_4 (iblk m c 0 t) (iblk m c 1 t) (iblk m c 2 t) (iblk m c 3 t) = k0_pay1 (iblk m c 0 t) (iblk m c 1 t) (iblk m c 2 t) (iblk m c 3 t) := by
    frame_out
  idx_vars y
  rw [e]
  exact res_pay (ResSpec.swapW (args m c)) (fun i => t.val * 512 + i.val) _ _ _ _ (a_blk m c t) (w_blk m c t) (fun i d => (x_ga_blk m c t i d).1)
    (fun i d => (x_ga_blk m c t i d).2) y0 y1

/-- The result array after the run. -/
theorem final_out : (dats m 0 c).arrAt 4 cfg0.N = ResSpec.rows (ResSpec.swapW (args m c)) := by
  refine (dats m 0 c).arrAt_eq_of_covers 4 _ (by decide +kernel) fun t hf y => ?_
  have e0 : ((win0_4.blk t).view.emb y 0 : ℕ) = t.val * 512 + (y 0).val := by blk_simp [idx t]
  have e1 : ((win0_4.blk t).view.emb y 1 : ℕ) = (y 1).val := by blk_simp [idx t]
  blk_simp
  rw [after0_4]
  refine (out_at m c t y).trans ?_
  unfold ResSpec.rows
  rw [e0, e1]

end Cert.NsaOutIdeal.Blocks

end
-- ==== Proof.NsaOutValue.lean ====
module

public import proofs.«01_k».proof.Defs
public import proofs.«01_k».proof.Proof.NsaOutKernel
public import proofs.«01_k».proof.Proof.Gen.NsaOutReferenceIdeal.Read
public import Idealize.ShloMosaic.Lib.Quiescent

@[expose] public section

/-! # The sparse attention layer's closing product: the kernel computes the reference's residual stream -/

set_option maxRecDepth 16384

noncomputable section

open Idealize.ShloMosaic Idealize.ShloMosaic.TcCoe Idealize.SL.Sem

namespace Cert.Proof.NsaOut

section Ref

open NsaOutReferenceIdeal NsaOutReferenceIdeal.Read

variable (x0 : Vec Ideal S16384x1024 .bf16) (x1 : Vec Ideal S1024x1024 .f32) (x2 : Vec Ideal S8x2048x1024 .f32) (x3 : Vec Ideal S8x1024 .f32)

/-- The reference's result is the kernel's. -/
theorem ref_out : (val_main_v9 (F := Ideal) x0 x1 x2 x3 : Vec Ideal S16384x1024 .f32)
    = ResSpec.rows (ResSpec.swapW (ResSpec.ofArgs (K := 1024) x0 x1 x2 x3)) := by
  rw [ResSpec.rows_swap]
  funext j
  change S16384x1024.Idx at j
  idx_vars j
  have h0 : ∀ (r : Fin 16384) (k : Fin 1024), x0 (ix2 r k) = ((ResSpec.ofArgs (K := 1024) x0 x1 x2 x3).a r.val k.val : EReal) :=
    fun r k => FfnSpec.nat2_of (fun r k => x0 (ix2 r k)) r.isLt k.isLt rfl rfl
  have h1 : ∀ (k : Fin 1024) (d : Fin 1024), x1 (ix2 k d) = (ResSpec.ofArgs (K := 1024) x0 x1 x2 x3).w k.val d.val :=
    fun k d => FfnSpec.nat2_of (fun k d => x1 (ix2 k d)) k.isLt d.isLt rfl rfl
  have h2 : ∀ (b : Fin 8) (t : Fin 2048) (d : Fin 1024), x2 (ix3 b t d) = (ResSpec.ofArgs (K := 1024) x0 x1 x2 x3).x b.val t.val d.val :=
    fun b t d => FfnSpec.nat3_of (fun b t d => x2 (ix3 b t d)) b.isLt t.isLt d.isLt rfl rfl rfl
  have h3 : ∀ (b : Fin 8) (d : Fin 1024), x3 (ix2 b d) = (ResSpec.ofArgs (K := 1024) x0 x1 x2 x3).ga b.val d.val :=
    fun b d => FfnSpec.nat2_of (fun b d => x3 (ix2 b d)) b.isLt d.isLt rfl rfl
  revert h0 h1 h2 h3
  generalize ResSpec.ofArgs (K := 1024) x0 x1 x2 x3 = A
  intro h0 h1 h2 h3
  have er : j0.val / 2048 * 2048 + j0.val % 2048 = j0.val := Nat.div_add_mod' _ _
  pointwise [val_main_v9, val_main_v8, val_main_v7, val_main_v6, val_main_v5, val_main_v4, val_main_v3, val_main_v2, val_main_v1, val_main_v0]
  simp only [h0, h1, h2, h3, ResSpec.rows, ResSpec.res, er]
  rfl

/-- The memory's arguments, by coordinates. -/
abbrev args (m : (ℓ : Loc nD τ sig) → Buf (Elt Ideal) ℓ) (c : Dev nD) : ResSpec.Args 1024 :=
  ResSpec.ofArgs (K := 1024) (m ((c.tc : Thread nD τ).loc main_arg0)) (m ((c.tc : Thread nD τ).loc main_arg1)) (m ((c.tc : Thread nD τ).loc main_arg2))
    (m ((c.tc : Thread nD τ).loc main_arg3))

end Ref

/-- The kernel's result array and the reference's are equal. -/
theorem algebraic : Cert.algebraic_NsaOutIdeal_NsaOutReferenceIdeal :=
  fun m ρ m' ρ' _ hag =>
    have e : ∀ c, args m' c = NsaOutIdeal.Blocks.args m c := fun c => by
      obtain ⟨a0, a1, a2, a3⟩ := hag c
      unfold args
      rw [a0, a1, a2, a3]
    ⟨fun c => ResSpec.rows (ResSpec.swapW (NsaOutIdeal.Blocks.args m c)),
      (θ_run _ _ _).mono (fun _ h c => ⟨(h c).1.trans (NsaOutIdeal.Blocks.final_out m c), (h c).2⟩) (NsaOutIdeal.Value.run_blocks m ρ),
      (θ_run _ _ _).mono (fun _ h c => ⟨(h c).1.trans ((NsaOutReferenceIdeal.Read.val_main_v9_eq _ _ _ _).trans ((ref_out _ _ _ _).trans (congrArg (fun A => ResSpec.rows (ResSpec.swapW A)) (e c)))), (h c).2⟩)
        (NsaOutReferenceIdeal.Value.run (F := Ideal) m' ρ')⟩

/-- The reference runs to its end and leaves its arguments and every counter as they were. -/
theorem quiescent : Cert.quiescent_NsaOutReferenceIdeal :=
  fun m ρ _ => (θ_run _ _ _).mono (fun r h => ⟨fun c => (h c).2, Idealize.ShloMosaic.sem_eq_zero_of_no_sems (by decide) r.2⟩)
    (NsaOutReferenceIdeal.Value.run (F := Ideal) m ρ)

end Cert.Proof.NsaOut

end
-- ==== Proof.RetSampleSpec.lean ====
module

public import proofs.«01_k».proof.Proof.FfnSpec
public import proofs.«01_k».proof.Proof.RetSpec

@[expose] public section

/-! # One chunk of the retention over a given state, as plain sums

The mathematics both programs of the sample compute: eight tokens of a sequence, over the state given for it. -/

noncomputable section

open Idealize.ShloMosaic

namespace Cert.RetSampleSpec

/-- The projections by row and column and the given states by sequence, head, key and value coordinate. -/
structure Args where
  x : ℕ → ℕ → EReal
  s : ℕ → ℕ → ℕ → ℕ → EReal

/-- The arguments, from arrays. -/
def ofArrays (x : Fin 1024 → Fin 6144 → EReal) (s : Fin 128 → Fin 4 → Fin 256 → Fin 512 → EReal) : Args :=
  ⟨FfnSpec.nat2 x, fun b h d e => s (Fin.ofNat 128 b) (Fin.ofNat 4 h) (Fin.ofNat 256 d) (Fin.ofNat 512 e)⟩

/-- The arguments, from two buffers' contents. -/
abbrev ofArgs (a0 : Vec Ideal ⟨2, ![1024, 6144]⟩ .f32) (a1 : Vec Ideal ⟨4, ![128, 4, 256, 512]⟩ .f32) : Args :=
  ofArrays (fun r c => a0 (ix2 r c)) (fun b h d e => a1 (ix4 b h d e))

/-- An entry of the projections, its coordinates spelt in any way. -/
theorem x_of (a0 : Vec Ideal ⟨2, ![1024, 6144]⟩ .f32) (a1 : Vec Ideal ⟨4, ![128, 4, 256, 512]⟩ .f32) {r c r' c' : ℕ}
    (hr : r < 1024) (hc : c < 6144) (er : r = r') (ec : c = c') : a0 (ix2 ⟨r, hr⟩ ⟨c, hc⟩) = (ofArgs a0 a1).x r' c' :=
  FfnSpec.nat2_of (fun r c => a0 (ix2 r c)) hr hc er ec

/-- An entry of the given states. -/
theorem s_of (a0 : Vec Ideal ⟨2, ![1024, 6144]⟩ .f32) (a1 : Vec Ideal ⟨4, ![128, 4, 256, 512]⟩ .f32) (b : Fin 128) (h : Fin 4)
    (d : Fin 256) (e : Fin 512) : a1 (ix4 b h d e) = (ofArgs a0 a1).s b.val h.val d.val e.val := by
  show _ = a1 (ix4 (Fin.ofNat 128 b.val) (Fin.ofNat 4 h.val) (Fin.ofNat 256 d.val) (Fin.ofNat 512 e.val))
  rw [← FfnSpec.fin_ofNat b.isLt rfl, ← FfnSpec.fin_ofNat h.isLt rfl, ← FfnSpec.fin_ofNat d.isLt rfl, ← FfnSpec.fin_ofNat e.isLt rfl]

variable (A : Args) (lg : EReal) (b h : ℕ)

/-- The query of token `i` of sequence `b`, head `h`. -/
def q (i d : ℕ) : EReal := A.x (b * 8 + i) (h * 256 + d)
/-- The key, scaled by `256 ^ (-1/2)`. -/
def k (i d : ℕ) : EReal := A.x (b * 8 + i) (1024 + (h * 256 + d)) * Ideal.ofBits .f32 0x3D800000#32
/-- The value. -/
def v (i e : ℕ) : EReal := A.x (b * 8 + i) (2048 + (h * 512 + e))
/-- What the output is gated with, before its nonlinearity. -/
def g (i e : ℕ) : EReal := A.x (b * 8 + i) (4096 + (h * 512 + e))

/-- The state after the eight tokens. -/
def st (d e : ℕ) : EReal := Ideal.exp (Ideal.ofBits .f32 0x41000000#32 * lg) * A.s b h d e
  + ∑ j : Fin 8, k A b h j d * Ideal.exp ((Ideal.ofBits .f32 0x40E00000#32 - RetSpec.pos j) * lg) * v A b h j e

/-- The mixer's output for one token before normalisation: the chunk's own part and the part of the given state. -/
def o (i e : ℕ) : EReal :=
  (∑ j : Fin 8, (∑ d : Fin 256, q A b h i d * k A b h j d) * RetSpec.mask lg i j * v A b h j e)
    + (∑ d : Fin 256, q A b h i d * A.s b h d e) * Ideal.exp ((RetSpec.pos i + 1) * lg)

/-- The output normalised over the head's 512 values and gated. -/
def y (i e : ℕ) : EReal :=
  o A lg b h i e * Ideal.rsqrt (Ideal.div (∑ f : Fin 512, o A lg b h i f * o A lg b h i f) (Ideal.ofBits .f32 0x44000000#32)
      + Ideal.ofBits .f32 0x358637BD#32)
    * (g A b h i e * Ideal.div 1 (1 + Ideal.exp (-g A b h i e)))

end Cert.RetSampleSpec

end
-- ==== Proof.RetSampleKernel.lean ====
module

public import proofs.«01_k».proof.Proof.Gen.RetSampleIdeal.Value
public import proofs.«01_k».proof.Proof.RetSampleSpec
public import Idealize.ShloMosaic.Lib.Pointwise
public import Idealize.ShloMosaic.Lib.Pipeline.ValueKit
public import Idealize.ShloMosaic.Lib.Pipeline.ReadBack

@[expose] public section

/-! # The retention kernel of the sample, read at an index -/

set_option maxRecDepth 16384

noncomputable section

open Idealize.ShloMosaic Idealize.ShloMosaic.TcCoe Idealize.SL.Sem
open Idealize.ShloMosaic.Pipeline (Dat)

namespace Cert.RetSampleIdeal.Blocks

open Cert.RetSampleIdeal Cert.RetSampleIdeal.Gen

variable (m : (ℓ : Loc nD τ sig) → Buf (Elt Ideal) ℓ) (c : Dev nD)

/-- The windows' block indices: a grid point is sequence `t / 4`, head `t % 4`. -/
theorem idx : ∀ t : Fin cfg0.N, win0_0.index t = ![t.val % 4, 0, 0]
    ∧ win0_1.index t = ![t.val / 4, 0 + t.val % 4] ∧ win0_2.index t = ![t.val / 4, 4 + t.val % 4]
    ∧ win0_3.index t = ![t.val / 4, 4 + t.val % 4] ∧ win0_4.index t = ![t.val / 4, 8 + t.val % 4]
    ∧ win0_5.index t = ![t.val / 4, t.val % 4, 0, 0] ∧ win0_6.index t = ![t.val / 4, t.val % 4]
    ∧ win0_7.index t = ![t.val / 4, t.val % 4, 0, 0] ∧ t.val < 512 :=
  (by decide +kernel : ∀ t : Fin grid0.N, _)

theorem lt_512 (t : Fin cfg0.N) : t.val < 512 := (idx t).2.2.2.2.2.2.2.2

/-- The memory's arguments. -/
abbrev args : RetSampleSpec.Args := RetSampleSpec.ofArgs (m ((c : Thread nD τ).loc main_arg0)) (m ((c : Thread nD τ).loc main_arg1))

/-- The logarithm of head `h`'s decay, `log1p (-2 ^ (-5 - h))`. -/
def lgKer (h : ℕ) : EReal :=
  Ideal.log1p (-Ideal.exp (Ideal.ofBits .f32 0x3F317218#32 * (Ideal.ofBits .f32 0xC0A00000#32 - FloatOps.sitofp (F := Ideal) .f32 (BitVec.ofNat 32 h))))

section Blocks

variable (t : Fin cfg0.N)

/-- The table of decays, at a head. -/
theorem lg_tab (h : Fin 4) : (V m c main_v9 : Vec Ideal S4x1x128 .f32) (ix3 h 0 0) = lgKer h := by
  entry_read
  pointwise [lgKer]

/-- The block of decays holds the head's. -/
theorem lg_blk : (iblk m c 0 t : Vec Ideal S1x1x128 .f32) (ix3 0 0 0) = lgKer (t.val % 4) := by
  rw [← lg_tab m c ⟨t.val % 4, by omega⟩]
  blk_ext [iblk, idx t]

/-- The block of queries. -/
theorem q_blk (i : Fin 8) (d : Fin 256) : (iblk m c 1 t : Vec Ideal S8x256 .f32) (ix2 i d) = RetSampleSpec.q (args m c) (t.val / 4) (t.val % 4) i d := by
  have ht := lt_512 t
  have e : (iblk m c 1 t : Vec Ideal S8x256 .f32) (ix2 i d)
      = m ((c : Thread nD τ).loc main_arg0) (ix2 ⟨t.val / 4 * 8 + i, by omega⟩ ⟨(0 + t.val % 4) * 256 + d, by omega⟩) := by
    blk_ext [iblk, V, idx t]
  rw [e]
  exact RetSampleSpec.x_of _ (m ((c : Thread nD τ).loc main_arg1)) _ _ (by omega) (by omega)

/-- The block of keys. -/
theorem k_blk (i : Fin 8) (d : Fin 256) : (iblk m c 2 t : Vec Ideal S8x256 .f32) (ix2 i d) = (args m c).x (t.val / 4 * 8 + i) (1024 + (t.val % 4 * 256 + d)) := by
  have ht := lt_512 t
  have e : (iblk m c 2 t : Vec Ideal S8x256 .f32) (ix2 i d)
      = m ((c : Thread nD τ).loc main_arg0) (ix2 ⟨t.val / 4 * 8 + i, by omega⟩ ⟨(4 + t.val % 4) * 256 + d, by omega⟩) := by
    blk_ext [iblk, V, idx t]
  rw [e]
  exact RetSampleSpec.x_of _ (m ((c : Thread nD τ).loc main_arg1)) _ _ (by omega) (by omega)

/-- The block of values. -/
theorem v_blk (i : Fin 8) (d : Fin 512) : (iblk m c 3 t : Vec Ideal S8x512 .f32) (ix2 i d) = RetSampleSpec.v (args m c) (t.val / 4) (t.val % 4) i d := by
  have ht := lt_512 t
  have e : (iblk m c 3 t : Vec Ideal S8x512 .f32) (ix2 i d)
      = m ((c : Thread nD τ).loc main_arg0) (ix2 ⟨t.val / 4 * 8 + i, by omega⟩ ⟨(4 + t.val % 4) * 512 + d, by omega⟩) := by
    blk_ext [iblk, V, idx t]
  rw [e]
  exact RetSampleSpec.x_of _ (m ((c : Thread nD τ).loc main_arg1)) _ _ (by omega) (by omega)

/-- The block of gates. -/
theorem g_blk (i : Fin 8) (d : Fin 512) : (iblk m c 4 t : Vec Ideal S8x512 .f32) (ix2 i d) = RetSampleSpec.g (args m c) (t.val / 4) (t.val % 4) i d := by
  have ht := lt_512 t
  have e : (iblk m c 4 t : Vec Ideal S8x512 .f32) (ix2 i d)
      = m ((c : Thread nD τ).loc main_arg0) (ix2 ⟨t.val / 4 * 8 + i, by omega⟩ ⟨(8 + t.val % 4) * 512 + d, by omega⟩) := by
    blk_ext [iblk, V, idx t]
  rw [e]
  exact RetSampleSpec.x_of _ (m ((c : Thread nD τ).loc main_arg1)) _ _ (by omega) (by omega)

/-- The block of the given state. -/
theorem s_blk (d : Fin 256) (e : Fin 512) : (iblk m c 5 t : Vec Ideal S1x1x256x512 .f32) (ix4 0 0 d e) = (args m c).s (t.val / 4) (t.val % 4) d e := by
  have ht := lt_512 t
  have e' : (iblk m c 5 t : Vec Ideal S1x1x256x512 .f32) (ix4 0 0 d e)
      = m ((c : Thread nD τ).loc main_arg1) (ix4 ⟨t.val / 4, by omega⟩ ⟨t.val % 4, by omega⟩ d e) := by
    blk_ext [iblk, V, idx t]
  rw [e']
  exact RetSampleSpec.s_of (m ((c : Thread nD τ).loc main_arg0)) _ _ _ d e

end Blocks

/-! ### One point's arithmetic, over blocks that hold a sequence's tokens -/

section Pay

variable (A : RetSampleSpec.Args) (lg : EReal) (b h : ℕ)
  (v3 : Vec Ideal S1x1x128 .f32) (v6 v8 : Vec Ideal S8x256 .f32) (v11 v74 : Vec Ideal S8x512 .f32) (s : Vec Ideal S1x1x256x512 .f32)
  (h3 : v3 (ix3 0 0 0) = lg)
  (h6 : ∀ (i : Fin 8) (d : Fin 256), v6 (ix2 i d) = RetSampleSpec.q A b h i d)
  (h8 : ∀ (i : Fin 8) (d : Fin 256), v8 (ix2 i d) = A.x (b * 8 + i) (1024 + (h * 256 + d)))
  (h11 : ∀ (i : Fin 8) (e : Fin 512), v11 (ix2 i e) = RetSampleSpec.v A b h i e)
  (h74 : ∀ (i : Fin 8) (e : Fin 512), v74 (ix2 i e) = RetSampleSpec.g A b h i e)
  (hs : ∀ (d : Fin 256) (e : Fin 512), s (ix4 0 0 d e) = A.s b h d e)

include h3 h8 h11 hs

/-- A point's new state: the padded rows add nothing. -/
theorem state_pay (d : Fin 256) (e : Fin 512) :
    k0_pay11 (F := Ideal) (k0_pay4 v3) (k0_pay6 v8) (k0_pay7 v11) k0_pay8 (k0_pay3 s) (ix2 d e) = RetSampleSpec.st A lg b h d e := by
  pointwise [k0_pay11, k0_pay4, k0_pay6, k0_pay7, k0_pay8, k0_pay3]
  simp only [hs, h11, h8, h3, mul_zero, Finset.sum_const_zero, add_zero, RetSampleSpec.st, RetSampleSpec.k, RetSpec.pos]

include h6

/-- A point's rows before normalisation, at a token. -/
theorem o_pay (i : Fin 8) (e : Fin 512) :
    (∑ j : Fin 128, k0_pay10 (F := Ideal) v6 v8 (ix2 ⟨i.val, by omega⟩ j) * k0_pay9 (F := Ideal) v3 (ix2 ⟨i.val, by omega⟩ j) * k0_pay7 (F := Ideal) v11 (ix2 j e))
      + (∑ d : Fin 256, k0_pay5 (F := Ideal) v6 (ix2 ⟨i.val, by omega⟩ d) * k0_pay3 (F := Ideal) s (ix2 d e)) * Ideal.exp ((RetSpec.pos i + 1) * lg)
      = (RetSampleSpec.o A lg b h i e : EReal) := by
  pointwise [k0_pay9, k0_pay10, k0_pay4, k0_pay5, k0_pay6, k0_pay7, k0_pay8, k0_pay3]
  simp only [hs, h11, h8, h3, h6, mul_zero, Finset.sum_const_zero, add_zero, RetSampleSpec.o, RetSampleSpec.k, RetSpec.pos, RetSpec.mask]
  rfl

include h74

/-- A point's output block. -/
theorem out_pay (i : Fin 8) (e : Fin 512) :
    k0_pay1 (F := Ideal) (k0_pay13 (k0_pay4 v3) (k0_pay5 v6) (k0_pay7 v11) k0_pay8 (k0_pay9 v3) (k0_pay10 v6 v8) (k0_pay3 s)) v74 (ix2 i e)
      = (RetSampleSpec.y A lg b h i e : EReal) := by
  have ho := o_pay A lg b h v3 v6 v8 v11 s h3 h6 h8 h11 hs i
  have h4 : k0_pay4 (F := Ideal) v3 (ix2 0 0) = lg := by
    pointwise [k0_pay4]
    exact h3
  revert ho h4
  generalize k0_pay4 (F := Ideal) v3 = p4
  generalize k0_pay5 (F := Ideal) v6 = p5
  generalize k0_pay7 (F := Ideal) v11 = p7
  generalize k0_pay9 (F := Ideal) v3 = p9
  generalize k0_pay10 (F := Ideal) v6 v8 = p10
  generalize k0_pay3 (F := Ideal) s = p3
  intro ho h4
  pointwise [k0_pay1, k0_pay13, k0_pay8]
  simp only [RetSpec.pos] at ho
  simp only [h4, ho, h74, zero_sub, RetSampleSpec.y]

end Pay

/-- A point's output block over its inputs' blocks. -/
theorem out_eq (t : Fin cfg0.N) : (outsAt0 m c t).1
    = k0_pay1 (F := Ideal) (k0_pay13 (k0_pay4 (iblk m c 0 t)) (k0_pay5 (iblk m c 1 t)) (k0_pay7 (iblk m c 3 t)) k0_pay8
        (k0_pay9 (iblk m c 0 t)) (k0_pay10 (iblk m c 1 t) (iblk m c 2 t)) (k0_pay3 (iblk m c 5 t))) (iblk m c 4 t) := by
  unfold outsAt0
  frame_out

/-- A point's state block over its inputs' blocks. -/
theorem state_eq (t : Fin cfg0.N) : (outsAt0 m c t).2
    = k0_pay2 (F := Ideal) (k0_pay11 (k0_pay4 (iblk m c 0 t)) (k0_pay6 (iblk m c 2 t)) (k0_pay7 (iblk m c 3 t)) k0_pay8 (k0_pay3 (iblk m c 5 t))) := by
  unfold outsAt0
  frame_out

/-- The kernel's first result, index by index. -/
def outK (A : RetSampleSpec.Args) : Vec Ideal S1024x2048 .f32 := fun j =>
  RetSampleSpec.y A (lgKer ((j 1).val / 512)) ((j 0).val / 8) ((j 1).val / 512) ((j 0).val % 8) ((j 1).val % 512)

/-- The kernel's second result, index by index. -/
def stateK (A : RetSampleSpec.Args) : Vec Ideal S128x4x256x512 .f32 := fun j =>
  RetSampleSpec.st A (lgKer (j 1).val) (j 0).val (j 1).val (j 2).val (j 3).val

/-- A point's block of the first result. -/
theorem out_at (t : Fin cfg0.N) (y : S8x512.Idx) : ((outsAt0 m c t).1 : Vec Ideal S8x512 .f32) y
    = RetSampleSpec.y (args m c) (lgKer (t.val % 4)) (t.val / 4) (t.val % 4) (y 0).val (y 1).val := by
  idx_vars y
  rw [out_eq]
  exact out_pay _ _ _ _ _ _ _ _ _ _ (lg_blk m c t) (q_blk m c t) (k_blk m c t) (v_blk m c t) (g_blk m c t) (s_blk m c t) _ _

/-- A point's block of the second result. -/
theorem state_at (t : Fin cfg0.N) (y : S1x1x256x512.Idx) : ((outsAt0 m c t).2 : Vec Ideal S1x1x256x512 .f32) y
    = RetSampleSpec.st (args m c) (lgKer (t.val % 4)) (t.val / 4) (t.val % 4) (y 2).val (y 3).val := by
  idx_vars y
  obtain rfl : y0 = 0 := Subsingleton.elim _ _
  obtain rfl : y1 = 0 := Subsingleton.elim _ _
  rw [state_eq]
  have e := state_pay _ _ _ _ _ _ _ _ (lg_blk m c t) (k_blk m c t) (v_blk m c t) (s_blk m c t) y2 y3
  revert e
  generalize k0_pay11 (F := Ideal) (k0_pay4 (iblk m c 0 t)) (k0_pay6 (iblk m c 2 t)) (k0_pay7 (iblk m c 3 t)) k0_pay8 (k0_pay3 (iblk m c 5 t)) = p
  intro e
  pointwise [k0_pay2]
  exact e

/-- The first result array after the run. -/
theorem final_out : (dats m 0 c).arrAt 6 cfg0.N = outK (args m c) := by
  refine (dats m 0 c).arrAt_eq_of_covers 6 _ (by decide +kernel) fun t hf y => ?_
  have ht := lt_512 t
  have e0 : ((win0_6.blk t).view.emb y 0 : ℕ) = t.val / 4 * 8 + (y 0).val := by blk_simp [idx t]
  have e1 : ((win0_6.blk t).view.emb y 1 : ℕ) = t.val % 4 * 512 + (y 1).val := by blk_simp [idx t]
  have h0 : (y 0).val < 8 := (y 0).isLt
  have h1 : (y 1).val < 512 := (y 1).isLt
  blk_simp
  rw [after0_6]
  refine (out_at m c t y).trans ?_
  unfold outK
  rw [e0, e1]
  have a0 : (t.val / 4 * 8 + (y 0).val) / 8 = t.val / 4 := by omega
  have a1 : (t.val / 4 * 8 + (y 0).val) % 8 = (y 0).val := by omega
  have a3 : (t.val % 4 * 512 + (y 1).val) / 512 = t.val % 4 := by omega
  have a4 : (t.val % 4 * 512 + (y 1).val) % 512 = (y 1).val := by omega
  rw [a0, a1, a3, a4]

/-- The second result array after the run. -/
theorem final_state : (dats m 0 c).arrAt 7 cfg0.N = stateK (args m c) := by
  refine (dats m 0 c).arrAt_eq_of_covers 7 _ (by decide +kernel) fun t hf y => ?_
  have e0 : ((win0_7.blk t).view.emb y 0 : ℕ) = t.val / 4 := by blk_simp [idx t]
  have e1 : ((win0_7.blk t).view.emb y 1 : ℕ) = t.val % 4 := by blk_simp [idx t]
  have e2 : ((win0_7.blk t).view.emb y 2 : ℕ) = (y 2).val := by blk_simp [idx t]
  have e3 : ((win0_7.blk t).view.emb y 3 : ℕ) = (y 3).val := by blk_simp [idx t]
  blk_simp
  rw [after0_7]
  refine (state_at m c t y).trans ?_
  unfold stateK
  rw [e0, e1, e2, e3]

end Cert.RetSampleIdeal.Blocks

end
-- ==== Proof.RetSampleValue.lean ====
module

public import proofs.«01_k».proof.Defs
public import Idealize.ShloMosaic.Lib.Quiescent
public import proofs.«01_k».proof.Proof.RetSampleKernel
public import proofs.«01_k».proof.Proof.Gen.RetSampleReferenceIdeal.Read

@[expose] public section

/-! # The retention of the sample: the kernel computes the reference's chunk over the given state -/

set_option maxRecDepth 16384

noncomputable section

open Idealize.ShloMosaic Idealize.ShloMosaic.TcCoe Idealize.SL.Sem

namespace Cert.Proof.RetSample

open RetSampleIdeal.Blocks (lgKer outK stateK)

section Ref

open RetSampleReferenceIdeal RetSampleReferenceIdeal.Read

variable (x0 : Vec Ideal S1024x6144 .f32) (x1 : Vec Ideal S128x4x256x512 .f32)

/-- The queries, by sequence, token and head. -/
theorem q_at (b : Fin 128) (i : Fin 8) (h : Fin 4) (d : Fin 256) :
    (val_main_v1 (F := Ideal) x0 : Vec Ideal S128x8x4x256 .f32) (ix4 b i h d) = RetSampleSpec.q (RetSampleSpec.ofArgs x0 x1) b h i d := by
  pointwise [val_main_v1, val_main_v0]
  exact RetSampleSpec.x_of x0 x1 _ _ (by omega) (by omega)

/-- The scaled keys. -/
theorem k_at (b : Fin 128) (i : Fin 8) (h : Fin 4) (d : Fin 256) :
    (val_main_v5 (F := Ideal) x0 : Vec Ideal S128x8x4x256 .f32) (ix4 b i h d) = RetSampleSpec.k (RetSampleSpec.ofArgs x0 x1) b h i d := by
  pointwise [val_main_v5, val_main_v4, val_main_v3, val_main_v2, val_main_cst]
  exact congrArg (· * _) (RetSampleSpec.x_of x0 x1 _ _ (by omega) (by omega))

/-- The values. -/
theorem v_at (b : Fin 128) (i : Fin 8) (h : Fin 4) (e : Fin 512) :
    (val_main_v7 (F := Ideal) x0 : Vec Ideal S128x8x4x512 .f32) (ix4 b i h e) = RetSampleSpec.v (RetSampleSpec.ofArgs x0 x1) b h i e := by
  pointwise [val_main_v7, val_main_v6]
  exact RetSampleSpec.x_of x0 x1 _ _ (by omega) (by omega)

/-- The heads' decays. -/
theorem lg_at (h : Fin 4) : (val_main_v15 (F := Ideal) : Vec Ideal S4 .f32) (ix1 h) = lgKer h := by
  pointwise [val_main_v15, val_main_v14, val_main_v13, val_main_v12, val_main_v11, val_main_v10, val_main_v9, val_main_v8,
    val_main_cst_0, val_main_cst_1, lgKer]

/-- The reference's second result is the kernel's: the state after the eight tokens. -/
theorem ref_state : (val_main_v72 (F := Ideal) x0 x1 : Vec Ideal S128x4x256x512 .f32) = stateK (RetSampleSpec.ofArgs x0 x1) := by
  funext j
  change S128x4x256x512.Idx at j
  idx_vars j
  have ek := k_at x0 x1
  have ev := v_at x0 x1
  have es := RetSampleSpec.s_of x0 x1
  unfold val_main_v72 val_main_v71 val_main_v70 val_main_v69 val_main_v68 val_main_v67 val_main_v66 val_main_v65 val_main_v64 val_main_v63
    val_main_v62 val_main_v61 val_main_v60 val_main_v59 val_main_v58 val_main_v57 val_main_v56 val_main_v55 val_main_v54 val_main_v17
    val_main_v16 val_main_cst_6 val_main_cst_7
  have el := lg_at
  revert ek ev es el
  generalize (val_main_v15 (F := Ideal)) = l
  generalize (val_main_v5 (F := Ideal) x0) = k
  generalize (val_main_v7 (F := Ideal) x0) = v
  generalize RetSampleSpec.ofArgs x0 x1 = A
  intro ek ev es el
  pointwise []
  simp only [ek, ev, es, el, stateK, RetSampleSpec.st, RetSpec.pos]
  rfl

/-- The reference's rows before normalisation. -/
theorem o_at (b : Fin 128) (i : Fin 8) (h : Fin 4) (e : Fin 512) :
    (val_main_v53 (F := Ideal) x0 x1 : Vec Ideal S128x8x4x512 .f32) (ix4 b i h e) = RetSampleSpec.o (RetSampleSpec.ofArgs x0 x1) (lgKer h) b h i e := by
  have eq := q_at x0 x1
  have ek := k_at x0 x1
  have ev := v_at x0 x1
  have es := RetSampleSpec.s_of x0 x1
  unfold val_main_v53 val_main_v52 val_main_v51 val_main_v50 val_main_v49 val_main_v48 val_main_v47 val_main_v46 val_main_v45 val_main_v44
    val_main_v43 val_main_v42 val_main_v41 val_main_v40 val_main_v39 val_main_v38 val_main_v37 val_main_v36 val_main_v35 val_main_v34
    val_main_v33 val_main_v32 val_main_v31 val_main_v30 val_main_v29 val_main_v28 val_main_v27 val_main_v26 val_main_call0_v2 val_main_call0_v1
    val_main_call0_v0 val_main_v25 val_main_v24 val_main_v23 val_main_v22 val_main_v21 val_main_v20 val_main_v19 val_main_v18 val_main_v17
    val_main_v16 val_main_cst_2 val_main_cst_3 val_main_cst_4 val_main_cst_5
  have el := lg_at
  revert eq ek ev es el
  generalize (val_main_v15 (F := Ideal)) = l
  generalize (val_main_v1 (F := Ideal) x0) = q
  generalize (val_main_v5 (F := Ideal) x0) = k
  generalize (val_main_v7 (F := Ideal) x0) = v
  generalize RetSampleSpec.ofArgs x0 x1 = A
  intro eq ek ev es el
  pointwise [id]
  simp only [eq, ek, ev, es, el, RetSampleSpec.o, RetSpec.pos, RetSpec.mask]
  congr 1
  · refine Finset.sum_congr rfl fun j _ => mul_comm _ _
  · refine congrArg (· * _) (Finset.sum_congr rfl fun j _ => mul_comm _ _)

/-- The reference's first result is the kernel's. -/
theorem ref_out : (val_main_v86 (F := Ideal) x0 x1 : Vec Ideal S1024x2048 .f32) = outK (RetSampleSpec.ofArgs x0 x1) := by
  funext j
  change S1024x2048.Idx at j
  idx_vars j
  have e := o_at x0 x1
  have hg : x0 (ix2 j0 ⟨4096 + j1.val, by omega⟩)
      = RetSampleSpec.g (RetSampleSpec.ofArgs x0 x1) (j0.val / 8) (j1.val / 512) (j0.val % 8) (j1.val % 512) :=
    RetSampleSpec.x_of x0 x1 _ _ (by omega) (by omega)
  unfold val_main_v86 val_main_v85 val_main_v84 val_main_v83 val_main_v82 val_main_v81 val_main_v80 val_main_v79 val_main_v78 val_main_v77
    val_main_v76 val_main_v75 val_main_v74 val_main_v73 val_main_call1_v5 val_main_call1_v4 val_main_call1_v3 val_main_call1_v2
    val_main_call1_v1 val_main_call1_v0 val_main_call1_cst val_main_call1_cst_0 val_main_cst_8 val_main_cst_9 val_main_cst_10
    val_main_v84
  revert e hg
  generalize (val_main_v53 (F := Ideal) x0 x1) = o
  generalize RetSampleSpec.ofArgs x0 x1 = A
  intro e hg
  pointwise []
  simp only [e, hg, outK, RetSampleSpec.y, zero_add]
  rfl

/-- The memory's arguments, by coordinates. -/
abbrev args (m : (ℓ : Loc nD τ sig) → Buf (Elt Ideal) ℓ) (c : Dev nD) : RetSampleSpec.Args :=
  RetSampleSpec.ofArgs (m ((c.tc : Thread nD τ).loc main_arg0)) (m ((c.tc : Thread nD τ).loc main_arg1))

end Ref

/-- The kernel's two result arrays and the reference's are equal. -/
theorem algebraic : Cert.algebraic_RetSampleIdeal_RetSampleReferenceIdeal :=
  fun m ρ m' ρ' _ hag =>
    have e : ∀ c, args m' c = RetSampleIdeal.Blocks.args m c := fun c => by
      obtain ⟨a0, a1⟩ := hag c
      unfold args
      rw [a0, a1]
    ⟨fun c => outK (RetSampleIdeal.Blocks.args m c), fun c => stateK (RetSampleIdeal.Blocks.args m c),
      (θ_run _ _ _).mono (fun _ h c => ⟨(h c).1.trans (RetSampleIdeal.Blocks.final_out m c),
        (h c).2.1.trans (RetSampleIdeal.Blocks.final_state m c), (h c).2.2⟩) (RetSampleIdeal.Value.run_blocks m ρ),
      (θ_run _ _ _).mono (fun _ h c => ⟨(h c).1.trans ((RetSampleReferenceIdeal.Read.val_main_v86_eq _ _).trans ((ref_out _ _).trans (congrArg outK (e c)))),
        (h c).2.1.trans ((RetSampleReferenceIdeal.Read.val_main_v72_eq _ _).trans ((ref_state _ _).trans (congrArg stateK (e c)))), (h c).2.2⟩)
        (RetSampleReferenceIdeal.Value.run (F := Ideal) m' ρ')⟩

/-- The reference runs to its end and leaves its arguments and every counter as they were. -/
theorem quiescent : Cert.quiescent_RetSampleReferenceIdeal :=
  fun m ρ _ => (θ_run _ _ _).mono (fun r h => ⟨fun c => (h c).2.2, Idealize.ShloMosaic.sem_eq_zero_of_no_sems (by decide) r.2⟩)
    (RetSampleReferenceIdeal.Value.run (F := Ideal) m ρ)

end Cert.Proof.RetSample

end
-- ==== Proof.KvSampleKernel.lean ====
module

public import proofs.«01_k».proof.Proof.ProjSpec
public import proofs.«01_k».proof.Proof.Put
public import proofs.«01_k».proof.Proof.Gen.KvSampleIdeal.Value
public import Idealize.ShloMosaic.Lib.Pointwise
public import Idealize.ShloMosaic.Lib.Pipeline.ValueKit
public import Idealize.ShloMosaic.Lib.Pipeline.ReadBack

@[expose] public section

/-! # The kernel of the sample's block keys and values, read at an index

A grid point is a tile of 256 rows, the eight tokens of 32 sequences; every row has its own shift and scale, its sequence's. -/

set_option maxRecDepth 16384

noncomputable section

open Idealize.ShloMosaic Idealize.ShloMosaic.TcCoe Idealize.SL.Sem
open Idealize.ShloMosaic.Pipeline (Dat)

namespace Cert.KvSampleIdeal.Blocks

open Cert.KvSampleIdeal Cert.KvSampleIdeal.Gen

variable (m : (ℓ : Loc nD τ sig) → Buf (Elt Ideal) ℓ) (c : Dev nD)

/-- The windows' block indices: a grid point is tile `t`. -/
theorem idx : ∀ t : Fin cfg0.N, win0_0.index t = ![t.val, 0] ∧ win0_1.index t = ![0, 0]
    ∧ win0_2.index t = ![t.val, 0, 0] ∧ win0_3.index t = ![t.val, 0, 0] ∧ win0_4.index t = ![0, 0]
    ∧ win0_5.index t = ![t.val, 0] ∧ t.val < 4 :=
  (by decide +kernel : ∀ t : Fin grid0.N, _)

theorem lt_4 (t : Fin cfg0.N) : t.val < 4 := (idx t).2.2.2.2.2.2

/-- The memory's arguments. -/
abbrev args : ProjSpec.Args :=
  ProjSpec.ofArgs (n := 1536) (m ((c : Thread nD τ).loc main_arg0)) (m ((c : Thread nD τ).loc main_arg1)) (m ((c : Thread nD τ).loc main_arg2))
    (m ((c : Thread nD τ).loc main_arg3)) (m ((c : Thread nD τ).loc main_arg4))

section Blocks

variable (t : Fin cfg0.N)

/-- The tile's rows. -/
theorem x_blk (i : Fin 256) (d : Fin 1024) :
    (iblk m c 0 t : Vec Ideal S256x1024 .f32) (ix2 i d) = (args m c).x ((t.val * 256 + i.val) / 8) ((t.val * 256 + i.val) % 8) d.val := by
  have ht := lt_4 t
  have e0 : ∀ r : Fin 1024, (V m c main_v0 : Vec Ideal S1024x1024 .f32) (ix2 r d)
      = m ((c : Thread nD τ).loc main_arg0) (ix3 ⟨r.val / 8, by omega⟩ ⟨r.val % 8, by omega⟩ d) := fun r => by
    entry_read
    pointwise []
  have e : (iblk m c 0 t : Vec Ideal S256x1024 .f32) (ix2 i d) = (V m c main_v0 : Vec Ideal S1024x1024 .f32) (ix2 ⟨t.val * 256 + i, by omega⟩ d) := by
    blk_ext [iblk, idx t]
  rw [e, e0]
  exact FfnSpec.nat3_of (fun b t d => m ((c : Thread nD τ).loc main_arg0) (ix3 b t d)) _ _ d.isLt rfl rfl rfl

/-- The gain. -/
theorem g_blk (d : Fin 1024) : (iblk m c 1 t : Vec Ideal S1x1024 .f32) (ix2 0 d) = (args m c).g d.val := by
  have e0 : (V m c main_v9 : Vec Ideal S1x1024 .f32) (ix2 0 d) = m ((c : Thread nD τ).loc main_arg1) (ix1 d) := by
    entry_read
    pointwise []
  have e : (iblk m c 1 t : Vec Ideal S1x1024 .f32) (ix2 0 d) = (V m c main_v9 : Vec Ideal S1x1024 .f32) (ix2 0 d) := by
    blk_ext [iblk, idx t]
  rw [e, e0]
  exact FfnSpec.nat1_of (fun d => m ((c : Thread nD τ).loc main_arg1) (ix1 d)) d.isLt rfl

/-- The rows' shifts. -/
theorem sh_blk (i : Fin 256) (d : Fin 1024) :
    (iblk m c 2 t : Vec Ideal S1x256x1024 .f32) (ix3 0 i d) = (args m c).sh ((t.val * 256 + i.val) / 8) d.val := by
  have ht := lt_4 t
  have e0 : ∀ b : Fin 4, (V m c main_v5 : Vec Ideal S4x256x1024 .f32) (ix3 b i d)
      = m ((c : Thread nD τ).loc main_arg2) (ix2 ⟨b.val * 32 + i.val / 8, by omega⟩ d) := fun b => by
    entry_read
    pointwise []
  have e : (iblk m c 2 t : Vec Ideal S1x256x1024 .f32) (ix3 0 i d) = (V m c main_v5 : Vec Ideal S4x256x1024 .f32) (ix3 ⟨t.val, ht⟩ i d) := by
    blk_ext [iblk, idx t]
  rw [e, e0]
  exact FfnSpec.nat2_of (fun b d => m ((c : Thread nD τ).loc main_arg2) (ix2 b d)) _ d.isLt (by dsimp only; omega) rfl

/-- The rows' scales. -/
theorem sc_blk (i : Fin 256) (d : Fin 1024) :
    (iblk m c 3 t : Vec Ideal S1x256x1024 .f32) (ix3 0 i d) = (args m c).sc ((t.val * 256 + i.val) / 8) d.val := by
  have ht := lt_4 t
  have e0 : ∀ b : Fin 4, (V m c main_v8 : Vec Ideal S4x256x1024 .f32) (ix3 b i d)
      = m ((c : Thread nD τ).loc main_arg3) (ix2 ⟨b.val * 32 + i.val / 8, by omega⟩ d) := fun b => by
    entry_read
    pointwise []
  have e : (iblk m c 3 t : Vec Ideal S1x256x1024 .f32) (ix3 0 i d) = (V m c main_v8 : Vec Ideal S4x256x1024 .f32) (ix3 ⟨t.val, ht⟩ i d) := by
    blk_ext [iblk, idx t]
  rw [e, e0]
  exact FfnSpec.nat2_of (fun b d => m ((c : Thread nD τ).loc main_arg3) (ix2 b d)) _ d.isLt (by dsimp only; omega) rfl

/-- The weight's columns. -/
theorem w_blk (k : Fin 1024) (f : Fin 1024) : (iblk m c 4 t : Vec Ideal S1024x1024 .bf16) (ix2 k f) = ((args m c).w k.val f.val : EReal) := by
  have e0 : (V m c main_v2 : Vec Ideal S1024x1024 .bf16) (ix2 k f) = (m ((c : Thread nD τ).loc main_arg4) (ix2 k ⟨f.val, by omega⟩) : EReal) := by
    entry_read
    pointwise []
  have e : (iblk m c 4 t : Vec Ideal S1024x1024 .bf16) (ix2 k f) = (V m c main_v2 : Vec Ideal S1024x1024 .bf16) (ix2 k f) := by
    blk_ext [iblk, idx t]
  refine e.trans (e0.trans ?_)
  exact FfnSpec.nat2_of (fun k f => m ((c : Thread nD τ).loc main_arg4) (ix2 k f)) k.isLt _ rfl rfl

/-- The tile's normed and modulated rows. -/
theorem hid_at (i : Fin 256) (d : Fin 1024) :
    (k0_pay1 (F := Ideal) (iblk m c 0 t) (iblk m c 1 t) (iblk m c 2 t) (iblk m c 3 t) : Vec Ideal S256x1024 .bf16) (ix2 i d)
      = (ProjSpec.h (args m c) ((t.val * 256 + i.val) / 8) ((t.val * 256 + i.val) % 8) d.val : EReal) := by
  have e0 := x_blk m c t
  have e1 := g_blk m c t
  have e2 := sh_blk m c t
  have e3 := sc_blk m c t
  revert e0 e1 e2 e3
  generalize iblk m c 0 t = v0
  generalize iblk m c 1 t = v1
  generalize iblk m c 2 t = v2
  generalize iblk m c 3 t = v3
  generalize args m c = A
  intro e0 e1 e2 e3
  pointwise [k0_pay1]
  simp only [e0, e1, e2, e3, ProjSpec.h, FfnSpec.inv]

/-- A tile's block is its rows' product with the weight's columns. -/
theorem out_eq : outsAt0 m c t = k0_pay2 (k0_pay1 (iblk m c 0 t) (iblk m c 1 t) (iblk m c 2 t) (iblk m c 3 t)) (iblk m c 4 t) := by
  unfold outsAt0
  frame_out

/-- A tile's block, index by index. -/
theorem out_at (y : S256x1024.Idx) : (outsAt0 m c t : Vec Ideal S256x1024 .f32) y
    = ProjSpec.proj (args m c) ((t.val * 256 + (y 0).val) / 8) ((t.val * 256 + (y 0).val) % 8) (y 1).val := by
  idx_vars y
  rw [out_eq]
  have e := hid_at m c t
  have e' := w_blk m c t
  revert e e'
  generalize k0_pay1 (iblk m c 0 t) (iblk m c 1 t) (iblk m c 2 t) (iblk m c 3 t) = a
  generalize iblk m c 4 t = w
  intro e e'
  pointwise [k0_pay2]
  simp only [e, e', ProjSpec.proj]

end Blocks

/-- The normed and modulated rows of any arrays: a memory that holds them, and its tiles' rows. The window's projection has the
same tiles and takes its rows from here. -/
theorem hid_of (c : Dev nD) (a0 : Vec Ideal S128x8x1024 .f32) (a1 : Vec Ideal S1024 .f32) (a2 a3 : Vec Ideal S128x1024 .f32)
    {n : ℕ} [NeZero n] (a4 : Vec Ideal ⟨2, ![1024, n]⟩ .f32) :
    ∃ m : (ℓ : Loc nD τ sig) → Buf (Elt Ideal) ℓ,
      m ((c : Thread nD τ).loc main_arg0) = a0 ∧ m ((c : Thread nD τ).loc main_arg1) = a1
      ∧ m ((c : Thread nD τ).loc main_arg2) = a2 ∧ m ((c : Thread nD τ).loc main_arg3) = a3
      ∧ ∀ (t : Fin cfg0.N) (i : Fin 256) (d : Fin 1024),
        (k0_pay1 (F := Ideal) (iblk m c 0 t) (iblk m c 1 t) (iblk m c 2 t) (iblk m c 3 t) : Vec Ideal S256x1024 .bf16) (ix2 i d)
          = (ProjSpec.h (ProjSpec.ofArgs a0 a1 a2 a3 a4) ((t.val * 256 + i.val) / 8) ((t.val * 256 + i.val) % 8) d.val : EReal) := by
  have h : ∀ ℓ : Loc nD τ sig, Nonempty (Buf (Elt Ideal) ℓ) := fun ℓ => inferInstance
  have ⟨m, h0, h1, h2, h3⟩ : ∃ m : (ℓ : Loc nD τ sig) → Buf (Elt Ideal) ℓ,
      m ((c : Thread nD τ).loc main_arg0) = a0 ∧ m ((c : Thread nD τ).loc main_arg1) = a1
      ∧ m ((c : Thread nD τ).loc main_arg2) = a2 ∧ m ((c : Thread nD τ).loc main_arg3) = a3 := by
    refine ⟨Put.put (Put.put (Put.put (Put.put (fun ℓ => Classical.choice (h ℓ)) c main_arg0 a0) c main_arg1 a1) c main_arg2 a2)
      c main_arg3 a3, ?_⟩
    repeat' constructor
    all_goals
      repeat rw [Put.put_ne _ _ _ _ _ (by decide)]
      rw [Put.put_self]
  refine ⟨m, h0, h1, h2, h3, fun t i d => (hid_at m c t i d).trans ?_⟩
  rw [args, h0, h1, h2, h3]
  rfl

/-- The kernel's result, index by index. -/
def rows (A : ProjSpec.Args) : Vec Ideal S1024x1024 .f32 := fun j => ProjSpec.proj A ((j 0).val / 8) ((j 0).val % 8) (j 1).val

/-- The result array after the run. -/
theorem final_out : (dats m 0 c).arrAt 5 cfg0.N = rows (args m c) := by
  refine (dats m 0 c).arrAt_eq_of_covers 5 _ (by decide +kernel) fun t hf y => ?_
  have ht := lt_4 t
  have e0 : ((win0_5.blk t).view.emb y 0 : ℕ) = t.val * 256 + (y 0).val := by blk_simp [idx t]
  have e1 : ((win0_5.blk t).view.emb y 1 : ℕ) = (y 1).val := by blk_simp [idx t]
  blk_simp
  rw [after0_5]
  refine (out_at m c t y).trans ?_
  unfold rows
  rw [e0, e1]

end Cert.KvSampleIdeal.Blocks

end
-- ==== Proof.KvSampleValue.lean ====
module

public import proofs.«01_k».proof.Defs
public import Idealize.ShloMosaic.Lib.Quiescent
public import proofs.«01_k».proof.Proof.KvSampleKernel
public import proofs.«01_k».proof.Proof.Gen.KvSampleReferenceIdeal.Read

@[expose] public section

/-! # The sample's block keys and values: the kernel computes the reference's rows -/

set_option maxRecDepth 16384

noncomputable section

open Idealize.ShloMosaic Idealize.ShloMosaic.TcCoe Idealize.SL.Sem

namespace Cert.Proof.KvSample

section Ref

open KvSampleReferenceIdeal KvSampleReferenceIdeal.Read

variable (x0 : Vec Ideal S128x8x1024 .f32) (x1 : Vec Ideal S1024 .f32) (x2 x3 : Vec Ideal S128x1024 .f32) (x4 : Vec Ideal S1024x1536 .f32)

/-- The normed and modulated rows. -/
theorem h_at (b : Fin 128) (t : Fin 8) (d : Fin 1024) :
    (val_main_v20 (F := Ideal) x0 x1 x2 x3 : Vec Ideal S128x8x1024 .f32) (ix3 b t d)
      = ProjSpec.h (ProjSpec.ofArgs (n := 1536) x0 x1 x2 x3 x4) b.val t.val d.val := by
  have h0 : ∀ (b : Fin 128) (t : Fin 8) (d : Fin 1024), x0 (ix3 b t d) = (ProjSpec.ofArgs (n := 1536) x0 x1 x2 x3 x4).x b.val t.val d.val :=
    fun b t d => FfnSpec.nat3_of (fun b t d => x0 (ix3 b t d)) b.isLt t.isLt d.isLt rfl rfl rfl
  have h1 : ∀ d : Fin 1024, x1 (ix1 d) = (ProjSpec.ofArgs (n := 1536) x0 x1 x2 x3 x4).g d.val :=
    fun d => FfnSpec.nat1_of (fun d => x1 (ix1 d)) d.isLt rfl
  have h2 : ∀ (b : Fin 128) (d : Fin 1024), x2 (ix2 b d) = (ProjSpec.ofArgs (n := 1536) x0 x1 x2 x3 x4).sh b.val d.val :=
    fun b d => FfnSpec.nat2_of (fun b d => x2 (ix2 b d)) b.isLt d.isLt rfl rfl
  have h3 : ∀ (b : Fin 128) (d : Fin 1024), x3 (ix2 b d) = (ProjSpec.ofArgs (n := 1536) x0 x1 x2 x3 x4).sc b.val d.val :=
    fun b d => FfnSpec.nat2_of (fun b d => x3 (ix2 b d)) b.isLt d.isLt rfl rfl
  revert h0 h1 h2 h3
  generalize ProjSpec.ofArgs (n := 1536) x0 x1 x2 x3 x4 = A
  intro h0 h1 h2 h3
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [h0, h1, h2, h3, ProjSpec.h, FfnSpec.inv, zero_add]

/-- The reference's result is the kernel's: the first 1024 columns of the product. -/
theorem ref_out : (val_main_v24 (F := Ideal) x0 x1 x2 x3 x4 : Vec Ideal S1024x1024 .f32)
    = KvSampleIdeal.Blocks.rows (ProjSpec.ofArgs (n := 1536) x0 x1 x2 x3 x4) := by
  funext j
  change S1024x1024.Idx at j
  idx_vars j
  have e := h_at x0 x1 x2 x3 x4
  have e4 : ∀ (k : Fin 1024) (f : Fin 1536), x4 (ix2 k f) = (ProjSpec.ofArgs (n := 1536) x0 x1 x2 x3 x4).w k.val f.val :=
    fun k f => FfnSpec.nat2_of (fun k f => x4 (ix2 k f)) k.isLt f.isLt rfl rfl
  unfold val_main_v24 val_main_v23 val_main_v22 val_main_v21
  revert e e4
  generalize (val_main_v20 (F := Ideal) x0 x1 x2 x3) = a
  generalize ProjSpec.ofArgs (n := 1536) x0 x1 x2 x3 x4 = A
  intro e e4
  pointwise []
  simp only [e, e4, KvSampleIdeal.Blocks.rows, ProjSpec.proj]
  have ej : j1.val / 256 * 256 + j1.val / 64 % 4 * 64 + j1.val % 64 = j1.val := by omega
  rw [ej]
  rfl

/-- The memory's arguments, by coordinates. -/
abbrev args (m : (ℓ : Loc nD τ sig) → Buf (Elt Ideal) ℓ) (c : Dev nD) : ProjSpec.Args :=
  ProjSpec.ofArgs (n := 1536) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Ref

/-- The kernel's result array and the reference's are equal. -/
theorem algebraic : Cert.algebraic_KvSampleIdeal_KvSampleReferenceIdeal :=
  fun m ρ m' ρ' _ hag =>
    have e : ∀ c, args m' c = KvSampleIdeal.Blocks.args m c := fun c => by
      obtain ⟨a0, a1, a2, a3, a4⟩ := hag c
      unfold args
      rw [a0, a1, a2, a3, a4]
    ⟨fun c => KvSampleIdeal.Blocks.rows (KvSampleIdeal.Blocks.args m c),
      (θ_run _ _ _).mono (fun _ h c => ⟨(h c).1.trans (KvSampleIdeal.Blocks.final_out m c), (h c).2⟩) (KvSampleIdeal.Value.run_blocks m ρ),
      (θ_run _ _ _).mono (fun _ h c => ⟨(h c).1.trans ((KvSampleReferenceIdeal.Read.val_main_v24_eq _ _ _ _ _).trans ((ref_out _ _ _ _ _).trans (congrArg KvSampleIdeal.Blocks.rows (e c)))), (h c).2⟩)
        (KvSampleReferenceIdeal.Value.run (F := Ideal) m' ρ')⟩

/-- The reference runs to its end and leaves its arguments and every counter as they were. -/
theorem quiescent : Cert.quiescent_KvSampleReferenceIdeal :=
  fun m ρ _ => (θ_run _ _ _).mono (fun r h => ⟨fun c => (h c).2, Idealize.ShloMosaic.sem_eq_zero_of_no_sems (by decide) r.2⟩)
    (KvSampleReferenceIdeal.Value.run (F := Ideal) m ρ)

end Cert.Proof.KvSample

end
-- ==== Proof.FfnSampleForm.lean ====
module

public import proofs.«01_k».proof.Proof.Gen.FfnSampleIdeal.Value
public import Idealize.ShloMosaic.Lib.Pointwise
public import Idealize.ShloMosaic.Lib.Pipeline.ValueKit
public import Idealize.ShloMosaic.Lib.Pipeline.ReadBack

@[expose] public section

/-! # One tile of the sample batch's feed-forward kernel: eleven times one chunk

The body handles 256 columns of the hidden layer at a time. Every chunk is one function of the tile's blocks and of the chunk's
first column; this module states that function and says that the tile's results are made of it. -/

set_option maxRecDepth 16384

noncomputable section

open Idealize.ShloMosaic Idealize.ShloMosaic.TcCoe Idealize.SL.Sem
open Idealize.ShloMosaic.Pipeline (Dat)

namespace Cert.FfnSampleIdeal.Blocks

open Cert.FfnSampleIdeal Cert.FfnSampleIdeal.Gen

/-- Columns `o` to `o + 255` of the first weight. -/
def wIn (x : Vec Ideal S1024x5632 .bf16) (o : ℕ) (h : o + 256 ≤ 5632) : Vec Ideal S1024x256 .bf16 :=
  View.ld x (Rect.unit (s := S1024x5632) ![0, o] S1024x256.size (by intro a; fin_cases a <;> simp <;> omega))

/-- Columns `o` to `o + 255` of the convolution's taps. -/
def taps (x : Vec Ideal S3x5632 .f32) (o : ℕ) (h : o + 256 ≤ 5632) : Vec Ideal S3x256 .f32 :=
  View.ld x (Rect.unit (s := S3x5632) ![0, o] S3x256.size (by intro a; fin_cases a <;> simp <;> omega))

/-- Columns `o` to `o + 255` of the convolution's bias. -/
def bias (x : Vec Ideal S1x5632 .f32) (o : ℕ) (h : o + 256 ≤ 5632) : Vec Ideal S1x256 .f32 :=
  View.ld x (Rect.unit (s := S1x5632) ![0, o] S1x256.size (by intro a; fin_cases a <;> simp <;> omega))

/-- Columns `o` to `o + 255` of the two rows before each of the tile's sequences. -/
def prev (x : Vec Ideal S32x2x5632 .f32) (o : ℕ) (h : o + 256 ≤ 5632) : Vec Ideal S32x2x256 .f32 :=
  View.ld x (Rect.unit (s := S32x2x5632) ![0, 0, o] S32x2x256.size (by intro a; fin_cases a <;> simp <;> omega))

/-- Rows `o` to `o + 255` of the second weight. -/
def wOut (x : Vec Ideal S2816x1024 .bf16) (o : ℕ) (h : o + 256 ≤ 2816) : Vec Ideal S256x1024 .bf16 :=
  View.ld x (Rect.unit (s := S2816x1024) ![o, 0] S256x1024.size (by intro a; fin_cases a <;> simp <;> omega))

section Chunk

variable (h : Vec Ideal S256x1024 .bf16) (x5 : Vec Ideal S1024x5632 .bf16) (x6 : Vec Ideal S3x5632 .f32) (x7 : Vec Ideal S1x5632 .f32)
  (p : Vec Ideal S32x2x5632 .f32) (x9 : Vec Ideal S2816x1024 .bf16)

/-- The convolved columns `o` to `o + 255`. -/
def conv (o : ℕ) (ho : o + 256 ≤ 5632) : FVec Ideal S256x256 .f32 :=
  k0_pay47 (k0_pay48 h (wIn x5 o ho)) (k0_pay51 k0_pay5 h (wIn x5 o ho) (prev p o ho))
    (k0_pay52 k0_pay5 k0_pay6 h (wIn x5 o ho) (prev p o ho)) (taps x6 o ho) (bias x7 o ho)

/-- The first chunk: its part of the second product. -/
def chunk0 : FVec Ideal S256x1024 .f32 :=
  k0_pay23 (conv h x5 x6 x7 p 0 (by omega)) (k0_pay48 h (wIn x5 2816 (by omega)))
    (k0_pay51 k0_pay5 h (wIn x5 2816 (by omega)) (prev p 2816 (by omega))) (taps x6 2816 (by omega)) (k0_pay21 (bias x7 2816 (by omega)))
    (k0_pay22 k0_pay5 k0_pay6 h (wIn x5 2816 (by omega)) (prev p 2816 (by omega)) (taps x6 2816 (by omega))) (wOut x9 0 (by omega))

/-- The chunk that begins with column `o`: its part of the second product, added to the earlier chunks'. -/
def chunk (o : ℕ) (ho : o + 256 ≤ 2816) (a : FVec Ideal S256x1024 .f32) : FVec Ideal S256x1024 .f32 :=
  k0_pay56 (k0_pay55 (conv h x5 x6 x7 p o (by omega)) (k0_pay48 h (wIn x5 (2816 + o) (by omega)))
    (k0_pay51 k0_pay5 h (wIn x5 (2816 + o) (by omega)) (prev p (2816 + o) (by omega)))
    (k0_pay52 k0_pay5 k0_pay6 h (wIn x5 (2816 + o) (by omega)) (prev p (2816 + o) (by omega)))
    (taps x6 (2816 + o) (by omega)) (bias x7 (2816 + o) (by omega)) (wOut x9 o ho) a)

/-- The accumulator after chunk `n`. -/
def accs : (n : ℕ) → n < 11 → FVec Ideal S256x1024 .f32
  | 0, _ => chunk0 h x5 x6 x7 p x9
  | n + 1, hn => chunk h x5 x6 x7 p x9 ((n + 1) * 256) (by omega) (accs n (by omega))

end Chunk

variable (m : (ℓ : Loc nD τ sig) → Buf (Elt Ideal) ℓ) (c : Dev nD)

/-- The tile's normed and modulated rows. -/
def hid (t : Fin cfg0.N) : Vec Ideal S256x1024 .bf16 := k0_pay4 (iblk m c 0 t) (iblk m c 1 t) (iblk m c 2 t) (iblk m c 3 t)

/-- What a tile leaves in the first output's block. -/
theorem out_eq (t : Fin cfg0.N) : (outsAt0 m c t).1
    = k0_pay1 (k0_pay185 (k0_pay3 (iblk m c 0 t)) (iblk m c 4 t)
          (accs (hid m c t) (iblk m c 5 t) (iblk m c 6 t) (iblk m c 7 t) (k0_pay2 (iblk m c 8 t)) (iblk m c 9 t) 10 (by omega)))
        (k0_pay186 (k0_pay3 (iblk m c 0 t)) (iblk m c 4 t)
          (accs (hid m c t) (iblk m c 5 t) (iblk m c 6 t) (iblk m c 7 t) (k0_pay2 (iblk m c 8 t)) (iblk m c 9 t) 10 (by omega))) (iblk m c 10 t) := by
  unfold outsAt0
  frame_out
  simp (disch := first | decide | (intro a; fin_cases a <;> rfl))
    only [↓View.readCov_skip, View.readCov_fill]
  simp only [accs]
  generalize k0_pay2 (iblk m c 8 t) = p
  unfold hid
  generalize k0_pay4 (iblk m c 0 t) (iblk m c 1 t) (iblk m c 2 t) (iblk m c 3 t) = h
  generalize iblk m c 5 t = x5
  generalize iblk m c 6 t = x6
  generalize iblk m c 7 t = x7
  generalize iblk m c 9 t = x9
  dsimp only [chunk, chunk0, conv, wIn, taps, bias, prev, wOut, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]

/-- The last two rows of each of a tile's sequences, before the convolution. -/
def tail (h : Vec Ideal S256x1024 .bf16) (x5 : Vec Ideal S1024x5632 .bf16) : Vec Ideal S32x2x5632 .f32 :=
  fun y => ∑ k : Fin 1024, (h (ix2 (⟨(y 0).val * 8 + (6 + (y 1).val), by
    have := (y 0).isLt; change _ < 32 at this; have := (y 1).isLt; change _ < 2 at this; omega⟩ : Fin 256) k) * x5 (ix2 k (y 2)) : EReal)

/-- One chunk's part of them. -/
theorem tail_chunk (h : Vec Ideal S256x1024 .bf16) (x5 : Vec Ideal S1024x5632 .bf16) (o : ℕ) (ho : o + 256 ≤ 5632)
    (inb : ∀ a, ![0, 0, o] a + ![32, 2, 256] a ≤ S32x2x5632.size a) (x : S32x2x256.Idx) :
    k0_pay54 (k0_pay53 h (wIn x5 o ho)) x = tail h x5 ((Rect.unit (s := S32x2x5632) ![0, 0, o] ![32, 2, 256] inb).emb x) := by
  idx_vars x
  pointwise [k0_pay54, k0_pay53, k0_pay50, k0_pay48, wIn, tail]
  have e0 : (((Rect.unit (s := S32x2x5632) ![0, 0, o] ![32, 2, 256] inb).emb (ix3 x0 x1 x2) 0 : Fin _) : ℕ) = x0.val := by
    simp [Rect.emb, Rect.unit]
  have e1 : (((Rect.unit (s := S32x2x5632) ![0, 0, o] ![32, 2, 256] inb).emb (ix3 x0 x1 x2) 1 : Fin _) : ℕ) = x1.val := by
    simp [Rect.emb, Rect.unit]
  have e2 : (((Rect.unit (s := S32x2x5632) ![0, 0, o] ![32, 2, 256] inb).emb (ix3 x0 x1 x2) 2 : Fin _) : ℕ) = o + x2.val := by
    simp [Rect.emb, Rect.unit]
  refine Finset.sum_congr rfl fun k _ => ?_
  congr 3
  · exact Fin.ext (by simp only [e0, e1]; omega)
  · exact Fin.ext (by simp only [e2])

/-- A list of stores whose newest is one chunk's part of the rows: it leaves the rows if the earlier ones do so outside of that part. -/
theorem canon_step {h : Vec Ideal S256x1024 .bf16} {x5 : Vec Ideal S1024x5632 .bf16} {o : ℕ}
    {inb : ∀ a, ![0, 0, o] a + ![32, 2, 256] a ≤ S32x2x5632.size a} {w : Vec Ideal S32x2x256 .f32} {L : List (View.Piece (Elt Ideal) S32x2x5632 .f32)}
    {y : S32x2x5632.Idx} (ho : o + 256 ≤ 5632) (hw : w = k0_pay54 (k0_pay53 h (wIn x5 o ho)))
    (hL : (y 2).val < o ∨ o + 256 ≤ (y 2).val → View.canon L y = tail h x5 y) :
    View.canon (⟨Rect.unit ![0, 0, o] ![32, 2, 256] inb, w⟩ :: L) y = tail h x5 y := by
  by_cases hm : y ∈ (Rect.unit (s := S32x2x5632) ![0, 0, o] ![32, 2, 256] inb).set
  · obtain ⟨x, rfl⟩ := (Rect.unit (s := S32x2x5632) ![0, 0, o] ![32, 2, 256] inb).exists_idx_of_mem hm
    subst hw
    exact (View.canon_cons_emb _ _ _ x).trans (tail_chunk h x5 o ho inb x)
  · refine (View.canon_cons_of_not_mem (⟨Rect.unit ![0, 0, o] ![32, 2, 256] inb, w⟩ : View.Piece (Elt Ideal) S32x2x5632 .f32) L hm).trans ?_
    refine hL (by_contra fun hn => hm (Rect.mem_set_unit.mpr fun a => ?_))
    have h0 : (y 0).val < 32 := (y 0).isLt
    have h1 : (y 1).val < 2 := (y 1).isLt
    fin_cases a <;> simp <;> omega

/-- The same of a store that writes the part without a reshape. -/
theorem canon_step' {h : Vec Ideal S256x1024 .bf16} {x5 : Vec Ideal S1024x5632 .bf16} {o : ℕ}
    {inb : ∀ a, ![0, 0, o] a + ![32, 2, 256] a ≤ S32x2x5632.size a} {w : Vec Ideal S32x2x256 .f32} {L : List (View.Piece (Elt Ideal) S32x2x5632 .f32)}
    {y : S32x2x5632.Idx} (ho : o + 256 ≤ 5632) (hw : w = k0_pay53 h (wIn x5 o ho))
    (hL : (y 2).val < o ∨ o + 256 ≤ (y 2).val → View.canon L y = tail h x5 y) :
    View.canon (⟨Rect.unit ![0, 0, o] ![32, 2, 256] inb, w⟩ :: L) y = tail h x5 y :=
  canon_step ho (hw.trans (shapeCast_id _ _).symm) hL

/-- What a tile leaves in the second output's block: its sequences' last two rows. -/
theorem new_eq (t : Fin cfg0.N) : (outsAt0 m c t).2 = tail (hid m c t) (iblk m c 5 t) := by
  unfold hid
  funext y
  have h2 : (y 2).val < 5632 := (y 2).isLt
  unfold outsAt0
  frame_out
  generalize k0_pay4 (iblk m c 0 t) (iblk m c 1 t) (iblk m c 2 t) (iblk m c 3 t) = h
  generalize iblk m c 5 t = x5
  iterate 22 refine canon_step' (by omega) rfl fun _ => ?_
  omega

end Cert.FfnSampleIdeal.Blocks

end
-- ==== Proof.FfnSamplePay.lean ====
module

public import proofs.«01_k».proof.Proof.FfnSampleForm
public import proofs.«01_k».proof.Proof.FfnSpec

@[expose] public section

/-! # One tile's arithmetic, over blocks that hold the tile's part of the arguments -/

set_option maxRecDepth 16384

noncomputable section

open Idealize.ShloMosaic Idealize.ShloMosaic.TcCoe Idealize.SL.Sem

namespace Cert.FfnSampleIdeal.Blocks

open Cert.FfnSampleIdeal Cert.FfnSampleIdeal.Gen

/-- A choice made on a token's number. -/
theorem sel_row (i k : ℕ) (hi : i < 8) (hk : k < 8 := by decide) (x y : EReal) :
    Scalar.select (IntOp.cmpi .eq (BitVec.ofNat 32 i) (BitVec.ofNat 32 k)) x y = if i = k then x else y := by
  by_cases e : i = k
  · rw [if_pos e, e]
    exact Scalar.select_of_eq_one (IntOp.cmpi_eq_self _) _ _
  · rw [if_neg e]
    refine Scalar.select_of_ne_one (fun h => e ?_) _ _
    have h' : BitVec.ofNat 32 i = BitVec.ofNat 32 k := by
      by_contra hn
      rw [show IntOp.cmpi .eq (BitVec.ofNat 32 i) (BitVec.ofNat 32 k) = BitVec.ofBool (BitVec.ofNat 32 i == BitVec.ofNat 32 k) from rfl,
        beq_eq_false_iff_ne.mpr hn] at h
      exact absurd h (by decide)
    have h'' := congrArg BitVec.toNat h'
    simp only [BitVec.toNat_ofNat] at h''
    omega

/-- The first chunk's product of a tap and the rows two before is that of the other chunks. -/
theorem k0_pay22_eq (v33 v35 : IVec S32x8x256 1) (h : Vec Ideal S256x1024 .bf16) (w : Vec Ideal S1024x256 .bf16) (q : Vec Ideal S32x2x256 .f32)
    (tp : Vec Ideal S3x256 .f32) : k0_pay22 (F := Ideal) v33 v35 h w q tp
      = mulf (broadcastTo S32x8x256 (shapeCast S1x1x256 (extractStridedSlice S1x256 ![0, 0] tp slices_S3x256_o0_0_S1x256) shapeCasts_S1x256_S1x1x256)
          broadcasts_S1x1x256_S32x8x256) (k0_pay52 v33 v35 h w q) := rfl

section Pay

variable (A : FfnSpec.Args) (n : ℕ)
  (x0 : Vec Ideal S256x1024 .f32) (x1 x10 : Vec Ideal S1x1024 .f32) (x2 x3 x4 : Vec Ideal S1x256x1024 .f32)
  (h0 : ∀ (i : Fin 256) (d : Fin 1024), x0 (ix2 i d) = A.x (n * 32 + i.val / 8) (i.val % 8) d.val)
  (h1 : ∀ d : Fin 1024, x1 (ix2 0 d) = A.g d.val)
  (h2 : ∀ (i : Fin 256) (d : Fin 1024), x2 (ix3 0 i d) = A.sh (n * 32 + i.val / 8) d.val)
  (h3 : ∀ (i : Fin 256) (d : Fin 1024), x3 (ix3 0 i d) = A.sc (n * 32 + i.val / 8) d.val)
  (h4 : ∀ (i : Fin 256) (d : Fin 1024), x4 (ix3 0 i d) = A.ga (n * 32 + i.val / 8) d.val)
  (h10 : ∀ d : Fin 1024, x10 (ix2 0 d) = A.gf d.val)

include h0 h1 h2 h3 in
/-- The tile's normed and modulated rows. -/
theorem hid_pay (i : Fin 256) (d : Fin 1024) :
    (k0_pay4 (F := Ideal) x0 x1 x2 x3 : Vec Ideal S256x1024 .bf16) (ix2 i d) = (FfnSpec.h A (n * 32 + i.val / 8) (i.val % 8) d.val : EReal) := by
  pointwise [k0_pay4, k0_pay3]
  simp only [h0, h1, h2, h3, FfnSpec.h, FfnSpec.inv]

include h0 h4 h10 in
/-- The tile's results, over its rows of the second product. -/
theorem out_pay (a : FVec Ideal S256x1024 .f32)
    (ha : ∀ (i : Fin 256) (d : Fin 1024), a (ix2 i d) = FfnSpec.y A (n * 32 + i.val / 8) (i.val % 8) d.val) (i : Fin 256) (d : Fin 1024) :
    (k0_pay1 (F := Ideal) (k0_pay185 (k0_pay3 x0) x4 a) (k0_pay186 (k0_pay3 x0) x4 a) x10 : Vec Ideal S256x1024 .f32) (ix2 i d) = (FfnSpec.out A (n * 32 + i.val / 8) (i.val % 8) d.val : EReal) := by
  pointwise [k0_pay1, k0_pay3, k0_pay185, k0_pay186]
  simp only [h0, h4, h10, ha, FfnSpec.out, FfnSpec.res, FfnSpec.inv]

variable (hid : Vec Ideal S256x1024 .bf16) (x5 : Vec Ideal S1024x5632 .bf16) (x6 : Vec Ideal S3x5632 .f32) (x7 : Vec Ideal S1x5632 .f32)
  (p : Vec Ideal S32x2x5632 .f32) (x9 : Vec Ideal S2816x1024 .bf16)
  (hh : ∀ (i : Fin 256) (d : Fin 1024), hid (ix2 i d) = (FfnSpec.h A (n * 32 + i.val / 8) (i.val % 8) d.val : EReal))
  (h5 : ∀ (k : Fin 1024) (f : Fin 5632), x5 (ix2 k f) = (A.wi k.val f.val : EReal))
  (h6 : ∀ (j : Fin 3) (f : Fin 5632), x6 (ix2 j f) = A.cw j.val f.val)
  (h7 : ∀ f : Fin 5632, x7 (ix2 0 f) = A.cb f.val)
  (hp : ∀ (s : Fin 32) (r : Fin 2) (f : Fin 5632), p (ix3 s r f) = FfnSpec.ext A (n * 32 + s.val) r.val f.val)
  (h9 : ∀ (f : Fin 2816) (d : Fin 1024), x9 (ix2 f d) = (A.wo f.val d.val : EReal))

include hh h5 in
/-- A chunk's product with the first weight: the extended rows, two on. -/
theorem u_pay (o : ℕ) (ho : o + 256 ≤ 5632) (s : Fin 32) (i : Fin 8) (j : Fin 256) :
    (k0_pay48 (F := Ideal) hid (wIn x5 o ho) : Vec Ideal S32x8x256 .f32) (ix3 s i j) = FfnSpec.u A (n * 32 + s.val) i.val (o + j.val) := by
  have e1 : (s.val * 8 + i.val) / 8 = s.val := by omega
  have e2 : (s.val * 8 + i.val) % 8 = i.val := by omega
  pointwise [k0_pay48, wIn]
  simp only [hh, h5, e1, e2, FfnSpec.u]

include hh h5 hp in
/-- The rows one before. -/
theorem um1_pay (o : ℕ) (ho : o + 256 ≤ 5632) (s : Fin 32) (i : Fin 8) (j : Fin 256) :
    (k0_pay51 (F := Ideal) k0_pay5 hid (wIn x5 o ho) (prev p o ho) : Vec Ideal S32x8x256 .f32) (ix3 s i j)
      = FfnSpec.ext A (n * 32 + s.val) (i.val + 1) (o + j.val) := by
  have eu := u_pay A n hid x5 hh h5 o ho s
  revert eu
  unfold k0_pay51
  generalize k0_pay48 (F := Ideal) hid (wIn x5 o ho) = a
  intro eu
  pointwise [k0_pay49, k0_pay5, prev]
  simp only [sel_row _ 0 i.isLt, hp, eu]
  split_ifs with e
  · rw [e]
    rfl
  · have e' : (i.val + 8 - 1) % 8 = i.val - 1 := by omega
    rw [FfnSpec.ext, if_neg (by omega), e', show i.val + 1 - 2 = i.val - 1 by omega]

include hh h5 hp in
/-- The rows two before. -/
theorem um2_pay (o : ℕ) (ho : o + 256 ≤ 5632) (s : Fin 32) (i : Fin 8) (j : Fin 256) :
    (k0_pay52 (F := Ideal) k0_pay5 k0_pay6 hid (wIn x5 o ho) (prev p o ho) : Vec Ideal S32x8x256 .f32) (ix3 s i j)
      = FfnSpec.ext A (n * 32 + s.val) i.val (o + j.val) := by
  have eu := u_pay A n hid x5 hh h5 o ho s
  revert eu
  unfold k0_pay52 k0_pay50
  generalize k0_pay48 (F := Ideal) hid (wIn x5 o ho) = a
  intro eu
  pointwise [k0_pay49, k0_pay5, k0_pay6, prev]
  simp only [sel_row _ 0 i.isLt, sel_row _ 1 i.isLt, hp, eu]
  split_ifs with e e1
  · rw [e]
    rfl
  · rw [e1]
    rfl
  · have e' : (i.val + 8 - 2) % 8 = i.val - 2 := by omega
    rw [FfnSpec.ext, if_neg (by omega), e']

include hh h5 h6 h7 hp in
/-- One element of a chunk's convolution. -/
theorem conv_sum (o : ℕ) (ho : o + 256 ≤ 5632) (s : Fin 32) (i : Fin 8) (j : Fin 256) :
    ((bias x7 o ho (ix2 0 j) + taps x6 o ho (ix2 0 j) * k0_pay52 (F := Ideal) k0_pay5 k0_pay6 hid (wIn x5 o ho) (prev p o ho) (ix3 s i j)
        + taps x6 o ho (ix2 1 j) * k0_pay51 (F := Ideal) k0_pay5 hid (wIn x5 o ho) (prev p o ho) (ix3 s i j)
        + taps x6 o ho (ix2 2 j) * k0_pay48 (F := Ideal) hid (wIn x5 o ho) (ix3 s i j) : EReal))
      = FfnSpec.z A (n * 32 + s.val) i.val (o + j.val) := by
  have eb : bias x7 o ho (ix2 0 j) = A.cb (o + j.val) := by
    pointwise [bias]
    exact h7 _
  have et : ∀ r : Fin 3, taps x6 o ho (ix2 r j) = A.cw r.val (o + j.val) := fun r => by
    pointwise [taps]
    exact h6 _ _
  have e2 : FfnSpec.ext A (n * 32 + s.val) (i.val + 2) (o + j.val) = FfnSpec.u A (n * 32 + s.val) i.val (o + j.val) := by
    rw [FfnSpec.ext, if_neg (by omega), Nat.add_sub_cancel]
  rw [um2_pay A n hid x5 p hh h5 hp o ho s i j, um1_pay A n hid x5 p hh h5 hp o ho s i j, u_pay A n hid x5 hh h5 o ho s i j, eb, et, et, et,
    FfnSpec.z, e2]
  rfl

include hh h5 h6 h7 hp in
/-- A chunk's convolved columns. -/
theorem conv_pay (o : ℕ) (ho : o + 256 ≤ 5632) (i j : Fin 256) :
    (conv hid x5 x6 x7 p o ho : Vec Ideal S256x256 .f32) (ix2 i j) = FfnSpec.z A (n * 32 + i.val / 8) (i.val % 8) (o + j.val) := by
  unfold conv
  pointwise [k0_pay47]
  exact conv_sum A n hid x5 x6 x7 p hh h5 h6 h7 hp o ho ⟨i.val / 8, by omega⟩ ⟨i.val % 8, by omega⟩ j

include hh h5 h6 h7 hp h9 in
/-- The first chunk's part of the second product. -/
theorem chunk0_pay (i : Fin 256) (d : Fin 1024) :
    (chunk0 hid x5 x6 x7 p x9 : Vec Ideal S256x1024 .f32) (ix2 i d)
      = ∑ j ∈ Finset.range 256, FfnSpec.act A (n * 32 + i.val / 8) (i.val % 8) j * A.wo j d.val := by
  have ec := fun j => conv_pay A n hid x5 x6 x7 p hh h5 h6 h7 hp 0 (by omega) i j
  have ez := fun s i j => conv_sum A n hid x5 x6 x7 p hh h5 h6 h7 hp 2816 (by omega) s i j
  rw [Finset.sum_range]
  unfold chunk0
  pointwise [k0_pay23, k0_pay22_eq, k0_pay21, wOut]
  simp only [ez, ec, h9, zero_sub, FfnSpec.act, FfnSpec.silu, Nat.zero_add]

include hh h5 h6 h7 hp h9 in
/-- A later chunk's part, added to the earlier ones'. -/
theorem chunk_pay (o : ℕ) (ho : o + 256 ≤ 2816) (a : FVec Ideal S256x1024 .f32) (i : Fin 256) (d : Fin 1024) :
    (chunk hid x5 x6 x7 p x9 o ho a : Vec Ideal S256x1024 .f32) (ix2 i d)
      = a (ix2 i d) + ∑ j ∈ Finset.range 256, FfnSpec.act A (n * 32 + i.val / 8) (i.val % 8) (o + j) * A.wo (o + j) d.val := by
  have ec := fun j => conv_pay A n hid x5 x6 x7 p hh h5 h6 h7 hp o (by omega) i j
  have ez := fun s i j => conv_sum A n hid x5 x6 x7 p hh h5 h6 h7 hp (2816 + o) (by omega) s i j
  rw [Finset.sum_range]
  unfold chunk
  pointwise [k0_pay56, k0_pay55, wOut]
  simp only [ez, ec, h9, zero_sub, FfnSpec.act, FfnSpec.silu, Nat.add_assoc]

include hh h5 h6 h7 hp h9 in
/-- The accumulator after chunk `q`: the product's first columns. -/
theorem accs_pay (i : Fin 256) (d : Fin 1024) : ∀ (q : ℕ) (hq : q < 11),
    (accs hid x5 x6 x7 p x9 q hq : Vec Ideal S256x1024 .f32) (ix2 i d)
      = ∑ f ∈ Finset.range ((q + 1) * 256), FfnSpec.act A (n * 32 + i.val / 8) (i.val % 8) f * A.wo f d.val
  | 0, _ => by
    rw [accs]
    refine (chunk0_pay A n hid x5 x6 x7 p x9 hh h5 h6 h7 hp h9 i d).trans ?_
    simp only [Nat.zero_add, Nat.one_mul]
  | q + 1, hq => by
    rw [accs, chunk_pay A n hid x5 x6 x7 p x9 hh h5 h6 h7 hp h9 ((q + 1) * 256) (by omega) _ i d, accs_pay i d q (by omega),
      Nat.succ_mul (q + 1), Finset.sum_range_add]

include hh h5 in
/-- The sequences' last two rows, before the convolution. -/
theorem tail_pay (s : Fin 32) (r : Fin 2) (f : Fin 5632) : tail hid x5 (ix3 s r f) = FfnSpec.ext A (n * 32 + s.val) (8 + r.val) f.val := by
  rw [FfnSpec.ext, if_neg (by omega), show 8 + r.val - 2 = 6 + r.val by omega]
  have e1 : (s.val * 8 + (6 + r.val)) / 8 = s.val := by omega
  have e2 : (s.val * 8 + (6 + r.val)) % 8 = 6 + r.val := by omega
  unfold tail
  simp only [hh, FfnSpec.u]
  refine Finset.sum_congr rfl fun k _ => (congrArg (_ * ·) (h5 k f)).trans ?_
  change FfnSpec.h A (n * 32 + (s.val * 8 + (6 + r.val)) / 8) ((s.val * 8 + (6 + r.val)) % 8) k.val * _ = _
  rw [e1, e2]

end Pay

end Cert.FfnSampleIdeal.Blocks

end
-- ==== Proof.FfnSampleKernel.lean ====
module

public import proofs.«01_k».proof.Proof.FfnSamplePay
public import proofs.«01_k».proof.Proof.Put

@[expose] public section

/-! # The feed-forward kernel on the sample batch, read at an index -/

set_option maxRecDepth 16384

noncomputable section

open Idealize.ShloMosaic Idealize.ShloMosaic.TcCoe Idealize.SL.Sem
open Idealize.ShloMosaic.Pipeline (Dat)

namespace Cert.FfnSampleIdeal.Blocks

open Cert.FfnSampleIdeal Cert.FfnSampleIdeal.Gen

variable (m : (ℓ : Loc nD τ sig) → Buf (Elt Ideal) ℓ) (c : Dev nD)

/-- The windows' block indices: a grid point is 32 sequences of eight tokens. -/
theorem idx : ∀ t : Fin cfg0.N, win0_0.index t = ![t.val, 0] ∧ win0_1.index t = ![0, 0]
    ∧ win0_2.index t = ![t.val, 0, 0] ∧ win0_3.index t = ![t.val, 0, 0] ∧ win0_4.index t = ![t.val, 0, 0]
    ∧ win0_5.index t = ![0, 0] ∧ win0_6.index t = ![0, 0] ∧ win0_7.index t = ![0, 0] ∧ win0_8.index t = ![t.val, 0, 0]
    ∧ win0_9.index t = ![0, 0] ∧ win0_10.index t = ![0, 0] ∧ win0_11.index t = ![t.val, 0] ∧ win0_12.index t = ![t.val, 0, 0]
    ∧ t.val < 4 :=
  (by decide +kernel : ∀ t : Fin grid0.N, _)

theorem lt_4 (t : Fin cfg0.N) : t.val < 4 := (idx t).2.2.2.2.2.2.2.2.2.2.2.2.2

/-- The memory's arguments. -/
abbrev args : FfnSpec.Args :=
  FfnSpec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

section Blocks

variable (t : Fin cfg0.N)

/-- The rows, flattened. -/
theorem x_tab (r : Fin 1024) (d : Fin 1024) : (V m c main_v0 : Vec Ideal S1024x1024 .f32) (ix2 r d)
    = m ((c : Thread nD τ).loc main_arg0) (ix3 ⟨r.val / 8, by omega⟩ ⟨r.val % 8, by omega⟩ d) := by
  entry_read
  pointwise []

/-- The tile's rows. -/
theorem x_blk (i : Fin 256) (d : Fin 1024) :
    (iblk m c 0 t : Vec Ideal S256x1024 .f32) (ix2 i d) = (args m c).x (t.val * 32 + i.val / 8) (i.val % 8) d.val := by
  have ht := lt_4 t
  have e : (iblk m c 0 t : Vec Ideal S256x1024 .f32) (ix2 i d) = (V m c main_v0 : Vec Ideal S1024x1024 .f32) (ix2 ⟨t.val * 256 + i, by omega⟩ d) := by
    blk_ext [iblk, idx t]
  rw [e, x_tab]
  exact FfnSpec.nat3_of (fun b t d => m ((c : Thread nD τ).loc main_arg0) (ix3 b t d)) _ _ d.isLt (by dsimp only; omega) (by dsimp only; omega) rfl

/-- The first gain. -/
theorem g_blk (d : Fin 1024) : (iblk m c 1 t : Vec Ideal S1x1024 .f32) (ix2 0 d) = (args m c).g d.val := by
  have e0 : (V m c main_v12 : Vec Ideal S1x1024 .f32) (ix2 0 d) = m ((c : Thread nD τ).loc main_arg1) (ix1 d) := by
    entry_read
    pointwise []
  have e : (iblk m c 1 t : Vec Ideal S1x1024 .f32) (ix2 0 d) = (V m c main_v12 : Vec Ideal S1x1024 .f32) (ix2 0 d) := by
    blk_ext [iblk, idx t]
  rw [e, e0]
  exact FfnSpec.nat1_of (fun d => m ((c : Thread nD τ).loc main_arg1) (ix1 d)) d.isLt rfl

/-- The rows' shifts: their sequence's. -/
theorem sh_blk (i : Fin 256) (d : Fin 1024) :
    (iblk m c 2 t : Vec Ideal S1x256x1024 .f32) (ix3 0 i d) = (args m c).sh (t.val * 32 + i.val / 8) d.val := by
  have ht := lt_4 t
  have e0 : ∀ b : Fin 4, (V m c main_v5 : Vec Ideal S4x256x1024 .f32) (ix3 b i d)
      = m ((c : Thread nD τ).loc main_arg2) (ix2 ⟨b.val * 32 + i.val / 8, by omega⟩ d) := fun b => by
    entry_read
    pointwise []
  have e : (iblk m c 2 t : Vec Ideal S1x256x1024 .f32) (ix3 0 i d) = (V m c main_v5 : Vec Ideal S4x256x1024 .f32) (ix3 ⟨t.val, ht⟩ i d) := by
    blk_ext [iblk, idx t]
  rw [e, e0]
  exact FfnSpec.nat2_of (fun b d => m ((c : Thread nD τ).loc main_arg2) (ix2 b d)) _ d.isLt rfl rfl

/-- The rows' scales. -/
theorem sc_blk (i : Fin 256) (d : Fin 1024) :
    (iblk m c 3 t : Vec Ideal S1x256x1024 .f32) (ix3 0 i d) = (args m c).sc (t.val * 32 + i.val / 8) d.val := by
  have ht := lt_4 t
  have e0 : ∀ b : Fin 4, (V m c main_v8 : Vec Ideal S4x256x1024 .f32) (ix3 b i d)
      = m ((c : Thread nD τ).loc main_arg3) (ix2 ⟨b.val * 32 + i.val / 8, by omega⟩ d) := fun b => by
    entry_read
    pointwise []
  have e : (iblk m c 3 t : Vec Ideal S1x256x1024 .f32) (ix3 0 i d) = (V m c main_v8 : Vec Ideal S4x256x1024 .f32) (ix3 ⟨t.val, ht⟩ i d) := by
    blk_ext [iblk, idx t]
  rw [e, e0]
  exact FfnSpec.nat2_of (fun b d => m ((c : Thread nD τ).loc main_arg3) (ix2 b d)) _ d.isLt rfl rfl

/-- The rows' gates. -/
theorem ga_blk (i : Fin 256) (d : Fin 1024) :
    (iblk m c 4 t : Vec Ideal S1x256x1024 .f32) (ix3 0 i d) = (args m c).ga (t.val * 32 + i.val / 8) d.val := by
  have ht := lt_4 t
  have e0 : ∀ b : Fin 4, (V m c main_v11 : Vec Ideal S4x256x1024 .f32) (ix3 b i d)
      = m ((c : Thread nD τ).loc main_arg4) (ix2 ⟨b.val * 32 + i.val / 8, by omega⟩ d) := fun b => by
    entry_read
    pointwise []
  have e : (iblk m c 4 t : Vec Ideal S1x256x1024 .f32) (ix3 0 i d) = (V m c main_v11 : Vec Ideal S4x256x1024 .f32) (ix3 ⟨t.val, ht⟩ i d) := by
    blk_ext [iblk, idx t]
  rw [e, e0]
  exact FfnSpec.nat2_of (fun b d => m ((c : Thread nD τ).loc main_arg4) (ix2 b d)) _ d.isLt rfl rfl

/-- The first weight. -/
theorem wi_blk (k : Fin 1024) (f : Fin 5632) : (iblk m c 5 t : Vec Ideal S1024x5632 .bf16) (ix2 k f) = ((args m c).wi k.val f.val : EReal) := by
  have e0 : (V m c main_v1 : Vec Ideal S1024x5632 .bf16) (ix2 k f) = (m ((c : Thread nD τ).loc main_arg5) (ix2 k f) : EReal) := by
    entry_read
    pointwise []
  have e : (iblk m c 5 t : Vec Ideal S1024x5632 .bf16) (ix2 k f) = (V m c main_v1 : Vec Ideal S1024x5632 .bf16) (ix2 k f) := by
    blk_ext [iblk, idx t]
  refine e.trans (e0.trans ?_)
  exact FfnSpec.nat2_of (fun k f => m ((c : Thread nD τ).loc main_arg5) (ix2 k f)) k.isLt f.isLt rfl rfl

/-- The taps. -/
theorem cw_blk (j : Fin 3) (f : Fin 5632) : (iblk m c 6 t : Vec Ideal S3x5632 .f32) (ix2 j f) = (args m c).cw j.val f.val := by
  have e : (iblk m c 6 t : Vec Ideal S3x5632 .f32) (ix2 j f) = m ((c : Thread nD τ).loc main_arg6) (ix2 j f) := by
    blk_ext [iblk, V, idx t]
  rw [e]
  exact FfnSpec.nat2_of (fun j f => m ((c : Thread nD τ).loc main_arg6) (ix2 j f)) j.isLt f.isLt rfl rfl

/-- The convolution's bias. -/
theorem cb_blk (f : Fin 5632) : (iblk m c 7 t : Vec Ideal S1x5632 .f32) (ix2 0 f) = (args m c).cb f.val := by
  have e0 : (V m c main_v13 : Vec Ideal S1x5632 .f32) (ix2 0 f) = m ((c : Thread nD τ).loc main_arg7) (ix1 f) := by
    entry_read
    pointwise []
  have e : (iblk m c 7 t : Vec Ideal S1x5632 .f32) (ix2 0 f) = (V m c main_v13 : Vec Ideal S1x5632 .f32) (ix2 0 f) := by
    blk_ext [iblk, idx t]
  rw [e, e0]
  exact FfnSpec.nat1_of (fun f => m ((c : Thread nD τ).loc main_arg7) (ix1 f)) f.isLt rfl

/-- The two rows before each of the tile's sequences. -/
theorem buf_blk (s : Fin 32) (r : Fin 2) (f : Fin 5632) :
    (iblk m c 8 t : Vec Ideal S32x2x5632 .f32) (ix3 s r f) = (args m c).buf (t.val * 32 + s.val) r.val f.val := by
  have ht := lt_4 t
  have e : (iblk m c 8 t : Vec Ideal S32x2x5632 .f32) (ix3 s r f) = m ((c : Thread nD τ).loc main_arg8) (ix3 ⟨t.val * 32 + s.val, by omega⟩ r f) := by
    blk_ext [iblk, V, idx t]
  rw [e]
  exact FfnSpec.nat3_of (fun b r f => m ((c : Thread nD τ).loc main_arg8) (ix3 b r f)) _ r.isLt f.isLt rfl rfl rfl

/-- The second weight. -/
theorem wo_blk (f : Fin 2816) (d : Fin 1024) : (iblk m c 9 t : Vec Ideal S2816x1024 .bf16) (ix2 f d) = ((args m c).wo f.val d.val : EReal) := by
  have e0 : (V m c main_v2 : Vec Ideal S2816x1024 .bf16) (ix2 f d) = (m ((c : Thread nD τ).loc main_arg9) (ix2 f d) : EReal) := by
    entry_read
    pointwise []
  have e : (iblk m c 9 t : Vec Ideal S2816x1024 .bf16) (ix2 f d) = (V m c main_v2 : Vec Ideal S2816x1024 .bf16) (ix2 f d) := by
    blk_ext [iblk, idx t]
  refine e.trans (e0.trans ?_)
  exact FfnSpec.nat2_of (fun f d => m ((c : Thread nD τ).loc main_arg9) (ix2 f d)) f.isLt d.isLt rfl rfl

/-- The last gain. -/
theorem gf_blk (d : Fin 1024) : (iblk m c 10 t : Vec Ideal S1x1024 .f32) (ix2 0 d) = (args m c).gf d.val := by
  have e0 : (V m c main_v14 : Vec Ideal S1x1024 .f32) (ix2 0 d) = m ((c : Thread nD τ).loc main_arg10) (ix1 d) := by
    entry_read
    pointwise []
  have e : (iblk m c 10 t : Vec Ideal S1x1024 .f32) (ix2 0 d) = (V m c main_v14 : Vec Ideal S1x1024 .f32) (ix2 0 d) := by
    blk_ext [iblk, idx t]
  rw [e, e0]
  exact FfnSpec.nat1_of (fun d => m ((c : Thread nD τ).loc main_arg10) (ix1 d)) d.isLt rfl

/-- The tile's normed and modulated rows. -/
theorem hid_at (i : Fin 256) (d : Fin 1024) :
    hid m c t (ix2 i d) = (FfnSpec.h (args m c) (t.val * 32 + i.val / 8) (i.val % 8) d.val : EReal) :=
  hid_pay (args m c) t.val _ _ _ _ (x_blk m c t) (g_blk m c t) (sh_blk m c t) (sc_blk m c t) i d

/-- The two rows before each of the tile's sequences, as the extended rows' first. -/
theorem before_at (s : Fin 32) (r : Fin 2) (f : Fin 5632) :
    (k0_pay2 (F := Ideal) (iblk m c 8 t) : Vec Ideal S32x2x5632 .f32) (ix3 s r f) = FfnSpec.ext (args m c) (t.val * 32 + s.val) r.val f.val := by
  rw [FfnSpec.ext, if_pos r.isLt]
  exact (congrFun (shapeCast_id _ _) _).trans (buf_blk m c t s r f)

end Blocks

/-- A tile's rows of the second product. -/
theorem accs_at (t : Fin cfg0.N) (i : Fin 256) (d : Fin 1024) :
    accs (hid m c t) (iblk m c 5 t) (iblk m c 6 t) (iblk m c 7 t) (k0_pay2 (iblk m c 8 t)) (iblk m c 9 t) 10 (by omega) (ix2 i d)
      = FfnSpec.y (args m c) (t.val * 32 + i.val / 8) (i.val % 8) d.val :=
  accs_pay (args m c) t.val _ _ _ _ _ _ (hid_at m c t) (wi_blk m c t) (cw_blk m c t) (cb_blk m c t)
    (before_at m c t) (wo_blk m c t) i d 10 (by omega)

/-- The kernel's first result, index by index. -/
def outK (A : FfnSpec.Args) : Vec Ideal S1024x1024 .f32 := fun j =>
  FfnSpec.out A ((j 0).val / 8) ((j 0).val % 8) (j 1).val

/-- The kernel's second result, index by index. -/
def bufK (A : FfnSpec.Args) : Vec Ideal S128x2x5632 .f32 := fun j =>
  FfnSpec.ext A (j 0).val (8 + (j 1).val) (j 2).val

/-- A tile's block of the first result. -/
theorem out_at (t : Fin cfg0.N) (y : S256x1024.Idx) : ((outsAt0 m c t).1 : Vec Ideal S256x1024 .f32) y
    = FfnSpec.out (args m c) (t.val * 32 + (y 0).val / 8) ((y 0).val % 8) (y 1).val := by
  idx_vars y
  rw [out_eq]
  exact out_pay (args m c) t.val _ _ _ (x_blk m c t) (ga_blk m c t) (gf_blk m c t) _ (accs_at m c t) y0 y1

/-- A tile's block of the second result. -/
theorem buf_at (t : Fin cfg0.N) (y : S32x2x5632.Idx) : ((outsAt0 m c t).2 : Vec Ideal S32x2x5632 .f32) y
    = FfnSpec.ext (args m c) (t.val * 32 + (y 0).val) (8 + (y 1).val) (y 2).val := by
  idx_vars y
  exact (congrFun (new_eq m c t) (ix3 y0 y1 y2)).trans (tail_pay (args m c) t.val _ _ (hid_at m c t) (wi_blk m c t) y0 y1 y2)

/-- The first result array after the run. -/
theorem final_out : (dats m 0 c).arrAt 11 cfg0.N = outK (args m c) := by
  refine (dats m 0 c).arrAt_eq_of_covers 11 _ (by decide +kernel) fun t hf y => ?_
  have e0 : ((win0_11.blk t).view.emb y 0 : ℕ) = t.val * 256 + (y 0).val := by blk_simp [idx t]
  have e1 : ((win0_11.blk t).view.emb y 1 : ℕ) = (y 1).val := by blk_simp [idx t]
  blk_simp
  rw [after0_11]
  refine (out_at m c t y).trans ?_
  unfold outK
  rw [e0, e1]
  have a0 : (t.val * 256 + (y 0).val) / 8 = t.val * 32 + (y 0).val / 8 := by omega
  have a1 : (t.val * 256 + (y 0).val) % 8 = (y 0).val % 8 := by omega
  rw [a0, a1]

/-- The second result array after the run. -/
theorem final_buf : (dats m 0 c).arrAt 12 cfg0.N = bufK (args m c) := by
  refine (dats m 0 c).arrAt_eq_of_covers 12 _ (by decide +kernel) fun t hf y => ?_
  have e0 : ((win0_12.blk t).view.emb y 0 : ℕ) = t.val * 32 + (y 0).val := by blk_simp [idx t]
  have e1 : ((win0_12.blk t).view.emb y 1 : ℕ) = (y 1).val := by blk_simp [idx t]
  have e2 : ((win0_12.blk t).view.emb y 2 : ℕ) = (y 2).val := by blk_simp [idx t]
  blk_simp
  rw [after0_12]
  refine (buf_at m c t y).trans ?_
  unfold bufK
  rw [e0, e1, e2]

/-- A memory that holds given arguments. -/
theorem exists_memory (c : Dev nD) (a0 : Vec Ideal S128x8x1024 .f32) (a1 : Vec Ideal S1024 .f32) (a2 a3 a4 : Vec Ideal S128x1024 .f32) (a5 : Vec Ideal S1024x5632 .f32)
    (a6 : Vec Ideal S3x5632 .f32) (a7 : Vec Ideal S5632 .f32) (a8 : Vec Ideal S128x2x5632 .f32) (a9 : Vec Ideal S2816x1024 .f32)
    (a10 : Vec Ideal S1024 .f32) :
    ∃ m : (ℓ : Loc nD τ sig) → Buf (Elt Ideal) ℓ, m ((c : Thread nD τ).loc main_arg0) = a0 ∧ m ((c : Thread nD τ).loc main_arg1) = a1
      ∧ m ((c : Thread nD τ).loc main_arg2) = a2 ∧ m ((c : Thread nD τ).loc main_arg3) = a3 ∧ m ((c : Thread nD τ).loc main_arg4) = a4
      ∧ m ((c : Thread nD τ).loc main_arg5) = a5 ∧ m ((c : Thread nD τ).loc main_arg6) = a6 ∧ m ((c : Thread nD τ).loc main_arg7) = a7
      ∧ m ((c : Thread nD τ).loc main_arg8) = a8 ∧ m ((c : Thread nD τ).loc main_arg9) = a9 ∧ m ((c : Thread nD τ).loc main_arg10) = a10 := by
  have h : ∀ ℓ : Loc nD τ sig, Nonempty (Buf (Elt Ideal) ℓ) := fun ℓ => inferInstance
  refine ⟨Put.put (Put.put (Put.put (Put.put (Put.put (Put.put (Put.put (Put.put (Put.put (Put.put (Put.put (fun ℓ => Classical.choice (h ℓ))
    c main_arg0 a0) c main_arg1 a1) c main_arg2 a2) c main_arg3 a3) c main_arg4 a4) c main_arg5 a5) c main_arg6 a6) c main_arg7 a7)
    c main_arg8 a8) c main_arg9 a9) c main_arg10 a10, ?_⟩
  repeat' constructor
  all_goals
    repeat rw [Put.put_ne _ _ _ _ _ (by decide)]
    rw [Put.put_self]

end Cert.FfnSampleIdeal.Blocks

end
-- ==== Proof.FfnSampleRef.lean ====
module

public import proofs.«01_k».proof.Proof.Gen.FfnSampleReferenceIdeal.Read
public import proofs.«01_k».proof.Proof.FfnSpec

@[expose] public section

/-! # The feed-forward reference on the sample batch, read at an index -/

set_option maxRecDepth 16384

noncomputable section

open Idealize.ShloMosaic Idealize.ShloMosaic.TcCoe Idealize.SL.Sem

namespace Cert.FfnSampleReferenceIdeal.Rows

open Cert.FfnSampleReferenceIdeal Cert.FfnSampleReferenceIdeal.Read

variable (x0 : Vec Ideal S128x8x1024 .f32) (x1 : Vec Ideal S1024 .f32) (x2 x3 x4 : Vec Ideal S128x1024 .f32) (x5 : Vec Ideal S1024x5632 .f32)
  (x6 : Vec Ideal S3x5632 .f32) (x7 : Vec Ideal S5632 .f32) (x8 : Vec Ideal S128x2x5632 .f32) (x9 : Vec Ideal S2816x1024 .f32)
  (x10 : Vec Ideal S1024 .f32)
  (A : FfnSpec.Args)
  (h0 : ∀ (b : Fin 128) (t : Fin 8) (d : Fin 1024), x0 (ix3 b t d) = A.x b.val t.val d.val)
  (h1 : ∀ d : Fin 1024, x1 (ix1 d) = A.g d.val)
  (h2 : ∀ (b : Fin 128) (d : Fin 1024), x2 (ix2 b d) = A.sh b.val d.val)
  (h3 : ∀ (b : Fin 128) (d : Fin 1024), x3 (ix2 b d) = A.sc b.val d.val)
  (h4 : ∀ (b : Fin 128) (d : Fin 1024), x4 (ix2 b d) = A.ga b.val d.val)
  (h5 : ∀ (k : Fin 1024) (f : Fin 5632), x5 (ix2 k f) = A.wi k.val f.val)
  (h6 : ∀ (j : Fin 3) (f : Fin 5632), x6 (ix2 j f) = A.cw j.val f.val)
  (h7 : ∀ f : Fin 5632, x7 (ix1 f) = A.cb f.val)
  (h8 : ∀ (b : Fin 128) (r : Fin 2) (f : Fin 5632), x8 (ix3 b r f) = A.buf b.val r.val f.val)
  (h9 : ∀ (f : Fin 2816) (d : Fin 1024), x9 (ix2 f d) = A.wo f.val d.val)
  (h10 : ∀ d : Fin 1024, x10 (ix1 d) = A.gf d.val)

include h0 h1 h2 h3

/-- The normed and modulated rows. -/
theorem h_at (b : Fin 128) (t : Fin 8) (d : Fin 1024) :
    (val_main_v20 (F := Ideal) x0 x1 x2 x3 : Vec Ideal S128x8x1024 .f32) (ix3 b t d) = FfnSpec.h A b.val t.val d.val := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [h0, h1, h2, h3, FfnSpec.h, FfnSpec.inv, zero_add]

include h5

/-- Their product with the first weight. -/
theorem u_at (b : Fin 128) (t : Fin 8) (f : Fin 5632) :
    (val_main_v21 (F := Ideal) x0 x1 x2 x3 x5 : Vec Ideal S128x8x5632 .f32) (ix3 b t f) = FfnSpec.u A b.val t.val f.val := by
  have e := h_at x0 x1 x2 x3 A h0 h1 h2 h3 b t
  unfold val_main_v21
  revert e
  generalize (val_main_v20 (F := Ideal) x0 x1 x2 x3) = a
  intro e
  pointwise []
  simp only [e, h5, FfnSpec.u]

include h8

/-- The rows extended by the two before them. -/
theorem ext_at (b : Fin 128) (s : Fin 10) (f : Fin 5632) :
    (val_main_v22 (F := Ideal) x0 x1 x2 x3 x5 x8 : Vec Ideal S128x10x5632 .f32) (ix3 b s f) = FfnSpec.ext A b.val s.val f.val := by
  have e := u_at x0 x1 x2 x3 x5 A h0 h1 h2 h3 h5 b
  unfold val_main_v22
  revert e
  generalize (val_main_v21 (F := Ideal) x0 x1 x2 x3 x5) = a
  intro e
  pointwise []
  simp only [e, h8, FfnSpec.ext, dite_eq_ite]

/-- The second result: the last two of them. -/
theorem buf_at (b : Fin 128) (r : Fin 2) (f : Fin 5632) :
    (val_main_v51 (F := Ideal) x0 x1 x2 x3 x5 x8 : Vec Ideal S128x2x5632 .f32) (ix3 b r f) = FfnSpec.ext A b.val (8 + r.val) f.val := by
  have e := ext_at x0 x1 x2 x3 x5 x8 A h0 h1 h2 h3 h5 h8 b
  unfold val_main_v51
  revert e
  generalize (val_main_v22 (F := Ideal) x0 x1 x2 x3 x5 x8) = a
  intro e
  pointwise []
  simp only [e]

include h6 h7

/-- The convolved rows. -/
theorem z_at (b : Fin 128) (t : Fin 8) (f : Fin 5632) :
    (val_main_v45 (F := Ideal) x0 x1 x2 x3 x5 x6 x7 x8 : Vec Ideal S128x8x5632 .f32) (ix3 b t f) = FfnSpec.z A b.val t.val f.val := by
  have e := ext_at x0 x1 x2 x3 x5 x8 A h0 h1 h2 h3 h5 h8 b
  unfold val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23
  revert e
  generalize (val_main_v22 (F := Ideal) x0 x1 x2 x3 x5 x8) = a
  intro e
  pointwise []
  simp only [e, h6, h7, FfnSpec.z, Nat.add_comm _ t.val]
  rfl

/-- The hidden rows. -/
theorem act_at (b : Fin 128) (t : Fin 8) (f : Fin 2816) :
    (val_main_v49 (F := Ideal) x0 x1 x2 x3 x5 x6 x7 x8 : Vec Ideal S128x8x2816 .f32) (ix3 b t f) = FfnSpec.act A b.val t.val f.val := by
  have e := z_at x0 x1 x2 x3 x5 x6 x7 x8 A h0 h1 h2 h3 h5 h6 h7 h8 b t
  unfold val_main_v49 val_main_v48 val_main_v47 val_main_v46 val_main_call0_v5 val_main_call0_v4 val_main_call0_v3 val_main_call0_v2 val_main_call0_v1 val_main_call0_v0
    val_main_v47 val_main_call0_cst val_main_call0_cst_0
  revert e
  generalize (val_main_v45 (F := Ideal) x0 x1 x2 x3 x5 x6 x7 x8) = a
  intro e
  pointwise []
  simp only [e, FfnSpec.act, FfnSpec.silu]

include h9

/-- The second product. -/
theorem y_at (b : Fin 128) (t : Fin 8) (d : Fin 1024) :
    (val_main_v50 (F := Ideal) x0 x1 x2 x3 x5 x6 x7 x8 x9 : Vec Ideal S128x8x1024 .f32) (ix3 b t d) = FfnSpec.y A b.val t.val d.val := by
  have e := act_at x0 x1 x2 x3 x5 x6 x7 x8 A h0 h1 h2 h3 h5 h6 h7 h8 b t
  unfold val_main_v50
  revert e
  generalize (val_main_v49 (F := Ideal) x0 x1 x2 x3 x5 x6 x7 x8) = a
  intro e
  pointwise []
  rw [FfnSpec.y, Finset.sum_range]
  simp only [e, h9]

include h4

/-- The residual. -/
theorem res_at (b : Fin 128) (t : Fin 8) (d : Fin 1024) :
    (val_main_v55 (F := Ideal) x0 x1 x2 x3 x4 x5 x6 x7 x8 x9 : Vec Ideal S128x8x1024 .f32) (ix3 b t d) = FfnSpec.res A b.val t.val d.val := by
  have e := y_at x0 x1 x2 x3 x5 x6 x7 x8 x9 A h0 h1 h2 h3 h5 h6 h7 h8 h9 b t
  unfold val_main_v55 val_main_v54 val_main_v53 val_main_v52
  revert e
  generalize (val_main_v50 (F := Ideal) x0 x1 x2 x3 x5 x6 x7 x8 x9) = a
  intro e
  pointwise []
  simp only [e, h0, h4, FfnSpec.res]

include h10

/-- The first result. -/
theorem out_at (r : Fin 1024) (d : Fin 1024) :
    (val_main_v69 (F := Ideal) x0 x1 x2 x3 x4 x5 x6 x7 x8 x9 x10 : Vec Ideal S1024x1024 .f32) (ix2 r d)
      = FfnSpec.out A (r.val / 8) (r.val % 8) d.val := by
  have e := res_at x0 x1 x2 x3 x4 x5 x6 x7 x8 x9 A h0 h1 h2 h3 h4 h5 h6 h7 h8 h9
  unfold val_main_v69 val_main_v68 val_main_v67 val_main_v66 val_main_v65 val_main_v64 val_main_v63 val_main_v62 val_main_v61 val_main_v60 val_main_v59 val_main_v58 val_main_v57 val_main_v56 val_main_cst_3 val_main_cst_4 val_main_cst_5
  revert e
  generalize (val_main_v55 (F := Ideal) x0 x1 x2 x3 x4 x5 x6 x7 x8 x9) = a
  intro e
  pointwise []
  simp only [e, h10, FfnSpec.out, FfnSpec.inv, zero_add]

omit h0 h1 h2 h3 h4 h5 h6 h7 h8 h9 h10

/-- The residual's rows, of the arrays' arguments. -/
theorem res_of (hA : A = FfnSpec.ofArgs x0 x1 x2 x3 x4 x5 x6 x7 x8 x9 x10) (b : Fin 128) (t : Fin 8) (d : Fin 1024) :
    (val_main_v55 (F := Ideal) x0 x1 x2 x3 x4 x5 x6 x7 x8 x9 : Vec Ideal S128x8x1024 .f32) (ix3 b t d) = FfnSpec.res A b.val t.val d.val :=
  have ⟨h0, h1, h2, h3, h4, h5, h6, h7, h8, h9, _⟩ := FfnSpec.entries _ _ _ _ _ _ _ _ _ _ _ A hA
  res_at x0 x1 x2 x3 x4 x5 x6 x7 x8 x9 A h0 h1 h2 h3 h4 h5 h6 h7 h8 h9 b t d

/-- The second result's rows, of the arrays' arguments. -/
theorem buf_of (hA : A = FfnSpec.ofArgs x0 x1 x2 x3 x4 x5 x6 x7 x8 x9 x10) (b : Fin 128) (r : Fin 2) (f : Fin 5632) :
    (val_main_v51 (F := Ideal) x0 x1 x2 x3 x5 x8 : Vec Ideal S128x2x5632 .f32) (ix3 b r f) = FfnSpec.ext A b.val (8 + r.val) f.val :=
  have ⟨h0, h1, h2, h3, _, h5, _, _, h8, _, _⟩ := FfnSpec.entries _ _ _ _ _ _ _ _ _ _ _ A hA
  buf_at x0 x1 x2 x3 x5 x8 A h0 h1 h2 h3 h5 h8 b r f

/-- The first result's rows, of the arrays' arguments. -/
theorem out_of (hA : A = FfnSpec.ofArgs x0 x1 x2 x3 x4 x5 x6 x7 x8 x9 x10) (r : Fin 1024) (d : Fin 1024) :
    (val_main_v69 (F := Ideal) x0 x1 x2 x3 x4 x5 x6 x7 x8 x9 x10 : Vec Ideal S1024x1024 .f32) (ix2 r d)
      = FfnSpec.out A (r.val / 8) (r.val % 8) d.val :=
  have ⟨h0, h1, h2, h3, h4, h5, h6, h7, h8, h9, h10⟩ := FfnSpec.entries _ _ _ _ _ _ _ _ _ _ _ A hA
  out_at x0 x1 x2 x3 x4 x5 x6 x7 x8 x9 x10 A h0 h1 h2 h3 h4 h5 h6 h7 h8 h9 h10 r d

end Cert.FfnSampleReferenceIdeal.Rows

end
-- ==== Proof.FfnSampleValue.lean ====
module

public import proofs.«01_k».proof.Defs
public import proofs.«01_k».proof.Proof.FfnSampleKernel
public import proofs.«01_k».proof.Proof.FfnSampleRef
public import Idealize.ShloMosaic.Lib.Quiescent

@[expose] public section

/-! # The sample batch's feed-forward kernel computes the reference's layer -/

set_option maxRecDepth 16384

noncomputable section

open Idealize.ShloMosaic Idealize.ShloMosaic.TcCoe Idealize.SL.Sem

namespace Cert.Proof.FfnSample

section Ref

open FfnSampleReferenceIdeal

variable (x0 : Vec Ideal S128x8x1024 .f32) (x1 : Vec Ideal S1024 .f32) (x2 x3 x4 : Vec Ideal S128x1024 .f32) (x5 : Vec Ideal S1024x5632 .f32)
  (x6 : Vec Ideal S3x5632 .f32) (x7 : Vec Ideal S5632 .f32) (x8 : Vec Ideal S128x2x5632 .f32) (x9 : Vec Ideal S2816x1024 .f32)
  (x10 : Vec Ideal S1024 .f32)

/-- The reference's first result is the kernel's. -/
theorem ref_out : (Read.val_main_v69 (F := Ideal) x0 x1 x2 x3 x4 x5 x6 x7 x8 x9 x10 : Vec Ideal S1024x1024 .f32)
    = FfnSampleIdeal.Blocks.outK (FfnSpec.ofArgs x0 x1 x2 x3 x4 x5 x6 x7 x8 x9 x10) := by
  funext j
  change S1024x1024.Idx at j
  idx_vars j
  exact Rows.out_of x0 x1 x2 x3 x4 x5 x6 x7 x8 x9 x10 _ rfl j0 j1

/-- The reference's second result is the kernel's. -/
theorem ref_buf : (Read.val_main_v51 (F := Ideal) x0 x1 x2 x3 x5 x8 : Vec Ideal S128x2x5632 .f32)
    = FfnSampleIdeal.Blocks.bufK (FfnSpec.ofArgs x0 x1 x2 x3 x4 x5 x6 x7 x8 x9 x10) := by
  funext j
  change S128x2x5632.Idx at j
  idx_vars j
  exact Rows.buf_of x0 x1 x2 x3 x4 x5 x6 x7 x8 x9 x10 _ rfl j0 j1 j2

/-- The memory's arguments, by coordinates. -/
abbrev args (m : (ℓ : Loc nD τ sig) → Buf (Elt Ideal) ℓ) (c : Dev nD) : FfnSpec.Args :=
  FfnSpec.ofArgs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- The reference's results, index by index, are the kernel's. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69) = FfnSampleIdeal.Blocks.outK (args m c)
      ∧ r.2.mem ((c.tc : Thread nD τ).loc main_v51) = FfnSampleIdeal.Blocks.bufK (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans ((Read.val_main_v69_eq m c).trans (ref_out _ _ _ _ _ _ _ _ _ _ _)),
    (h c).2.1.trans ((Read.val_main_v51_eq _ _ _ _ _ _).trans (ref_buf _ _ _ _ _ _ _ _ _ _ _)), (h c).2.2⟩) (Value.run m ρ)

end Ref

/-- The kernel's two result arrays and the reference's are equal. -/
theorem algebraic : Cert.algebraic_FfnSampleIdeal_FfnSampleReferenceIdeal :=
  fun m ρ m' ρ' _ hag =>
    have e : ∀ c, args m' c = FfnSampleIdeal.Blocks.args m c := fun c => by
      obtain ⟨a0, a1, a2, a3, a4, a5, a6, a7, a8, a9, a10⟩ := hag c
      unfold args
      rw [a0, a1, a2, a3, a4, a5, a6, a7, a8, a9, a10]
    ⟨fun c => FfnSampleIdeal.Blocks.outK (FfnSampleIdeal.Blocks.args m c), fun c => FfnSampleIdeal.Blocks.bufK (FfnSampleIdeal.Blocks.args m c),
      (θ_run _ _ _).mono (fun _ h c => ⟨(h c).1.trans (FfnSampleIdeal.Blocks.final_out m c),
        (h c).2.1.trans (FfnSampleIdeal.Blocks.final_buf m c), (h c).2.2⟩) (FfnSampleIdeal.Value.run_blocks m ρ),
      (θ_run _ _ _).mono (fun _ h c => ⟨(h c).1.trans (by rw [e c]), (h c).2.1.trans (by rw [e c]), (h c).2.2⟩) (ref_run m' ρ')⟩

/-- The reference runs to its end and leaves its arguments and every counter as they were. -/
theorem quiescent : Cert.quiescent_FfnSampleReferenceIdeal :=
  fun m ρ _ => (θ_run _ _ _).mono (fun r h => ⟨fun c => (h c).2.2, Idealize.ShloMosaic.sem_eq_zero_of_no_sems (by decide) r.2⟩)
    (FfnSampleReferenceIdeal.Value.run (F := Ideal) m ρ)

end Cert.Proof.FfnSample

end
-- ==== Proof.FfnFirstForm.lean ====
module

public import proofs.«01_k».proof.Proof.FfnPay
public import proofs.«01_k».proof.Proof.Gen.FfnFirstIdeal.Value

@[expose] public section

/-! # One tile of the first layer's feed-forward kernel

The tile's body is the last layer's (`FfnForm`) but for its end, which adds the residual stream and does not norm the sum: this
module says that its results are made of the chunks stated there. -/

set_option maxRecDepth 16384

noncomputable section

open Idealize.ShloMosaic Idealize.ShloMosaic.TcCoe Idealize.SL.Sem
open Idealize.ShloMosaic.Pipeline (Dat)

namespace Cert.FfnFirstIdeal.Blocks

open Cert.FfnFirstIdeal Cert.FfnFirstIdeal.Gen

variable (m : (ℓ : Loc nD τ sig) → Buf (Elt Ideal) ℓ) (c : Dev nD)

/-- The two rows before tile `t`: the tile before left them, or, at a sequence's first tile, the buffer holds them. -/
def before (t : Fin cfg0.N) : Vec Ideal S1x2x5632 .f32 :=
  if t.val % 4 = 0 then k0_pay2 (iblk m c 8 t) else (outsAt0 m c (t.val - 1) (Nat.lt_of_le_of_lt (Nat.sub_le _ _) t.isLt)).2.2

/-- The tile's normed and modulated rows. -/
def hid (t : Fin cfg0.N) : Vec Ideal S512x1024 .bf16 := k0_pay4 (iblk m c 0 t) (iblk m c 1 t) (iblk m c 2 t) (iblk m c 3 t)

section Pay

variable (A : FfnSpec.Args) (b n : ℕ) (x0 : Vec Ideal S512x1024 .f32) (x4 : Vec Ideal S1x1x1024 .f32)
  (h0 : ∀ (i : Fin 512) (d : Fin 1024), x0 (ix2 i d) = A.x b (n * 512 + i.val) d.val)
  (h4 : ∀ d : Fin 1024, x4 (ix3 0 0 d) = A.ga b d.val)

include h0 h4 in
/-- The tile's results, over its rows of the second product. -/
theorem res_pay (a : FVec Ideal S512x1024 .f32) (ha : ∀ (i : Fin 512) (d : Fin 1024), a (ix2 i d) = FfnSpec.y A b (n * 512 + i.val) d.val)
    (i : Fin 512) (d : Fin 1024) :
    (k0_pay1 (F := Ideal) (k0_pay3 x0) a (k0_pay187 x4) : Vec Ideal S512x1024 .f32) (ix2 i d) = (FfnSpec.res A b (n * 512 + i.val) d.val : EReal) := by
  pointwise [k0_pay1, k0_pay3, k0_pay187]
  simp only [h0, h4, ha, FfnSpec.res]

end Pay

/-- What a tile leaves in the first output's block. -/
theorem out_eq (t : Fin cfg0.N) : (outsAt0 m c t.val t.isLt).1
    = k0_pay1 (k0_pay3 (iblk m c 0 t)) (FfnIdeal.Blocks.accs (hid m c t) (iblk m c 5 t) (iblk m c 6 t) (iblk m c 7 t) (before m c t) (iblk m c 9 t) 10 (by omega))
        (k0_pay187 (iblk m c 4 t)) := by
  by_cases h0 : t.val % 4 = 0
  on_goal 1 =>
    rw [outsAt0_A m c t h0]
    frame_out
    rw [before, if_pos h0]
    simp (disch := first | decide | (intro a; fin_cases a <;> rfl))
      only [↓View.readCov_skip, View.readCov_fill]
    simp only [FfnIdeal.Blocks.accs]
    generalize k0_pay2 (iblk m c 8 t) = p
  on_goal 2 =>
    rw [outsAt0_B m c t h0]
    frame_out
    rw [before, if_neg h0, read_unread_whole]
    simp only [FfnIdeal.Blocks.accs]
    generalize (outsAt0 m c (t.val - 1) _).2.2 = p
  all_goals
    unfold hid
    generalize k0_pay4 (iblk m c 0 t) (iblk m c 1 t) (iblk m c 2 t) (iblk m c 3 t) = h
    generalize iblk m c 5 t = x5
    generalize iblk m c 6 t = x6
    generalize iblk m c 7 t = x7
    generalize iblk m c 9 t = x9
    refine congr (congr (congrArg _ rfl) ?_) rfl
    iterate 10 refine FfnIdeal.Blocks.peel ?_ fun _ => ?_
    all_goals
      dsimp only [
        FfnIdeal.Blocks.chunk, FfnIdeal.Blocks.conv, FfnIdeal.Blocks.wIn, FfnIdeal.Blocks.taps, FfnIdeal.Blocks.bias,
        FfnIdeal.Blocks.prev, FfnIdeal.Blocks.wOut, FfnIdeal.Blocks.row1, FfnIdeal.Gen.k0_pay5, FfnIdeal.Gen.k0_pay6,
        FfnIdeal.Gen.k0_pay7, FfnIdeal.Gen.k0_pay8, FfnIdeal.Gen.k0_pay9, FfnIdeal.Gen.k0_pay10, FfnIdeal.Gen.k0_pay48,
        FfnIdeal.Gen.k0_pay49, FfnIdeal.Gen.k0_pay50, FfnIdeal.Gen.k0_pay51, FfnIdeal.Gen.k0_pay52, FfnIdeal.Gen.k0_pay53,
        FfnIdeal.Gen.k0_pay54, FfnIdeal.Gen.k0_pay55, FfnIdeal.Gen.k0_pay56, FfnIdeal.Gen.k0_pay57, k0_pay5, k0_pay6, k0_pay7,
        k0_pay8, k0_pay9, k0_pay10, k0_pay11, k0_pay12, k0_pay13, k0_pay14, k0_pay15, k0_pay16, k0_pay17, k0_pay18, k0_pay19,
        k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55,
        k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79,
        k0_pay80, k0_pay81, k0_pay82, k0_pay83, k0_pay84, k0_pay85, k0_pay86, k0_pay87, k0_pay88, k0_pay89, k0_pay90, k0_pay91,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114,
        k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147,
        k0_pay148, k0_pay149, k0_pay150, k0_pay151, k0_pay152, k0_pay153, k0_pay154, k0_pay155, k0_pay156, k0_pay157, k0_pay158,
        k0_pay159, k0_pay160, k0_pay161, k0_pay162, k0_pay163, k0_pay164, k0_pay165, k0_pay166, k0_pay167, k0_pay168, k0_pay169,
        k0_pay170, k0_pay171, k0_pay172, k0_pay173, k0_pay174, k0_pay175, k0_pay176, k0_pay177, k0_pay178, k0_pay179, k0_pay180,
        k0_pay181, k0_pay182, k0_pay183, k0_pay184, k0_pay185, k0_pay186]
      rfl

/-- What a tile leaves in the second output's block and for the next tile: its last two rows. -/
theorem tail_eq (t : Fin cfg0.N) : (outsAt0 m c t.val t.isLt).2.1 = FfnIdeal.Blocks.tail (hid m c t) (iblk m c 5 t)
    ∧ (outsAt0 m c t.val t.isLt).2.2 = FfnIdeal.Blocks.tail (hid m c t) (iblk m c 5 t) := by
  unfold hid
  by_cases h0 : t.val % 4 = 0
  on_goal 1 => rw [outsAt0_A m c t h0]
  on_goal 2 => rw [outsAt0_B m c t h0]
  all_goals
    constructor <;> funext y <;> have h2 : (y 2).val < 5632 := (y 2).isLt <;> frame_out
    all_goals
      generalize k0_pay4 (iblk m c 0 t) (iblk m c 1 t) (iblk m c 2 t) (iblk m c 3 t) = h
      generalize iblk m c 5 t = x5
    on_goal 1 => iterate 22 refine FfnIdeal.Blocks.canon_step' (by omega) rfl fun _ => ?_
    on_goal 2 => iterate 22 refine FfnIdeal.Blocks.canon_step (by omega) rfl fun _ => ?_
    all_goals omega

end Cert.FfnFirstIdeal.Blocks

end
-- ==== Proof.FfnFirstKernel.lean ====
module

public import proofs.«01_k».proof.Proof.FfnFirstForm
public import proofs.«01_k».proof.Proof.FfnKernel

@[expose] public section

/-! # The first layer's feed-forward kernel, read at an index

Its input blocks are those of the last layer's kernel at a memory that holds the same arguments, so what is known of that kernel's
tile (`FfnKernel`) is known of this one's. -/

set_option maxRecDepth 16384

noncomputable section

open Idealize.ShloMosaic Idealize.ShloMosaic.TcCoe Idealize.SL.Sem
open Idealize.ShloMosaic.Pipeline (Dat)

namespace Cert.FfnFirstIdeal.Blocks

open Cert.FfnFirstIdeal Cert.FfnFirstIdeal.Gen

variable (m : (ℓ : Loc nD τ sig) → Buf (Elt Ideal) ℓ) (c : Dev nD)

/-- The memory's arguments; the last gain, which this layer has not, is put to zero. -/
abbrev args : FfnSpec.Args :=
  FfnSpec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (fun _ => 0)

/-- The last layer's kernel at some memory has this kernel's arguments and input blocks. -/
theorem like : ∃ m' : (ℓ : Loc FfnIdeal.nD FfnIdeal.τ FfnIdeal.sig) → Buf (Elt Ideal) ℓ, FfnIdeal.Blocks.args m' c = args m c
    ∧ ∀ t : Fin cfg0.N, iblk m c 0 t = FfnIdeal.Gen.iblk m' c 0 t
      ∧ iblk m c 1 t = FfnIdeal.Gen.iblk m' c 1 t
      ∧ iblk m c 2 t = FfnIdeal.Gen.iblk m' c 2 t
      ∧ iblk m c 3 t = FfnIdeal.Gen.iblk m' c 3 t
      ∧ iblk m c 4 t = FfnIdeal.Gen.iblk m' c 4 t
      ∧ iblk m c 5 t = FfnIdeal.Gen.iblk m' c 5 t
      ∧ iblk m c 6 t = FfnIdeal.Gen.iblk m' c 6 t
      ∧ iblk m c 7 t = FfnIdeal.Gen.iblk m' c 7 t
      ∧ iblk m c 8 t = FfnIdeal.Gen.iblk m' c 8 t
      ∧ iblk m c 9 t = FfnIdeal.Gen.iblk m' c 9 t := by
  obtain ⟨m', h0, h1, h2, h3, h4, h5, h6, h7, h8, h9, h10⟩ := FfnIdeal.Blocks.exists_memory c
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (fun _ => 0)
  have v0 : (V m c main_v0 : Vec Ideal S16384x1024 .f32) = FfnIdeal.Gen.V m' c FfnIdeal.main_v0 := by
    entry_read
    rw [h0]
    rfl
  have v1 : (V m c main_v6 : Vec Ideal S1x1024 .f32) = FfnIdeal.Gen.V m' c FfnIdeal.main_v6 := by
    entry_read
    rw [h1]
    rfl
  have v2 : (V m c main_v3 : Vec Ideal S8x1x1024 .f32) = FfnIdeal.Gen.V m' c FfnIdeal.main_v3 := by
    entry_read
    rw [h2]
    rfl
  have v3 : (V m c main_v4 : Vec Ideal S8x1x1024 .f32) = FfnIdeal.Gen.V m' c FfnIdeal.main_v4 := by
    entry_read
    rw [h3]
    rfl
  have v4 : (V m c main_v5 : Vec Ideal S8x1x1024 .f32) = FfnIdeal.Gen.V m' c FfnIdeal.main_v5 := by
    entry_read
    rw [h4]
    rfl
  have v5 : (V m c main_v1 : Vec Ideal S1024x5632 .bf16) = FfnIdeal.Gen.V m' c FfnIdeal.main_v1 := by
    entry_read
    rw [h5]
  have v6 : (V m c main_arg6 : Vec Ideal S3x5632 .f32) = FfnIdeal.Gen.V m' c FfnIdeal.main_arg6 :=
    (V_main_arg6 m c).trans (h6.symm.trans (FfnIdeal.Gen.V_main_arg6 m' c).symm)
  have v7 : (V m c main_v7 : Vec Ideal S1x5632 .f32) = FfnIdeal.Gen.V m' c FfnIdeal.main_v7 := by
    entry_read
    rw [h7]
    rfl
  have v8 : (V m c main_arg8 : Vec Ideal S8x2x5632 .f32) = FfnIdeal.Gen.V m' c FfnIdeal.main_arg8 :=
    (V_main_arg8 m c).trans (h8.symm.trans (FfnIdeal.Gen.V_main_arg8 m' c).symm)
  have v9 : (V m c main_v2 : Vec Ideal S2816x1024 .bf16) = FfnIdeal.Gen.V m' c FfnIdeal.main_v2 := by
    entry_read
    rw [h9]
  exact ⟨m', by rw [FfnIdeal.Blocks.args, h0, h1, h2, h3, h4, h5, h6, h7, h8, h9, h10],
    fun t => ⟨congrArg (View.read (Elt Ideal) ((cfg0.win 0).blk t).view) v0,
      congrArg (View.read (Elt Ideal) ((cfg0.win 1).blk t).view) v1,
      congrArg (View.read (Elt Ideal) ((cfg0.win 2).blk t).view) v2,
      congrArg (View.read (Elt Ideal) ((cfg0.win 3).blk t).view) v3,
      congrArg (View.read (Elt Ideal) ((cfg0.win 4).blk t).view) v4,
      congrArg (View.read (Elt Ideal) ((cfg0.win 5).blk t).view) v5,
      congrArg (View.read (Elt Ideal) ((cfg0.win 6).blk t).view) v6,
      congrArg (View.read (Elt Ideal) ((cfg0.win 7).blk t).view) v7,
      congrArg (View.read (Elt Ideal) ((cfg0.win 8).blk t).view) v8,
      congrArg (View.read (Elt Ideal) ((cfg0.win 9).blk t).view) v9⟩⟩

/-- A tile's normed and modulated rows, its last two rows and the two rows before it are that kernel's. -/
theorem like_tile : ∃ m' : (ℓ : Loc FfnIdeal.nD FfnIdeal.τ FfnIdeal.sig) → Buf (Elt Ideal) ℓ, FfnIdeal.Blocks.args m' c = args m c
    ∧ ∀ t : Fin cfg0.N, (outsAt0 m c t.val t.isLt).1
        = k0_pay1 (k0_pay3 (FfnIdeal.Gen.iblk m' c 0 t)) (FfnIdeal.Blocks.accs (FfnIdeal.Blocks.hid m' c t) (FfnIdeal.Gen.iblk m' c 5 t)
            (FfnIdeal.Gen.iblk m' c 6 t) (FfnIdeal.Gen.iblk m' c 7 t) (FfnIdeal.Blocks.before m' c t) (FfnIdeal.Gen.iblk m' c 9 t) 10 (by omega))
          (k0_pay187 (FfnIdeal.Gen.iblk m' c 4 t))
      ∧ (outsAt0 m c t.val t.isLt).2.1 = FfnIdeal.Blocks.tail (FfnIdeal.Blocks.hid m' c t) (FfnIdeal.Gen.iblk m' c 5 t) := by
  obtain ⟨m', ea, e⟩ := like m c
  have eh : ∀ t, hid m c t = FfnIdeal.Blocks.hid m' c t := fun t => by
    obtain ⟨e0, e1, e2, e3, -⟩ := e t
    rw [hid, e0, e1, e2, e3]
    rfl
  refine ⟨m', ea, fun t => ?_⟩
  have eb : before m c t = FfnIdeal.Blocks.before m' c t := by
    have hb : t.val - 1 < cfg0.N := Nat.lt_of_le_of_lt (Nat.sub_le _ _) t.isLt
    rw [before, FfnIdeal.Blocks.before, (e t).2.2.2.2.2.2.2.2.1]
    refine ite_congr rfl (fun _ => rfl) fun _ => ?_
    refine ((tail_eq m c ⟨t.val - 1, hb⟩).2.trans ?_).trans (FfnIdeal.Blocks.scr_eq m' c ⟨t.val - 1, hb⟩).symm
    rw [eh, (e _).2.2.2.2.2.1]
  obtain ⟨e0, -, -, -, e4, e5, e6, e7, -, e9⟩ := e t
  exact ⟨by rw [out_eq, eh, eb, e0, e4, e5, e6, e7, e9], by rw [(tail_eq m c t).1, eh, e5]⟩

/-- The kernel's first result, index by index. -/
def outK (A : FfnSpec.Args) : Vec Ideal S16384x1024 .f32 := fun j =>
  FfnSpec.res A ((j 0).val / 2048) ((j 0).val % 2048) (j 1).val

/-- A tile's block of the first result. -/
theorem out_at (t : Fin cfg0.N) (y : S512x1024.Idx) : ((outsAt0 m c t.val t.isLt).1 : Vec Ideal S512x1024 .f32) y
    = FfnSpec.res (args m c) (t.val / 4) (t.val % 4 * 512 + (y 0).val) (y 1).val := by
  idx_vars y
  obtain ⟨m', ea, e⟩ := like_tile m c
  rw [(e t).1, ← ea]
  exact res_pay _ (t.val / 4) (t.val % 4) _ _ (FfnIdeal.Blocks.x_blk m' c t) (FfnIdeal.Blocks.ga_blk m' c t) _ (FfnIdeal.Blocks.accs_at m' c t) y0 y1

/-- The last block of the second result. -/
theorem buf_at (t : Fin cfg0.N) (h1 : t.val % 4 = 3) (y : S1x2x5632.Idx) : ((outsAt0 m c t.val t.isLt).2.1 : Vec Ideal S1x2x5632 .f32) y
    = FfnSpec.ext (args m c) (t.val / 4) (2048 + (y 1).val) (y 2).val := by
  obtain ⟨m', ea, e⟩ := like_tile m c
  rw [(e t).2, ← ea, ← FfnIdeal.Blocks.new_eq m' c t]
  exact FfnIdeal.Blocks.buf_at m' c t h1 y

/-- The windows of the results: a grid point is sequence `t / 4`, tile `t % 4`. -/
theorem idx : ∀ t : Fin cfg0.N, win0_10.index t = ![t.val, 0] ∧ win0_11.index t = ![t.val / 4, 0, 0] ∧ t.val < 32 :=
  (by decide +kernel : ∀ t : Fin grid0.N, _)

/-- The first result array after the run. -/
theorem final_out : (dats m 0 c).arrAt 10 cfg0.N = outK (args m c) := by
  refine (dats m 0 c).arrAt_eq_of_covers 10 _ (by decide +kernel) fun t hf y => ?_
  have ht := (idx t).2.2
  have e0 : ((win0_10.blk t).view.emb y 0 : ℕ) = t.val * 512 + (y 0).val := by blk_simp [idx t]
  have e1 : ((win0_10.blk t).view.emb y 1 : ℕ) = (y 1).val := by blk_simp [idx t]
  have h0 : (y 0).val < 512 := (y 0).isLt
  blk_simp
  rw [after0_10]
  refine (out_at m c t y).trans ?_
  unfold outK
  rw [e0, e1]
  have a0 : (t.val * 512 + (y 0).val) / 2048 = t.val / 4 := by omega
  have a1 : (t.val * 512 + (y 0).val) % 2048 = t.val % 4 * 512 + (y 0).val := by omega
  rw [a0, a1]

/-- The second result array after the run. -/
theorem final_buf : (dats m 0 c).arrAt 11 cfg0.N = FfnIdeal.Blocks.bufK (args m c) := by
  refine (dats m 0 c).arrAt_eq_of_covers 11 _ (by decide +kernel) fun t hf y => ?_
  have h1 : t.val % 4 = 3 := (flush0_11 t).mp hf
  have e0 : ((win0_11.blk t).view.emb y 0 : ℕ) = t.val / 4 := by blk_simp [idx t]
  have e1 : ((win0_11.blk t).view.emb y 1 : ℕ) = (y 1).val := by blk_simp [idx t]
  have e2 : ((win0_11.blk t).view.emb y 2 : ℕ) = (y 2).val := by blk_simp [idx t]
  blk_simp
  rw [after0_11]
  refine (buf_at m c t h1 y).trans ?_
  unfold FfnIdeal.Blocks.bufK
  rw [e0, e1, e2]

end Cert.FfnFirstIdeal.Blocks

end
-- ==== Proof.FfnFirstValue.lean ====
module

public import proofs.«01_k».proof.Defs
public import proofs.«01_k».proof.Proof.FfnFirstKernel
public import proofs.«01_k».proof.Proof.FfnRef
public import proofs.«01_k».proof.Proof.Gen.FfnFirstReferenceIdeal.Read
public import Idealize.ShloMosaic.Lib.Quiescent

@[expose] public section

/-! # The first layer's feed-forward kernel computes the reference's layer

The reference's stages are those of the last layer up to its residual sum, so their rows (`FfnRef`) serve here too. -/

set_option maxRecDepth 16384

noncomputable section

open Idealize.ShloMosaic Idealize.ShloMosaic.TcCoe Idealize.SL.Sem

namespace Cert.Proof.FfnFirst

section Ref

open FfnFirstReferenceIdeal

variable (x0 : Vec Ideal S8x2048x1024 .f32) (x1 : Vec Ideal S1024 .f32) (x2 x3 x4 : Vec Ideal S8x1024 .f32) (x5 : Vec Ideal S1024x5632 .f32)
  (x6 : Vec Ideal S3x5632 .f32) (x7 : Vec Ideal S5632 .f32) (x8 : Vec Ideal S8x2x5632 .f32) (x9 : Vec Ideal S2816x1024 .f32)

/-- The reference's residual sum, row by row. -/
theorem res_at : ∀ (b : Fin 8) (t : Fin 2048) (d : Fin 1024), (Read.val_main_v55 (F := Ideal) x0 x1 x2 x3 x4 x5 x6 x7 x8 x9 : Vec Ideal S8x2048x1024 .f32) (ix3 b t d)
    = FfnSpec.res (FfnSpec.ofArgs x0 x1 x2 x3 x4 x5 x6 x7 x8 x9 (fun _ => 0)) b.val t.val d.val :=
  FfnReferenceIdeal.Rows.res_of x0 x1 x2 x3 x4 x5 x6 x7 x8 x9 (fun _ => 0) _ rfl

/-- The reference's first result is the kernel's. -/
theorem ref_out : (Read.val_main_v56 (F := Ideal) x0 x1 x2 x3 x4 x5 x6 x7 x8 x9 : Vec Ideal S16384x1024 .f32)
    = FfnFirstIdeal.Blocks.outK (FfnSpec.ofArgs x0 x1 x2 x3 x4 x5 x6 x7 x8 x9 (fun _ => 0)) := by
  have e := res_at x0 x1 x2 x3 x4 x5 x6 x7 x8 x9
  funext j
  change S16384x1024.Idx at j
  idx_vars j
  unfold Read.val_main_v56
  revert e
  generalize (Read.val_main_v55 (F := Ideal) x0 x1 x2 x3 x4 x5 x6 x7 x8 x9) = a
  intro e
  pointwise []
  exact e _ _ _

/-- The reference's second result is the kernel's. -/
theorem ref_buf : (Read.val_main_v51 (F := Ideal) x0 x1 x2 x3 x5 x8 : Vec Ideal S8x2x5632 .f32)
    = FfnIdeal.Blocks.bufK (FfnSpec.ofArgs x0 x1 x2 x3 x4 x5 x6 x7 x8 x9 (fun _ => 0)) := by
  funext j
  change S8x2x5632.Idx at j
  idx_vars j
  exact FfnReferenceIdeal.Rows.buf_of x0 x1 x2 x3 x4 x5 x6 x7 x8 x9 (fun _ => 0) _ rfl j0 j1 j2

/-- The memory's arguments, by coordinates. -/
abbrev args (m : (ℓ : Loc nD τ sig) → Buf (Elt Ideal) ℓ) (c : Dev nD) : FfnSpec.Args :=
  FfnSpec.ofArgs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (fun _ => 0)

/-- The reference's results, index by index, are the kernel's. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = FfnFirstIdeal.Blocks.outK (args m c)
      ∧ r.2.mem ((c.tc : Thread nD τ).loc main_v51) = FfnIdeal.Blocks.bufK (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Read.val_main_v56_eq m c).trans (ref_out _ _ _ _ _ _ _ _ _ _)),
    (h c).2.1.trans ((Read.val_main_v51_eq _ _ _ _ _ _).trans (ref_buf _ _ _ _ _ _ _ _ _ _)), (h c).2.2⟩) (Value.run m ρ)

end Ref

/-- The kernel's two result arrays and the reference's are equal. -/
theorem algebraic : Cert.algebraic_FfnFirstIdeal_FfnFirstReferenceIdeal :=
  fun m ρ m' ρ' _ hag =>
    have e : ∀ c, args m' c = FfnFirstIdeal.Blocks.args m c := fun c => by
      obtain ⟨a0, a1, a2, a3, a4, a5, a6, a7, a8, a9⟩ := hag c
      unfold args
      rw [a0, a1, a2, a3, a4, a5, a6, a7, a8, a9]
    ⟨fun c => FfnFirstIdeal.Blocks.outK (FfnFirstIdeal.Blocks.args m c), fun c => FfnIdeal.Blocks.bufK (FfnFirstIdeal.Blocks.args m c),
      (θ_run _ _ _).mono (fun _ h c => ⟨(h c).1.trans (FfnFirstIdeal.Blocks.final_out m c),
        (h c).2.1.trans (FfnFirstIdeal.Blocks.final_buf m c), (h c).2.2⟩) (FfnFirstIdeal.Value.run_blocks m ρ),
      (θ_run _ _ _).mono (fun _ h c => ⟨(h c).1.trans (by rw [e c]), (h c).2.1.trans (by rw [e c]), (h c).2.2⟩) (ref_run m' ρ')⟩

/-- The reference runs to its end and leaves its arguments and every counter as they were. -/
theorem quiescent : Cert.quiescent_FfnFirstReferenceIdeal :=
  fun m ρ _ => (θ_run _ _ _).mono (fun r h => ⟨fun c => (h c).2.2, Idealize.ShloMosaic.sem_eq_zero_of_no_sems (by decide) r.2⟩)
    (FfnFirstReferenceIdeal.Value.run (F := Ideal) m ρ)

end Cert.Proof.FfnFirst

end
-- ==== Proof.FfnFirstSampleForm.lean ====
module

public import proofs.«01_k».proof.Proof.FfnSamplePay
public import proofs.«01_k».proof.Proof.Gen.FfnFirstSampleIdeal.Value

@[expose] public section

/-! # One tile of the first layer's feed-forward kernel, of the sample batch

The tile's body is the last layer's (`FfnSampleForm`) but for its end, which adds the residual stream and does not norm the sum: this
module says that its results are made of the chunks stated there. -/

set_option maxRecDepth 16384

noncomputable section

open Idealize.ShloMosaic Idealize.ShloMosaic.TcCoe Idealize.SL.Sem
open Idealize.ShloMosaic.Pipeline (Dat)

namespace Cert.FfnFirstSampleIdeal.Blocks

open Cert.FfnFirstSampleIdeal Cert.FfnFirstSampleIdeal.Gen

variable (m : (ℓ : Loc nD τ sig) → Buf (Elt Ideal) ℓ) (c : Dev nD)

/-- The tile's normed and modulated rows. -/
def hid (t : Fin cfg0.N) : Vec Ideal S256x1024 .bf16 := k0_pay3 (iblk m c 0 t) (iblk m c 1 t) (iblk m c 2 t) (iblk m c 3 t)

section Pay

variable (A : FfnSpec.Args) (n : ℕ) (x0 : Vec Ideal S256x1024 .f32) (x4 : Vec Ideal S1x256x1024 .f32)
  (h0 : ∀ (i : Fin 256) (d : Fin 1024), x0 (ix2 i d) = A.x (n * 32 + i.val / 8) (i.val % 8) d.val)
  (h4 : ∀ (i : Fin 256) (d : Fin 1024), x4 (ix3 0 i d) = A.ga (n * 32 + i.val / 8) d.val)

include h0 h4 in
/-- The tile's results, over its rows of the second product. -/
theorem res_pay (a : FVec Ideal S256x1024 .f32)
    (ha : ∀ (i : Fin 256) (d : Fin 1024), a (ix2 i d) = FfnSpec.y A (n * 32 + i.val / 8) (i.val % 8) d.val) (i : Fin 256) (d : Fin 1024) :
    (k0_pay184 (F := Ideal) (k0_pay2 x0) x4 a : Vec Ideal S256x1024 .f32) (ix2 i d) = (FfnSpec.res A (n * 32 + i.val / 8) (i.val % 8) d.val : EReal) := by
  pointwise [k0_pay184, k0_pay2]
  simp only [h0, h4, ha, FfnSpec.res]

end Pay

/-- What a tile leaves in the first output's block. -/
theorem out_eq (t : Fin cfg0.N) : (outsAt0 m c t).1
    = k0_pay184 (k0_pay2 (iblk m c 0 t)) (iblk m c 4 t)
        (FfnSampleIdeal.Blocks.accs (hid m c t) (iblk m c 5 t) (iblk m c 6 t) (iblk m c 7 t) (k0_pay1 (iblk m c 8 t)) (iblk m c 9 t) 10 (by omega)) := by
  unfold outsAt0
  frame_out
  simp (disch := first | decide | (intro a; fin_cases a <;> rfl))
    only [↓View.readCov_skip, View.readCov_fill]
  simp only [FfnSampleIdeal.Blocks.accs]
  generalize k0_pay1 (iblk m c 8 t) = p
  unfold hid
  generalize k0_pay3 (iblk m c 0 t) (iblk m c 1 t) (iblk m c 2 t) (iblk m c 3 t) = h
  generalize iblk m c 5 t = x5
  generalize iblk m c 6 t = x6
  generalize iblk m c 7 t = x7
  generalize iblk m c 9 t = x9
  dsimp only [
    FfnSampleIdeal.Blocks.chunk, FfnSampleIdeal.Blocks.chunk0, FfnSampleIdeal.Blocks.conv, FfnSampleIdeal.Blocks.wIn,
    FfnSampleIdeal.Blocks.taps, FfnSampleIdeal.Blocks.bias, FfnSampleIdeal.Blocks.prev, FfnSampleIdeal.Blocks.wOut,
    FfnSampleIdeal.Gen.k0_pay5, FfnSampleIdeal.Gen.k0_pay6, FfnSampleIdeal.Gen.k0_pay21, FfnSampleIdeal.Gen.k0_pay22,
    FfnSampleIdeal.Gen.k0_pay23, FfnSampleIdeal.Gen.k0_pay47, FfnSampleIdeal.Gen.k0_pay48, FfnSampleIdeal.Gen.k0_pay49,
    FfnSampleIdeal.Gen.k0_pay50, FfnSampleIdeal.Gen.k0_pay51, FfnSampleIdeal.Gen.k0_pay52, FfnSampleIdeal.Gen.k0_pay53,
    FfnSampleIdeal.Gen.k0_pay54, FfnSampleIdeal.Gen.k0_pay55, FfnSampleIdeal.Gen.k0_pay56, k0_pay4, k0_pay5, k0_pay6, k0_pay7,
    k0_pay8, k0_pay9, k0_pay10, k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68,
    k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180, k0_pay181,
    k0_pay182, k0_pay183]
  rfl

/-- What a tile leaves in the second output's block: its sequences' last two rows. -/
theorem new_eq (t : Fin cfg0.N) : (outsAt0 m c t).2 = FfnSampleIdeal.Blocks.tail (hid m c t) (iblk m c 5 t) := by
  unfold hid
  funext y
  have h2 : (y 2).val < 5632 := (y 2).isLt
  unfold outsAt0
  frame_out
  generalize k0_pay3 (iblk m c 0 t) (iblk m c 1 t) (iblk m c 2 t) (iblk m c 3 t) = h
  generalize iblk m c 5 t = x5
  iterate 22 refine FfnSampleIdeal.Blocks.canon_step' (by omega) rfl fun _ => ?_
  omega

end Cert.FfnFirstSampleIdeal.Blocks

end
-- ==== Proof.FfnFirstSampleKernel.lean ====
module

public import proofs.«01_k».proof.Proof.FfnFirstSampleForm
public import proofs.«01_k».proof.Proof.FfnSampleKernel

@[expose] public section

/-! # The first layer's feed-forward kernel on the sample batch, read at an index

Its input blocks are those of the last layer's kernel at a memory that holds the same arguments, so what is known of that kernel's
tile (`FfnSampleKernel`) is known of this one's. -/

set_option maxRecDepth 16384

noncomputable section

open Idealize.ShloMosaic Idealize.ShloMosaic.TcCoe Idealize.SL.Sem
open Idealize.ShloMosaic.Pipeline (Dat)

namespace Cert.FfnFirstSampleIdeal.Blocks

open Cert.FfnFirstSampleIdeal Cert.FfnFirstSampleIdeal.Gen

variable (m : (ℓ : Loc nD τ sig) → Buf (Elt Ideal) ℓ) (c : Dev nD)

/-- The memory's arguments; the last gain, which this layer has not, is put to zero. -/
abbrev args : FfnSpec.Args :=
  FfnSpec.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (fun _ => 0)

/-- The last layer's kernel at some memory has this kernel's arguments and input blocks. -/
theorem like : ∃ m' : (ℓ : Loc FfnSampleIdeal.nD FfnSampleIdeal.τ FfnSampleIdeal.sig) → Buf (Elt Ideal) ℓ, FfnSampleIdeal.Blocks.args m' c = args m c
    ∧ ∀ t : Fin cfg0.N, iblk m c 0 t = FfnSampleIdeal.Gen.iblk m' c 0 t
      ∧ iblk m c 1 t = FfnSampleIdeal.Gen.iblk m' c 1 t
      ∧ iblk m c 2 t = FfnSampleIdeal.Gen.iblk m' c 2 t
      ∧ iblk m c 3 t = FfnSampleIdeal.Gen.iblk m' c 3 t
      ∧ iblk m c 4 t = FfnSampleIdeal.Gen.iblk m' c 4 t
      ∧ iblk m c 5 t = FfnSampleIdeal.Gen.iblk m' c 5 t
      ∧ iblk m c 6 t = FfnSampleIdeal.Gen.iblk m' c 6 t
      ∧ iblk m c 7 t = FfnSampleIdeal.Gen.iblk m' c 7 t
      ∧ iblk m c 8 t = FfnSampleIdeal.Gen.iblk m' c 8 t
      ∧ iblk m c 9 t = FfnSampleIdeal.Gen.iblk m' c 9 t := by
  obtain ⟨m', h0, h1, h2, h3, h4, h5, h6, h7, h8, h9, h10⟩ := FfnSampleIdeal.Blocks.exists_memory c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (fun _ => 0)
  have v0 : (V m c main_v0 : Vec Ideal S1024x1024 .f32) = FfnSampleIdeal.Gen.V m' c FfnSampleIdeal.main_v0 := by
    entry_read
    rw [h0]
    rfl
  have v1 : (V m c main_v12 : Vec Ideal S1x1024 .f32) = FfnSampleIdeal.Gen.V m' c FfnSampleIdeal.main_v12 := by
    entry_read
    rw [h1]
    rfl
  have v2 : (V m c main_v5 : Vec Ideal S4x256x1024 .f32) = FfnSampleIdeal.Gen.V m' c FfnSampleIdeal.main_v5 := by
    entry_read
    rw [h2]
    rfl
  have v3 : (V m c main_v8 : Vec Ideal S4x256x1024 .f32) = FfnSampleIdeal.Gen.V m' c FfnSampleIdeal.main_v8 := by
    entry_read
    rw [h3]
    rfl
  have v4 : (V m c main_v11 : Vec Ideal S4x256x1024 .f32) = FfnSampleIdeal.Gen.V m' c FfnSampleIdeal.main_v11 := by
    entry_read
    rw [h4]
    rfl
  have v5 : (V m c main_v1 : Vec Ideal S1024x5632 .bf16) = FfnSampleIdeal.Gen.V m' c FfnSampleIdeal.main_v1 := by
    entry_read
    rw [h5]
  have v6 : (V m c main_arg6 : Vec Ideal S3x5632 .f32) = FfnSampleIdeal.Gen.V m' c FfnSampleIdeal.main_arg6 :=
    (V_main_arg6 m c).trans (h6.symm.trans (FfnSampleIdeal.Gen.V_main_arg6 m' c).symm)
  have v7 : (V m c main_v13 : Vec Ideal S1x5632 .f32) = FfnSampleIdeal.Gen.V m' c FfnSampleIdeal.main_v13 := by
    entry_read
    rw [h7]
    rfl
  have v8 : (V m c main_arg8 : Vec Ideal S128x2x5632 .f32) = FfnSampleIdeal.Gen.V m' c FfnSampleIdeal.main_arg8 :=
    (V_main_arg8 m c).trans (h8.symm.trans (FfnSampleIdeal.Gen.V_main_arg8 m' c).symm)
  have v9 : (V m c main_v2 : Vec Ideal S2816x1024 .bf16) = FfnSampleIdeal.Gen.V m' c FfnSampleIdeal.main_v2 := by
    entry_read
    rw [h9]
  exact ⟨m', by rw [FfnSampleIdeal.Blocks.args, h0, h1, h2, h3, h4, h5, h6, h7, h8, h9, h10],
    fun t => ⟨congrArg (View.read (Elt Ideal) ((cfg0.win 0).blk t).view) v0,
      congrArg (View.read (Elt Ideal) ((cfg0.win 1).blk t).view) v1,
      congrArg (View.read (Elt Ideal) ((cfg0.win 2).blk t).view) v2,
      congrArg (View.read (Elt Ideal) ((cfg0.win 3).blk t).view) v3,
      congrArg (View.read (Elt Ideal) ((cfg0.win 4).blk t).view) v4,
      congrArg (View.read (Elt Ideal) ((cfg0.win 5).blk t).view) v5,
      congrArg (View.read (Elt Ideal) ((cfg0.win 6).blk t).view) v6,
      congrArg (View.read (Elt Ideal) ((cfg0.win 7).blk t).view) v7,
      congrArg (View.read (Elt Ideal) ((cfg0.win 8).blk t).view) v8,
      congrArg (View.read (Elt Ideal) ((cfg0.win 9).blk t).view) v9⟩⟩

/-- The kernel's first result, index by index. -/
def outK (A : FfnSpec.Args) : Vec Ideal S1024x1024 .f32 := fun j =>
  FfnSpec.res A ((j 0).val / 8) ((j 0).val % 8) (j 1).val

/-- A tile's block of the first result. -/
theorem out_at (t : Fin cfg0.N) (y : S256x1024.Idx) : ((outsAt0 m c t).1 : Vec Ideal S256x1024 .f32) y
    = FfnSpec.res (args m c) (t.val * 32 + (y 0).val / 8) ((y 0).val % 8) (y 1).val := by
  idx_vars y
  obtain ⟨m', ea, e⟩ := like m c
  obtain ⟨e0, e1, e2, e3, e4, e5, e6, e7, e8, e9⟩ := e t
  rw [out_eq, hid, e0, e1, e2, e3, e4, e5, e6, e7, e8, e9, ← ea]
  exact res_pay _ t.val _ _ (FfnSampleIdeal.Blocks.x_blk m' c t) (FfnSampleIdeal.Blocks.ga_blk m' c t) _ (FfnSampleIdeal.Blocks.accs_at m' c t) y0 y1

/-- A tile's block of the second result. -/
theorem buf_at (t : Fin cfg0.N) (y : S32x2x5632.Idx) : ((outsAt0 m c t).2 : Vec Ideal S32x2x5632 .f32) y
    = FfnSpec.ext (args m c) (t.val * 32 + (y 0).val) (8 + (y 1).val) (y 2).val := by
  obtain ⟨m', ea, e⟩ := like m c
  obtain ⟨e0, e1, e2, e3, -, e5, -⟩ := e t
  rw [new_eq, hid, e0, e1, e2, e3, e5, ← ea]
  exact (congrFun (FfnSampleIdeal.Blocks.new_eq m' c t) y).symm.trans (FfnSampleIdeal.Blocks.buf_at m' c t y)

/-- The windows of the results: a grid point is tile `t`. -/
theorem idx : ∀ t : Fin cfg0.N, win0_10.index t = ![t.val, 0] ∧ win0_11.index t = ![t.val, 0, 0] ∧ t.val < 4 :=
  (by decide +kernel : ∀ t : Fin grid0.N, _)

/-- The first result array after the run. -/
theorem final_out : (dats m 0 c).arrAt 10 cfg0.N = outK (args m c) := by
  refine (dats m 0 c).arrAt_eq_of_covers 10 _ (by decide +kernel) fun t hf y => ?_
  have e0 : ((win0_10.blk t).view.emb y 0 : ℕ) = t.val * 256 + (y 0).val := by blk_simp [idx t]
  have e1 : ((win0_10.blk t).view.emb y 1 : ℕ) = (y 1).val := by blk_simp [idx t]
  blk_simp
  rw [after0_10]
  refine (out_at m c t y).trans ?_
  unfold outK
  rw [e0, e1]
  have a0 : (t.val * 256 + (y 0).val) / 8 = t.val * 32 + (y 0).val / 8 := by omega
  have a1 : (t.val * 256 + (y 0).val) % 8 = (y 0).val % 8 := by omega
  rw [a0, a1]

/-- The second result array after the run. -/
theorem final_buf : (dats m 0 c).arrAt 11 cfg0.N = FfnSampleIdeal.Blocks.bufK (args m c) := by
  refine (dats m 0 c).arrAt_eq_of_covers 11 _ (by decide +kernel) fun t hf y => ?_
  have e0 : ((win0_11.blk t).view.emb y 0 : ℕ) = t.val * 32 + (y 0).val := by blk_simp [idx t]
  have e1 : ((win0_11.blk t).view.emb y 1 : ℕ) = (y 1).val := by blk_simp [idx t]
  have e2 : ((win0_11.blk t).view.emb y 2 : ℕ) = (y 2).val := by blk_simp [idx t]
  blk_simp
  rw [after0_11]
  refine (buf_at m c t y).trans ?_
  unfold FfnSampleIdeal.Blocks.bufK
  rw [e0, e1, e2]

end Cert.FfnFirstSampleIdeal.Blocks

end
-- ==== Proof.FfnFirstSampleValue.lean ====
module

public import proofs.«01_k».proof.Defs
public import proofs.«01_k».proof.Proof.FfnFirstSampleKernel
public import proofs.«01_k».proof.Proof.FfnSampleRef
public import proofs.«01_k».proof.Proof.Gen.FfnFirstSampleReferenceIdeal.Read
public import Idealize.ShloMosaic.Lib.Quiescent

@[expose] public section

/-! # The sample batch's first layer's feed-forward kernel computes the reference's layer

The reference's stages are those of the last layer up to its residual sum, so their rows (`FfnSampleRef`) serve here too. -/

set_option maxRecDepth 16384

noncomputable section

open Idealize.ShloMosaic Idealize.ShloMosaic.TcCoe Idealize.SL.Sem

namespace Cert.Proof.FfnFirstSample

section Ref

open FfnFirstSampleReferenceIdeal

variable (x0 : Vec Ideal S128x8x1024 .f32) (x1 : Vec Ideal S1024 .f32) (x2 x3 x4 : Vec Ideal S128x1024 .f32) (x5 : Vec Ideal S1024x5632 .f32)
  (x6 : Vec Ideal S3x5632 .f32) (x7 : Vec Ideal S5632 .f32) (x8 : Vec Ideal S128x2x5632 .f32) (x9 : Vec Ideal S2816x1024 .f32)

/-- The reference's residual sum, row by row. -/
theorem res_at : ∀ (b : Fin 128) (t : Fin 8) (d : Fin 1024), (Read.val_main_v55 (F := Ideal) x0 x1 x2 x3 x4 x5 x6 x7 x8 x9 : Vec Ideal S128x8x1024 .f32) (ix3 b t d)
    = FfnSpec.res (FfnSpec.ofArgs x0 x1 x2 x3 x4 x5 x6 x7 x8 x9 (fun _ => 0)) b.val t.val d.val :=
  FfnSampleReferenceIdeal.Rows.res_of x0 x1 x2 x3 x4 x5 x6 x7 x8 x9 (fun _ => 0) _ rfl

/-- The reference's first result is the kernel's. -/
theorem ref_out : (Read.val_main_v56 (F := Ideal) x0 x1 x2 x3 x4 x5 x6 x7 x8 x9 : Vec Ideal S1024x1024 .f32)
    = FfnFirstSampleIdeal.Blocks.outK (FfnSpec.ofArgs x0 x1 x2 x3 x4 x5 x6 x7 x8 x9 (fun _ => 0)) := by
  have e := res_at x0 x1 x2 x3 x4 x5 x6 x7 x8 x9
  funext j
  change S1024x1024.Idx at j
  idx_vars j
  unfold Read.val_main_v56
  revert e
  generalize (Read.val_main_v55 (F := Ideal) x0 x1 x2 x3 x4 x5 x6 x7 x8 x9) = a
  intro e
  pointwise []
  exact e _ _ _

/-- The reference's second result is the kernel's. -/
theorem ref_buf : (Read.val_main_v51 (F := Ideal) x0 x1 x2 x3 x5 x8 : Vec Ideal S128x2x5632 .f32)
    = FfnSampleIdeal.Blocks.bufK (FfnSpec.ofArgs x0 x1 x2 x3 x4 x5 x6 x7 x8 x9 (fun _ => 0)) := by
  funext j
  change S128x2x5632.Idx at j
  idx_vars j
  exact FfnSampleReferenceIdeal.Rows.buf_of x0 x1 x2 x3 x4 x5 x6 x7 x8 x9 (fun _ => 0) _ rfl j0 j1 j2

/-- The memory's arguments, by coordinates. -/
abbrev args (m : (ℓ : Loc nD τ sig) → Buf (Elt Ideal) ℓ) (c : Dev nD) : FfnSpec.Args :=
  FfnSpec.ofArgs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (fun _ => 0)

/-- The reference's results, index by index, are the kernel's. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = FfnFirstSampleIdeal.Blocks.outK (args m c)
      ∧ r.2.mem ((c.tc : Thread nD τ).loc main_v51) = FfnSampleIdeal.Blocks.bufK (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans ((Read.val_main_v56_eq m c).trans (ref_out _ _ _ _ _ _ _ _ _ _)),
    (h c).2.1.trans ((Read.val_main_v51_eq _ _ _ _ _ _).trans (ref_buf _ _ _ _ _ _ _ _ _ _)), (h c).2.2⟩) (Value.run m ρ)

end Ref

/-- The kernel's two result arrays and the reference's are equal. -/
theorem algebraic : Cert.algebraic_FfnFirstSampleIdeal_FfnFirstSampleReferenceIdeal :=
  fun m ρ m' ρ' _ hag =>
    have e : ∀ c, args m' c = FfnFirstSampleIdeal.Blocks.args m c := fun c => by
      obtain ⟨a0, a1, a2, a3, a4, a5, a6, a7, a8, a9⟩ := hag c
      unfold args
      rw [a0, a1, a2, a3, a4, a5, a6, a7, a8, a9]
    ⟨fun c => FfnFirstSampleIdeal.Blocks.outK (FfnFirstSampleIdeal.Blocks.args m c), fun c => FfnSampleIdeal.Blocks.bufK (FfnFirstSampleIdeal.Blocks.args m c),
      (θ_run _ _ _).mono (fun _ h c => ⟨(h c).1.trans (FfnFirstSampleIdeal.Blocks.final_out m c),
        (h c).2.1.trans (FfnFirstSampleIdeal.Blocks.final_buf m c), (h c).2.2⟩) (FfnFirstSampleIdeal.Value.run_blocks m ρ),
      (θ_run _ _ _).mono (fun _ h c => ⟨(h c).1.trans (by rw [e c]), (h c).2.1.trans (by rw [e c]), (h c).2.2⟩) (ref_run m' ρ')⟩

/-- The reference runs to its end and leaves its arguments and every counter as they were. -/
theorem quiescent : Cert.quiescent_FfnFirstSampleReferenceIdeal :=
  fun m ρ _ => (θ_run _ _ _).mono (fun r h => ⟨fun c => (h c).2.2, Idealize.ShloMosaic.sem_eq_zero_of_no_sems (by decide) r.2⟩)
    (FfnFirstSampleReferenceIdeal.Value.run (F := Ideal) m ρ)

end Cert.Proof.FfnFirstSample

end
-- ==== Proof.WinSampleKernel.lean ====
module

public import proofs.«01_k».proof.Proof.KvSampleKernel
public import proofs.«01_k».proof.Proof.Gen.WinSampleIdeal.Frame

@[expose] public section

/-! # The kernel of the sample's window keys and values, read at an index

A grid point is a tile of 256 rows, the eight tokens of 32 sequences; the weight is in one block, the last 512 columns of the keys'
and values' weight. After the kernel the host appends the rows to the window's buffer and keeps the last 512. -/

set_option maxRecDepth 16384

noncomputable section

open Idealize.ShloMosaic Idealize.ShloMosaic.TcCoe Idealize.SL.Sem
open Idealize.ShloMosaic.Pipeline (Dat)

namespace Cert.WinSampleIdeal.Blocks

open Cert.WinSampleIdeal Cert.WinSampleIdeal.Gen

variable (m : (ℓ : Loc nD τ sig) → Buf (Elt Ideal) ℓ) (c : Dev nD)

/-- The windows' block indices: a grid point is tile `t`. -/
theorem idx : ∀ t : Fin cfg0.N, win0_0.index t = ![t.val, 0] ∧ win0_1.index t = ![0, 0]
    ∧ win0_2.index t = ![t.val, 0, 0] ∧ win0_3.index t = ![t.val, 0, 0] ∧ win0_4.index t = ![0, 0]
    ∧ win0_5.index t = ![t.val, 0] ∧ t.val < 4 :=
  (by decide +kernel : ∀ t : Fin grid0.N, _)

theorem lt_4 (t : Fin cfg0.N) : t.val < 4 := (idx t).2.2.2.2.2.2

/-- The memory's arguments. -/
abbrev args : ProjSpec.Args :=
  ProjSpec.ofArgs (n := 1536) (m ((c : Thread nD τ).loc main_arg0)) (m ((c : Thread nD τ).loc main_arg1)) (m ((c : Thread nD τ).loc main_arg2))
    (m ((c : Thread nD τ).loc main_arg3)) (m ((c : Thread nD τ).loc main_arg4))

/-- The arrays as the kernel finds them: after the host's operations before it. -/
theorem V_eq (b : Ref sig .tc) : V m c b = StableHlo.after hostOps0 (fun b => m (c, b)) (Proc.devRef .tc b) := rfl

section Blocks

variable (t : Fin cfg0.N)

/-- The weight's columns. -/
theorem w_blk (k : Fin 1024) (f : Fin 512) : (iblk m c 4 t : Vec Ideal S1024x512 .bf16) (ix2 k f) = ((args m c).w k.val (1024 + f.val) : EReal) := by
  have e0 : (V m c main_v2 : Vec Ideal S1024x512 .bf16) (ix2 k f) = (m ((c : Thread nD τ).loc main_arg4) (ix2 k ⟨1024 + f.val, by omega⟩) : EReal) := by
    rw [V_eq]
    entry_read
    pointwise []
  have e : (iblk m c 4 t : Vec Ideal S1024x512 .bf16) (ix2 k f) = (V m c main_v2 : Vec Ideal S1024x512 .bf16) (ix2 k f) := by
    blk_ext [iblk, idx t]
  refine e.trans (e0.trans ?_)
  exact FfnSpec.nat2_of (fun k f => m ((c : Thread nD τ).loc main_arg4) (ix2 k f)) k.isLt _ rfl rfl

/-- The tile's normed and modulated rows. -/
theorem hid_at (i : Fin 256) (d : Fin 1024) :
    (k0_pay1 (F := Ideal) (iblk m c 0 t) (iblk m c 1 t) (iblk m c 2 t) (iblk m c 3 t) : Vec Ideal S256x1024 .bf16) (ix2 i d)
      = (ProjSpec.h (args m c) ((t.val * 256 + i.val) / 8) ((t.val * 256 + i.val) % 8) d.val : EReal) := by
  obtain ⟨m', h0, h1, h2, h3, e⟩ := KvSampleIdeal.Blocks.hid_of c (m ((c : Thread nD τ).loc main_arg0)) (m ((c : Thread nD τ).loc main_arg1))
    (m ((c : Thread nD τ).loc main_arg2)) (m ((c : Thread nD τ).loc main_arg3)) (m ((c : Thread nD τ).loc main_arg4))
  have v0 : (V m c main_v0 : Vec Ideal S1024x1024 .f32) = KvSampleIdeal.Gen.V m' c KvSampleIdeal.main_v0 := by
    rw [V_eq]
    entry_read
    rw [h0]
    rfl
  have v1 : (V m c main_v9 : Vec Ideal S1x1024 .f32) = KvSampleIdeal.Gen.V m' c KvSampleIdeal.main_v9 := by
    rw [V_eq]
    entry_read
    rw [h1]
    rfl
  have v2 : (V m c main_v5 : Vec Ideal S4x256x1024 .f32) = KvSampleIdeal.Gen.V m' c KvSampleIdeal.main_v5 := by
    rw [V_eq]
    entry_read
    rw [h2]
    rfl
  have v3 : (V m c main_v8 : Vec Ideal S4x256x1024 .f32) = KvSampleIdeal.Gen.V m' c KvSampleIdeal.main_v8 := by
    rw [V_eq]
    entry_read
    rw [h3]
    rfl
  have e0 : iblk m c 0 t = KvSampleIdeal.Gen.iblk m' c 0 t := congrArg (View.read (Elt Ideal) ((cfg0.win 0).blk t).view) v0
  have e1 : iblk m c 1 t = KvSampleIdeal.Gen.iblk m' c 1 t := congrArg (View.read (Elt Ideal) ((cfg0.win 1).blk t).view) v1
  have e2 : iblk m c 2 t = KvSampleIdeal.Gen.iblk m' c 2 t := congrArg (View.read (Elt Ideal) ((cfg0.win 2).blk t).view) v2
  have e3 : iblk m c 3 t = KvSampleIdeal.Gen.iblk m' c 3 t := congrArg (View.read (Elt Ideal) ((cfg0.win 3).blk t).view) v3
  rw [e0, e1, e2, e3]
  exact e t i d

/-- A tile's block is its rows' product with the weight's columns. -/
theorem out_eq : outsAt0 m c t = k0_pay2 (k0_pay1 (iblk m c 0 t) (iblk m c 1 t) (iblk m c 2 t) (iblk m c 3 t)) (iblk m c 4 t) := by
  unfold outsAt0
  frame_out

/-- A tile's block, index by index. -/
theorem out_at (y : S256x512.Idx) : (outsAt0 m c t : Vec Ideal S256x512 .f32) y
    = ProjSpec.proj (args m c) ((t.val * 256 + (y 0).val) / 8) ((t.val * 256 + (y 0).val) % 8) (1024 + (y 1).val) := by
  idx_vars y
  rw [out_eq]
  have e := hid_at m c t
  have e' := w_blk m c t
  revert e e'
  generalize k0_pay1 (iblk m c 0 t) (iblk m c 1 t) (iblk m c 2 t) (iblk m c 3 t) = a
  generalize iblk m c 4 t = w
  intro e e'
  pointwise [k0_pay2]
  simp only [e, e', ProjSpec.proj]

end Blocks

/-- The new rows, index by index. -/
def rows (A : ProjSpec.Args) : Vec Ideal S1024x512 .f32 := fun j => ProjSpec.proj A ((j 0).val / 8) ((j 0).val % 8) (1024 + (j 1).val)

/-- The kernel's array after the run. -/
theorem final_out : (dats m 0 c).arrAt 5 cfg0.N = rows (args m c) := by
  refine (dats m 0 c).arrAt_eq_of_covers 5 _ (by decide +kernel) fun t hf y => ?_
  have ht := lt_4 t
  have e0 : ((win0_5.blk t).view.emb y 0 : ℕ) = t.val * 256 + (y 0).val := by blk_simp [idx t]
  have e1 : ((win0_5.blk t).view.emb y 1 : ℕ) = (y 1).val := by blk_simp [idx t]
  blk_simp
  rw [after0_5]
  refine (out_at m c t y).trans ?_
  unfold rows
  rw [e0, e1]

/-- The window after the new rows: its oldest eight rows are gone, and the new ones are its last. -/
def window (A : ProjSpec.Args) (st : Vec Ideal S128x512x2x4x64 .f32) : Vec Ideal S128x512x2x4x64 .f32 := fun j =>
  if h : (j 1).val < 504 then st (ix5 (j 0) (⟨8 + (j 1).val, by omega⟩ : Fin 512) (j 2) (j 3) (j 4))
  else ProjSpec.proj A (j 0).val ((j 1).val - 504) (1024 + ((j 2).val * 256 + (j 3).val * 64 + (j 4).val))

/-- What the host makes of the buffer and the new rows. -/
theorem append (A : ProjSpec.Args) (st : Vec Ideal S128x512x2x4x64 .f32) :
    (shapeCast S128x512x2x4x64 (extractStridedSlice S128x512x512 ![0, 8, 0] (concatenate S128x520x512 1
      [⟨S128x512x512, shapeCast S128x512x512 st shapeCasts_S128x512x2x4x64_S128x512x512⟩,
        ⟨S128x8x512, shapeCast S128x8x512 (rows A) shapeCasts_S1024x512_S128x8x512⟩] concatenates_S128x512x512_S128x8x512_S128x520x512_d1)
      slices_S128x520x512_S128x512x512_0_8_0) shapeCasts_S128x512x512_S128x512x2x4x64 : Vec Ideal S128x512x2x4x64 .f32) = window A st := by
  funext j
  idx_vars j
  pointwise [window, rows]
  by_cases h : j1.val < 504
  · rw [dif_pos h, dif_pos (by omega)]
  · rw [dif_neg h, dif_neg (by omega)]
    congr 1 <;> omega

/-- The result after the run. -/
theorem result_at (c : Dev nD) : Pipeline.afterTail₀ cfgs (dats m) 0 (V0 m) [hostOps1] c main_v15
    = window (args m c) (m ((c : Thread nD τ).loc main_arg5)) := by
  have e1 := (Pipeline.withArrays_arr spec0 (by decide) c (V0 m c) (fun w => (dats m 0 c).arrAt w cfg0.N) 5).trans (final_out m c)
  have e2 := (Pipeline.withArrays_of_ne spec0 c (V0 m c) (fun w => (dats m 0 c).arrAt w cfg0.N) main_arg5
    (by exact (by decide : ∀ w, Pipeline.arrRef spec0 w ≠ main_arg5))).trans (V_main_arg5 m c)
  unfold Pipeline.afterTail₀
  revert e1 e2
  generalize Pipeline.withArrays spec0 c (V0 m c) (fun w => (dats m 0 c).arrAt w cfg0.N) = W
  intro e1 e2
  rw [List.flatten_cons, List.flatten_nil, List.append_nil]
  unfold hostOps1
  after_results
  change W (Proc.devRef .tc main_v10) = rows (args m c) at e1
  rw [e1, e2]
  exact append (args m c) _

end Cert.WinSampleIdeal.Blocks

end
-- ==== Proof.WinSampleValue.lean ====
module

public import proofs.«01_k».proof.Defs
public import proofs.«01_k».proof.Proof.KvSampleValue
public import proofs.«01_k».proof.Proof.WinSampleKernel
public import proofs.«01_k».proof.Proof.Gen.WinSampleReferenceIdeal.Read

@[expose] public section

/-! # The sample's window: the kernel and the host's operations after it compute the reference's -/

set_option maxRecDepth 16384

noncomputable section

open Idealize.ShloMosaic Idealize.ShloMosaic.TcCoe Idealize.SL.Sem

namespace Cert.Proof.WinSample

section Ref

open WinSampleReferenceIdeal WinSampleReferenceIdeal.Read

variable (x0 : Vec Ideal S128x8x1024 .f32) (x1 : Vec Ideal S1024 .f32) (x2 x3 : Vec Ideal S128x1024 .f32) (x4 : Vec Ideal S1024x1536 .f32)
  (x5 : Vec Ideal S128x512x2x4x64 .f32)

/-- The reference's result is the kernel's: the buffer and the new rows, the last 512 of them. -/
theorem ref_out : (val_main_v25 (F := Ideal) x0 x1 x2 x3 x4 x5 : Vec Ideal S128x512x2x4x64 .f32)
    = WinSampleIdeal.Blocks.window (ProjSpec.ofArgs (n := 1536) x0 x1 x2 x3 x4) x5 := by
  funext j
  change S128x512x2x4x64.Idx at j
  idx_vars j
  have e : ∀ (b : Fin 128) (t : Fin 8) (d : Fin 1024), (val_main_v20 (F := Ideal) x0 x1 x2 x3 : Vec Ideal S128x8x1024 .f32) (ix3 b t d)
      = ProjSpec.h (ProjSpec.ofArgs (n := 1536) x0 x1 x2 x3 x4) b.val t.val d.val := KvSample.h_at x0 x1 x2 x3 x4
  have e4 : ∀ (k : Fin 1024) (f : Fin 1536), x4 (ix2 k f) = (ProjSpec.ofArgs (n := 1536) x0 x1 x2 x3 x4).w k.val f.val :=
    fun k f => FfnSpec.nat2_of (fun k f => x4 (ix2 k f)) k.isLt f.isLt rfl rfl
  unfold val_main_v25 val_main_v24 val_main_v23 val_main_v22 val_main_v21
  revert e e4
  generalize (val_main_v20 (F := Ideal) x0 x1 x2 x3) = a
  generalize ProjSpec.ofArgs (n := 1536) x0 x1 x2 x3 x4 = A
  intro e e4
  pointwise [WinSampleIdeal.Blocks.window]
  simp only [e, e4, ProjSpec.proj]
  by_cases h : j1.val < 504
  · rw [dif_pos h, dif_pos (by omega)]
  · rw [dif_neg h, dif_neg (by omega)]
    have ec : (4 + j2.val) * 256 + j3.val * 64 + j4.val = 1024 + (j2.val * 256 + j3.val * 64 + j4.val) := by omega
    have et : 8 + j1.val - 512 = j1.val - 504 := by omega
    rw [ec, et]

/-- The memory's arguments, by coordinates. -/
abbrev args (m : (ℓ : Loc nD τ sig) → Buf (Elt Ideal) ℓ) (c : Dev nD) : ProjSpec.Args :=
  ProjSpec.ofArgs (n := 1536) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

end Ref

section Kernel

open WinSampleIdeal WinSampleIdeal.Gen

/-- The run's result is the window after the new rows, and the arguments are as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = WinSampleIdeal.Blocks.window (WinSampleIdeal.Blocks.args m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have k : θ_run (defs (F := Ideal)) (onTc (τ := τ) (main (F := Ideal))) ⟨m, fun _ => 0, ρ⟩ fun r => ∀ c : Dev nD,
      r.2.mem ((c.tc : Thread nD τ).loc main_v15) = WinSampleIdeal.Blocks.window (WinSampleIdeal.Blocks.args m c) (m ((c.tc : Thread nD τ).loc main_arg5)) :=
    (θ_run defs _ _).mono (fun _ h c => ((h c).2 main_v15 (Pipeline.mem_restRefs_of main_v15 (by decide) (by decide))).trans
      (WinSampleIdeal.Blocks.result_at m c)) (run_main m ρ)
  (θ_run defs _ _).mono (fun _ h c => ⟨h.1 c, h.2 c⟩) (θ_run_and k (unchanged m ρ))

end Kernel

/-- The kernel's result array and the reference's are equal. -/
theorem algebraic : Cert.algebraic_WinSampleIdeal_WinSampleReferenceIdeal :=
  fun m ρ m' ρ' _ hag =>
    have e : ∀ c, WinSampleIdeal.Blocks.window (args m' c)
          (m' ((c.tc : Thread WinSampleReferenceIdeal.nD WinSampleReferenceIdeal.τ).loc WinSampleReferenceIdeal.main_arg5))
        = WinSampleIdeal.Blocks.window (WinSampleIdeal.Blocks.args m c)
          (m ((c.tc : Thread WinSampleIdeal.nD WinSampleIdeal.τ).loc WinSampleIdeal.main_arg5)) := fun c => by
      obtain ⟨a0, a1, a2, a3, a4, a5⟩ := hag c
      unfold args
      rw [a0, a1, a2, a3, a4, a5]
    ⟨fun c => WinSampleIdeal.Blocks.window (WinSampleIdeal.Blocks.args m c)
        (m ((c.tc : Thread WinSampleIdeal.nD WinSampleIdeal.τ).loc WinSampleIdeal.main_arg5)),
      run m ρ,
      (θ_run _ _ _).mono (fun _ h c => ⟨(h c).1.trans ((WinSampleReferenceIdeal.Read.val_main_v25_eq _ _ _ _ _ _).trans
          ((ref_out _ _ _ _ _ _).trans (e c))), (h c).2⟩)
        (WinSampleReferenceIdeal.Value.run (F := Ideal) m' ρ')⟩

/-- The reference runs to its end and leaves its arguments and every counter as they were. -/
theorem quiescent : Cert.quiescent_WinSampleReferenceIdeal :=
  fun m ρ _ => (θ_run _ _ _).mono (fun r h => ⟨fun c => (h c).2, Idealize.ShloMosaic.sem_eq_zero_of_no_sems (by decide) r.2⟩)
    (WinSampleReferenceIdeal.Value.run (F := Ideal) m ρ)

end Cert.Proof.WinSample

end
-- ==== Proof.lean ====
module

public import proofs.«01_k».proof.Defs
public import proofs.«01_k».proof.Proof.Gen.Retention
public import proofs.«01_k».proof.Proof.Gen.Retention.Skeleton
public import proofs.«01_k».proof.Proof.Gen.Retention.Launch
public import proofs.«01_k».proof.Proof.Gen.Retention.Points
public import proofs.«01_k».proof.Proof.Gen.Retention.Frame
public import proofs.«01_k».proof.Proof.Gen.RetentionIdeal
public import proofs.«01_k».proof.Proof.Gen.RetentionIdeal.Skeleton
public import proofs.«01_k».proof.Proof.Gen.RetentionIdeal.Launch
public import proofs.«01_k».proof.Proof.Gen.RetentionIdeal.Points
public import proofs.«01_k».proof.Proof.Gen.RetentionIdeal.Frame
public import proofs.«01_k».proof.Proof.Gen.RetentionReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.RetentionIdeal.Value
public import proofs.«01_k».proof.Proof.Gen.RetentionReferenceIdeal.Run
public import proofs.«01_k».proof.Proof.Gen.RetentionReferenceIdeal.Step
public import proofs.«01_k».proof.Proof.Gen.FfnIdeal.Value
public import proofs.«01_k».proof.Proof.Gen.FfnReferenceIdeal.Read
public import proofs.«01_k».proof.Proof.Gen.RetIn
public import proofs.«01_k».proof.Proof.Gen.RetIn.Skeleton
public import proofs.«01_k».proof.Proof.Gen.RetIn.Launch
public import proofs.«01_k».proof.Proof.Gen.RetIn.Points
public import proofs.«01_k».proof.Proof.Gen.RetIn.Frame
public import proofs.«01_k».proof.Proof.Gen.RetInIdeal
public import proofs.«01_k».proof.Proof.Gen.RetInIdeal.Skeleton
public import proofs.«01_k».proof.Proof.Gen.RetInIdeal.Launch
public import proofs.«01_k».proof.Proof.Gen.RetInIdeal.Points
public import proofs.«01_k».proof.Proof.Gen.RetInIdeal.Frame
public import proofs.«01_k».proof.Proof.Gen.RetInIdeal.Value
public import proofs.«01_k».proof.Proof.Gen.RetInReferenceIdeal
public import proofs.«01_k».proof.Proof.Gen.RetInReferenceIdeal.Read
public import proofs.«01_k».proof.Proof.Gen.KvRows
public import proofs.«01_k».proof.Proof.Gen.KvRows.Skeleton
public import proofs.«01_k».proof.Proof.Gen.KvRows.Launch
public import proofs.«01_k».proof.Proof.Gen.KvRows.Points
public import proofs.«01_k».proof.Proof.Gen.KvRows.Frame
public import proofs.«01_k».proof.Proof.Gen.KvRowsIdeal
public import proofs.«01_k».proof.Proof.Gen.KvRowsIdeal.Skeleton
public import proofs.«01_k».proof.Proof.Gen.KvRowsIdeal.Launch
public import proofs.«01_k».proof.Proof.Gen.KvRowsIdeal.Points
public import proofs.«01_k».proof.Proof.Gen.KvRowsIdeal.Frame
public import proofs.«01_k».proof.Proof.Gen.KvRowsIdeal.Value
public import proofs.«01_k».proof.Proof.Gen.KvRowsReferenceIdeal
public import proofs.«01_k».proof.Proof.Gen.KvRowsReferenceIdeal.Read
public import proofs.«01_k».proof.Proof.Gen.WinRows
public import proofs.«01_k».proof.Proof.Gen.WinRows.Skeleton
public import proofs.«01_k».proof.Proof.Gen.WinRows.Launch
public import proofs.«01_k».proof.Proof.Gen.WinRows.Points
public import proofs.«01_k».proof.Proof.Gen.WinRows.Frame
public import proofs.«01_k».proof.Proof.Gen.WinRowsIdeal
public import proofs.«01_k».proof.Proof.Gen.WinRowsIdeal.Skeleton
public import proofs.«01_k».proof.Proof.Gen.WinRowsIdeal.Launch
public import proofs.«01_k».proof.Proof.Gen.WinRowsIdeal.Points
public import proofs.«01_k».proof.Proof.Gen.WinRowsIdeal.Frame
public import proofs.«01_k».proof.Proof.Gen.WinRowsIdeal.Value
public import proofs.«01_k».proof.Proof.Gen.WinRowsReferenceIdeal
public import proofs.«01_k».proof.Proof.Gen.WinRowsReferenceIdeal.Read
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjReferenceIdeal
public import proofs.«01_k».proof.Proof.Gen.QProjReferenceIdeal.Read
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutIdeal.Value
public import proofs.«01_k».proof.Proof.Gen.RetOutReferenceIdeal
public import proofs.«01_k».proof.Proof.Gen.RetOutReferenceIdeal.Read
public import proofs.«01_k».proof.Proof.Gen.NsaOut
public import proofs.«01_k».proof.Proof.Gen.NsaOut.Skeleton
public import proofs.«01_k».proof.Proof.Gen.NsaOut.Launch
public import proofs.«01_k».proof.Proof.Gen.NsaOut.Points
public import proofs.«01_k».proof.Proof.Gen.NsaOut.Frame
public import proofs.«01_k».proof.Proof.Gen.NsaOutIdeal
public import proofs.«01_k».proof.Proof.Gen.NsaOutIdeal.Skeleton
public import proofs.«01_k».proof.Proof.Gen.NsaOutIdeal.Launch
public import proofs.«01_k».proof.Proof.Gen.NsaOutIdeal.Points
public import proofs.«01_k».proof.Proof.Gen.NsaOutIdeal.Frame
public import proofs.«01_k».proof.Proof.Gen.NsaOutIdeal.Value
public import proofs.«01_k».proof.Proof.Gen.NsaOutReferenceIdeal
public import proofs.«01_k».proof.Proof.Gen.NsaOutReferenceIdeal.Read
public import proofs.«01_k».proof.Proof.Gen.RetSample
public import proofs.«01_k».proof.Proof.Gen.RetSample.Skeleton
public import proofs.«01_k».proof.Proof.Gen.RetSample.Launch
public import proofs.«01_k».proof.Proof.Gen.RetSample.Points
public import proofs.«01_k».proof.Proof.Gen.RetSample.Frame
public import proofs.«01_k».proof.Proof.Gen.RetSampleIdeal
public import proofs.«01_k».proof.Proof.Gen.RetSampleIdeal.Skeleton
public import proofs.«01_k».proof.Proof.Gen.RetSampleIdeal.Launch
public import proofs.«01_k».proof.Proof.Gen.RetSampleIdeal.Points
public import proofs.«01_k».proof.Proof.Gen.RetSampleIdeal.Frame
public import proofs.«01_k».proof.Proof.Gen.RetSampleIdeal.Value
public import proofs.«01_k».proof.Proof.Gen.RetSampleReferenceIdeal
public import proofs.«01_k».proof.Proof.Gen.RetSampleReferenceIdeal.Read
public import proofs.«01_k».proof.Proof.Gen.KvSample
public import proofs.«01_k».proof.Proof.Gen.KvSample.Skeleton
public import proofs.«01_k».proof.Proof.Gen.KvSample.Launch
public import proofs.«01_k».proof.Proof.Gen.KvSample.Points
public import proofs.«01_k».proof.Proof.Gen.KvSample.Frame
public import proofs.«01_k».proof.Proof.Gen.KvSampleIdeal
public import proofs.«01_k».proof.Proof.Gen.KvSampleIdeal.Skeleton
public import proofs.«01_k».proof.Proof.Gen.KvSampleIdeal.Launch
public import proofs.«01_k».proof.Proof.Gen.KvSampleIdeal.Points
public import proofs.«01_k».proof.Proof.Gen.KvSampleIdeal.Frame
public import proofs.«01_k».proof.Proof.Gen.KvSampleIdeal.Value
public import proofs.«01_k».proof.Proof.Gen.KvSampleReferenceIdeal
public import proofs.«01_k».proof.Proof.Gen.KvSampleReferenceIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal
public import proofs.«01_k».proof.Proof.Gen.FfnSampleReferenceIdeal.Read
public import proofs.«01_k».proof.Proof.RetValue
public import proofs.«01_k».proof.Proof.FfnValue
public import proofs.«01_k».proof.Proof.RetInValue
public import proofs.«01_k».proof.Proof.KvRowsValue
public import proofs.«01_k».proof.Proof.WinRowsValue
public import proofs.«01_k».proof.Proof.QProjValue
public import proofs.«01_k».proof.Proof.RetOutValue
public import proofs.«01_k».proof.Proof.NsaOutValue
public import proofs.«01_k».proof.Proof.RetSampleValue
public import proofs.«01_k».proof.Proof.KvSampleValue
public import proofs.«01_k».proof.Proof.FfnSampleValue
public import proofs.«01_k».proof.Proof.FfnFirstValue
public import proofs.«01_k».proof.Proof.FfnFirstSampleValue
public import proofs.«01_k».proof.Proof.WinSampleValue
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstIdeal.Value
public import proofs.«01_k».proof.Proof.Gen.FfnFirstReferenceIdeal
public import proofs.«01_k».proof.Proof.Gen.FfnFirstReferenceIdeal.Read
public import proofs.«01_k».proof.Proof.Gen.FfnFirstSample
public import proofs.«01_k».proof.Proof.Gen.FfnFirstSample.Skeleton
public import proofs.«01_k».proof.Proof.Gen.FfnFirstSample.Launch
public import proofs.«01_k».proof.Proof.Gen.FfnFirstSample.Points
public import proofs.«01_k».proof.Proof.Gen.FfnFirstSample.Frame
public import proofs.«01_k».proof.Proof.Gen.FfnFirstSampleIdeal
public import proofs.«01_k».proof.Proof.Gen.FfnFirstSampleIdeal.Skeleton
public import proofs.«01_k».proof.Proof.Gen.FfnFirstSampleIdeal.Launch
public import proofs.«01_k».proof.Proof.Gen.FfnFirstSampleIdeal.Points
public import proofs.«01_k».proof.Proof.Gen.FfnFirstSampleIdeal.Frame
public import proofs.«01_k».proof.Proof.Gen.FfnFirstSampleIdeal.Value
public import proofs.«01_k».proof.Proof.Gen.FfnFirstSampleReferenceIdeal
public import proofs.«01_k».proof.Proof.Gen.FfnFirstSampleReferenceIdeal.Read
public import proofs.«01_k».proof.Proof.Gen.WinSample
public import proofs.«01_k».proof.Proof.Gen.WinSample.Skeleton
public import proofs.«01_k».proof.Proof.Gen.WinSample.Launch
public import proofs.«01_k».proof.Proof.Gen.WinSample.Points
public import proofs.«01_k».proof.Proof.Gen.WinSample.Frame
public import proofs.«01_k».proof.Proof.Gen.WinSampleIdeal
public import proofs.«01_k».proof.Proof.Gen.WinSampleIdeal.Skeleton
public import proofs.«01_k».proof.Proof.Gen.WinSampleIdeal.Launch
public import proofs.«01_k».proof.Proof.Gen.WinSampleIdeal.Points
public import proofs.«01_k».proof.Proof.Gen.WinSampleIdeal.Frame
public import proofs.«01_k».proof.Proof.Gen.WinSampleReferenceIdeal
public import proofs.«01_k».proof.Proof.Gen.WinSampleReferenceIdeal.Read
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Retention.Gen.facts, Cert.RetentionIdeal.Gen.facts, Cert.RetentionReferenceIdeal.Gen.facts,
    Cert.Ffn.Gen.facts, Cert.FfnIdeal.Gen.facts, Cert.FfnReferenceIdeal.Gen.facts,
    Cert.RetIn.Gen.facts, Cert.RetInIdeal.Gen.facts, Cert.RetInReferenceIdeal.Gen.facts,
    Cert.KvRows.Gen.facts, Cert.KvRowsIdeal.Gen.facts, Cert.KvRowsReferenceIdeal.Gen.facts,
    Cert.WinRows.Gen.facts, Cert.WinRowsIdeal.Gen.facts, Cert.WinRowsReferenceIdeal.Gen.facts,
    Cert.QProj.Gen.facts, Cert.QProjIdeal.Gen.facts, Cert.QProjReferenceIdeal.Gen.facts,
    Cert.RetOut.Gen.facts, Cert.RetOutIdeal.Gen.facts, Cert.RetOutReferenceIdeal.Gen.facts,
    Cert.NsaOut.Gen.facts, Cert.NsaOutIdeal.Gen.facts, Cert.NsaOutReferenceIdeal.Gen.facts,
    Cert.RetSample.Gen.facts, Cert.RetSampleIdeal.Gen.facts, Cert.RetSampleReferenceIdeal.Gen.facts,
    Cert.KvSample.Gen.facts, Cert.KvSampleIdeal.Gen.facts, Cert.KvSampleReferenceIdeal.Gen.facts,
    Cert.FfnSample.Gen.facts, Cert.FfnSampleIdeal.Gen.facts, Cert.FfnSampleReferenceIdeal.Gen.facts,
    Cert.FfnFirst.Gen.facts, Cert.FfnFirstIdeal.Gen.facts, Cert.FfnFirstReferenceIdeal.Gen.facts,
    Cert.FfnFirstSample.Gen.facts, Cert.FfnFirstSampleIdeal.Gen.facts, Cert.FfnFirstSampleReferenceIdeal.Gen.facts,
    Cert.WinSample.Gen.facts, Cert.WinSampleIdeal.Gen.facts, Cert.WinSampleReferenceIdeal.Gen.facts,
    fun m ρ _ => Cert.Retention.Gen.frame m ρ,
    fun m ρ _ => Cert.RetentionIdeal.Gen.frame m ρ,
    Retention.quiescent,
    fun m ρ _ => Cert.Ffn.Gen.frame m ρ,
    fun m ρ _ => Cert.FfnIdeal.Gen.frame m ρ,
    Ffn.quiescent,
    fun m ρ _ => Cert.RetIn.Gen.frame m ρ,
    fun m ρ _ => Cert.RetInIdeal.Gen.frame m ρ,
    RetIn.quiescent,
    fun m ρ _ => Cert.KvRows.Gen.frame m ρ,
    fun m ρ _ => Cert.KvRowsIdeal.Gen.frame m ρ,
    KvRows.quiescent,
    fun m ρ _ => Cert.WinRows.Gen.frame m ρ,
    fun m ρ _ => Cert.WinRowsIdeal.Gen.frame m ρ,
    WinRows.quiescent,
    fun m ρ _ => Cert.QProj.Gen.frame m ρ,
    fun m ρ _ => Cert.QProjIdeal.Gen.frame m ρ,
    QProj.quiescent,
    fun m ρ _ => Cert.RetOut.Gen.frame m ρ,
    fun m ρ _ => Cert.RetOutIdeal.Gen.frame m ρ,
    RetOut.quiescent,
    fun m ρ _ => Cert.NsaOut.Gen.frame m ρ,
    fun m ρ _ => Cert.NsaOutIdeal.Gen.frame m ρ,
    NsaOut.quiescent,
    fun m ρ _ => Cert.RetSample.Gen.frame m ρ,
    fun m ρ _ => Cert.RetSampleIdeal.Gen.frame m ρ,
    RetSample.quiescent,
    fun m ρ _ => Cert.KvSample.Gen.frame m ρ,
    fun m ρ _ => Cert.KvSampleIdeal.Gen.frame m ρ,
    KvSample.quiescent,
    fun m ρ _ => Cert.FfnSample.Gen.frame m ρ,
    fun m ρ _ => Cert.FfnSampleIdeal.Gen.frame m ρ,
    FfnSample.quiescent,
    fun m ρ _ => Cert.FfnFirst.Gen.frame m ρ,
    fun m ρ _ => Cert.FfnFirstIdeal.Gen.frame m ρ,
    FfnFirst.quiescent,
    fun m ρ _ => Cert.FfnFirstSample.Gen.frame m ρ,
    fun m ρ _ => Cert.FfnFirstSampleIdeal.Gen.frame m ρ,
    FfnFirstSample.quiescent,
    fun m ρ _ => Cert.WinSample.Gen.frame m ρ,
    fun m ρ _ => Cert.WinSampleIdeal.Gen.frame m ρ,
    WinSample.quiescent,
    trivial,
    Retention.algebraic,
    trivial,
    Ffn.algebraic,
    trivial,
    RetIn.algebraic,
    trivial,
    KvRows.algebraic,
    trivial,
    WinRows.algebraic,
    trivial,
    QProj.algebraic,
    trivial,
    RetOut.algebraic,
    trivial,
    NsaOut.algebraic,
    trivial,
    RetSample.algebraic,
    trivial,
    KvSample.algebraic,
    trivial,
    FfnSample.algebraic,
    trivial,
    FfnFirst.algebraic,
    trivial,
    FfnFirstSample.algebraic,
    trivial,
    WinSample.algebraic⟩

end Cert.Proof

end
